-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v84) = v0 c
          ∧ r.2.mem ((c.tc : Thread Cert.Reference14Ideal.nD Cert.Reference14Ideal.τ).loc Cert.Reference14Ideal.main_v85) = v1 c
          ∧ r.2.mem ((c.tc : Thread Cert.Reference14Ideal.nD Cert.Reference14Ideal.τ).loc Cert.Reference14Ideal.main_v87) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_admissible : Cert.Pre_admissible.Facts) (hPre_finite : Cert.Pre_finite.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_admissible (hKernelIdeal := hKernelIdeal) (hReferenceIdeal := hReferenceIdeal) (hPre_admissible := hPre_admissible)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_admissible.lean ====
abbrev S8192x1024 : Shape := ⟨2, ![8192, 1024]⟩
abbrev S8192x512 : Shape := ⟨2, ![8192, 512]⟩
abbrev S8192x4224 : Shape := ⟨2, ![8192, 4224]⟩
abbrev S8x512 : Shape := ⟨2, ![8, 512]⟩
abbrev S8192x1536 : Shape := ⟨2, ![8192, 1536]⟩
abbrev S3x512 : Shape := ⟨2, ![3, 512]⟩
abbrev S_ : Shape := ⟨0, ![]⟩
abbrev S1x512 : Shape := ⟨2, ![1, 512]⟩
abbrev S512 : Shape := ⟨1, ![512]⟩

class Facts : Prop where
  slices_S8192x4224_S8192x512_0_3072 : S8192x4224.Slices ![0, 3072] S8192x512
  slices_S8x512_S3x512_0_0 : S8x512.Slices ![0, 0] S3x512
  slices_S8192x1536_S8192x512_0_1024 : S8192x1536.Slices ![0, 1024] S8192x512
  bcast_S_S8192x1024 : S_.BroadcastsInDim S8192x1024 (![] : Fin 0 → Fin S8192x1024.rank)
  bcast_S_S8192x512 : S_.BroadcastsInDim S8192x512 (![] : Fin 0 → Fin S8192x512.rank)
  bcast_S_S3x512 : S_.BroadcastsInDim S3x512 (![] : Fin 0 → Fin S3x512.rank)
  slices_S8x512_S1x512_2_0 : S8x512.Slices ![2, 0] S1x512
  shapeCasts_S1x512_S512 : S1x512.ShapeCasts S512
  bcast_S_S512 : S_.BroadcastsInDim S512 (![] : Fin 0 → Fin S512.rank)

variable [Facts]

def fn_part1 {F : FTy → Type} [FloatOps F] (main_v5 : IVec S8192x1024 1) (main_v8 : IVec S8192x512 1) (main_v11 : IVec S8192x512 1) (main_v14 : IVec S3x512 1) (main_v17 : IVec S8192x512 1) (main_v18 : FVec F S1x512 .f32) : IVec S8192x1024 1 × IVec S8192x512 1 × IVec S8192x512 1 × IVec S3x512 1 × IVec S8192x512 1 × IVec S512 1 :=
  let main_v19 : FVec F S512 .f32 := shapeCast S512 main_v18 shapeCasts_S1x512_S512
  let main_cst_4 : FVec F S_ .f32 := constant S_ .f32 0x00000000#32
  let main_v20 : FVec F S512 .f32 := broadcastInDim S512 ![] bcast_S_S512 main_cst_4
  let main_v21 : IVec S512 1 := cmpf .une main_v19 main_v20
  (main_v5, main_v8, main_v11, main_v14, main_v17, main_v21)

def fn {F : FTy → Type} [FloatOps F] (main_arg0 : FVec F S8192x1024 .f32) (main_arg1 : FVec F S8192x512 .f32) (main_arg2 : FVec F S8192x4224 .f32) (main_arg3 : FVec F S8x512 .f32) (main_arg4 : FVec F S8192x1536 .f32) : IVec S8192x1024 1 × IVec S8192x512 1 × IVec S8192x512 1 × IVec S3x512 1 × IVec S8192x512 1 × IVec S512 1 :=
  let main_v0 : FVec F S8192x512 .f32 := (extractStridedSlice S8192x512 ![0, 3072] · slices_S8192x4224_S8192x512_0_3072) main_arg2
  let main_v1 : FVec F S3x512 .f32 := (extractStridedSlice S3x512 ![0, 0] · slices_S8x512_S3x512_0_0) main_arg3
  let main_v2 : FVec F S8192x512 .f32 := (extractStridedSlice S8192x512 ![0, 1024] · slices_S8192x1536_S8192x512_0_1024) main_arg4
  let main_v3 : FVec F S8192x1024 .f32 := Host.absf main_arg0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_v6 : FVec F S8192x512 .f32 := Host.absf main_arg1
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : FVec F S8192x512 .f32 := Host.absf main_v0
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S3x512 .f32 := Host.absf main_v1
  let main_cst_2 : FVec F S_ .f32 := constant S_ .f32 0x7F800000#32
  let main_v13 : FVec F S3x512 .f32 := broadcastInDim S3x512 ![] bcast_S_S3x512 main_cst_2
  let main_v14 : IVec S3x512 1 := cmpf .olt main_v12 main_v13
  let main_v15 : FVec F S8192x512 .f32 := Host.absf main_v2
  let main_cst_3 : FVec F S_ .f32 := constant S_ .f32 0x7F800000#32
  let main_v16 : FVec F S8192x512 .f32 := broadcastInDim S8192x512 ![] bcast_S_S8192x512 main_cst_3
  let main_v17 : IVec S8192x512 1 := cmpf .olt main_v15 main_v16
  let main_v18 : FVec F S1x512 .f32 := (extractStridedSlice S1x512 ![2, 0] · slices_S8x512_S1x512_2_0) main_arg3
  fn_part1 (F := F) main_v5 main_v8 main_v11 main_v14 main_v17 main_v18
-- ==== Pre_finite.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x5632 .bf16) : IVec S8192x1024 1 × IVec S2816x1024 1 × IVec S8192x2816 1 :=
  let main_v0 : FVec F S8192x2816 .bf16 := (extractStridedSlice S8192x2816 ![0, 2816] · slices_S8192x5632_S8192x2816_0_2816) main_arg2
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8192x2816 .f32 := (extf .f32 · bitsLt_bf16_f32) main_v0
  let main_v9 : FVec F S8192x2816 .f32 := Host.absf main_v8
  let main_cst_1 : FVec F S_ .f32 := constant S_ .f32 0x7F800000#32
  let main_v10 : FVec F S8192x2816 .f32 := broadcastInDim S8192x2816 ![] bcast_S_S8192x2816 main_cst_1
  let main_v11 : IVec S8192x2816 1 := cmpf .olt main_v9 main_v10
  (main_v3, main_v7, main_v11)
-- ==== Kernel.lean ====
abbrev S8192x1024 : Shape := ⟨2, ![8192, 1024]⟩
abbrev S8192x512 : Shape := ⟨2, ![8192, 512]⟩
abbrev S8192x4224 : Shape := ⟨2, ![8192, 4224]⟩
abbrev S8x512 : Shape := ⟨2, ![8, 512]⟩
abbrev S8192x1536 : Shape := ⟨2, ![8192, 1536]⟩
abbrev S256x1024 : Shape := ⟨2, ![256, 1024]⟩
abbrev S256x512 : Shape := ⟨2, ![256, 512]⟩
abbrev S1x512 : Shape := ⟨2, ![1, 512]⟩
abbrev S512 : Shape := ⟨1, ![512]⟩

abbrev nBuf : Space → Nat
  | .hbm => 11
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x4224, .f32⟩
  | .hbm, ⟨3, _⟩ => ⟨S8x512, .f32⟩
  | .hbm, ⟨4, _⟩ => ⟨S8192x1536, .f32⟩
  | .hbm, ⟨5, _⟩ => ⟨S8192x512, .bf16⟩
  | .hbm, ⟨6, _⟩ => ⟨S8192x512, .f32⟩
  | .hbm, ⟨7, _⟩ => ⟨S8192x1024, .f32⟩
  | .hbm, ⟨8, _⟩ => ⟨S8192x512, .f32⟩
  | .hbm, ⟨9, _⟩ => ⟨S8192x512, .bf16⟩
  | .hbm, ⟨10, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S8x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S256x512, .f32⟩
  | .local _ .vmem, ⟨20, _⟩ => ⟨S256x512, .f32⟩
  | .local _ .vmem, ⟨21, _⟩ => ⟨S8x512, .f32⟩
  | .local _ .vmem, ⟨22, _⟩ => ⟨S8x512, .f32⟩
  | .local _ .vmem, ⟨23, _⟩ => ⟨S256x512, .f32⟩
  | .local _ .vmem, ⟨24, _⟩ => ⟨S256x512, .f32⟩
  | .local _ .vmem, ⟨25, _⟩ => ⟨S256x1024, .f32⟩
  | .local _ .vmem, ⟨26, _⟩ => ⟨S256x1024, .f32⟩
  | .local _ .vmem, ⟨27, _⟩ => ⟨S256x512, .f32⟩
  | .local _ .vmem, ⟨28, _⟩ => ⟨S256x512, .f32⟩
  | .local _ .vmem, ⟨29, _⟩ => ⟨S256x512, .bf16⟩
  | .local _ .vmem, ⟨30, _⟩ => ⟨S256x512, .bf16⟩
  | .local _ .vmem, ⟨31, _⟩ => ⟨S8x512, .f32⟩
  | .local _ .vmem, ⟨32, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_6 (i : grid1.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S8192x1024 : Shape := ⟨2, ![8192, 1024]⟩
abbrev S8192x512 : Shape := ⟨2, ![8192, 512]⟩
abbrev S8192x4224 : Shape := ⟨2, ![8192, 4224]⟩
abbrev S8x512 : Shape := ⟨2, ![8, 512]⟩
abbrev S8192x1536 : Shape := ⟨2, ![8192, 1536]⟩
abbrev S1x512 : Shape := ⟨2, ![1, 512]⟩
abbrev S512 : Shape := ⟨1, ![512]⟩
abbrev S_ : Shape := ⟨0, ![]⟩
abbrev S5x512 : Shape := ⟨2, ![5, 512]⟩

abbrev nBuf : Space → Nat
  | .hbm => 276
  | .vmem => 0
  | .smem => 0
  | _ => 0

abbrev hbmTy0_0 (i : Nat) : BufTy := match i % 128 with
  | 0 => ⟨S8192x1024, .f32⟩
  | 1 => ⟨S8192x512, .f32⟩
  | 2 => ⟨S8192x4224, .f32⟩
  | 3 => ⟨S8x512, .f32⟩
  | 4 => ⟨S8192x1536, .f32⟩
  | 5 => ⟨S8192x512, .f32⟩
  | 6 => ⟨S8192x512, .f32⟩
  | 7 => ⟨S8192x512, .f32⟩
  | 8 => ⟨S1x512, .f32⟩
  | 9 => ⟨S512, .f32⟩
  | 10 => ⟨S1x512, .f32⟩
  | 11 => ⟨S512, .f32⟩
  | 12 => ⟨S1x512, .f32⟩
  | 13 => ⟨S512, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S512, .i1⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S_, .f32⟩
  | 91 => ⟨S512, .f32⟩
  | 92 => ⟨S512, .i1⟩
  | 93 => ⟨S_, .f32⟩
  | 94 => ⟨S512, .f32⟩
  | 95 => ⟨S512, .f32⟩
  | 96 => ⟨S_, .f32⟩
  | 97 => ⟨S512, .f32⟩
  | 98 => ⟨S512, .i1⟩
  | 99 => ⟨S_, .f32⟩
  | 100 => ⟨S512, .f32⟩
  | 101 => ⟨S512, .f32⟩
  | 102 => ⟨S512, .f32⟩
  | 103 => ⟨S512, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S512, .f32⟩
  | 112 => ⟨S512, .i1⟩
  | 113 => ⟨S_, .f32⟩
  | 114 => ⟨S512, .f32⟩
  | 115 => ⟨S512, .f32⟩
  | 116 => ⟨S512, .f32⟩
  | 117 => ⟨S512, .f32⟩
  | 118 => ⟨S512, .f32⟩
  | 119 => ⟨S_, .f32⟩
  | 120 => ⟨S512, .f32⟩
  | 121 => ⟨S512, .f32⟩
  | 122 => ⟨S1x512, .f32⟩
  | 123 => ⟨S8192x512, .f32⟩
  | 124 => ⟨S8192x512, .f32⟩
  | 125 => ⟨S8192x512, .f32⟩
  | 126 => ⟨S_, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S512, .f32⟩
  | 12 => ⟨S_, .f32⟩
  | 13 => ⟨S8192x512, .f32⟩
  | 14 => ⟨S_, .f32⟩
  | 15 => ⟨S8192x512, .f32⟩
  | 16 => ⟨S_, .i32⟩
  | 17 => ⟨S8192x512, .f32⟩
  | 18 => ⟨S8192x512, .f32⟩
  | 19 => ⟨S_, .i32⟩
  | 20 => ⟨S512, .f32⟩
  | 21 => ⟨S8192x512, .f32⟩
  | 22 => ⟨S8192x512, .f32⟩
  | 23 => ⟨S_, .i32⟩
  | 24 => ⟨S_, .i1⟩
  | 25 => ⟨S_, .i32⟩
  | 26 => ⟨S1x512, .f32⟩
  | 27 => ⟨S512, .f32⟩
  | 28 => ⟨S_, .i32⟩
  | 29 => ⟨S1x512, .f32⟩
  | 30 => ⟨S512, .f32⟩
  | 31 => ⟨S512, .f32⟩
  | 32 => ⟨S512, .f32⟩
  | 33 => ⟨S1x512, .f32⟩
  | 34 => ⟨S_, .i32⟩
  | 35 => ⟨S8192x512, .f32⟩
  | 36 => ⟨S1x512, .f32⟩
  | 37 => ⟨S_, .i32⟩
  | 38 => ⟨S8192x512, .f32⟩
  | 39 => ⟨S_, .i32⟩
  | 40 => ⟨S_, .i32⟩
  | 41 => ⟨S8192x512, .f32⟩
  | 42 => ⟨S8192x512, .f32⟩
  | 43 => ⟨S_, .f32⟩
  | 44 => ⟨S512, .f32⟩
  | 45 => ⟨S8192x512, .f32⟩
  | 46 => ⟨S8192x512, .f32⟩
  | 47 => ⟨S_, .f32⟩
  | 48 => ⟨S512, .f32⟩
  | 49 => ⟨S_, .f32⟩
  | 50 => ⟨S8192x512, .f32⟩
  | 51 => ⟨S_, .f32⟩
  | 52 => ⟨S8192x512, .f32⟩
  | 53 => ⟨S_, .i32⟩
  | 54 => ⟨S8192x512, .f32⟩
  | 55 => ⟨S8192x512, .f32⟩
  | 56 => ⟨S8192x512, .f32⟩
  | 57 => ⟨S_, .i32⟩
  | 58 => ⟨S512, .f32⟩
  | 59 => ⟨S8192x512, .f32⟩
  | 60 => ⟨S8192x512, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S1x512, .f32⟩
  | 69 => ⟨S512, .f32⟩
  | 70 => ⟨S_, .i32⟩
  | 71 => ⟨S1x512, .f32⟩
  | 72 => ⟨S512, .f32⟩
  | 73 => ⟨S_, .i32⟩
  | 74 => ⟨S1x512, .f32⟩
  | 75 => ⟨S512, .f32⟩
  | 76 => ⟨S512, .f32⟩
  | 77 => ⟨S512, .f32⟩
  | 78 => ⟨S512, .f32⟩
  | 79 => ⟨S1x512, .f32⟩
  | 80 => ⟨S_, .i32⟩
  | 81 => ⟨S8192x512, .f32⟩
  | 82 => ⟨S1x512, .f32⟩
  | 83 => ⟨S_, .i32⟩
  | 84 => ⟨S8192x512, .f32⟩
  | 85 => ⟨S_, .i32⟩
  | 86 => ⟨S_, .i32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S_, .f32⟩
  | 101 => ⟨S512, .f32⟩
  | 102 => ⟨S1x512, .f32⟩
  | 103 => ⟨S8192x512, .f32⟩
  | 104 => ⟨S8192x512, .f32⟩
  | 105 => ⟨S_, .f32⟩
  | 106 => ⟨S512, .f32⟩
  | 107 => ⟨S512, .f32⟩
  | 108 => ⟨S512, .f32⟩
  | 109 => ⟨S_, .f32⟩
  | 110 => ⟨S8192x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S512, .f32⟩
  | 118 => ⟨S8192x512, .f32⟩
  | 119 => ⟨S_, .f32⟩
  | 120 => ⟨S512, .f32⟩
  | 121 => ⟨S1x512, .f32⟩
  | 122 => ⟨S_, .f32⟩
  | 123 => ⟨S512, .f32⟩
  | 124 => ⟨S8192x512, .f32⟩
  | 125 => ⟨S8192x512, .f32⟩
  | 126 => ⟨S_, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S1x512, .f32⟩
  | 13 => ⟨S1x512, .f32⟩
  | 14 => ⟨S_, .f32⟩
  | 15 => ⟨S5x512, .f32⟩
  | 16 => ⟨S8x512, .f32⟩
  | 17 => ⟨S8192x512, .bf16⟩
  | 18 => ⟨S8192x1024, .f32⟩
  | 19 => ⟨S8192x512, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v57_0 : Ref sig .tc := ⟨.hbm, 89, rfl⟩
abbrev main_call0_cst_0 : Ref sig .tc := ⟨.hbm, 90, rfl⟩
abbrev main_call0_v13 : Ref sig .tc := ⟨.hbm, 91, rfl⟩
abbrev main_call0_v14 : Ref sig .tc := ⟨.hbm, 92, rfl⟩
abbrev main_call0_cst_1 : Ref sig .tc := ⟨.hbm, 93, rfl⟩
abbrev main_call0_v15 : Ref sig .tc := ⟨.hbm, 94, rfl⟩
abbrev main_call0_v16 : Ref sig .tc := ⟨.hbm, 95, rfl⟩
abbrev main_call0_cst_2 : Ref sig .tc := ⟨.hbm, 96, rfl⟩
abbrev main_call0_v17 : Ref sig .tc := ⟨.hbm, 97, rfl⟩
abbrev main_call0_v18 : Ref sig .tc := ⟨.hbm, 98, rfl⟩
abbrev main_call0_cst_3 : Ref sig .tc := ⟨.hbm, 99, rfl⟩
abbrev main_call0_v19 : Ref sig .tc := ⟨.hbm, 100, rfl⟩
abbrev main_call0_v20 : Ref sig .tc := ⟨.hbm, 101, rfl⟩
abbrev main_call0_v21 : Ref sig .tc := ⟨.hbm, 102, rfl⟩
abbrev main_v57_1 : Ref sig .tc := ⟨.hbm, 103, rfl⟩
abbrev main_call0_cst_4 : Ref sig .tc := ⟨.hbm, 104, rfl⟩
abbrev main_call0_cst_5 : Ref sig .tc := ⟨.hbm, 105, rfl⟩
abbrev main_call0_v23 : Ref sig .tc := ⟨.hbm, 106, rfl⟩
abbrev main_call0_cst_6 : Ref sig .tc := ⟨.hbm, 107, rfl⟩
abbrev main_call0_cst_7 : Ref sig .tc := ⟨.hbm, 108, rfl⟩
abbrev main_call0_v24 : Ref sig .tc := ⟨.hbm, 109, rfl⟩
abbrev main_call0_cst_8 : Ref sig .tc := ⟨.hbm, 110, rfl⟩
abbrev main_call0_v25 : Ref sig .tc := ⟨.hbm, 111, rfl⟩
abbrev main_call0_v26 : Ref sig .tc := ⟨.hbm, 112, rfl⟩
abbrev main_call0_cst_9 : Ref sig .tc := ⟨.hbm, 113, rfl⟩
abbrev main_call0_v27 : Ref sig .tc := ⟨.hbm, 114, rfl⟩
abbrev main_call0_v28 : Ref sig .tc := ⟨.hbm, 115, rfl⟩
abbrev main_call0_v29 : Ref sig .tc := ⟨.hbm, 116, rfl⟩
abbrev main_call0_v30 : Ref sig .tc := ⟨.hbm, 117, rfl⟩
abbrev main_call0_v31 : Ref sig .tc := ⟨.hbm, 118, rfl⟩
abbrev main_call0_cst_10 : Ref sig .tc := ⟨.hbm, 119, rfl⟩
abbrev main_call0_v32 : Ref sig .tc := ⟨.hbm, 120, rfl⟩
abbrev main_v57_2 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_13 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_14 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_15 : Ref sig .tc := ⟨.hbm, 138, rfl⟩
abbrev main_v72 : Ref sig .tc := ⟨.hbm, 139, rfl⟩
abbrev main_cst_16 : Ref sig .tc := ⟨.hbm, 140, rfl⟩
abbrev main_v73 : Ref sig .tc := ⟨.hbm, 141, rfl⟩
abbrev main_cst_17 : Ref sig .tc := ⟨.hbm, 142, rfl⟩
abbrev main_v74 : Ref sig .tc := ⟨.hbm, 143, rfl⟩
abbrev main_c : Ref sig .tc := ⟨.hbm, 144, rfl⟩
abbrev main_v75_0 : Ref sig .tc := ⟨.hbm, 145, rfl⟩
abbrev main_v75_1 : Ref sig .tc := ⟨.hbm, 146, rfl⟩
abbrev main_v75_2 : Ref sig .tc := ⟨.hbm, 147, rfl⟩
abbrev main_v75_3 : Ref sig .tc := ⟨.hbm, 148, rfl⟩
abbrev main_v75_4 : Ref sig .tc := ⟨.hbm, 149, rfl⟩
abbrev main_v75_5 : Ref sig .tc := ⟨.hbm, 150, rfl⟩
abbrev main_while0c_c_40 : Ref sig .tc := ⟨.hbm, 151, rfl⟩
abbrev main_while0c_v134 : Ref sig .tc := ⟨.hbm, 152, rfl⟩
abbrev main_while0b_call1_c : Ref sig .tc := ⟨.hbm, 153, rfl⟩
abbrev main_while0b_call1_v0 : Ref sig .tc := ⟨.hbm, 154, rfl⟩
abbrev main_while0b_v134 : Ref sig .tc := ⟨.hbm, 155, rfl⟩
abbrev main_while0b_call2_c : Ref sig .tc := ⟨.hbm, 156, rfl⟩
abbrev main_while0b_call2_v0 : Ref sig .tc := ⟨.hbm, 157, rfl⟩
abbrev main_while0b_v135 : Ref sig .tc := ⟨.hbm, 158, rfl⟩
abbrev main_while0b_v136 : Ref sig .tc := ⟨.hbm, 159, rfl⟩
abbrev main_while0b_v137 : Ref sig .tc := ⟨.hbm, 160, rfl⟩
abbrev main_while0b_call3_v0 : Ref sig .tc := ⟨.hbm, 161, rfl⟩
abbrev main_while0b_call3_c : Ref sig .tc := ⟨.hbm, 162, rfl⟩
abbrev main_while0b_v138 : Ref sig .tc := ⟨.hbm, 163, rfl⟩
abbrev main_while0b_call4_v0 : Ref sig .tc := ⟨.hbm, 164, rfl⟩
abbrev main_while0b_call4_c : Ref sig .tc := ⟨.hbm, 165, rfl⟩
abbrev main_while0b_v139 : Ref sig .tc := ⟨.hbm, 166, rfl⟩
abbrev main_while0b_c_40 : Ref sig .tc := ⟨.hbm, 167, rfl⟩
abbrev main_while0b_v140 : Ref sig .tc := ⟨.hbm, 168, rfl⟩
abbrev main_v76 : Ref sig .tc := ⟨.hbm, 169, rfl⟩
abbrev main_v77 : Ref sig .tc := ⟨.hbm, 170, rfl⟩
abbrev main_cst_18 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_cst_19 : Ref sig .tc := ⟨.hbm, 175, rfl⟩
abbrev main_v81 : Ref sig .tc := ⟨.hbm, 176, rfl⟩
abbrev main_cst_20 : Ref sig .tc := ⟨.hbm, 177, rfl⟩
abbrev main_v82 : Ref sig .tc := ⟨.hbm, 178, rfl⟩
abbrev main_cst_21 : Ref sig .tc := ⟨.hbm, 179, rfl⟩
abbrev main_v83 : Ref sig .tc := ⟨.hbm, 180, rfl⟩
abbrev main_c_22 : Ref sig .tc := ⟨.hbm, 181, rfl⟩
abbrev main_v84_0 : Ref sig .tc := ⟨.hbm, 182, rfl⟩
abbrev main_v84_1 : Ref sig .tc := ⟨.hbm, 183, rfl⟩
abbrev main_v84_2 : Ref sig .tc := ⟨.hbm, 184, rfl⟩
abbrev main_v84_3 : Ref sig .tc := ⟨.hbm, 185, rfl⟩
abbrev main_v84_4 : Ref sig .tc := ⟨.hbm, 186, rfl⟩
abbrev main_v84_5 : Ref sig .tc := ⟨.hbm, 187, rfl⟩
abbrev main_v84_6 : Ref sig .tc := ⟨.hbm, 188, rfl⟩
abbrev main_while1c_c_41 : Ref sig .tc := ⟨.hbm, 189, rfl⟩
abbrev main_while1c_v134 : Ref sig .tc := ⟨.hbm, 190, rfl⟩
abbrev main_while1b_c_41 : Ref sig .tc := ⟨.hbm, 191, rfl⟩
abbrev main_while1b_v134 : Ref sig .tc := ⟨.hbm, 192, rfl⟩
abbrev main_while1b_c_42 : Ref sig .tc := ⟨.hbm, 193, rfl⟩
abbrev main_while1b_v135 : Ref sig .tc := ⟨.hbm, 194, rfl⟩
abbrev main_while1b_call5_c : Ref sig .tc := ⟨.hbm, 195, rfl⟩
abbrev main_while1b_call5_v0 : Ref sig .tc := ⟨.hbm, 196, rfl⟩
abbrev main_while1b_v136 : Ref sig .tc := ⟨.hbm, 197, rfl⟩
abbrev main_while1b_call6_c : Ref sig .tc := ⟨.hbm, 198, rfl⟩
abbrev main_while1b_call6_v0 : Ref sig .tc := ⟨.hbm, 199, rfl⟩
abbrev main_while1b_v137 : Ref sig .tc := ⟨.hbm, 200, rfl⟩
abbrev main_while1b_call7_c : Ref sig .tc := ⟨.hbm, 201, rfl⟩
abbrev main_while1b_call7_v0 : Ref sig .tc := ⟨.hbm, 202, rfl⟩
abbrev main_while1b_v138 : Ref sig .tc := ⟨.hbm, 203, rfl⟩
abbrev main_while1b_v139 : Ref sig .tc := ⟨.hbm, 204, rfl⟩
abbrev main_while1b_v140 : Ref sig .tc := ⟨.hbm, 205, rfl⟩
abbrev main_while1b_v141 : Ref sig .tc := ⟨.hbm, 206, rfl⟩
abbrev main_while1b_call8_v0 : Ref sig .tc := ⟨.hbm, 207, rfl⟩
abbrev main_while1b_call8_c : Ref sig .tc := ⟨.hbm, 208, rfl⟩
abbrev main_while1b_v142 : Ref sig .tc := ⟨.hbm, 209, rfl⟩
abbrev main_while1b_call9_v0 : Ref sig .tc := ⟨.hbm, 210, rfl⟩
abbrev main_while1b_call9_c : Ref sig .tc := ⟨.hbm, 211, rfl⟩
abbrev main_while1b_v143 : Ref sig .tc := ⟨.hbm, 212, rfl⟩
abbrev main_while1b_c_43 : Ref sig .tc := ⟨.hbm, 213, rfl⟩
abbrev main_while1b_v144 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_cst_23 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_cst_24 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_v100 : Ref sig .tc := ⟨.hbm, 232, rfl⟩
abbrev main_cst_25 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_cst_26 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_cst_27 : Ref sig .tc := ⟨.hbm, 241, rfl⟩
abbrev main_v107 : Ref sig .tc := ⟨.hbm, 242, rfl⟩
abbrev main_v108 : Ref sig .tc := ⟨.hbm, 243, rfl⟩
abbrev main_cst_28 : Ref sig .tc := ⟨.hbm, 244, rfl⟩
abbrev main_v109 : Ref sig .tc := ⟨.hbm, 245, rfl⟩
abbrev main_v110 : Ref sig .tc := ⟨.hbm, 246, rfl⟩
abbrev main_cst_29 : Ref sig .tc := ⟨.hbm, 247, rfl⟩
abbrev main_v111 : Ref sig .tc := ⟨.hbm, 248, rfl⟩
abbrev main_v112 : Ref sig .tc := ⟨.hbm, 249, rfl⟩
abbrev main_cst_30 : Ref sig .tc := ⟨.hbm, 250, rfl⟩
abbrev main_v113 : Ref sig .tc := ⟨.hbm, 251, rfl⟩
abbrev main_v114 : Ref sig .tc := ⟨.hbm, 252, rfl⟩
abbrev main_v115 : Ref sig .tc := ⟨.hbm, 253, rfl⟩
abbrev main_cst_31 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_cst_32 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_cst_33 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_cst_34 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Kernel2.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x2816, .bf16⟩
  | .hbm, ⟨4, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | .local _ .vmem, ⟨9, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference2Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S8192x5632 : Shape := ⟨2, ![8192, 5632]⟩
abbrev S5632x1024 : Shape := ⟨2, ![5632, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩
abbrev S128x8x1024 : Shape := ⟨3, ![128, 8, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_30 : BitVec 32 := 0#32
  let v62 : BitVec 1 := Scalar.cmpi .eq arg0 c0_i32_30
  let v63 : BitVec 32 := Scalar.extui v62
  let c0_i32_31 : BitVec 32 := 0#32
  let v64 : BitVec 1 := Scalar.cmpi .ne v63 c0_i32_31
  v64

def k0_cond4 (i : grid0.Coords) : BitVec 1 :=
  let arg0 : BitVec 32 := BitVec.ofNat 32 (i 0).val
  let c0_i32_32 : BitVec 32 := 0#32
  let v65 : BitVec 1 := Scalar.cmpi .sgt arg0 c0_i32_32
  let v66 : BitVec 32 := Scalar.extui v65
  let c0_i32_33 : BitVec 32 := 0#32
  let v67 : BitVec 1 := Scalar.cmpi .ne v66 c0_i32_33
  v67

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S8192x5632 : Shape := ⟨2, ![8192, 5632]⟩
abbrev S5632x1024 : Shape := ⟨2, ![5632, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x5632 : Shape := ⟨2, ![1024, 5632]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S5632x1024, .f32⟩
  | .hbm, ⟨26, _⟩ => ⟨S1024x5632, .f32⟩
  | .hbm, ⟨27, _⟩ => ⟨S8192x5632, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel4.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .f32⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference4Ideal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S5632x1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x4224 : Shape := ⟨2, ![8192, 4224]⟩
abbrev S8192x1024 : Shape := ⟨2, ![8192, 1024]⟩
abbrev S4224x1024 : Shape := ⟨2, ![4224, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4224, .bf16⟩
  | .hbm, ⟨1, _⟩ => ⟨S8192x1024, .bf16⟩
  | .hbm, ⟨2, _⟩ => ⟨S4224x1024, .f32⟩
  | .hbm, ⟨3, _⟩ => ⟨S4224x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference6Ideal.lean ====
abbrev S8192x4224 : Shape := ⟨2, ![8192, 4224]⟩
abbrev S8192x1024 : Shape := ⟨2, ![8192, 1024]⟩
abbrev S_ : Shape := ⟨0, ![]⟩
abbrev S4224x1024 : Shape := ⟨2, ![4224, 1024]⟩
abbrev S1024x4224 : Shape := ⟨2, ![1024, 4224]⟩

abbrev nBuf : Space → Nat
  | .hbm => 12
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S8192x1024, .bf16⟩
  | .hbm, ⟨2, _⟩ => ⟨S_, .f32⟩
  | .hbm, ⟨3, _⟩ => ⟨S4224x1024, .f32⟩
  | .hbm, ⟨4, _⟩ => ⟨S8192x1024, .f32⟩
  | .hbm, ⟨5, _⟩ => ⟨S1024x4224, .f32⟩
  | .hbm, ⟨6, _⟩ => ⟨S8192x4224, .f32⟩
  | .hbm, ⟨7, _⟩ => ⟨S8192x4224, .f32⟩
  | .hbm, ⟨8, _⟩ => ⟨S4224x1024, .f32⟩
  | .hbm, ⟨9, _⟩ => ⟨S1024x4224, .f32⟩
  | .hbm, ⟨10, _⟩ => ⟨S4224x1024, .f32⟩
  | .hbm, ⟨11, _⟩ => ⟨S4224x1024, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1536 : Shape := ⟨2, ![8192, 1536]⟩
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S1536x1024, .f32⟩
  | .hbm, ⟨3, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | .local _ .vmem, ⟨3, _⟩ => ⟨S1024x1024, .f32⟩
  | .local _ .vmem, ⟨4, _⟩ => ⟨S1536x1024, .f32⟩
  | .local _ .vmem, ⟨5, _⟩ => ⟨S1536x1024, .bf16⟩
  | .local _ .vmem, ⟨6, _⟩ => ⟨S1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]
-- ==== Reference7Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x4224 : Shape := ⟨2, ![8192, 4224]⟩
abbrev S4224x1024 : Shape := ⟨2, ![4224, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩
abbrev S128x8x1024 : Shape := ⟨3, ![128, 8, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4224, .bf16⟩
  | .hbm, ⟨1, _⟩ => ⟨S4224x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_30 : BitVec 32 := 0#32
  let v62 : BitVec 1 := Scalar.cmpi .eq arg0 c0_i32_30
  let v63 : BitVec 32 := Scalar.extui v62
  let c0_i32_31 : BitVec 32 := 0#32
  let v64 : BitVec 1 := Scalar.cmpi .ne v63 c0_i32_31
  v64

def k0_cond4 (i : grid0.Coords) : BitVec 1 :=
  let arg0 : BitVec 32 := BitVec.ofNat 32 (i 0).val
  let c0_i32_32 : BitVec 32 := 0#32
  let v65 : BitVec 1 := Scalar.cmpi .sgt arg0 c0_i32_32
  let v66 : BitVec 32 := Scalar.extui v65
  let c0_i32_33 : BitVec 32 := 0#32
  let v67 : BitVec 1 := Scalar.cmpi .ne v66 c0_i32_33
  v67

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S8192x4224 : Shape := ⟨2, ![8192, 4224]⟩
abbrev S4224x1024 : Shape := ⟨2, ![4224, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4224 : Shape := ⟨2, ![1024, 4224]⟩

abbrev nBuf : Space → Nat
  | .hbm => 50
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S4224x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S4224x1024, .f32⟩
  | .hbm, ⟨26, _⟩ => ⟨S1024x4224, .f32⟩
  | .hbm, ⟨27, _⟩ => ⟨S8192x4224, .f32⟩
  | .hbm, ⟨28, _⟩ => ⟨S8192x4224, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel9.lean ====
abbrev S8192x1024 : Shape := ⟨2, ![8192, 1024]⟩
abbrev S1536x1024 : Shape := ⟨2, ![1536, 1024]⟩
abbrev S8192x512 : Shape := ⟨2, ![8192, 512]⟩
abbrev S8192x1536 : Shape := ⟨2, ![8192, 1536]⟩
abbrev S1024x1024 : Shape := ⟨2, ![1024, 1024]⟩
abbrev S1024x512 : Shape := ⟨2, ![1024, 512]⟩
abbrev S1024x1536 : Shape := ⟨2, ![1024, 1536]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S8192x512, .f32⟩
  | .hbm, ⟨3, _⟩ => ⟨S8192x512, .f32⟩
  | .hbm, ⟨4, _⟩ => ⟨S8192x1536, .f32⟩
  | .hbm, ⟨5, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1536, .f32⟩
  | .local _ .vmem, ⟨8, _⟩ => ⟨S1024x1536, .f32⟩
  | .local _ .vmem, ⟨9, _⟩ => ⟨S1024x512, .f32⟩
  | .local _ .vmem, ⟨10, _⟩ => ⟨S1024x512, .f32⟩
  | .local _ .vmem, ⟨11, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference9Ideal.lean ====
abbrev S8192x1024 : Shape := ⟨2, ![8192, 1024]⟩
abbrev S1536x1024 : Shape := ⟨2, ![1536, 1024]⟩
abbrev S8192x512 : Shape := ⟨2, ![8192, 512]⟩
abbrev S_ : Shape := ⟨0, ![]⟩
abbrev S8192x1536 : Shape := ⟨2, ![8192, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x1536, .f32⟩
  | .hbm, ⟨6, _⟩ => ⟨S1536x1024, .f32⟩
  | .hbm, ⟨7, _⟩ => ⟨S8192x1024, .f32⟩
  | .hbm, ⟨8, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S4224x1024 : Shape := ⟨2, ![4224, 1024]⟩
abbrev S8192x4224 : Shape := ⟨2, ![8192, 4224]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4224x1024, .bf16⟩
  | .hbm, ⟨2, _⟩ => ⟨S8192x4224, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S4224x1024 : Shape := ⟨2, ![4224, 1024]⟩
abbrev S1024x4224 : Shape := ⟨2, ![1024, 4224]⟩
abbrev S8192x4224 : Shape := ⟨2, ![8192, 4224]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4224x1024, .bf16⟩
  | .hbm, ⟨2, _⟩ => ⟨S8192x1024, .f32⟩
  | .hbm, ⟨3, _⟩ => ⟨S4224x1024, .f32⟩
  | .hbm, ⟨4, _⟩ => ⟨S1024x4224, .f32⟩
  | .hbm, ⟨5, _⟩ => ⟨S8192x4224, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x1536 : Shape := ⟨2, ![8192, 1536]⟩
abbrev S1536x1024 : Shape := ⟨2, ![1536, 1024]⟩
abbrev S8192x1024 : Shape := ⟨2, ![8192, 1024]⟩
abbrev S1024 : Shape := ⟨1, ![1024]⟩
abbrev S1x1024 : Shape := ⟨2, ![1, 1024]⟩
abbrev S1024x1536 : Shape := ⟨2, ![1024, 1536]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference12Ideal.lean ====
abbrev S8192x1536 : Shape := ⟨2, ![8192, 1536]⟩
abbrev S1536x1024 : Shape := ⟨2, ![1536, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1024, .f32⟩
  | .hbm, ⟨4, _⟩ => ⟨S8192x1536, .f32⟩
  | .hbm, ⟨5, _⟩ => ⟨S1536x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel13.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .bf16⟩
  | .local _ .vmem, ⟨0, _⟩ => ⟨S512x5632, .bf16⟩
  | .local _ .vmem, ⟨1, _⟩ => ⟨S512x5632, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | .local _ .vmem, ⟨8, _⟩ => ⟨S512x2816, .bf16⟩
  | .local _ .vmem, ⟨9, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_10 : BitVec 32 := 0#32
  let v20 : BitVec 1 := Scalar.cmpi .eq arg2 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference13Ideal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S2816x1024, .f32⟩
  | .hbm, ⟨17, _⟩ => ⟨S8192x1024, .f32⟩
  | .hbm, ⟨18, _⟩ => ⟨S8192x1024, .f32⟩
  | .hbm, ⟨19, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel14.lean ====
abbrev S8192x4224 : Shape := ⟨2, ![8192, 4224]⟩
abbrev S8192x512 : Shape := ⟨2, ![8192, 512]⟩
abbrev S4x512 : Shape := ⟨2, ![4, 512]⟩
abbrev S_ : Shape := ⟨0, ![]⟩
abbrev S8x512 : Shape := ⟨2, ![8, 512]⟩
abbrev S512x512 : Shape := ⟨2, ![512, 512]⟩
abbrev S1x512 : Shape := ⟨2, ![1, 512]⟩
abbrev S512 : Shape := ⟨1, ![512]⟩
abbrev S7x512 : Shape := ⟨2, ![7, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x4224, .f32⟩
  | .hbm, ⟨1, _⟩ => ⟨S8192x512, .f32⟩
  | .hbm, ⟨2, _⟩ => ⟨S4x512, .f32⟩
  | .hbm, ⟨3, _⟩ => ⟨S_, .f32⟩
  | .hbm, ⟨4, _⟩ => ⟨S4x512, .f32⟩
  | .hbm, ⟨5, _⟩ => ⟨S8x512, .f32⟩
  | .hbm, ⟨6, _⟩ => ⟨S8192x512, .bf16⟩
  | .hbm, ⟨7, _⟩ => ⟨S8x512, .f32⟩
  | .hbm, ⟨8, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S8x512, .f32⟩
  | .local _ .vmem, ⟨12, _⟩ => ⟨S8x512, .f32⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S8192x4224 : Shape := ⟨2, ![8192, 4224]⟩
abbrev S8192x512 : Shape := ⟨2, ![8192, 512]⟩
abbrev S4x512 : Shape := ⟨2, ![4, 512]⟩
abbrev S_ : Shape := ⟨0, ![]⟩
abbrev S512 : Shape := ⟨1, ![512]⟩
abbrev S3x512 : Shape := ⟨2, ![3, 512]⟩
abbrev S8195x512 : Shape := ⟨2, ![8195, 512]⟩
abbrev S1x512 : Shape := ⟨2, ![1, 512]⟩
abbrev S8x512 : Shape := ⟨2, ![8, 512]⟩

abbrev nBuf : Space → Nat
  | .hbm => 116
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S8192x512, .f32⟩
  | .hbm, ⟨2, _⟩ => ⟨S4x512, .f32⟩
  | .hbm, ⟨3, _⟩ => ⟨S8192x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S3x512, .f32⟩
  | .hbm, ⟨8, _⟩ => ⟨S8195x512, .f32⟩
  | .hbm, ⟨9, _⟩ => ⟨S_, .f32⟩
  | .hbm, ⟨10, _⟩ => ⟨S3x512, .f32⟩
  | .hbm, ⟨11, _⟩ => ⟨S8192x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S4x512, .f32⟩
  | .hbm, ⟨54, _⟩ => ⟨S_, .f32⟩
  | .hbm, ⟨55, _⟩ => ⟨S8195x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S_, .f32⟩
  | .hbm, ⟨66, _⟩ => ⟨S4x512, .f32⟩
  | .hbm, ⟨67, _⟩ => ⟨S4x512, .f32⟩
  | .hbm, ⟨68, _⟩ => ⟨S_, .f32⟩
  | .hbm, ⟨69, _⟩ => ⟨S8195x512, .f32⟩
  | .hbm, ⟨70, _⟩ => ⟨S8195x512, .f32⟩
  | .hbm, ⟨71, _⟩ => ⟨S8192x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S4x512, .f32⟩
  | .hbm, ⟨82, _⟩ => ⟨S4x512, .f32⟩
  | .hbm, ⟨83, _⟩ => ⟨S_, .f32⟩
  | .hbm, ⟨84, _⟩ => ⟨S8195x512, .f32⟩
  | .hbm, ⟨85, _⟩ => ⟨S8195x512, .f32⟩
  | .hbm, ⟨86, _⟩ => ⟨S_, .f32⟩
  | .hbm, ⟨87, _⟩ => ⟨S512, .f32⟩
  | .hbm, ⟨88, _⟩ => ⟨S1x512, .f32⟩
  | .hbm, ⟨89, _⟩ => ⟨S_, .f32⟩
  | .hbm, ⟨90, _⟩ => ⟨S512, .f32⟩
  | .hbm, ⟨91, _⟩ => ⟨S8192x512, .f32⟩
  | .hbm, ⟨92, _⟩ => ⟨S_, .f32⟩
  | .hbm, ⟨93, _⟩ => ⟨S512, .f32⟩
  | .hbm, ⟨94, _⟩ => ⟨S1x512, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S512, .f32⟩
  | .hbm, ⟨99, _⟩ => ⟨S1x512, .f32⟩
  | .hbm, ⟨100, _⟩ => ⟨S_, .f32⟩
  | .hbm, ⟨101, _⟩ => ⟨S4x512, .f32⟩
  | .hbm, ⟨102, _⟩ => ⟨S4x512, .f32⟩
  | .hbm, ⟨103, _⟩ => ⟨S_, .f32⟩
  | .hbm, ⟨104, _⟩ => ⟨S8195x512, .f32⟩
  | .hbm, ⟨105, _⟩ => ⟨S8195x512, .f32⟩
  | .hbm, ⟨106, _⟩ => ⟨S3x512, .f32⟩
  | .hbm, ⟨107, _⟩ => ⟨S8192x512, .f32⟩
  | .hbm, ⟨108, _⟩ => ⟨S8192x512, .bf16⟩
  | .hbm, ⟨109, _⟩ => ⟨S_, .i32⟩
  | .hbm, ⟨110, _⟩ => ⟨S_, .f32⟩
  | .hbm, ⟨111, _⟩ => ⟨S8x512, .f32⟩
  | .hbm, ⟨112, _⟩ => ⟨S1x512, .f32⟩
  | .hbm, ⟨113, _⟩ => ⟨S_, .i32⟩
  | .hbm, ⟨114, _⟩ => ⟨S_, .f32⟩
  | .hbm, ⟨115, _⟩ => ⟨S8x512, .f32⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_cst_18 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c : Ref sig .tc := ⟨.hbm, 109, rfl⟩
abbrev main_call0_v0 : Ref sig .tc := ⟨.hbm, 110, rfl⟩
abbrev main_v85 : Ref sig .tc := ⟨.hbm, 111, rfl⟩
abbrev main_v86 : Ref sig .tc := ⟨.hbm, 112, rfl⟩
abbrev main_c_20 : Ref sig .tc := ⟨.hbm, 113, rfl⟩
abbrev main_call1_v0 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Proof.KFwdKit.lean ====
/- The forward recurrence call: its windows' blocks at a grid point, its branch condition, its staging memrefs and what rides beside its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`) (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`) (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S8192x4224`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk V c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`), its cut a function of its block index (`hclip` by rewriting the index), the fetch
    filling the whole block (`fill0_2`). -/
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
      (fun t t' h => funext fun a => congrArg (fun n => Pipeline.Clip.of n ((cfg0.win 2).size a) (S8192x4224.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`) (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of output window 4, through which its contents are stated (`View.read_writes_of_cover`: the
    choice does not matter). -/
abbrev VO0_4 : View sig .tc .vmem S256x512 .bf16 := (Memref.whole cc0_stg4_0 : Memref sig .tc .vmem S256x512 .bf16).view
/-- One staging buffer of output window 5, through which its contents are stated (`View.read_writes_of_cover`: the
    choice does not matter). -/
abbrev VO0_5 : View sig .tc .vmem S256x512 .f32 := (Memref.whole cc0_stg5_0 : Memref sig .tc .vmem S256x512 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x512 .f32 := Memref.whole cc0_scratch0
/-- The scratch `arg7` the kernel carries between points, as a view: what it holds is stated through it. -/
abbrev VS0_0 : View sig .tc .vmem S8x512 .f32 := scM0_0.view

/-- The other scoped buffers of the core (the other call's staging buffers and scratch), each at some contents. -/
abbrev Rest (c : Dev nD) : sProp 𝕄 :=
  bigSepL [cc1_stg0_0, cc1_stg0_1, cc1_stg1_0, cc1_stg1_1, cc1_stg2_0, cc1_stg2_1, cc1_stg3_0, cc1_stg4_0, cc1_stg4_1, cc1_stg5_0, cc1_stg5_1, cc1_stg6_0, cc1_stg6_1, cc1_stg7_0, cc1_stg7_1, cc1_stg8_0, cc1_stg8_1, cc1_stg9_0, cc1_stg9_1, cc1_stg10_0, cc1_scratch0] fun b => iprop(∃ f : Buf (Elt F) ((c.tc : Thread nD τ).loc b), ((c.tc : Thread nD τ).loc b) ↦{fullShare} f)

/-- What rides beside the scratch through the call untouched: the other scoped buffers and the generator register at some state. -/
abbrev Side (c : Dev nD) : sProp 𝕄 := iprop(Rest (F := F) c ∗ (∃ r, prngReg c r))

/-- What the call is entered with, its scratch as a memref owned at some contents and `Side` beside it. -/
theorem PhiA0_eq (c : Dev nD) :
    (Pipeline.ΦA spec0 c : sProp 𝕄)
      = iprop(iprop((∃ d, owns (c : Thread nD τ) scM0_0 fullShare d)) ∗ Side (F := F) c) := by
  unfold Pipeline.ΦA
  rw [Pipeline.scopedRest_eq_of_list spec0 c [cc0_scratch0, cc1_stg0_0, cc1_stg0_1, cc1_stg1_0, cc1_stg1_1, cc1_stg2_0, cc1_stg2_1, cc1_stg3_0, cc1_stg4_0, cc1_stg4_1, cc1_stg5_0, cc1_stg5_1, cc1_stg6_0, cc1_stg6_1, cc1_stg7_0, cc1_stg7_1, cc1_stg8_0, cc1_stg8_1, cc1_stg9_0, cc1_stg9_1, cc1_stg10_0, cc1_scratch0] (by decide) (by decide)]
  simp only [scM0_0, owns_whole]
  exact Idealize.SL.BI.equiv_iff.mp ⟨BI.sep_assoc, BI.sep_assoc'⟩

end Cert.KernelIdeal.Fwd

end
-- ==== Proof.KFwdA.lean ====
/- The forward recurrence call: the run of its body at the first grid point. -/
module

public import proofs.«01_k».proof.Proof.KFwdKit

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .bf16) (w5 : a5.IsWhole) (a6 : Memref sig .tc .vmem S256x512 .f32) (w6 : a6.IsWhole) (a7 : Memref sig .tc .vmem S8x512 .f32) (w7 : a7.IsWhole) (hc0 : cond0_0 i)
    (x0 : Vec F S256x1024 .f32) (x1 : Vec F S256x512 .f32) (x2 : Vec F S256x512 .f32) (x3 : Vec F S8x512 .f32) :
    Σ' (L4 : List (View.Piece (Elt F) S256x512 .bf16)), Σ' (L5 : List (View.Piece (Elt F) S256x512 .f32)), { LS0 : List (View.Piece (Elt F) S8x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f LS0)) -∗ K ⟨⟩))
          ⊢ wp frame (wpE (defs₀ (F := F)) Variants.none c none) E (cc0_lru_scan i a1 w1 a2 w2 a3 w3 a4 w4 a5 w5 a6 w6 a7 w7) K } := by
  refine ⟨?_, ?_, ?_, fun E K => ?run⟩
  case run =>
    simp only [cc0_lru_scan_eq_skeleton]; unfold cc0_lru_scan_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := w1.eq_unread hf0; obtain rfl := w2.eq_unread hf1; obtain rfl := w3.eq_unread hf2; obtain rfl := w4.eq_unread hf3
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]; · iexists _; iexact H4
    isplitl [H5]; · iexists _; iexact H5
    iexists _; iexact HS0

end Cert.KernelIdeal.Fwd

end
-- ==== Proof.KFwdB.lean ====
/- The forward recurrence call: the run of its body at every later grid point. -/
module

public import proofs.«01_k».proof.Proof.KFwdA

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .bf16) (w5 : a5.IsWhole) (a6 : Memref sig .tc .vmem S256x512 .f32) (w6 : a6.IsWhole) (a7 : Memref sig .tc .vmem S8x512 .f32) (w7 : a7.IsWhole) (hc0 : ¬cond0_0 i)
    (x0 : Vec F S256x1024 .f32) (x1 : Vec F S256x512 .f32) (x2 : Vec F S256x512 .f32) (x3 : Vec F S8x512 .f32) (xs0 : Vec F S8x512 .f32) :
    Σ' (L4 : List (View.Piece (Elt F) S256x512 .bf16)), Σ' (L5 : List (View.Piece (Elt F) S256x512 .f32)), { LS0 : List (View.Piece (Elt F) S8x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ owns (c : Thread nD τ) a7 fullShare xs0
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (a7.view.loc (c : Thread nD τ) ↦[a7.view.set]{fullShare} a7.view.writes (Elt F) (w7.unread xs0) LS0)) -∗ K ⟨⟩))
          ⊢ wp frame (wpE (defs₀ (F := F)) Variants.none c none) E (cc0_lru_scan i a1 w1 a2 w2 a3 w3 a4 w4 a5 w5 a6 w6 a7 w7) K } := by
  refine ⟨?_, ?_, ?_, fun E K => ?run⟩
  case run =>
    simp only [cc0_lru_scan_eq_skeleton]; unfold cc0_lru_scan_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := w1.eq_unread hf0; obtain rfl := w2.eq_unread hf1; obtain rfl := w3.eq_unread hf2; obtain rfl := w4.eq_unread hf3; obtain rfl := w7.eq_unread hfs0
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]; · iexists _; iexact H4
    isplitl [H5]; · iexists _; iexact H5
    iexact HS0

end Cert.KernelIdeal.Fwd

end
-- ==== Proof.KFwd.lean ====
/- The forward recurrence call: what its outputs and its scratch hold after each grid point, the proof data of its pipeline and the body obligation, over any contents at its entry. -/
module

public import proofs.«01_k».proof.Proof.KFwdB
public import Idealize.ShloMosaic.Lib.Claim

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

section Pieces

variable (c : Dev nD) (i : grid0.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole)
  (a4 : Memref sig .tc .vmem S8x512 .f32) (w4 : a4.IsWhole) (a5 : Memref sig .tc .vmem S256x512 .bf16) (w5 : a5.IsWhole) (a6 : Memref sig .tc .vmem S256x512 .f32) (w6 : a6.IsWhole) (a7 : Memref sig .tc .vmem S8x512 .f32) (w7 : a7.IsWhole)

section CaseA

variable (hc0 : cond0_0 i)
  (x0 : Vec F S256x1024 .f32) (x1 : Vec F S256x512 .f32) (x2 : Vec F S256x512 .f32) (x3 : Vec F S8x512 .f32)

/-- Case A's pieces for output 4 tile its block (1 store of `S256x512`), so they cover it. -/
theorem cover0_A_4 (y : S256x512.Idx) :
    ∃ pc ∈ (kernelRun0_A c i a1 w1 a2 w2 a3 w3 a4 w4 a5 w5 a6 w6 a7 w7 hc0 x0 x1 x2 x3).1, y ∈ pc.1.set :=
  View.cover_of_tiledL _ S256x512.size (by sl_kernel_rfl) y

/-- What case A leaves in output 4's staging buffer: its pieces read back over junk. -/
def out0_A_4 : Vec F S256x512 .bf16 :=
  VO0_4.read (Elt F) (VO0_4.writes (Elt F) VO0_4.junk (kernelRun0_A c i a1 w1 a2 w2 a3 w3 a4 w4 a5 w5 a6 w6 a7 w7 hc0 x0 x1 x2 x3).1)

/-- Case A's pieces for output 5 tile its block (1 store of `S256x512`), so they cover it. -/
theorem cover0_A_5 (y : S256x512.Idx) :
    ∃ pc ∈ (kernelRun0_A c i a1 w1 a2 w2 a3 w3 a4 w4 a5 w5 a6 w6 a7 w7 hc0 x0 x1 x2 x3).2.1, y ∈ pc.1.set :=
  View.cover_of_tiledL _ S256x512.size (by sl_kernel_rfl) y

/-- What case A leaves in output 5's staging buffer: its pieces read back over junk. -/
def out0_A_5 : Vec F S256x512 .f32 :=
  VO0_5.read (Elt F) (VO0_5.writes (Elt F) VO0_5.junk (kernelRun0_A c i a1 w1 a2 w2 a3 w3 a4 w4 a5 w5 a6 w6 a7 w7 hc0 x0 x1 x2 x3).2.1)

/-- Case A's pieces for scratch `a7`, which the kernel carries between points, cover it: one of them a store of the WHOLE buffer. -/
theorem scover0_A_0 (y : S8x512.Idx) :
    ∃ pc ∈ (kernelRun0_A c i a1 w1 a2 w2 a3 w3 a4 w4 a5 w5 a6 w6 a7 w7 hc0 x0 x1 x2 x3).2.2.1, y ∈ pc.1.set :=
  View.cover_of_wholeMem _ (by sl_whole_mem) y

/-- What case A leaves in scratch `a7`: its pieces read back over junk. -/
def sout0_A_0 : Vec F S8x512 .f32 :=
  VS0_0.read (Elt F) (VS0_0.writes (Elt F) VS0_0.junk (kernelRun0_A c i a1 w1 a2 w2 a3 w3 a4 w4 a5 w5 a6 w6 a7 w7 hc0 x0 x1 x2 x3).2.2.1)

end CaseA

section CaseB

variable (hc0 : ¬cond0_0 i)
  (x0 : Vec F S256x1024 .f32) (x1 : Vec F S256x512 .f32) (x2 : Vec F S256x512 .f32) (x3 : Vec F S8x512 .f32) (xs0 : Vec F S8x512 .f32)

/-- Case B's pieces for output 4 tile its block (1 store of `S256x512`), so they cover it. -/
theorem cover0_B_4 (y : S256x512.Idx) :
    ∃ pc ∈ (kernelRun0_B c i a1 w1 a2 w2 a3 w3 a4 w4 a5 w5 a6 w6 a7 w7 hc0 x0 x1 x2 x3 xs0).1, y ∈ pc.1.set :=
  View.cover_of_tiledL _ S256x512.size (by sl_kernel_rfl) y

/-- What case B leaves in output 4's staging buffer: its pieces read back over junk. -/
def out0_B_4 : Vec F S256x512 .bf16 :=
  VO0_4.read (Elt F) (VO0_4.writes (Elt F) VO0_4.junk (kernelRun0_B c i a1 w1 a2 w2 a3 w3 a4 w4 a5 w5 a6 w6 a7 w7 hc0 x0 x1 x2 x3 xs0).1)

/-- Case B's pieces for output 5 tile its block (1 store of `S256x512`), so they cover it. -/
theorem cover0_B_5 (y : S256x512.Idx) :
    ∃ pc ∈ (kernelRun0_B c i a1 w1 a2 w2 a3 w3 a4 w4 a5 w5 a6 w6 a7 w7 hc0 x0 x1 x2 x3 xs0).2.1, y ∈ pc.1.set :=
  View.cover_of_tiledL _ S256x512.size (by sl_kernel_rfl) y

/-- What case B leaves in output 5's staging buffer: its pieces read back over junk. -/
def out0_B_5 : Vec F S256x512 .f32 :=
  VO0_5.read (Elt F) (VO0_5.writes (Elt F) VO0_5.junk (kernelRun0_B c i a1 w1 a2 w2 a3 w3 a4 w4 a5 w5 a6 w6 a7 w7 hc0 x0 x1 x2 x3 xs0).2.1)

/-- What case B leaves in scratch `a7`: its pieces (stores, a counted loop's segment) read back over what the point before left there, which it read first. -/
def sout0_B_0 : Vec F S8x512 .f32 :=
  a7.view.read (Elt F) (a7.view.writes (Elt F) (w7.unread xs0) (kernelRun0_B c i a1 w1 a2 w2 a3 w3 a4 w4 a5 w5 a6 w6 a7 w7 hc0 x0 x1 x2 x3 xs0).2.2.1)

end CaseB

end Pieces

/-! ## What the outputs hold after each point -/

/-- What a point of case A leaves in the outputs' buffers and in the scratch that is carried on … -/
def point0_A (c : Dev nD) (t : Fin cfg0.N) (h0 : t.val % 32 = 0) : Vec F S256x512 .bf16 × Vec F S256x512 .f32 × Vec F S8x512 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (X0_2 V c t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (X0_2 V c t) (iblk V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (X0_2 V c t) (iblk V c 3 t))

/-- … and a point of case B, over what the point before left. -/
def point0_B (c : Dev nD) (t : Fin cfg0.N) (h0 : ¬t.val % 32 = 0) (xs0 : Vec F S8x512 .f32) : Vec F S256x512 .bf16 × Vec F S256x512 .f32 × Vec F S8x512 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (X0_2 V c t) (iblk V c 3 t) xs0, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (X0_2 V c t) (iblk V c 3 t) xs0, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (X0_2 V c t) (iblk V c 3 t) xs0)

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .bf16 × Vec F S256x512 .f32 × Vec F S8x512 .f32
  | 0, hn => point0_A V c ⟨0, hn⟩ (Nat.zero_mod _)
  | n + 1, hn =>
    if h0 : (n + 1) % 32 = 0 then point0_A V c ⟨n + 1, hn⟩ h0
    else point0_B V c ⟨n + 1, hn⟩ h0 (outsAt0 c n (Nat.lt_of_succ_lt hn)).2.2

set_option maxHeartbeats 6400000 in
/-- `outsAt0` at a point of case A: that case's contents. -/
theorem outsAt0_A (c : Dev nD) (t : Fin cfg0.N) (h0 : t.val % 32 = 0) :
    outsAt0 V c t.val t.isLt = point0_A V c t h0 := by
  obtain ⟨n, hn⟩ := t
  cases n with
  | zero => exact rfl
  | succ n => exact (dif_pos h0).trans rfl

set_option maxHeartbeats 6400000 in
/-- `outsAt0` at a point of case B: that case's contents, over what the point before left. -/
theorem outsAt0_B (c : Dev nD) (t : Fin cfg0.N) (h0 : ¬t.val % 32 = 0) :
    outsAt0 V c t.val t.isLt = point0_B V c t h0 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Side (F := F) c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ Side (F := F) c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ Side (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => X0_2 V c t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = X0_2 V c t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]
theorem after0_5 (c : Dev nD) (t : Fin cfg0.N) : (dat V c).after 5 t = (outsAt0 V c t.val t.isLt).2.1 := by dsimp only [dat]

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0_of V (dat V c) (A_eq V c 0) (after0_0 V c), before0_1_of V (dat V c) (A_eq V c 1) (after0_1 V c), before0_2_of V (dat V c) (A_eq V c 2) (after0_2 V c), before0_3_of V (dat V c) (A_eq V c 3) (after0_3 V c)]
  rw [show (dat V c).owesAt () t.succ = (dat V c).owesAt () t.castSucc from rfl,
    after0_0, after0_1, after0_2, after0_3, after0_4, after0_5]
  rw [show (dat V c).Φ t.succ = PhiS V c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc V c t, PhiS_zero V c _ _ hz, PhiA0_eq]
      rw [outsAt0_A V c t h0, point0_A]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk V c 0 t) (iblk V c 1 t) (X0_2 V c t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (fun _ => scover0_A_0 ..)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (fun _ => cover0_A_4 ..)
      unfold owns; iexists _; isplitr
      swap; · iexact H5
      ipureintro; exact View.read_writes_of_cover _ _ _ _ _ (fun _ => cover0_A_5 ..)
    · omega
  · by_cases hz : t.val = 0
    · omega
    · rw [PhiS_castSucc V c t, PhiS_pos V c _ _ hz]
      rw [outsAt0_B V c t h0, point0_B]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk V c 0 t) (iblk V c 1 t) (X0_2 V c t) (iblk V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (fun _ => cover0_B_4 ..)
      unfold owns; iexists _; isplitr
      swap; · iexact H5
      ipureintro; exact View.read_writes_of_cover _ _ _ _ _ (fun _ => cover0_B_5 ..)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.Fwd

end
-- ==== Proof.KBwdKit.lean ====
/- The backward recurrence call: its windows' blocks at a grid point, its branch condition, its staging memrefs and what rides beside its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`) (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`) (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S8192x4224`), but no block the grid
    reaches is cut, so no part of its staging buffer is left unfilled by a fetch. A default for such a part, which
    nothing reads. -/
def dflt1_2 : (cfg1.win 2).block.Idx → Elt F (cfg1.win 2).elt := fun _ => Classical.choice inferInstance
/-- What input window 2's current staging buffer holds when the body runs at `t`: its block read off the array,
    filled over `dflt1_2` (block-typed, where `iblk` is typed at the cut). -/
def X1_2 (c : Dev nD) (t : Fin cfg1.N) : (cfg1.win 2).block.Idx → Elt F (cfg1.win 2).elt :=
  (cfg1.win 2).fill (cfg1.grid.coords t) dflt1_2 (iblk V c 2 t)
/-- At every point the cut's extent is the block's, decided over the grid: no transfer of input window 2 is cut. -/
theorem xsize1_2 : ∀ t : Fin cfg1.N, ∀ a, (cfg1.win 2).xsize (cfg1.grid.coords t) a = (cfg1.win 2).size a := by decide +kernel
/-- Every index of input window 2's block is moved at every point. -/
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
/-- A fill of input window 2's block covers the whole buffer, whatever it held. -/
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
/-- Input window 2's current staging buffer holds `X1_2` at every point, fetched there or not, for ANY proof data whose
    array is `V`'s (`hA`) and whose body leaves it in place (`hafter`), its cut a function of its block index (`hclip` by rewriting the index), the fetch
    filling the whole block (`fill1_2`). -/
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S8192x4224.size a)) (congrFun h a))
      (fun t => by rw [hafter]; unfold X1_2; rw [Pipeline.Window.cut_fill]; unfold Dat.blockOf iblk; rw [hA]; try rfl) t d).trans
    (by unfold Dat.fetched X1_2; rw [fill1_2 t d dflt1_2]; unfold Dat.blockOf iblk; rw [hA]; try rfl)
/-- Input window 3's current staging buffer holds its block at every point, fetched there or not, for ANY proof
    data whose array is `V`'s (`hA`) and whose body leaves the block in place (`hafter`) (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`) (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`) (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`) (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The kernel body on any staging memrefs: a subtype the run finds -/

/-- One staging buffer of output window 7, through which its contents are stated (`View.read_writes_of_cover`: the
    choice does not matter). -/
abbrev VO1_7 : View sig .tc .vmem S256x1024 .f32 := (Memref.whole cc1_stg7_0 : Memref sig .tc .vmem S256x1024 .f32).view
/-- One staging buffer of output window 8, through which its contents are stated (`View.read_writes_of_cover`: the
    choice does not matter). -/
abbrev VO1_8 : View sig .tc .vmem S256x512 .f32 := (Memref.whole cc1_stg8_0 : Memref sig .tc .vmem S256x512 .f32).view
/-- One staging buffer of output window 9, through which its contents are stated (`View.read_writes_of_cover`: the
    choice does not matter). -/
abbrev VO1_9 : View sig .tc .vmem S256x512 .bf16 := (Memref.whole cc1_stg9_0 : Memref sig .tc .vmem S256x512 .bf16).view
/-- One staging buffer of output window 10, through which its contents are stated (`View.read_writes_of_cover`: the
    choice does not matter). -/
abbrev VO1_10 : View sig .tc .vmem S8x512 .f32 := (Memref.whole cc1_stg10_0 : Memref sig .tc .vmem S8x512 .f32).view
/-- Each window's current staging memref at point `t`, spelled as the pipeline passes it (`bodyAt1`), and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x512 .f32 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S8x512 .f32 := Memref.whole cc1_scratch0
/-- The scratch `arg12` the kernel carries between points, as a view: what it holds is stated through it. -/
abbrev VS1_0 : View sig .tc .vmem S8x512 .f32 := scM1_0.view

/-- The other scoped buffers of the core (the other call's staging buffers and scratch), each at some contents. -/
abbrev Rest (c : Dev nD) : sProp 𝕄 :=
  bigSepL [cc0_stg0_0, cc0_stg0_1, cc0_stg1_0, cc0_stg1_1, cc0_stg2_0, cc0_stg2_1, cc0_stg3_0, cc0_stg4_0, cc0_stg4_1, cc0_stg5_0, cc0_stg5_1, cc0_scratch0] fun b => iprop(∃ f : Buf (Elt F) ((c.tc : Thread nD τ).loc b), ((c.tc : Thread nD τ).loc b) ↦{fullShare} f)

/-- What rides beside the scratch through the call untouched: the other scoped buffers and the generator register at some state. -/
abbrev Side (c : Dev nD) : sProp 𝕄 := iprop(Rest (F := F) c ∗ (∃ r, prngReg c r))

/-- What the call is entered with, its scratch as a memref owned at some contents and `Side` beside it. -/
theorem PhiA1_eq (c : Dev nD) :
    (Pipeline.ΦA spec1 c : sProp 𝕄)
      = iprop(iprop((∃ d, owns (c : Thread nD τ) scM1_0 fullShare d)) ∗ Side (F := F) c) := by
  unfold Pipeline.ΦA
  rw [Pipeline.scopedRest_eq_of_list spec1 c [cc1_scratch0, cc0_stg0_0, cc0_stg0_1, cc0_stg1_0, cc0_stg1_1, cc0_stg2_0, cc0_stg2_1, cc0_stg3_0, cc0_stg4_0, cc0_stg4_1, cc0_stg5_0, cc0_stg5_1, cc0_scratch0] (by decide) (by decide)]
  simp only [scM1_0, owns_whole]
  exact Idealize.SL.BI.equiv_iff.mp ⟨BI.sep_assoc, BI.sep_assoc'⟩

end Cert.KernelIdeal.Bwd

end
-- ==== Proof.KBwdA.lean ====
/- The backward recurrence call: the run of its body at the first grid point. -/
module

public import proofs.«01_k».proof.Proof.KBwdKit

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun1_A (c : Dev nD) (i : grid1.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .f32) (w5 : a5.IsWhole) (a6 : Memref sig .tc .vmem S8x512 .f32) (w6 : a6.IsWhole) (a7 : Memref sig .tc .vmem S256x512 .f32) (w7 : a7.IsWhole) (a8 : Memref sig .tc .vmem S256x1024 .f32) (w8 : a8.IsWhole) (a9 : Memref sig .tc .vmem S256x512 .f32) (w9 : a9.IsWhole) (a10 : Memref sig .tc .vmem S256x512 .bf16) (w10 : a10.IsWhole) (a11 : Memref sig .tc .vmem S8x512 .f32) (w11 : a11.IsWhole) (a12 : Memref sig .tc .vmem S8x512 .f32) (w12 : a12.IsWhole) (hc0 : cond1_0 i)
    (x0 : Vec F S256x1024 .f32) (x1 : Vec F S256x512 .f32) (x2 : Vec F S256x512 .f32) (x3 : Vec F S8x512 .f32) (x4 : Vec F S256x512 .f32) (x5 : Vec F S8x512 .f32) (x6 : Vec F S256x512 .f32) :
    Σ' (L7 : List (View.Piece (Elt F) S256x1024 .f32)), Σ' (L8 : List (View.Piece (Elt F) S256x512 .f32)), Σ' (L9 : List (View.Piece (Elt F) S256x512 .bf16)), Σ' (L10 : List (View.Piece (Elt F) S8x512 .f32)), { LS0 : List (View.Piece (Elt F) S8x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f LS0)) -∗ K ⟨⟩))
          ⊢ wp frame (wpE (defs₀ (F := F)) Variants.none c none) E (cc1_lru_scan_bwd i a1 w1 a2 w2 a3 w3 a4 w4 a5 w5 a6 w6 a7 w7 a8 w8 a9 w9 a10 w10 a11 w11 a12 w12) K } := by
  refine ⟨?_, ?_, ?_, ?_, ?_, fun E K => ?run⟩
  case run =>
    simp only [cc1_lru_scan_bwd_eq_skeleton]; unfold cc1_lru_scan_bwd_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.Bwd

end
-- ==== Proof.KBwdB.lean ====
/- The backward recurrence call: the run of its body at every later grid point. -/
module

public import proofs.«01_k».proof.Proof.KBwdA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 31: 31 of 32), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun1_B (c : Dev nD) (i : grid1.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .f32) (w5 : a5.IsWhole) (a6 : Memref sig .tc .vmem S8x512 .f32) (w6 : a6.IsWhole) (a7 : Memref sig .tc .vmem S256x512 .f32) (w7 : a7.IsWhole) (a8 : Memref sig .tc .vmem S256x1024 .f32) (w8 : a8.IsWhole) (a9 : Memref sig .tc .vmem S256x512 .f32) (w9 : a9.IsWhole) (a10 : Memref sig .tc .vmem S256x512 .bf16) (w10 : a10.IsWhole) (a11 : Memref sig .tc .vmem S8x512 .f32) (w11 : a11.IsWhole) (a12 : Memref sig .tc .vmem S8x512 .f32) (w12 : a12.IsWhole) (hc0 : ¬cond1_0 i)
    (x0 : Vec F S256x1024 .f32) (x1 : Vec F S256x512 .f32) (x2 : Vec F S256x512 .f32) (x3 : Vec F S8x512 .f32) (x4 : Vec F S256x512 .f32) (x5 : Vec F S8x512 .f32) (x6 : Vec F S256x512 .f32) (xo10 : Vec F S8x512 .f32) (xs0 : Vec F S8x512 .f32) :
    Σ' (L7 : List (View.Piece (Elt F) S256x1024 .f32)), Σ' (L8 : List (View.Piece (Elt F) S256x512 .f32)), Σ' (L9 : List (View.Piece (Elt F) S256x512 .bf16)), Σ' (L10 : List (View.Piece (Elt F) S8x512 .f32)), { LS0 : List (View.Piece (Elt F) S8x512 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d) ∗ (∃ d, owns (c : Thread nD τ) a10 fullShare d) ∗ owns (c : Thread nD τ) a11 fullShare xo10 ∗ owns (c : Thread nD τ) a12 fullShare xs0
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ f, a8.view.loc (c : Thread nD τ) ↦[a8.view.set]{fullShare} a8.view.writes (Elt F) f L7) ∗ (∃ f, a9.view.loc (c : Thread nD τ) ↦[a9.view.set]{fullShare} a9.view.writes (Elt F) f L8) ∗ (∃ f, a10.view.loc (c : Thread nD τ) ↦[a10.view.set]{fullShare} a10.view.writes (Elt F) f L9) ∗ (a11.view.loc (c : Thread nD τ) ↦[a11.view.set]{fullShare} a11.view.writes (Elt F) (w11.unread xo10) L10) ∗ (a12.view.loc (c : Thread nD τ) ↦[a12.view.set]{fullShare} a12.view.writes (Elt F) (w12.unread xs0) LS0)) -∗ K ⟨⟩))
          ⊢ wp frame (wpE (defs₀ (F := F)) Variants.none c none) E (cc1_lru_scan_bwd i a1 w1 a2 w2 a3 w3 a4 w4 a5 w5 a6 w6 a7 w7 a8 w8 a9 w9 a10 w10 a11 w11 a12 w12) K } := by
  refine ⟨?_, ?_, ?_, ?_, ?_, fun E K => ?run⟩
  case run =>
    simp only [cc1_lru_scan_bwd_eq_skeleton]; unfold cc1_lru_scan_bwd_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w11.eq_unread hf10; obtain rfl := w12.eq_unread hfs0
    sl_exec (disch := first | sl_exact hc0)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]; · iexists _; iexact H7
    isplitl [H8]; · iexists _; iexact H8
    isplitl [H9]; · iexists _; iexact H9
    isplitl [H10]; · iexact H10
    iexact HS0

end Cert.KernelIdeal.Bwd

end
-- ==== Proof.KBwd.lean ====
/- The backward recurrence call: what its outputs and its scratch hold after each grid point, the proof data of its pipeline and the body obligation, over any contents at its entry. -/
module

public import proofs.«01_k».proof.Proof.KBwdB
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

section Pieces

variable (c : Dev nD) (i : grid1.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole)
  (a4 : Memref sig .tc .vmem S8x512 .f32) (w4 : a4.IsWhole) (a5 : Memref sig .tc .vmem S256x512 .f32) (w5 : a5.IsWhole) (a6 : Memref sig .tc .vmem S8x512 .f32) (w6 : a6.IsWhole) (a7 : Memref sig .tc .vmem S256x512 .f32) (w7 : a7.IsWhole)
  (a8 : Memref sig .tc .vmem S256x1024 .f32) (w8 : a8.IsWhole) (a9 : Memref sig .tc .vmem S256x512 .f32) (w9 : a9.IsWhole) (a10 : Memref sig .tc .vmem S256x512 .bf16) (w10 : a10.IsWhole) (a11 : Memref sig .tc .vmem S8x512 .f32) (w11 : a11.IsWhole) (a12 : Memref sig .tc .vmem S8x512 .f32) (w12 : a12.IsWhole)

section CaseA

variable (hc0 : cond1_0 i)
  (x0 : Vec F S256x1024 .f32) (x1 : Vec F S256x512 .f32) (x2 : Vec F S256x512 .f32) (x3 : Vec F S8x512 .f32) (x4 : Vec F S256x512 .f32) (x5 : Vec F S8x512 .f32) (x6 : Vec F S256x512 .f32)

/-- Case A's pieces for output 7 tile its block (2 stores of `S256x512`), so they cover it. -/
theorem cover1_A_7 (y : S256x1024.Idx) :
    ∃ pc ∈ (kernelRun1_A c i a1 w1 a2 w2 a3 w3 a4 w4 a5 w5 a6 w6 a7 w7 a8 w8 a9 w9 a10 w10 a11 w11 a12 w12 hc0 x0 x1 x2 x3 x4 x5 x6).1, y ∈ pc.1.set :=
  View.cover_of_tiledL (kernelRun1_A c i a1 w1 a2 w2 a3 w3 a4 w4 a5 w5 a6 w6 a7 w7 a8 w8 a9 w9 a10 w10 a11 w11 a12 w12 hc0 x0 x1 x2 x3 x4 x5 x6).1 S256x512.size (by sl_kernel_rfl) y

/-- What case A leaves in output 7's staging buffer: its pieces read back over junk. -/
def out1_A_7 : Vec F S256x1024 .f32 :=
  VO1_7.read (Elt F) (VO1_7.writes (Elt F) VO1_7.junk (kernelRun1_A c i a1 w1 a2 w2 a3 w3 a4 w4 a5 w5 a6 w6 a7 w7 a8 w8 a9 w9 a10 w10 a11 w11 a12 w12 hc0 x0 x1 x2 x3 x4 x5 x6).1)

/-- Case A's pieces for output 8 tile its block (1 store of `S256x512`), so they cover it. -/
theorem cover1_A_8 (y : S256x512.Idx) :
    ∃ pc ∈ (kernelRun1_A c i a1 w1 a2 w2 a3 w3 a4 w4 a5 w5 a6 w6 a7 w7 a8 w8 a9 w9 a10 w10 a11 w11 a12 w12 hc0 x0 x1 x2 x3 x4 x5 x6).2.1, y ∈ pc.1.set :=
  View.cover_of_tiledL _ S256x512.size (by sl_kernel_rfl) y

/-- What case A leaves in output 8's staging buffer: its pieces read back over junk. -/
def out1_A_8 : Vec F S256x512 .f32 :=
  VO1_8.read (Elt F) (VO1_8.writes (Elt F) VO1_8.junk (kernelRun1_A c i a1 w1 a2 w2 a3 w3 a4 w4 a5 w5 a6 w6 a7 w7 a8 w8 a9 w9 a10 w10 a11 w11 a12 w12 hc0 x0 x1 x2 x3 x4 x5 x6).2.1)

/-- Case A's pieces for output 9 tile its block (1 store of `S256x512`), so they cover it. -/
theorem cover1_A_9 (y : S256x512.Idx) :
    ∃ pc ∈ (kernelRun1_A c i a1 w1 a2 w2 a3 w3 a4 w4 a5 w5 a6 w6 a7 w7 a8 w8 a9 w9 a10 w10 a11 w11 a12 w12 hc0 x0 x1 x2 x3 x4 x5 x6).2.2.1, y ∈ pc.1.set :=
  View.cover_of_tiledL _ S256x512.size (by sl_kernel_rfl) y

/-- What case A leaves in output 9's staging buffer: its pieces read back over junk. -/
def out1_A_9 : Vec F S256x512 .bf16 :=
  VO1_9.read (Elt F) (VO1_9.writes (Elt F) VO1_9.junk (kernelRun1_A c i a1 w1 a2 w2 a3 w3 a4 w4 a5 w5 a6 w6 a7 w7 a8 w8 a9 w9 a10 w10 a11 w11 a12 w12 hc0 x0 x1 x2 x3 x4 x5 x6).2.2.1)

/-- Case A's pieces for output 10 are of SEVERAL sizes (4 stores of `S1x512`, `S8x512`): cut into blocks of `![1, 512]` they tile its block, so they cover it. -/
theorem cover1_A_10 (y : S8x512.Idx) :
    ∃ pc ∈ (kernelRun1_A c i a1 w1 a2 w2 a3 w3 a4 w4 a5 w5 a6 w6 a7 w7 a8 w8 a9 w9 a10 w10 a11 w11 a12 w12 hc0 x0 x1 x2 x3 x4 x5 x6).2.2.2.1, y ∈ pc.1.set :=
  View.cover_of_tiledBy _ ![1, 512] (by sl_kernel_rfl) y

/-- What case A leaves in output 10's staging buffer: its pieces read back over junk. -/
def out1_A_10 : Vec F S8x512 .f32 :=
  VO1_10.read (Elt F) (VO1_10.writes (Elt F) VO1_10.junk (kernelRun1_A c i a1 w1 a2 w2 a3 w3 a4 w4 a5 w5 a6 w6 a7 w7 a8 w8 a9 w9 a10 w10 a11 w11 a12 w12 hc0 x0 x1 x2 x3 x4 x5 x6).2.2.2.1)

/-- Case A's pieces for scratch `a12`, which the kernel carries between points, cover it: one of them a store of the WHOLE buffer. -/
theorem scover1_A_0 (y : S8x512.Idx) :
    ∃ pc ∈ (kernelRun1_A c i a1 w1 a2 w2 a3 w3 a4 w4 a5 w5 a6 w6 a7 w7 a8 w8 a9 w9 a10 w10 a11 w11 a12 w12 hc0 x0 x1 x2 x3 x4 x5 x6).2.2.2.2.1, y ∈ pc.1.set :=
  View.cover_of_wholeMem _ (by sl_whole_mem) y

/-- What case A leaves in scratch `a12`: its pieces read back over junk. -/
def sout1_A_0 : Vec F S8x512 .f32 :=
  VS1_0.read (Elt F) (VS1_0.writes (Elt F) VS1_0.junk (kernelRun1_A c i a1 w1 a2 w2 a3 w3 a4 w4 a5 w5 a6 w6 a7 w7 a8 w8 a9 w9 a10 w10 a11 w11 a12 w12 hc0 x0 x1 x2 x3 x4 x5 x6).2.2.2.2.1)

end CaseA

section CaseB

variable (hc0 : ¬cond1_0 i)
  (x0 : Vec F S256x1024 .f32) (x1 : Vec F S256x512 .f32) (x2 : Vec F S256x512 .f32) (x3 : Vec F S8x512 .f32) (x4 : Vec F S256x512 .f32) (x5 : Vec F S8x512 .f32) (x6 : Vec F S256x512 .f32) (xo10 : Vec F S8x512 .f32) (xs0 : Vec F S8x512 .f32)

/-- Case B's pieces for output 7 tile its block (2 stores of `S256x512`), so they cover it. -/
theorem cover1_B_7 (y : S256x1024.Idx) :
    ∃ pc ∈ (kernelRun1_B c i a1 w1 a2 w2 a3 w3 a4 w4 a5 w5 a6 w6 a7 w7 a8 w8 a9 w9 a10 w10 a11 w11 a12 w12 hc0 x0 x1 x2 x3 x4 x5 x6 xo10 xs0).1, y ∈ pc.1.set :=
  View.cover_of_tiledL (kernelRun1_B c i a1 w1 a2 w2 a3 w3 a4 w4 a5 w5 a6 w6 a7 w7 a8 w8 a9 w9 a10 w10 a11 w11 a12 w12 hc0 x0 x1 x2 x3 x4 x5 x6 xo10 xs0).1 S256x512.size (by sl_kernel_rfl) y

/-- What case B leaves in output 7's staging buffer: its pieces read back over junk. -/
def out1_B_7 : Vec F S256x1024 .f32 :=
  VO1_7.read (Elt F) (VO1_7.writes (Elt F) VO1_7.junk (kernelRun1_B c i a1 w1 a2 w2 a3 w3 a4 w4 a5 w5 a6 w6 a7 w7 a8 w8 a9 w9 a10 w10 a11 w11 a12 w12 hc0 x0 x1 x2 x3 x4 x5 x6 xo10 xs0).1)

/-- Case B's pieces for output 8 tile its block (1 store of `S256x512`), so they cover it. -/
theorem cover1_B_8 (y : S256x512.Idx) :
    ∃ pc ∈ (kernelRun1_B c i a1 w1 a2 w2 a3 w3 a4 w4 a5 w5 a6 w6 a7 w7 a8 w8 a9 w9 a10 w10 a11 w11 a12 w12 hc0 x0 x1 x2 x3 x4 x5 x6 xo10 xs0).2.1, y ∈ pc.1.set :=
  View.cover_of_tiledL _ S256x512.size (by sl_kernel_rfl) y

/-- What case B leaves in output 8's staging buffer: its pieces read back over junk. -/
def out1_B_8 : Vec F S256x512 .f32 :=
  VO1_8.read (Elt F) (VO1_8.writes (Elt F) VO1_8.junk (kernelRun1_B c i a1 w1 a2 w2 a3 w3 a4 w4 a5 w5 a6 w6 a7 w7 a8 w8 a9 w9 a10 w10 a11 w11 a12 w12 hc0 x0 x1 x2 x3 x4 x5 x6 xo10 xs0).2.1)

/-- Case B's pieces for output 9 tile its block (1 store of `S256x512`), so they cover it. -/
theorem cover1_B_9 (y : S256x512.Idx) :
    ∃ pc ∈ (kernelRun1_B c i a1 w1 a2 w2 a3 w3 a4 w4 a5 w5 a6 w6 a7 w7 a8 w8 a9 w9 a10 w10 a11 w11 a12 w12 hc0 x0 x1 x2 x3 x4 x5 x6 xo10 xs0).2.2.1, y ∈ pc.1.set :=
  View.cover_of_tiledL _ S256x512.size (by sl_kernel_rfl) y

/-- What case B leaves in output 9's staging buffer: its pieces read back over junk. -/
def out1_B_9 : Vec F S256x512 .bf16 :=
  VO1_9.read (Elt F) (VO1_9.writes (Elt F) VO1_9.junk (kernelRun1_B c i a1 w1 a2 w2 a3 w3 a4 w4 a5 w5 a6 w6 a7 w7 a8 w8 a9 w9 a10 w10 a11 w11 a12 w12 hc0 x0 x1 x2 x3 x4 x5 x6 xo10 xs0).2.2.1)

/-- What case B leaves in output 10's staging buffer: its stores read back over what the point before left there (they do not cover the block). -/
def out1_B_10 : Vec F S8x512 .f32 :=
  a11.view.read (Elt F) (a11.view.writes (Elt F) (w11.unread xo10) (kernelRun1_B c i a1 w1 a2 w2 a3 w3 a4 w4 a5 w5 a6 w6 a7 w7 a8 w8 a9 w9 a10 w10 a11 w11 a12 w12 hc0 x0 x1 x2 x3 x4 x5 x6 xo10 xs0).2.2.2.1)

/-- What case B leaves in scratch `a12`: its pieces (stores, a counted loop's segment) read back over what the point before left there, which it read first. -/
def sout1_B_0 : Vec F S8x512 .f32 :=
  a12.view.read (Elt F) (a12.view.writes (Elt F) (w12.unread xs0) (kernelRun1_B c i a1 w1 a2 w2 a3 w3 a4 w4 a5 w5 a6 w6 a7 w7 a8 w8 a9 w9 a10 w10 a11 w11 a12 w12 hc0 x0 x1 x2 x3 x4 x5 x6 xo10 xs0).2.2.2.2.1)

end CaseB

end Pieces

/-! ## What the outputs hold after each point -/

/-- What a point of case A leaves in the outputs' buffers and in the scratch that is carried on … -/
def point1_A (c : Dev nD) (t : Fin cfg1.N) (h0 : t.val % 32 = 0) : Vec F S256x1024 .f32 × Vec F S256x512 .f32 × Vec F S256x512 .bf16 × Vec F S8x512 .f32 × Vec F S8x512 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk V c 0 t) (iblk V c 1 t) (X1_2 V c t) (iblk V c 3 t) (iblk V c 4 t) (iblk V c 5 t) (iblk V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk V c 0 t) (iblk V c 1 t) (X1_2 V c t) (iblk V c 3 t) (iblk V c 4 t) (iblk V c 5 t) (iblk V c 6 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk V c 0 t) (iblk V c 1 t) (X1_2 V c t) (iblk V c 3 t) (iblk V c 4 t) (iblk V c 5 t) (iblk V c 6 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk V c 0 t) (iblk V c 1 t) (X1_2 V c t) (iblk V c 3 t) (iblk V c 4 t) (iblk V c 5 t) (iblk V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk V c 0 t) (iblk V c 1 t) (X1_2 V c t) (iblk V c 3 t) (iblk V c 4 t) (iblk V c 5 t) (iblk V c 6 t))

/-- … and a point of case B, over what the point before left. -/
def point1_B (c : Dev nD) (t : Fin cfg1.N) (h0 : ¬t.val % 32 = 0) (xo10 xs0 : Vec F S8x512 .f32) : Vec F S256x1024 .f32 × Vec F S256x512 .f32 × Vec F S256x512 .bf16 × Vec F S8x512 .f32 × Vec F S8x512 .f32 :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk V c 0 t) (iblk V c 1 t) (X1_2 V c t) (iblk V c 3 t) (iblk V c 4 t) (iblk V c 5 t) (iblk V c 6 t) xo10 xs0, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk V c 0 t) (iblk V c 1 t) (X1_2 V c t) (iblk V c 3 t) (iblk V c 4 t) (iblk V c 5 t) (iblk V c 6 t) xo10 xs0, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk V c 0 t) (iblk V c 1 t) (X1_2 V c t) (iblk V c 3 t) (iblk V c 4 t) (iblk V c 5 t) (iblk V c 6 t) xo10 xs0, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk V c 0 t) (iblk V c 1 t) (X1_2 V c t) (iblk V c 3 t) (iblk V c 4 t) (iblk V c 5 t) (iblk V c 6 t) xo10 xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk V c 0 t) (iblk V c 1 t) (X1_2 V c t) (iblk V c 3 t) (iblk V c 4 t) (iblk V c 5 t) (iblk V c 6 t) xo10 xs0)

/-- What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x1024 .f32 × Vec F S256x512 .f32 × Vec F S256x512 .bf16 × Vec F S8x512 .f32 × Vec F S8x512 .f32
  | 0, hn => point1_A V c ⟨0, hn⟩ (Nat.zero_mod _)
  | n + 1, hn =>
    if h0 : (n + 1) % 32 = 0 then point1_A V c ⟨n + 1, hn⟩ h0
    else point1_B V c ⟨n + 1, hn⟩ h0 (outsAt1 c n (Nat.lt_of_succ_lt hn)).2.2.2.1 (outsAt1 c n (Nat.lt_of_succ_lt hn)).2.2.2.2

set_option maxHeartbeats 6400000 in
/-- `outsAt1` at a point of case A: that case's contents. -/
theorem outsAt1_A (c : Dev nD) (t : Fin cfg1.N) (h0 : t.val % 32 = 0) :
    outsAt1 V c t.val t.isLt = point1_A V c t h0 := by
  obtain ⟨n, hn⟩ := t
  cases n with
  | zero => exact rfl
  | succ n => exact (dif_pos h0).trans rfl

set_option maxHeartbeats 6400000 in
/-- `outsAt1` at a point of case B: that case's contents, over what the point before left. -/
theorem outsAt1_B (c : Dev nD) (t : Fin cfg1.N) (h0 : ¬t.val % 32 = 0) :
    outsAt1 V c t.val t.isLt = point1_B V c t h0 (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's; afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2)) ∗ Side (F := F) c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2.2)) ∗ Side (F := F) c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2)) ∗ Side (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; each input's share of its array
    (`Pipeline.shareOf`: the full share of an array several windows stage, dealt among them). -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => X1_2 V c t
    | ⟨3, _⟩ => iblk V c 3 t
    | ⟨4, _⟩ => iblk V c 4 t
    | ⟨5, _⟩ => iblk V c 5 t
    | ⟨6, _⟩ => iblk V c 6 t
    | ⟨7, _⟩ => (outsAt1 V c t.val t.isLt).1
    | ⟨8, _⟩ => (outsAt1 V c t.val t.isLt).2.1
    | ⟨9, _⟩ => (outsAt1 V c t.val t.isLt).2.2.1
    | ⟨10, _⟩ => (outsAt1 V c t.val t.isLt).2.2.2.1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = X1_2 V c t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = (outsAt1 V c t.val t.isLt).1 := by dsimp only [dat]
theorem after1_8 (c : Dev nD) (t : Fin cfg1.N) : (dat V c).after 8 t = (outsAt1 V c t.val t.isLt).2.1 := by dsimp only [dat]
theorem after1_9 (c : Dev nD) (t : Fin cfg1.N) : (dat V c).after 9 t = (outsAt1 V c t.val t.isLt).2.2.1 := by dsimp only [dat]
theorem after1_10 (c : Dev nD) (t : Fin cfg1.N) : (dat V c).after 10 t = (outsAt1 V c t.val t.isLt).2.2.2.1 := by dsimp only [dat]

/-- At a point of case B output 10's current staging buffer holds what the body left at the point before: the point is
    not the first, the buffer was not written back between (`flush1_10`), the window is live and uncut. -/
theorem before1_10_B (c : Dev nD) (t : Fin cfg1.N) (h0 : ¬t.val % 32 = 0) (d) :
    (dat V c).before 10 t d = (outsAt1 V c (t.val - 1) (Nat.lt_of_le_of_lt (Nat.sub_le _ _) t.isLt)).2.2.2.1 := by
  have hN : t.val < 32 := lt_of_lt_of_eq t.isLt (show cfg1.N = 32 from N_1)
  rw [Dat.before_out_kept _ 10 rfl t (by omega) (Bool.eq_false_iff.mpr fun h => by have := (flush1_10 _).mp h; dsimp only at this; omega)
    (fun _ => rfl) (fun _ _ => rfl)]
  dsimp only [dat]

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0_of V (dat V c) (A_eq V c 0) (after1_0 V c), before1_1_of V (dat V c) (A_eq V c 1) (after1_1 V c), before1_2_of V (dat V c) (A_eq V c 2) (after1_2 V c), before1_3_of V (dat V c) (A_eq V c 3) (after1_3 V c), before1_4_of V (dat V c) (A_eq V c 4) (after1_4 V c), before1_5_of V (dat V c) (A_eq V c 5) (after1_5 V c), before1_6_of V (dat V c) (A_eq V c 6) (after1_6 V c)]
  rw [show (dat V c).owesAt () t.succ = (dat V c).owesAt () t.castSucc from rfl,
    after1_0, after1_1, after1_2, after1_3, after1_4, after1_5, after1_6, after1_7, after1_8, after1_9, after1_10]
  rw [show (dat V c).Φ t.succ = PhiS V c (t.val + 1) t.isLt from rfl, PhiS_succ]
  have hN : t.val < 32 := lt_of_lt_of_eq t.isLt (show cfg1.N = 32 from N_1)
  by_cases h0 : t.val % 32 = 0
  · by_cases hz : t.val = 0
    · rw [PhiS_castSucc V c t, PhiS_zero V c _ _ hz, PhiA1_eq]
      rw [outsAt1_A V c t h0, point1_A]
      unfold out1_A_7 out1_A_8 out1_A_9 out1_A_10 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_A c (grid1.coords t) _ _ _ _ _ _ _ _ _ _ _ _ _ _ _ _ _ _ _ _ _ _ _ _ ((hcond1_0 t).mpr h0) (iblk V c 0 t) (iblk V c 1 t) (X1_2 V c t) (iblk V c 3 t) (iblk V c 4 t) (iblk V c 5 t) (iblk V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (fun _ => scover1_A_0 ..)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (fun _ => cover1_A_7 ..)
      isplitl [H8]
      · unfold owns; iexists _; isplitr
        swap; · iexact H8
        ipureintro; exact View.read_writes_of_cover _ _ _ _ _ (fun _ => cover1_A_8 ..)
      isplitl [H9]
      · unfold owns; iexists _; isplitr
        swap; · iexact H9
        ipureintro; exact View.read_writes_of_cover _ _ _ _ _ (fun _ => cover1_A_9 ..)
      unfold owns; iexists _; isplitr
      swap; · iexact H10
      ipureintro; exact View.read_writes_of_cover _ _ _ _ _ (fun _ => cover1_A_10 ..)
    · omega
  · by_cases hz : t.val = 0
    · omega
    · rw [PhiS_castSucc V c t, PhiS_pos V c _ _ hz]
      rw [outsAt1_B V c t h0, point1_B]
      simp only [before1_10_B V c t h0]
      unfold out1_B_7 out1_B_8 out1_B_9 out1_B_10 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (iblk V c 0 t) (iblk V c 1 t) (X1_2 V c t) (iblk V c 3 t) (iblk V c 4 t) (iblk V c 5 t) (iblk V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HS0]; · iexact HS0
      iintro ⟨H0, H1, H2, H3, H4, H5, H6, ⟨%e7, H7⟩, ⟨%e8, H8⟩, ⟨%e9, H9⟩, H10, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (fun _ => cover1_B_7 ..)
      isplitl [H8]
      · unfold owns; iexists _; isplitr
        swap; · iexact H8
        ipureintro; exact View.read_writes_of_cover _ _ _ _ _ (fun _ => cover1_B_8 ..)
      isplitl [H9]
      · unfold owns; iexists _; isplitr
        swap; · iexact H9
        ipureintro; exact View.read_writes_of_cover _ _ _ _ _ (fun _ => cover1_B_9 ..)
      unfold owns; iexists _; isplitr
      swap; · iexact H10
      ipureintro; rfl

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.KernelIdeal.Bwd

end
-- ==== Proof.KRun.lean ====
/- The run of the two calls: the contents of the unscoped buffers at entry, between the calls and at the end, each
   call as a segment of @main, and the run from any launch memory to the last contents. -/
module

public import proofs.«01_k».proof.Proof.KFwd
public import proofs.«01_k».proof.Proof.KBwd
public import Idealize.ShloMosaic.Lib.Pipeline.Regions
public import Idealize.ShloMosaic.Lib.Pipeline.RegionsLoop
public import Idealize.ShloMosaic.Lib.Pipeline.FrameSuffix

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at entry, between the calls and at the end -/

/-- The buffers of core `c` at launch. -/
abbrev W0 : Dev nD → Valuation τ sig (Elt F) := fun c b => m ((c : Dev nD), b)
/-- The same read at the TensorCore's references: what the forward call is entered with. -/
abbrev U0 : (c : Dev nD) → (b : Ref sig .tc) → Buf (Elt F) ((c : Thread nD τ).loc b) := fun c b => W0 m c b
/-- After the forward call: its arrays at what its pipeline leaves, every other buffer as it was. -/
def W1 (c : Dev nD) : Valuation τ sig (Elt F) :=
  Pipeline.withArrays spec0 c (W0 m c) fun w => (Fwd.dat (U0 m) c).arrAt w cfg0.N
/-- The same read at the TensorCore's references: what the backward call is entered with. -/
abbrev U1 : (c : Dev nD) → (b : Ref sig .tc) → Buf (Elt F) ((c : Thread nD τ).loc b) := fun c b => W1 m c b
/-- After the backward call. -/
def W2 (c : Dev nD) : Valuation τ sig (Elt F) :=
  Pipeline.withArrays spec1 c (W1 m c) fun w => (Bwd.dat (U1 m) c).arrAt w cfg1.N
/-- The same read at the TensorCore's references. -/
abbrev U2 : (c : Dev nD) → (b : Ref sig .tc) → Buf (Elt F) ((c : Thread nD τ).loc b) := fun c b => W2 m c b

theorem W1_arr (c : Dev nD) (w : Fin cfg0.W) :
    W1 m c (Proc.devRef .tc (Pipeline.arrRef spec0 w)) = (Fwd.dat (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A reference that is no output array of the forward call keeps its contents across it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((Fwd.dat (U0 m) c).arrAt_in w (h w rfl) _).trans (Fwd.A_eq (U0 m) c w))
  · exact W1_of_ne m c r fun w e => hw ⟨w, e⟩
theorem W2_arr (c : Dev nD) (w : Fin cfg1.W) :
    W2 m c (Proc.devRef .tc (Pipeline.arrRef spec1 w)) = (Bwd.dat (U1 m) c).arrAt w cfg1.N := by
  unfold W2; exact (Bwd.dat (U1 m) c).withArrays_arrAt launch₀1.sharedIn _ (Bwd.A_eq (U1 m) c) w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A reference that is no output array of the backward call keeps its contents across it. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((Bwd.dat (U1 m) c).arrAt_in w (h w rfl) _).trans (Bwd.A_eq (U1 m) c w))
  · exact W2_of_ne m c r fun w e => hw ⟨w, e⟩

theorem hF0 (c : Dev nD) (w : Fin cfg0.W) : (Fwd.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)
theorem hF1 (c : Dev nD) (w : Fin cfg1.W) : (Bwd.dat (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- An argument keeps its launch contents across both calls. -/
theorem W2_arg (c : Dev nD) (r : Ref sig .tc) (h0 : ∀ w : Fin cfg0.W, Pipeline.arrRef spec0 w = r → (cfg0.win w).isOut = false)
    (h1 : ∀ w : Fin cfg1.W, Pipeline.arrRef spec1 w = r → (cfg1.win w).isOut = false) :
    W2 m c (Proc.devRef .tc r) = m ((c : Thread nD τ).loc r) :=
  (W2_of m c r h1).trans (W1_of m c r h0)

/-! ## The proof data and the thread state -/

/-- No call has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => Fwd.dat (U0 m) c
  | ⟨1, _⟩ => fun c => Bwd.dat (U1 m) c

/-- No variant is bounded. -/
abbrev 𝒱₀ : Variants := Variants.none
/-- No level is assigned: no core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at its last contents, the generator register at some state. -/
abbrev Tₙ (c : Dev nD) : sProp 𝕄 := iprop(StableHlo.held (c : Thread nD τ) (Pipeline.ucRefs τ sig) (W2 m c) ∗ ∃ r, prngReg c r)

/-! ## The calls as segments -/

set_option backward.isDefEq.respectTransparency.types false in
/-- The forward call over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) (Fwd.A_eq (U0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Fwd.hin (U0 m) c)
    unfold Pipeline.ΦA
    iintro ⟨Hp, -, Hr⟩
    isplitl [Hr]; · iexact Hr
    iexact Hp
  hout c := by
    rw [Pipeline.ownSems0_none]
    refine BIBase.Entails.trans (Fwd.hout (U0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call over the thread state: entered from every unscoped buffer at `W1`, left at `W2`; two of its input
    windows read the forward call's state array, each dealt its share of it. -/
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (Bwd.body_obligation (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (U1 m c) (Bwd.A_eq (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Bwd.hin (U1 m) c)
    unfold Pipeline.ΦA
    iintro ⟨Hp, -, Hr⟩
    isplitl [Hr]; · iexact Hr
    iexact Hp
  hout c := by
    rw [Pipeline.ownSems0_none]
    refine BIBase.Entails.trans (Bwd.hout (U1 m) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs2 : List (Pipeline.Seg (pcfgs (F := F)) adm (pdats m) () defs₀ 𝒱₀ L lv) := [.region (reg0 m), .region (reg1 m)]

theorem no_unscoped : ∀ sm : SemLoc sig, sm.isScoped .tc = true := by decide

set_option backward.isDefEq.respectTransparency.types false in
/-- THE RUN: from any memory with zero counters, every fair execution of @main terminates, nothing faulting, with every
    unscoped buffer at its last contents and every semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W2 m c b) ∧ r.2.sem = fun _ => 0) :=
  Pipeline.θ_run_regions_kit_sems (pcfgs (F := F)) adm (pdats m) () cellOf_inj emb₁ defs₀ 𝒱₀ L lv m ρ main (segs2 m)
    (fun c Q => by rw [main_segs adm (pdats m) () 𝒱₀ L lv (reg0 m) (reg1 m) c])
    (by simp only [segs2, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (no_unscoped g.2))⟩)

/-- The frame: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W2_arg m c main_arg0 (by decide) (by decide)),
     (h.1 c _ (mem_uc main_arg1 (by decide))).trans (W2_arg m c main_arg1 (by decide) (by decide)),
     (h.1 c _ (mem_uc main_arg2 (by decide))).trans (W2_arg m c main_arg2 (by decide) (by decide)),
     (h.1 c _ (mem_uc main_arg3 (by decide))).trans (W2_arg m c main_arg3 (by decide) (by decide)),
     (h.1 c _ (mem_uc main_arg4 (by decide))).trans (W2_arg m c main_arg4 (by decide) (by decide))⟩, h.2⟩) (run_main m ρ)

end Cert.KernelIdeal.Two

end
-- ==== Proof.Lru.lean ====
/- The gated linear recurrence of one channel over the reals, forward and backward, and the doubling step by which
   a tile of it is solved. Nothing here mentions a program. -/
module

public import Idealize.ShloMosaic.Lib.Pointwise.Tactic

@[expose] public section

noncomputable section

namespace Lru

open Idealize.ShloMosaic

/-! ## The scalar functions -/

/-- The two constants of the tanh form of gelu, as the reals their single-precision patterns denote. -/
def cA : ℝ := (Ideal.ofBits .f32 0x3F4C422A#32).toReal
def cB : ℝ := (Ideal.ofBits .f32 0x3D372713#32).toReal

theorem cA_coe : Ideal.ofBits .f32 0x3F4C422A#32 = ((cA : ℝ) : EReal) := by
  unfold cA; simp [Ideal.ofBits, Ideal.ieee, -EReal.coe_mul]
theorem cB_coe : Ideal.ofBits .f32 0x3D372713#32 = ((cB : ℝ) : EReal) := by
  unfold cB; simp [Ideal.ofBits, Ideal.ieee, -EReal.coe_mul]
theorem half_coe : Ideal.ofBits .f32 0x3F000000#32 = (((1 / 2 : ℝ)) : EReal) := by
  simp [Ideal.ofBits, Ideal.ieee, -EReal.coe_mul]; norm_num
theorem two_coe : Ideal.ofBits .f32 0x40000000#32 = ((2 : ℝ) : EReal) := by
  simp [Ideal.ofBits, Ideal.ieee, -EReal.coe_mul]; norm_num
theorem three_coe : Ideal.ofBits .f32 0x40400000#32 = ((3 : ℝ) : EReal) := by
  simp [Ideal.ofBits, Ideal.ieee, -EReal.coe_mul]; norm_num
theorem neg8_coe : Ideal.ofBits .f32 0xC1000000#32 = (((-8 : ℝ)) : EReal) := by
  simp [Ideal.ofBits, Ideal.ieee, -EReal.coe_mul]; norm_num
theorem one_coe : Ideal.ofBits .f32 0x3F800000#32 = ((1 : ℝ) : EReal) := by simp
theorem zero_coe : Ideal.ofBits .f32 0x00000000#32 = ((0 : ℝ) : EReal) := by simp

/-- The logistic function. -/
def sg (x : ℝ) : ℝ := (1 + Real.exp (-x))⁻¹
/-- Softplus, and its slope. -/
def sp (x : ℝ) : ℝ := max x 0 + Real.log (1 + Real.exp (-|x|))
def sl (x : ℝ) : ℝ := Real.exp (x - sp x)
/-- The inner tanh of gelu, gelu, and gelu's slope. -/
def th (x : ℝ) : ℝ := Real.tanh (cA * (x + cB * (x * x * x)))
def ge (x : ℝ) : ℝ := x * (1 / 2 * (1 + th x))
def dge (x : ℝ) : ℝ :=
  1 / 2 * (1 + th x) + 1 / 2 * x * ((1 + th x) * (1 - th x)) * (cA * (1 + 3 * cB * (x * x)))

theorem one_add_exp_pos (x : ℝ) : 0 < 1 + Real.exp x := by positivity
theorem sg_pos (x : ℝ) : 0 < sg x := inv_pos.mpr (one_add_exp_pos _)
theorem sp_pos (x : ℝ) : 0 < sp x := by
  unfold sp
  have h : 0 < Real.log (1 + Real.exp (-|x|)) := Real.log_pos (by have := Real.exp_pos (-|x|); linarith)
  have := le_max_right x 0
  linarith

/-- The slope of softplus away from zero, as the sum of the two branches' contributions: the maximum's, a step, and the
    logarithm's, whose sign is the branch of the absolute value. -/
theorem sl_eq {x : ℝ} (hx : x ≠ 0) :
    sl x = (if 0 < x then 1 else 0) + (if 0 ≤ x then -1 else 1) * (Real.exp (-|x|) / (1 + Real.exp (-|x|))) := by
  have hp := one_add_exp_pos (-|x|)
  unfold sl sp
  rw [show x - (max x 0 + Real.log (1 + Real.exp (-|x|))) = (x - max x 0) - Real.log (1 + Real.exp (-|x|)) by ring,
    Real.exp_sub, Real.exp_log hp]
  rcases lt_or_gt_of_ne hx with h | h
  · rw [if_neg (by linarith), if_neg (by linarith), max_eq_right h.le, abs_of_neg h]; simp
  · rw [if_pos h, if_pos h.le, max_eq_left h.le, abs_of_pos h, sub_self, Real.exp_zero]
    have := one_add_exp_pos (-x)
    field_simp; ring

/-! ## One channel -/

/-- What one channel reads: the two gates' inputs, the recurrence's input, the output gate's input and the output's
    cotangent at each time, and the channel's three parameters. -/
structure Col where
  (pa px xc g dm : ℕ → ℝ)
  (ba bx lam : ℝ)

namespace Col
variable (k : Col)

/-- The forward pass: gates, decay and its square, input scale, input, state. -/
def r (t : ℕ) : ℝ := sg (k.pa t + k.ba)
def i (t : ℕ) : ℝ := sg (k.px t + k.bx)
def la (t : ℕ) : ℝ := -8 * k.r t * sp (-k.lam)
def a (t : ℕ) : ℝ := Real.exp (k.la t)
def b (t : ℕ) : ℝ := Real.exp (2 * k.la t)
def q (t : ℕ) : ℝ := Real.sqrt (1 - k.b t)
def u (t : ℕ) : ℝ := k.q t * (k.i t * k.xc t)
def h : ℕ → ℝ
  | 0 => k.u 0
  | t + 1 => k.a (t + 1) * h t + k.u (t + 1)
/-- The state one step earlier, zero before the first. -/
def hp : ℕ → ℝ
  | 0 => 0
  | t + 1 => k.h t
def out (t : ℕ) : ℝ := k.h t * ge (k.g t)

/-- The backward pass: the state's own cotangent, and the accumulated one, by steps from the end. -/
def ct (t : ℕ) : ℝ := k.dm t * ge (k.g t)
def dback : ℕ → ℝ
  | 0 => k.ct 8191
  | s + 1 => k.ct (8191 - (s + 1)) + k.a (8191 - s) * dback s
def dh (t : ℕ) : ℝ := k.dback (8191 - t)
/-- What flows into time `t` from time `t + 1`; zero past the end. -/
def dn (t : ℕ) : ℝ := if t + 1 < 8192 then k.a (t + 1) * k.dh (t + 1) else 0
def dla (t : ℕ) : ℝ :=
  2 * (-(k.dh t * (k.i t * k.xc t) * (1 / 2 / k.q t)) * k.b t) + k.dh t * k.hp t * k.a t
def dxc (t : ℕ) : ℝ := k.i t * (k.q t * k.dh t)
def dpa (t : ℕ) : ℝ := -8 * (k.dla t * sp (-k.lam)) * (k.r t * (1 - k.r t))
def dpx (t : ℕ) : ℝ := k.q t * k.dh t * k.xc t * (k.i t * (1 - k.i t))
def dlt (t : ℕ) : ℝ := -8 * k.r t * k.dla t
def dg (t : ℕ) : ℝ := k.dm t * k.h t * dge (k.g t)
def dba : ℝ := ∑ t ∈ Finset.range 8192, k.dpa t
def dbx : ℝ := ∑ t ∈ Finset.range 8192, k.dpx t
def dlam : ℝ := -((∑ t ∈ Finset.range 8192, k.dlt t) * sl (-k.lam))

theorem h_eq (t : ℕ) : k.h t = k.a t * k.hp t + k.u t := by
  cases t <;> simp [h, hp]

theorem dh_eq (t : ℕ) (ht : t < 8192) : k.dh t = k.ct t + k.dn t := by
  unfold dh dn
  obtain ⟨s, rfl⟩ : ∃ s, t = 8191 - s := ⟨8191 - t, by omega⟩
  by_cases hs : 8191 - s + 1 < 8192
  · rw [if_pos hs]
    obtain ⟨n, hn⟩ : ∃ n, 8191 - (8191 - s) = n + 1 := ⟨8191 - (8191 - s) - 1, by omega⟩
    rw [hn]; unfold dback dh
    rw [show 8191 - (8191 - s + 1) = n by omega, show 8191 - (n + 1) = 8191 - s by omega, show 8191 - n = 8191 - s + 1 by omega]
  · rw [if_neg hs, show 8191 - (8191 - s) = 0 by omega, show 8191 - s = 8191 by omega]; simp [dback]

theorem la_neg (t : ℕ) : k.la t < 0 := by
  unfold la; have := mul_pos (k.r t |> fun _ => sg_pos (k.pa t + k.ba)) (sp_pos (-k.lam)); unfold r; nlinarith
theorem b_lt_one (t : ℕ) : k.b t < 1 := by
  unfold b; rw [Real.exp_lt_one_iff]; have := k.la_neg t; linarith
theorem q_pos (t : ℕ) : 0 < k.q t := Real.sqrt_pos.mpr (by have := k.b_lt_one t; linarith)

end Col

/-! ## Arrays of extended reals that hold these reals -/

/-- A two-dimensional array of 512 channels, and a row of them, holding real values. -/
def Arr {n : ℕ} (x : (⟨2, ![n, 512]⟩ : Shape).Idx → EReal) (f : Fin 512 → ℕ → ℝ) : Prop :=
  ∀ (t : Fin n) (l : Fin 512), x (ix2 t l) = ((f l t.val : ℝ) : EReal)
def Row (x : (⟨1, ![512]⟩ : Shape).Idx → EReal) (f : Fin 512 → ℝ) : Prop :=
  ∀ l : Fin 512, x (ix1 l) = ((f l : ℝ) : EReal)

/-- The five argument arrays hold the channels `k`. -/
structure Inp (A0 : (⟨2, ![8192, 1024]⟩ : Shape).Idx → EReal) (A1 : (⟨2, ![8192, 512]⟩ : Shape).Idx → EReal)
    (A2 : (⟨2, ![8192, 4224]⟩ : Shape).Idx → EReal) (A3 : (⟨2, ![8, 512]⟩ : Shape).Idx → EReal)
    (A4 : (⟨2, ![8192, 1536]⟩ : Shape).Idx → EReal) (k : Fin 512 → Col) : Prop where
  pa : ∀ (t : Fin 8192) (l : Fin 512), A0 (ix2 t ⟨l.val, by omega⟩) = (((k l).pa t.val : ℝ) : EReal)
  px : ∀ (t : Fin 8192) (l : Fin 512), A0 (ix2 t ⟨512 + l.val, by omega⟩) = (((k l).px t.val : ℝ) : EReal)
  xc : ∀ (t : Fin 8192) (l : Fin 512), A1 (ix2 t l) = (((k l).xc t.val : ℝ) : EReal)
  g : ∀ (t : Fin 8192) (l : Fin 512), A2 (ix2 t ⟨3072 + l.val, by omega⟩) = (((k l).g t.val : ℝ) : EReal)
  ba : ∀ l : Fin 512, A3 (ix2 0 l) = (((k l).ba : ℝ) : EReal)
  bx : ∀ l : Fin 512, A3 (ix2 1 l) = (((k l).bx : ℝ) : EReal)
  lam : ∀ l : Fin 512, A3 (ix2 2 l) = (((k l).lam : ℝ) : EReal)
  dm : ∀ (t : Fin 8192) (l : Fin 512), A4 (ix2 t ⟨1024 + l.val, by omega⟩) = (((k l).dm t.val : ℝ) : EReal)
  nz : ∀ l : Fin 512, (k l).lam ≠ 0

/-! Arithmetic on extended reals that are real. -/

theorem max_coe (x y : ℝ) : max (x : EReal) (y : EReal) = ((max x y : ℝ) : EReal) :=
  (EReal.coe_strictMono.monotone.map_max).symm
theorem div_coe {y : ℝ} (hy : y ≠ 0) (x : ℝ) : Ideal.div (x : EReal) (y : EReal) = ((x / y : ℝ) : EReal) := by
  rw [Ideal.div_coe hy, ← EReal.coe_mul]; congr 1; ring
theorem log_coe {x : ℝ} (hx : 0 < x) : Ideal.log (x : EReal) = ((Real.log x : ℝ) : EReal) := by
  rw [Ideal.log_coe, if_neg (not_le.mpr hx)]
theorem sqrt_coe {x : ℝ} (hx : 0 ≤ x) : Ideal.sqrt (x : EReal) = ((Real.sqrt x : ℝ) : EReal) := by
  rw [Ideal.sqrt_coe, if_neg (not_lt.mpr hx)]
theorem ofInf : Ideal.ofBits .f32 0x7F800000#32 = ⊤ := by simp [Ideal.ofBits, Ideal.ieee]
theorem abs_coe (x : ℝ) : FloatOps.absf (F := Ideal) (φ := .f32) (x : EReal) = ((|x| : ℝ) : EReal) := by
  rw [Ideal.absf_def, ← EReal.coe_neg, max_coe]; rfl
theorem une_self (x : EReal) : FloatOps.cmpf (F := Ideal) (φ := .f32) .une x x = 0#1 := by
  simp [Ideal.cmpf_def, Ideal.cmp]
theorem oeq_top (x : ℝ) : FloatOps.cmpf (F := Ideal) (φ := .f32) .oeq (x : EReal) ⊤ = 0#1 := by
  simp [Ideal.cmpf_def, Ideal.cmp]
theorem sel_zero {α : Type} (a b : α) : Scalar.select 0#1 a b = b := rfl
theorem sel_one {α : Type} (a b : α) : Scalar.select 1#1 a b = a := rfl
theorem one_coe' : (1 : EReal) = ((1 : ℝ) : EReal) := rfl
theorem zero_coe' : (0 : EReal) = ((0 : ℝ) : EReal) := rfl

/-! ## Solving a tile by doubling

A recurrence `H r = U r + A r * H (r - 1)` is solved by replacing each step by a jump twice as long, until the jump
leaves the tile. `Fw w c A U H` says that `H` obeys the recurrence with jump `w`, the value before the tile being `c`;
`Bw` is the same with time running backwards and zero past the tile's end. -/

def Fw (w : ℕ) (c : ℝ) (A U H : ℕ → ℝ) : Prop :=
  ∀ r, r < 256 → H r = U r + A r * (if w ≤ r then H (r - w) else c)

theorem Fw.double {w : ℕ} {c : ℝ} {A U H : ℕ → ℝ} (h : Fw w c A U H) :
    Fw (w + w) c (fun r => A r * (if w ≤ r then A (r - w) else 1)) (fun r => A r * (if w ≤ r then U (r - w) else 0) + U r) H := by
  intro r hr
  rw [h r hr]
  by_cases h1 : w ≤ r
  · simp only [if_pos h1]
    rw [h (r - w) (by omega)]
    by_cases h2 : w + w ≤ r
    · rw [if_pos h2, if_pos (by omega), show r - w - w = r - (w + w) by omega]; ring
    · rw [if_neg h2, if_neg (by omega)]; ring
  · simp only [if_neg h1]; rw [if_neg (by omega)]; ring

theorem Fw.done {c : ℝ} {A U H : ℕ → ℝ} (h : Fw 256 c A U H) {r : ℕ} (hr : r < 256) : A r * c + U r = H r := by
  rw [h r hr, if_neg (by omega)]; ring

def Bw (w : ℕ) (A U H : ℕ → ℝ) : Prop :=
  ∀ r, r < 256 → H r = U r + A r * (if r < 256 - w then H (r + w) else 0)

theorem Bw.double {w : ℕ} {A U H : ℕ → ℝ} (h : Bw w A U H) :
    Bw (w + w) (fun r => A r * (if r < 256 - w then A (r + w) else 1)) (fun r => A r * (if r < 256 - w then U (r + w) else 0) + U r) H := by
  intro r hr
  rw [h r hr]
  by_cases h1 : r < 256 - w
  · simp only [if_pos h1]
    rw [h (r + w) (by omega)]
    by_cases h2 : r < 256 - (w + w)
    · rw [if_pos h2, if_pos (by omega), show r + w + w = r + (w + w) by omega]; ring
    · rw [if_neg h2, if_neg (by omega)]; ring
  · simp only [if_neg h1]; rw [if_neg (by omega)]; ring

theorem Bw.done {A U H : ℕ → ℝ} (h : Bw 256 A U H) {r : ℕ} (hr : r < 256) : U r = H r := by
  rw [h r hr, if_neg (by omega)]; ring

end Lru

end
-- ==== Proof.LruSum.lean ====
/- Sums of real terms among the extended reals. -/
module

public import proofs.«01_k».proof.Proof.Lru
public import Idealize.ShloMosaic.Lib.ValueIdx

@[expose] public section

noncomputable section

namespace Lru

open Idealize.ShloMosaic Idealize.ShloMosaic.TcCoe

theorem sum_coe (n : ℕ) (f : ℕ → ℝ) : ∑ t : Fin n, ((f t.val : ℝ) : EReal) = ((∑ t ∈ Finset.range n, f t : ℝ) : EReal) := by
  induction n with
  | zero => simp
  | succ n ih => rw [Fin.sum_univ_castSucc, Finset.sum_range_succ, EReal.coe_add, ← ih]; rfl

/-! ## The arrays the results are -/

/-- Two arrays of 512 channels side by side. -/
def Arr2 (x : (⟨2, ![8192, 1024]⟩ : Shape).Idx → EReal) (f g : Fin 512 → ℕ → ℝ) : Prop :=
  ∀ (t : Fin 8192) (l : Fin 512), x (ix2 t ⟨l.val, by omega⟩) = ((f l t.val : ℝ) : EReal)
    ∧ x (ix2 t ⟨512 + l.val, by omega⟩) = ((g l t.val : ℝ) : EReal)

/-- The gradient of a channel's parameters: three rows, and five rows of zeros. -/
def Col.dpar (k : Col) (r : ℕ) : ℝ := if r = 0 then k.dba else if r = 1 then k.dbx else if r = 2 then k.dlam else 0

theorem Arr.ext {n : ℕ} {x y : (⟨2, ![n, 512]⟩ : Shape).Idx → EReal} {f : Fin 512 → ℕ → ℝ} (hx : Arr x f) (hy : Arr y f) : x = y := by
  funext j
  rw [ValueIdx.eq_ix2 j]
  exact (hx _ _).trans (hy _ _).symm

theorem Arr2.ext {x y : (⟨2, ![8192, 1024]⟩ : Shape).Idx → EReal} {f g : Fin 512 → ℕ → ℝ} (hx : Arr2 x f g) (hy : Arr2 y f g) : x = y := by
  funext j
  rw [ValueIdx.eq_ix2 j]
  generalize j 0 = t
  have e : ∀ l : Fin 1024, x (ix2 t l) = y (ix2 t l) := fun l => by
    by_cases h : l.val < 512
    · exact ((hx t ⟨l.val, h⟩).1).trans ((hy t ⟨l.val, h⟩).1).symm
    · have e1 : l = ⟨512 + (l.val - 512), by omega⟩ := Fin.ext (by show l.val = 512 + (l.val - 512); omega)
      rw [e1]
      exact ((hx t ⟨l.val - 512, by omega⟩).2).trans ((hy t ⟨l.val - 512, by omega⟩).2).symm
  exact e _

end Lru

end
-- ==== Proof.Tile.lean ====
/- A tile of 256 times by 512 channels: what its doubling steps do to the real values it holds. -/
module

public import proofs.«01_k».proof.Proof.LruSum
public import proofs.«01_k».proof.KernelIdeal
public import Idealize.ShloMosaic.Lib.KernelVsHost

@[expose] public section

noncomputable section

namespace Lru

open Idealize.ShloMosaic Idealize.ShloMosaic.TcCoe
open Cert.KernelIdeal (S256x512 S1x512)

/-! ## Comparisons of the time within a tile -/

theorem small_word (t : ℕ) (ht : t < 256) : (BitVec.ofNat 32 t).toInt = (t : ℤ) := by
  rw [BitVec.toInt_eq_toNat_of_lt (by rw [BitVec.toNat_ofNat]; omega), BitVec.toNat_ofNat]
  congr 1; omega

theorem sge_word (t w : ℕ) (ht : t < 256) (hw : w < 256) :
    IntOp.cmpi .sge (BitVec.ofNat 32 t) (BitVec.ofNat 32 w) = if w ≤ t then 1#1 else 0#1 := by
  show BitVec.ofBool (BitVec.sle _ _) = _
  rw [BitVec.sle_eq_decide, small_word t ht, small_word w hw]
  by_cases h : w ≤ t <;> simp [h]

theorem slt_word (t w : ℕ) (ht : t < 256) (hw : w < 256) :
    IntOp.cmpi .slt (BitVec.ofNat 32 t) (BitVec.ofNat 32 w) = if t < w then 1#1 else 0#1 := by
  show BitVec.ofBool (BitVec.slt _ _) = _
  rw [BitVec.slt_eq_decide, small_word t ht, small_word w hw]
  by_cases h : t < w <;> simp [h]

theorem eq_word (t w : ℕ) (ht : t < 256) (hw : w < 256) :
    IntOp.cmpi .eq (BitVec.ofNat 32 t) (BitVec.ofNat 32 w) = if t = w then 1#1 else 0#1 := by
  have e : BitVec.ofNat 32 t = BitVec.ofNat 32 w ↔ t = w :=
    ⟨fun h => by have := congrArg BitVec.toInt h; rw [small_word t ht, small_word w hw] at this; exact_mod_cast this, fun h => by rw [h]⟩
  show BitVec.ofBool (_ == _) = _
  by_cases h : t = w
  · subst h; simp
  · have h' := mt e.mp h
    rw [if_neg h, beq_eq_false_iff_ne.mpr h']; rfl

/-- The time within a tile, as the index array holds it. -/
theorem time_at (hi : S256x512.Iotas .tc 32 [0]) (t : Fin 256) (l : Fin 512) : iota .tc S256x512 32 [0] hi (ix2 t l) = BitVec.ofNat 32 t.val := by
  pointwise

/-! ## Reading a tile some times earlier or later -/

theorem rotated {x : S256x512.Idx → EReal} {f : Fin 512 → ℕ → ℝ} (hx : Arr x f) (W : BitVec 32) (w : ℕ) (hW : W.toNat = w) (hw : w < 256)
    (h : S256x512.Rotates 0 none) (t : Fin 256) (l : Fin 512) :
    dynamicRotate 0 W none x h (ix2 t l) = ((f l ((t.val + 256 - w) % 256) : ℝ) : EReal) := by
  subst hW
  refine Eq.trans ?_ (hx ⟨(t.val + 256 - W.toNat) % 256, Nat.mod_lt _ (by omega)⟩ l)
  refine dynamicRotate_apply 0 W x h _ _ fun b => ?_
  fin_cases b
  · show (t.val + 256 - W.toNat) % 256 = (t.val + 256 - W.toNat % 256) % 256
    rw [Nat.mod_eq_of_lt hw]
  · rfl

/-- A tile multiplied by another read `w` times earlier, or by a constant within the first `w`. -/
theorem early {x y : FVec Ideal S256x512 .f32} {f g : Fin 512 → ℕ → ℝ} (hx : Arr x f) (hy : Arr y g)
    (W : BitVec 32) (w : ℕ) (hW : W = BitVec.ofNat 32 w) (hw : w < 256) (hi : S256x512.Iotas .tc 32 [0]) (h : S256x512.Rotates 0 none)
    (e : EReal) (e' : ℝ) (he : e = (e' : EReal)) :
    Arr (mulf x (select (cmpi .sge (iota .tc S256x512 32 [0] hi) (broadcast S256x512 W)) (dynamicRotate 0 W none y h) (broadcast S256x512 e)))
      (fun l t => f l t * (if w ≤ t then g l (t - w) else e')) := by
  intro t l
  have hn : W.toNat = w := by rw [hW, BitVec.toNat_ofNat]; omega
  show x (ix2 t l) * Scalar.select (IntOp.cmpi .sge (iota .tc S256x512 32 [0] hi (ix2 t l)) W) (dynamicRotate 0 W none y h (ix2 t l)) e = _
  rw [time_at, hW, sge_word t.val w t.isLt hw, ← hW, hx t l, rotated hy W w hn hw h t l, he]
  show _ = ((f l t.val * (if w ≤ t.val then g l (t.val - w) else e') : ℝ) : EReal)
  by_cases hc : w ≤ t.val
  · rw [if_pos hc, if_pos hc, sel_one, ← EReal.coe_mul, show (t.val + 256 - w) % 256 = t.val - w by omega]
  · rw [if_neg hc, if_neg hc, sel_zero, ← EReal.coe_mul]

/-- The same, read `w` times later: a rotation by the remaining `256 - w`. -/
theorem late {x y : FVec Ideal S256x512 .f32} {f g : Fin 512 → ℕ → ℝ} (hx : Arr x f) (hy : Arr y g)
    (W : BitVec 32) (w : ℕ) (hW : W = BitVec.ofNat 32 (256 - w)) (h0 : 0 < w) (hw : w < 256) (hi : S256x512.Iotas .tc 32 [0]) (h : S256x512.Rotates 0 none)
    (e : EReal) (e' : ℝ) (he : e = (e' : EReal)) :
    Arr (mulf x (select (cmpi .slt (iota .tc S256x512 32 [0] hi) (broadcast S256x512 W)) (dynamicRotate 0 W none y h) (broadcast S256x512 e)))
      (fun l t => f l t * (if t < 256 - w then g l (t + w) else e')) := by
  intro t l
  have hn : W.toNat = 256 - w := by rw [hW, BitVec.toNat_ofNat]; omega
  show x (ix2 t l) * Scalar.select (IntOp.cmpi .slt (iota .tc S256x512 32 [0] hi (ix2 t l)) W) (dynamicRotate 0 W none y h (ix2 t l)) e = _
  rw [time_at, hW, slt_word t.val (256 - w) t.isLt (by omega), ← hW, hx t l, rotated hy W (256 - w) hn (by omega) h t l, he]
  show _ = ((f l t.val * (if t.val < 256 - w then g l (t.val + w) else e') : ℝ) : EReal)
  by_cases hc : t.val < 256 - w
  · rw [if_pos hc, if_pos hc, sel_one, ← EReal.coe_mul, show (t.val + 256 - (256 - w)) % 256 = t.val + w by omega]
  · rw [if_neg hc, if_neg hc, sel_zero, ← EReal.coe_mul]

theorem Arr.plus {n : ℕ} {x y : FVec Ideal ⟨2, ![n, 512]⟩ .f32} {f g : Fin 512 → ℕ → ℝ} (hx : Arr x f) (hy : Arr y g) :
    Arr (addf x y) (fun l t => f l t + g l t) :=
  fun t l => (congrArg₂ (· + ·) (hx t l) (hy t l)).trans (EReal.coe_add _ _).symm
theorem Arr.times {n : ℕ} {x y : FVec Ideal ⟨2, ![n, 512]⟩ .f32} {f g : Fin 512 → ℕ → ℝ} (hx : Arr x f) (hy : Arr y g) :
    Arr (mulf x y) (fun l t => f l t * g l t) :=
  fun t l => (congrArg₂ (· * ·) (hx t l) (hy t l)).trans (EReal.coe_mul _ _).symm

/-! ## Tiles that solve a recurrence with a jump -/

/-- The two tiles of a recurrence with jump `w` forward in time, whose solution is `H` and whose value before the tile is `c`. -/
def FwT (w : ℕ) (c : Fin 512 → ℝ) (x y : FVec Ideal S256x512 .f32) (H : Fin 512 → ℕ → ℝ) : Prop :=
  ∃ f g : Fin 512 → ℕ → ℝ, Arr x f ∧ Arr y g ∧ ∀ l, Fw w (c l) (f l) (g l) (H l)

theorem FwT.double {w : ℕ} {c : Fin 512 → ℝ} {x y : FVec Ideal S256x512 .f32} {H : Fin 512 → ℕ → ℝ} (h : FwT w c x y H)
    (W : BitVec 32) (hW : W = BitVec.ofNat 32 w) (hw : w < 256) (hi : S256x512.Iotas .tc 32 [0]) (hr : S256x512.Rotates 0 none) :
    FwT (w + w) c
      (mulf x (select (cmpi .sge (iota .tc S256x512 32 [0] hi) (broadcast S256x512 W)) (dynamicRotate 0 W none x hr) (broadcast S256x512 (Scalar.ofBits .f32 0x3F800000#32 : Ideal .f32))))
      (addf (mulf x (select (cmpi .sge (iota .tc S256x512 32 [0] hi) (broadcast S256x512 W)) (dynamicRotate 0 W none y hr) (broadcast S256x512 (Scalar.ofBits .f32 0x00000000#32 : Ideal .f32)))) y) H := by
  obtain ⟨f, g, hx, hy, e⟩ := h
  exact ⟨_, _, early hx hx W w hW hw hi hr _ 1 one_coe, (early hx hy W w hW hw hi hr _ 0 zero_coe).plus hy, fun l => (e l).double⟩

def BwT (w : ℕ) (x y : FVec Ideal S256x512 .f32) (H : Fin 512 → ℕ → ℝ) : Prop :=
  ∃ f g : Fin 512 → ℕ → ℝ, Arr x f ∧ Arr y g ∧ ∀ l, Bw w (f l) (g l) (H l)

theorem BwT.double {w : ℕ} {x y : FVec Ideal S256x512 .f32} {H : Fin 512 → ℕ → ℝ} (h : BwT w x y H)
    (W : BitVec 32) (hW : W = BitVec.ofNat 32 (256 - w)) (h0 : 0 < w) (hw : w < 256) (hi : S256x512.Iotas .tc 32 [0]) (hr : S256x512.Rotates 0 none) :
    BwT (w + w)
      (mulf x (select (cmpi .slt (iota .tc S256x512 32 [0] hi) (broadcast S256x512 W)) (dynamicRotate 0 W none x hr) (broadcast S256x512 (Scalar.ofBits .f32 0x3F800000#32 : Ideal .f32))))
      (addf (mulf x (select (cmpi .slt (iota .tc S256x512 32 [0] hi) (broadcast S256x512 W)) (dynamicRotate 0 W none y hr) (broadcast S256x512 (Scalar.ofBits .f32 0x00000000#32 : Ideal .f32)))) y) H := by
  obtain ⟨f, g, hx, hy, e⟩ := h
  exact ⟨_, _, late hx hx W w hW h0 hw hi hr _ 1 one_coe, (late hx hy W w hW h0 hw hi hr _ 0 zero_coe).plus hy, fun l => (e l).double⟩

end Lru
end
-- ==== Proof.FwdTile.lean ====
/- One tile of the forward call, at the real values: what its payloads compute from what they read. -/
module

public import proofs.«01_k».proof.Proof.Tile
public import proofs.«01_k».proof.Proof.Gen.KernelIdeal.Skeleton

@[expose] public section

noncomputable section

namespace Cert.KernelIdeal.Fwd

open Cert.KernelIdeal.Gen
open Idealize.ShloMosaic Idealize.ShloMosaic.TcCoe
open Lru

/-- What a tile of times from `256 * n` on reads, of the channels `k`. -/
structure Reads (k : Fin 512 → Col) (n : ℕ) (v3 v4 v5 : FVec Ideal S256x512 .f32) (v6 v7 v8 : FVec Ideal S1x512 .f32) : Prop where
  pa : Arr v3 (fun l t => (k l).pa (256 * n + t))
  px : Arr v4 (fun l t => (k l).px (256 * n + t))
  xc : Arr v5 (fun l t => (k l).xc (256 * n + t))
  ba : Arr v6 (fun l _ => (k l).ba)
  bx : Arr v7 (fun l _ => (k l).bx)
  lam : Arr v8 (fun l _ => (k l).lam)

variable {k : Fin 512 → Col} {n : ℕ} {v3 v4 v5 : FVec Ideal S256x512 .f32} {v6 v7 v8 : FVec Ideal S1x512 .f32} (R : Reads k n v3 v4 v5 v6 v7 v8)

include R in
theorem input_gate : Arr (k0_pay5 (F := Ideal) v4 v7) (fun l t => (k l).i (256 * n + t)) := by
  intro t l
  have e := R.bx 0 l
  unfold k0_pay5
  pointwise
  simp only [R.px t l, e, ← EReal.coe_add, Ideal.logistic_coe, Col.i, sg]

include R in
theorem log_decay : Arr (k0_pay6 (F := Ideal) v3 v6 v8) (fun l t => (k l).la (256 * n + t)) := by
  intro t l
  have e := R.ba 0 l
  have e' := R.lam 0 l
  unfold k0_pay6
  pointwise
  simp only [R.pa t l, e, e', neg8_coe, zero_coe', one_coe', abs_coe, max_coe, ← EReal.coe_sub, ← EReal.coe_add, ← EReal.coe_mul, Ideal.logistic_coe,
    Ideal.exp_coe, zero_sub, log_coe (one_add_exp_pos _), Col.la, Col.r, sg, sp]

include R in
theorem decay : Arr (k0_pay7 (F := Ideal) v3 v6 v8) (fun l t => (k l).a (256 * n + t)) := by
  intro t l
  unfold k0_pay7
  pointwise
  rw [log_decay R t l, Ideal.exp_coe]; rfl

include R in
theorem scale_sq : Arr (k0_pay8 (F := Ideal) v3 v6 v8) (fun l t => 1 - (k l).b (256 * n + t)) := by
  intro t l
  unfold k0_pay8
  pointwise
  simp only [log_decay R t l, two_coe, one_coe', ← EReal.coe_mul, ← EReal.coe_sub, Ideal.exp_coe, Col.b]

include R in
theorem input : Arr (mulf (F := Ideal) (φ := .f32) (sqrt (k0_pay8 (F := Ideal) v3 v6 v8)) (mulf (k0_pay5 (F := Ideal) v4 v7) v5)) (fun l t => (k l).u (256 * n + t)) := by
  intro t l
  pointwise
  rw [scale_sq R t l, input_gate R t l, R.xc t l, sqrt_coe (by have := (k l).b_lt_one (256 * n + t.val); linarith), ← EReal.coe_mul, ← EReal.coe_mul]
  rfl

include R in
/-- The first jump is one time long. -/
theorem start : FwT 1 (fun l => (k l).hp (256 * n)) (k0_pay7 (F := Ideal) v3 v6 v8)
    (mulf (F := Ideal) (φ := .f32) (sqrt (k0_pay8 (F := Ideal) v3 v6 v8)) (mulf (k0_pay5 (F := Ideal) v4 v7) v5)) (fun l t => (k l).h (256 * n + t)) := by
  refine ⟨_, _, decay R, input R, fun l r hr => ?_⟩
  show (k l).h (256 * n + r) = _
  rw [(k l).h_eq, add_comm]
  congr 2
  by_cases h : 1 ≤ r
  · rw [if_pos h]
    obtain ⟨s, rfl⟩ : ∃ s, r = s + 1 := ⟨r - 1, by omega⟩
    rfl
  · rw [if_neg h, show r = 0 by omega]; rfl

/-- The times' indices. -/
abbrev times : IVec S256x512 32 := iota .tc S256x512 32 [0] iota_S256x512_d0_w32

/-- A tile's states from the payloads as the body composes them. -/
def states (v3 v4 v5 : FVec Ideal S256x512 .f32) (v6 v7 v8 v129 : FVec Ideal S1x512 .f32) : FVec Ideal S256x512 .f32 :=
  k0_pay1 (k0_pay24 times (k0_pay14 v5 (k0_pay5 v4 v7) (k0_pay7 v3 v6 v8) (k0_pay8 v3 v6 v8)) (k0_pay15 (k0_pay7 v3 v6 v8)) k0_pay16 (k0_pay17 (k0_pay7 v3 v6 v8)))
    (k0_pay25 times (k0_pay15 (k0_pay7 v3 v6 v8)) (k0_pay17 (k0_pay7 v3 v6 v8))) (k0_pay26 times) 128#32 v129

/-- Three doublings, then four, then the last one with the value before the tile. -/
theorem to_eight {c : Fin 512 → ℝ} {H : Fin 512 → ℕ → ℝ} {v14 v31 v36 : FVec Ideal S256x512 .f32}
    (h : FwT 1 c v31 (mulf (F := Ideal) (φ := .f32) (sqrt v36) (mulf v14 v5)) H) : FwT 8 c (k0_pay15 (F := Ideal) v31) (k0_pay14 (F := Ideal) v5 v14 v31 v36) H := by
  unfold k0_pay14 k0_pay15 k0_pay12 k0_pay10
  dsimp only
  generalize mulf (F := Ideal) (φ := .f32) (sqrt v36) (mulf v14 v5) = y at h ⊢
  have h2 := h.double 1#32 rfl (by omega) iota_S256x512_d0_w32 rotates_S256x512_d0
  have h4 := h2.double 2#32 rfl (by omega) iota_S256x512_d0_w32 rotates_S256x512_d0
  exact h4.double 4#32 rfl (by omega) iota_S256x512_d0_w32 rotates_S256x512_d0

theorem to_last {c : Fin 512 → ℝ} {H : Fin 512 → ℕ → ℝ} {v73 v72 : FVec Ideal S256x512 .f32} (h : FwT 8 c v73 v72 H) (v31 : FVec Ideal S256x512 .f32) (e : v73 = k0_pay15 (F := Ideal) v31) :
    FwT 128 c (k0_pay25 (F := Ideal) times v73 (k0_pay17 v31)) (k0_pay24 (F := Ideal) times v72 v73 k0_pay16 (k0_pay17 v31)) H := by
  unfold k0_pay24 k0_pay25 k0_pay22 k0_pay20 k0_pay18 k0_pay17
  rw [← e]
  dsimp only
  have h16 := h.double 8#32 rfl (by omega) iota_S256x512_d0_w32 rotates_S256x512_d0
  have h32 := h16.double 16#32 rfl (by omega) iota_S256x512_d0_w32 rotates_S256x512_d0
  have h64 := h32.double 32#32 rfl (by omega) iota_S256x512_d0_w32 rotates_S256x512_d0
  exact h64.double 64#32 rfl (by omega) iota_S256x512_d0_w32 rotates_S256x512_d0

theorem at_last {c : Fin 512 → ℝ} {H : Fin 512 → ℕ → ℝ} {v117 v116 : FVec Ideal S256x512 .f32} (h : FwT 128 c v117 v116 H) {v129 : FVec Ideal S1x512 .f32} (hc : Arr v129 (fun l _ => c l)) :
    Arr (k0_pay1 (F := Ideal) v116 v117 (k0_pay26 times) 128#32 v129) H := by
  obtain ⟨f, g, hx, hy, e⟩ := h.double 128#32 rfl (by omega) iota_S256x512_d0_w32 rotates_S256x512_d0
  intro t l
  refine Eq.trans ?_ (congrArg _ ((e l).done t.isLt))
  have er : broadcastTo S256x512 v129 broadcasts_S1x512_S256x512 (ix2 t l) = v129 (ix2 0 l) := by pointwise
  rw [EReal.coe_add, EReal.coe_mul, ← hx t l, ← hy t l, ← hc 0 l, ← er]
  rfl

include R in
/-- The states of a tile. -/
theorem tile_states {v129 : FVec Ideal S1x512 .f32} (hc : Arr v129 (fun l _ => (k l).hp (256 * n))) :
    Arr (states v3 v4 v5 v6 v7 v8 v129) (fun l t => (k l).h (256 * n + t)) :=
  at_last (to_last (to_eight (start R)) _ rfl) hc

/-- What the body writes to the output: the states under the gelu of the output gate's input. -/
theorem tile_out {v134 H : FVec Ideal S256x512 .f32} {g h : Fin 512 → ℕ → ℝ} (hg : Arr v134 g) (hh : Arr H h)
    {v116 v117 : FVec Ideal S256x512 .f32} {v119 : IVec S256x512 1} {w : BitVec 32} {v129 : FVec Ideal S1x512 .f32} (e : k0_pay1 v116 v117 v119 w v129 = H) :
    Arr (k0_pay2 (F := Ideal) v116 v117 v119 w v129 v134) (fun l t => h l t * ge (g l t)) := by
  intro t l
  unfold k0_pay2
  rw [e]
  pointwise
  simp only [hg t l, hh t l, half_coe, cA_coe, cB_coe, one_coe', ← EReal.coe_mul, ← EReal.coe_add, Ideal.tanh_coe, ge, th]
  refine congrArg _ ?_
  rw [show cB * g l t.val * g l t.val * g l t.val = cB * (g l t.val * g l t.val * g l t.val) by ring]
  ring

end Cert.KernelIdeal.Fwd
end
-- ==== Proof.FwdVal.lean ====
/- What each grid point of the forward call leaves in its outputs and its scratch, at the real values. -/
module

public import proofs.«01_k».proof.Proof.FwdTile
public import proofs.«01_k».proof.Proof.KFwd
public import Idealize.ShloMosaic.Lib.VecWindow
public import Idealize.ShloMosaic.Lib.WholeRead
public import Idealize.ShloMosaic.Lib.WritesUnit

@[expose] public section

set_option maxRecDepth 16384

noncomputable section

namespace Cert.KernelIdeal.Fwd

open Cert.KernelIdeal.Gen
open Idealize.ShloMosaic Idealize.ShloMosaic.TcCoe
open Lru

/-- The blocks a point reads hold the times from `256 * n` on of the channels `k`. -/
structure Blocks (k : Fin 512 → Col) (n : ℕ) (x0 : Vec Ideal S256x1024 .f32) (x1 x2 : Vec Ideal S256x512 .f32) (x3 : Vec Ideal S8x512 .f32) : Prop where
  pa : ∀ (t : Fin 256) (l : Fin 512), x0 (ix2 t ⟨l.val, by omega⟩) = (((k l).pa (256 * n + t.val) : ℝ) : EReal)
  px : ∀ (t : Fin 256) (l : Fin 512), x0 (ix2 t ⟨512 + l.val, by omega⟩) = (((k l).px (256 * n + t.val) : ℝ) : EReal)
  xc : Arr x1 (fun l t => (k l).xc (256 * n + t))
  g : Arr x2 (fun l t => (k l).g (256 * n + t))
  ba : ∀ l : Fin 512, x3 (ix2 0 l) = (((k l).ba : ℝ) : EReal)
  bx : ∀ l : Fin 512, x3 (ix2 1 l) = (((k l).bx : ℝ) : EReal)
  lam : ∀ l : Fin 512, x3 (ix2 2 l) = (((k l).lam : ℝ) : EReal)

theorem ix_eq {a b : ℕ} {j j' : (⟨2, ![a, b]⟩ : Shape).Idx} (h0 : (j 0).val = (j' 0).val) (h1 : (j 1).val = (j' 1).val) : j = j' := by
  funext x
  refine Fin.ext ?_
  fin_cases x
  · exact h0
  · exact h1

section Point
variable {k : Fin 512 → Col} {n : ℕ} (c : Dev nD) (i : grid0.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .bf16) (w5 : a5.IsWhole) (a6 : Memref sig .tc .vmem S256x512 .f32) (w6 : a6.IsWhole) (a7 : Memref sig .tc .vmem S8x512 .f32) (w7 : a7.IsWhole)
  {x0 : Vec Ideal S256x1024 .f32} {x1 x2 : Vec Ideal S256x512 .f32} {x3 : Vec Ideal S8x512 .f32} (B : Blocks k n x0 x1 x2 x3)

include B in
theorem reads : Reads k n
    (View.readAt (Elt Ideal) a1.view (Rect.unit (s := S256x1024) ![0, 0] S256x512.size inb_S256x1024_S256x512_0_0).toLoadRect (w1.unread x0))
    (View.readAt (Elt Ideal) a1.view (Rect.unit (s := S256x1024) ![0, 512] S256x512.size inb_S256x1024_S256x512_0_512).toLoadRect (w1.unread x0))
    (View.readAt (Elt Ideal) a2.view (Rect.unit (s := S256x512) ![0, 0] S256x512.size inb_S256x512_S256x512_0_0).toLoadRect (w2.unread x1))
    (View.readAt (Elt Ideal) a4.view (Rect.unit (s := S8x512) ![0, 0] S1x512.size inb_S8x512_S1x512_0_0).toLoadRect (w4.unread x3))
    (View.readAt (Elt Ideal) a4.view (Rect.unit (s := S8x512) ![1, 0] S1x512.size inb_S8x512_S1x512_1_0).toLoadRect (w4.unread x3))
    (View.readAt (Elt Ideal) a4.view (Rect.unit (s := S8x512) ![2, 0] S1x512.size inb_S8x512_S1x512_2_0).toLoadRect (w4.unread x3)) := by
  refine ⟨fun t l => ?_, fun t l => ?_, fun t l => ?_, fun t l => ?_, fun t l => ?_, fun t l => ?_⟩
  · refine (w1.readAt_unread x0 _ _).trans (Eq.trans (congrArg x0 (ix_eq ?_ ?_)) (B.pa t l))
    · show 0 + 1 * t.val = t.val; omega
    · show 0 + 1 * l.val = l.val; omega
  · refine (w1.readAt_unread x0 _ _).trans (Eq.trans (congrArg x0 (ix_eq ?_ ?_)) (B.px t l))
    · show 0 + 1 * t.val = t.val; omega
    · show 512 + 1 * l.val = 512 + l.val; omega
  · refine (w2.readAt_unread x1 _ _).trans (Eq.trans (congrArg x1 (ix_eq ?_ ?_)) (B.xc t l))
    · show 0 + 1 * t.val = t.val; omega
    · show 0 + 1 * l.val = l.val; omega
  · refine (w4.readAt_unread x3 _ _).trans (Eq.trans (congrArg x3 (ix_eq ?_ ?_)) (B.ba l))
    · show 0 + 1 * t.val = 0; omega
    · show 0 + 1 * l.val = l.val; omega
  · refine (w4.readAt_unread x3 _ _).trans (Eq.trans (congrArg x3 (ix_eq ?_ ?_)) (B.bx l))
    · show 1 + 1 * t.val = 1; omega
    · show 0 + 1 * l.val = l.val; omega
  · refine (w4.readAt_unread x3 _ _).trans (Eq.trans (congrArg x3 (ix_eq ?_ ?_)) (B.lam l))
    · show 2 + 1 * t.val = 2; omega
    · show 0 + 1 * l.val = l.val; omega

include B in
theorem reads_g : Arr (View.readAt (Elt Ideal) a3.view (Rect.unit (s := S256x512) ![0, 0] S256x512.size inb_S256x512_S256x512_0_0).toLoadRect (w3.unread x2))
    (fun l t => (k l).g (256 * n + t)) := by
  intro t l
  refine (w3.readAt_unread x2 _ _).trans (Eq.trans (congrArg x2 (ix_eq ?_ ?_)) (B.g t l))
  · show 0 + 1 * t.val = t.val; omega
  · show 0 + 1 * l.val = l.val; omega

/-! ### The first point: the scratch is zeroed before it is read -/

theorem zeroed : Arr (kernelRun0_A.sl.v129 (F := Ideal) c a7) (fun _ _ => 0) := by
  intro t l
  unfold kernelRun0_A.sl.v129 kernelRun0_A.sl.HS0_1
  refine (congrFun (View.read_writes_full _ _ inb_S8x512_S8x512_0_0 _ _) _).trans ?_
  unfold k0_pay4
  pointwise
  exact zero_coe'

/-- The row the body keeps for the next point: the last row of the states. -/
theorem last_row {H : FVec Ideal S256x512 .f32} {h : Fin 512 → ℕ → ℝ} (hh : Arr H h) {v116 v117 : FVec Ideal S256x512 .f32} {v119 : IVec S256x512 1} {w : BitVec 32} {v129 : FVec Ideal S1x512 .f32}
    (e : k0_pay1 v116 v117 v119 w v129 = H) : Arr (k0_pay3 (F := Ideal) v116 v117 v119 w v129) (fun l _ => h l 255) := by
  intro t l
  unfold k0_pay3
  rw [e]
  have ht : t = 0 := Subsingleton.elim _ _
  subst ht
  refine (congrFun (shapeCast_self _ _) _).trans ?_
  exact Eq.trans (congrArg H (ix_eq rfl (Nat.zero_add _))) (hh 255 l)

include B in
theorem statesA (hn : n = 0) (hc0 : cond0_0 i) : Arr (out0_A_5 c i a1 w1 a2 w2 a3 w3 a4 w4 a5 w5 a6 w6 a7 w7 hc0 x0 x1 x2 x3) (fun l t => (k l).h (256 * n + t)) := by
  unfold out0_A_5 kernelRun0_A
  dsimp only
  rw [View.read_writes_full]
  subst hn
  exact tile_states (reads a1 w1 a2 w2 a4 w4 B) (zeroed c a7)

include B in
theorem outA (hn : n = 0) (hc0 : cond0_0 i) : Arr (out0_A_4 c i a1 w1 a2 w2 a3 w3 a4 w4 a5 w5 a6 w6 a7 w7 hc0 x0 x1 x2 x3) (fun l t => (k l).out (256 * n + t)) := by
  unfold out0_A_4 kernelRun0_A
  dsimp only
  rw [View.read_writes_full]
  subst hn
  exact tile_out (reads_g a3 w3 B) (tile_states (reads a1 w1 a2 w2 a4 w4 B) (zeroed c a7)) rfl

include B in
theorem keptA (hn : n = 0) (hc0 : cond0_0 i) (l : Fin 512) : sout0_A_0 c i a1 w1 a2 w2 a3 w3 a4 w4 a5 w5 a6 w6 a7 w7 hc0 x0 x1 x2 x3 (ix2 0 l) = (((k l).h (256 * n + 255) : ℝ) : EReal) := by
  unfold sout0_A_0 kernelRun0_A
  dsimp only
  refine (View.read_writes_cons_unit_of_mem _ _ inb_S8x512_S1x512_0_0 _ _ (ix2 0 l) (ix2 0 l) rfl ?_).trans ?_
  · intro a; fin_cases a <;> simp
  subst hn
  exact last_row (tile_states (reads a1 w1 a2 w2 a4 w4 B) (zeroed c a7)) rfl 0 l

/-! ### A later point: the scratch holds the state before the tile -/

theorem carried {x4 : Vec Ideal S8x512 .f32} {f : Fin 512 → ℝ} (hx : ∀ l : Fin 512, x4 (ix2 0 l) = ((f l : ℝ) : EReal)) :
    Arr (View.readAt (Elt Ideal) a7.view (Rect.unit (s := S8x512) ![0, 0] S1x512.size inb_S8x512_S1x512_0_0).toLoadRect (w7.unread x4)) (fun l _ => f l) := by
  intro t l
  refine (w7.readAt_unread x4 _ _).trans (Eq.trans (congrArg x4 (ix_eq ?_ ?_)) (hx l))
  · show 0 + 1 * t.val = 0; omega
  · show 0 + 1 * l.val = l.val; omega

variable {x4 : Vec Ideal S8x512 .f32} (hx : ∀ l : Fin 512, x4 (ix2 0 l) = (((k l).hp (256 * n) : ℝ) : EReal)) (hc0 : ¬ cond0_0 i)

include B hx in
theorem statesB : Arr (out0_B_5 c i a1 w1 a2 w2 a3 w3 a4 w4 a5 w5 a6 w6 a7 w7 hc0 x0 x1 x2 x3 x4) (fun l t => (k l).h (256 * n + t)) := by
  unfold out0_B_5 kernelRun0_B
  dsimp only
  rw [View.read_writes_full]
  exact tile_states (reads a1 w1 a2 w2 a4 w4 B) (carried a7 w7 hx)

include B hx in
theorem outB : Arr (out0_B_4 c i a1 w1 a2 w2 a3 w3 a4 w4 a5 w5 a6 w6 a7 w7 hc0 x0 x1 x2 x3 x4) (fun l t => (k l).out (256 * n + t)) := by
  unfold out0_B_4 kernelRun0_B
  dsimp only
  rw [View.read_writes_full]
  exact tile_out (reads_g a3 w3 B) (tile_states (reads a1 w1 a2 w2 a4 w4 B) (carried a7 w7 hx)) rfl

include B hx in
theorem keptB (l : Fin 512) : sout0_B_0 c i a1 w1 a2 w2 a3 w3 a4 w4 a5 w5 a6 w6 a7 w7 hc0 x0 x1 x2 x3 x4 (ix2 0 l) = (((k l).h (256 * n + 255) : ℝ) : EReal) := by
  unfold sout0_B_0 kernelRun0_B
  dsimp only
  refine (View.read_writes_cons_unit_of_mem _ _ inb_S8x512_S1x512_0_0 _ _ (ix2 0 l) (ix2 0 l) rfl ?_).trans ?_
  · intro a; fin_cases a <;> simp
  exact last_row (tile_states (reads a1 w1 a2 w2 a4 w4 B) (carried a7 w7 hx)) rfl 0 l

end Point

/-! ### Every point -/

section Points
variable {k : Fin 512 → Col} (V : (c : Dev nD) → (b : Ref sig .tc) → Buf (Elt Ideal) (c.tc.loc b)) (c : Dev nD)
  (B : ∀ t : Fin cfg0.N, Blocks k t.val (iblk V c 0 t) (iblk V c 1 t) (X0_2 V c t) (iblk V c 3 t))

/-- What the outputs and the scratch hold after point `n`. -/
structure Left (k : Fin 512 → Col) (n : ℕ) (o : Vec Ideal S256x512 .bf16 × Vec Ideal S256x512 .f32 × Vec Ideal S8x512 .f32) : Prop where
  out : Arr o.1 (fun l t => (k l).out (256 * n + t))
  h : Arr o.2.1 (fun l t => (k l).h (256 * n + t))
  kept : ∀ l : Fin 512, o.2.2 (ix2 0 l) = (((k l).h (256 * n + 255) : ℝ) : EReal)

include B in
theorem leftA (t : Fin cfg0.N) (ht : t.val = 0) (h0 : t.val % 32 = 0) : Left k t.val (outsAt0 V c t.val t.isLt) := by
  have b := B t
  rw [outsAt0_A V c t h0, point0_A]
  refine ⟨?_, ?_, ?_⟩ <;> dsimp only
  · exact outA c _ _ _ _ _ _ _ _ _ _ _ _ _ _ _ b ht ((hcond0_0 t).mpr h0)
  · exact statesA c _ _ _ _ _ _ _ _ _ _ _ _ _ _ _ b ht ((hcond0_0 t).mpr h0)
  · exact keptA c _ _ _ _ _ _ _ _ _ _ _ _ _ _ _ b ht ((hcond0_0 t).mpr h0)

include B in
theorem leftB (t : Fin cfg0.N) (h0 : ¬ t.val % 32 = 0) (hx : ∀ l : Fin 512, (outsAt0 V c (t.val - 1) (Nat.lt_of_le_of_lt (Nat.sub_le _ _) t.isLt)).2.2 (ix2 0 l) = (((k l).hp (256 * t.val) : ℝ) : EReal)) :
    Left k t.val (outsAt0 V c t.val t.isLt) := by
  have b := B t
  rw [outsAt0_B V c t h0, point0_B]
  refine ⟨?_, ?_, ?_⟩ <;> dsimp only
  · exact outB c _ _ _ _ _ _ _ _ _ _ _ _ _ _ _ b hx (fun h => h0 ((hcond0_0 t).mp h))
  · exact statesB c _ _ _ _ _ _ _ _ _ _ _ _ _ _ _ b hx (fun h => h0 ((hcond0_0 t).mp h))
  · exact keptB c _ _ _ _ _ _ _ _ _ _ _ _ _ _ _ b hx (fun h => h0 ((hcond0_0 t).mp h))

include B in
theorem left (n : ℕ) : ∀ t : Fin cfg0.N, t.val = n → Left k t.val (outsAt0 V c t.val t.isLt) := by
  have hN : cfg0.N = 32 := by decide +kernel
  induction n with
  | zero => exact fun t ht => leftA V c B t ht (by omega)
  | succ n ih =>
    intro t ht
    have := t.isLt
    refine leftB V c B t (by omega) fun l => ?_
    refine ((ih ⟨t.val - 1, Nat.lt_of_le_of_lt (Nat.sub_le _ _) t.isLt⟩ (by show t.val - 1 = n; omega)).kept l).trans ?_
    have e : 256 * t.val = 256 * (t.val - 1) + 255 + 1 := by omega
    rw [e]
    rfl

end Points

end Cert.KernelIdeal.Fwd
end
-- ==== Proof.FwdArr.lean ====
/- The arrays the forward call leaves, at the real values. -/
module

public import proofs.«01_k».proof.Proof.FwdVal
public import Idealize.ShloMosaic.Lib.Pipeline.Value

@[expose] public section

set_option maxRecDepth 16384

noncomputable section

namespace Cert.KernelIdeal.Fwd

open Cert.KernelIdeal.Gen
open Idealize.ShloMosaic Idealize.ShloMosaic.TcCoe
open Lru

theorem N_eq : cfg0.N = 32 := by decide +kernel

/-- Time `r` of tile `t` is a time of the whole. -/
theorem time_lt (t : Fin cfg0.N) (r : Fin 256) : 256 * t.val + r.val < 8192 := by
  have := t.isLt; have := N_eq; omega

theorem index0_0 : ∀ t : Fin cfg0.N, win0_0.index t 0 = t.val ∧ win0_0.index t 1 = 0 := by decide +kernel
theorem index0_1 : ∀ t : Fin cfg0.N, win0_1.index t 0 = t.val ∧ win0_1.index t 1 = 0 := by decide +kernel
theorem index0_2 : ∀ t : Fin cfg0.N, win0_2.index t 0 = t.val ∧ win0_2.index t 1 = 6 := by decide +kernel
theorem index0_3 : ∀ t : Fin cfg0.N, win0_3.index t 0 = 0 ∧ win0_3.index t 1 = 0 := by decide +kernel
theorem index0_4 : ∀ t : Fin cfg0.N, win0_4.index t 0 = t.val ∧ win0_4.index t 1 = 0 := by decide +kernel
theorem index0_5 : ∀ t : Fin cfg0.N, win0_5.index t 0 = t.val ∧ win0_5.index t 1 = 0 := by decide +kernel

section
variable (V : (c : Dev nD) → (b : Ref sig .tc) → Buf (Elt Ideal) (c.tc.loc b)) (c : Dev nD) (t : Fin cfg0.N)

theorem block0 (r : Fin 256) (l : Fin 1024) : iblk V c 0 t (ix2 r l) = V c main_arg0 (ix2 ⟨256 * t.val + r.val, time_lt t r⟩ l) := by
  show V c main_arg0 ((win0_0.rect t).emb (ix2 r l)) = _
  refine congrArg (V c main_arg0) (ix_eq ?_ ?_)
  · refine (Pipeline.Window.rect_emb_val win0_0 t _ 0).trans ?_
    rw [(index0_0 t).1]
    show t.val * 256 + r.val = 256 * t.val + r.val; omega
  · refine (Pipeline.Window.rect_emb_val win0_0 t _ 1).trans ?_
    rw [(index0_0 t).2]
    show 0 * 1024 + l.val = l.val; omega

theorem block1 (r : Fin 256) (l : Fin 512) : iblk V c 1 t (ix2 r l) = V c main_arg1 (ix2 ⟨256 * t.val + r.val, time_lt t r⟩ l) := by
  show V c main_arg1 ((win0_1.rect t).emb (ix2 r l)) = _
  refine congrArg (V c main_arg1) (ix_eq ?_ ?_)
  · refine (Pipeline.Window.rect_emb_val win0_1 t _ 0).trans ?_
    rw [(index0_1 t).1]
    show t.val * 256 + r.val = 256 * t.val + r.val; omega
  · refine (Pipeline.Window.rect_emb_val win0_1 t _ 1).trans ?_
    rw [(index0_1 t).2]
    show 0 * 512 + l.val = l.val; omega

theorem block2 (r : Fin 256) (l : Fin 512) : X0_2 V c t (ix2 r l) = V c main_arg2 (ix2 ⟨256 * t.val + r.val, time_lt t r⟩ ⟨3072 + l.val, by omega⟩) := by
  unfold X0_2 Pipeline.Window.fill
  rw [dif_pos (moved0_2 t _)]
  show V c main_arg2 ((win0_2.rect t).emb _) = _
  refine congrArg (V c main_arg2) (ix_eq ?_ ?_)
  · refine (Pipeline.Window.rect_emb_val win0_2 t _ 0).trans ?_
    rw [(index0_2 t).1]
    show t.val * 256 + r.val = 256 * t.val + r.val; omega
  · refine (Pipeline.Window.rect_emb_val win0_2 t _ 1).trans ?_
    rw [(index0_2 t).2]
    show 6 * 512 + l.val = 3072 + l.val; omega

theorem block3 (r : Fin 8) (l : Fin 512) : iblk V c 3 t (ix2 r l) = V c main_arg3 (ix2 r l) := by
  show V c main_arg3 ((win0_3.rect t).emb (ix2 r l)) = _
  refine congrArg (V c main_arg3) (ix_eq ?_ ?_)
  · refine (Pipeline.Window.rect_emb_val win0_3 t _ 0).trans ?_
    rw [(index0_3 t).1]
    show 0 * 8 + r.val = r.val; omega
  · refine (Pipeline.Window.rect_emb_val win0_3 t _ 1).trans ?_
    rw [(index0_3 t).2]
    show 0 * 512 + l.val = l.val; omega

variable {k : Fin 512 → Col} (I : Inp (V c main_arg0) (V c main_arg1) (V c main_arg2) (V c main_arg3) (V c main_arg4) k)

include I in
theorem blocks : Blocks k t.val (iblk V c 0 t) (iblk V c 1 t) (X0_2 V c t) (iblk V c 3 t) where
  pa r l := (block0 V c t r _).trans (I.pa _ l)
  px r l := (block0 V c t r _).trans (I.px _ l)
  xc r l := (block1 V c t r l).trans (I.xc _ l)
  g r l := (block2 V c t r l).trans (I.g _ l)
  ba l := (block3 V c t 0 l).trans (I.ba l)
  bx l := (block3 V c t 1 l).trans (I.bx l)
  lam l := (block3 V c t 2 l).trans (I.lam l)

end

theorem inj4 : ∀ t t' : Fin cfg0.N, win0_4.index t = win0_4.index t' → t = t' := by
  intro t t' h
  exact Fin.ext ((index0_4 t).1.symm.trans ((congrFun h 0).trans (index0_4 t').1))
theorem inj5 : ∀ t t' : Fin cfg0.N, win0_5.index t = win0_5.index t' → t = t' := by
  intro t t' h
  exact Fin.ext ((index0_5 t).1.symm.trans ((congrFun h 0).trans (index0_5 t').1))
theorem flush4 : ∀ t : Fin cfg0.N, (cfg0.win 4).flush t = true := by decide +kernel
theorem flush5 : ∀ t : Fin cfg0.N, (cfg0.win 5).flush t = true := by decide +kernel

section
variable (V : (c : Dev nD) → (b : Ref sig .tc) → Buf (Elt Ideal) (c.tc.loc b)) (c : Dev nD) {k : Fin 512 → Col}
  (I : Inp (V c main_arg0) (V c main_arg1) (V c main_arg2) (V c main_arg3) (V c main_arg4) k)

theorem array4 (t : Fin cfg0.N) (r : Fin 256) (l : Fin 512) :
    (dat V c).arrAt 4 cfg0.N (ix2 ⟨256 * t.val + r.val, time_lt t r⟩ l) = (outsAt0 V c t.val t.isLt).1 (ix2 r l) := by
  have h := congrFun ((dat V c).read_blk_arrAt_eq_flushed 4 (fun t t' _ _ hne => (cfg0.win 4).disjoint_blk fun h => hne (inj4 t t' h)) cfg0.N t t.isLt (flush4 t)) (ix2 r l)
  refine Eq.trans (congrArg ((dat V c).arrAt 4 cfg0.N) (ix_eq ?_ ?_)) (h.trans ?_)
  · refine Eq.symm ((Pipeline.Window.rect_emb_val win0_4 t (ix2 r l) 0).trans ?_)
    rw [(index0_4 t).1]
    show t.val * 256 + r.val = 256 * t.val + r.val; omega
  · refine Eq.symm ((Pipeline.Window.rect_emb_val win0_4 t (ix2 r l) 1).trans ?_)
    rw [(index0_4 t).2]
    show 0 * 512 + l.val = l.val; omega
  · show (cfg0.win 4).cut (grid0.coords t) ((dat V c).after 4 t) (ix2 r l) = _
    rw [after0_4]
    rfl

theorem array5 (t : Fin cfg0.N) (r : Fin 256) (l : Fin 512) :
    (dat V c).arrAt 5 cfg0.N (ix2 ⟨256 * t.val + r.val, time_lt t r⟩ l) = (outsAt0 V c t.val t.isLt).2.1 (ix2 r l) := by
  have h := congrFun ((dat V c).read_blk_arrAt_eq_flushed 5 (fun t t' _ _ hne => (cfg0.win 5).disjoint_blk fun h => hne (inj5 t t' h)) cfg0.N t t.isLt (flush5 t)) (ix2 r l)
  refine Eq.trans (congrArg ((dat V c).arrAt 5 cfg0.N) (ix_eq ?_ ?_)) (h.trans ?_)
  · refine Eq.symm ((Pipeline.Window.rect_emb_val win0_5 t (ix2 r l) 0).trans ?_)
    rw [(index0_5 t).1]
    show t.val * 256 + r.val = 256 * t.val + r.val; omega
  · refine Eq.symm ((Pipeline.Window.rect_emb_val win0_5 t (ix2 r l) 1).trans ?_)
    rw [(index0_5 t).2]
    show 0 * 512 + l.val = l.val; omega
  · show (cfg0.win 5).cut (grid0.coords t) ((dat V c).after 5 t) (ix2 r l) = _
    rw [after0_5]
    rfl

/-- A time is a time of a tile. -/
theorem of_tiles {x : (⟨2, ![8192, 512]⟩ : Shape).Idx → EReal} {f : Fin 512 → ℕ → ℝ}
    (h : ∀ (t : Fin cfg0.N) (r : Fin 256) (l : Fin 512), x (ix2 ⟨256 * t.val + r.val, time_lt t r⟩ l) = ((f l (256 * t.val + r.val) : ℝ) : EReal)) : Arr x f := by
  intro T l
  have := T.isLt
  have e := h ⟨T.val / 256, by rw [N_eq]; omega⟩ ⟨T.val % 256, by omega⟩ l
  have eT : (⟨256 * (T.val / 256) + T.val % 256, by omega⟩ : Fin 8192) = T := Fin.ext (by show 256 * (T.val / 256) + T.val % 256 = T.val; omega)
  have eV : 256 * (T.val / 256) + T.val % 256 = T.val := by omega
  simp only [eT, eV] at e
  exact e

include I in
/-- The output of the call. -/
theorem final_out : Arr ((dat V c).arrAt 4 cfg0.N) (fun l t => (k l).out t) :=
  of_tiles fun t r l => (array4 V c t r l).trans ((left V c (fun t => blocks V c t I) t.val t rfl).out r l)

include I in
/-- The states the call keeps for the backward pass. -/
theorem final_h : Arr ((dat V c).arrAt 5 cfg0.N) (fun l t => (k l).h t) :=
  of_tiles fun t r l => (array5 V c t r l).trans ((left V c (fun t => blocks V c t I) t.val t rfl).h r l)

end

end Cert.KernelIdeal.Fwd
end
-- ==== Proof.BwdTile.lean ====
/- One tile of the backward call, at the real values: what its payloads compute from what they read. -/
module

public import proofs.«01_k».proof.Proof.FwdTile
public import Idealize.ShloMosaic.Lib.Pipeline.Value
public import Idealize.ShloMosaic.Lib.ValueLayout

@[expose] public section

noncomputable section

namespace Cert.KernelIdeal.Bwd

open Cert.KernelIdeal.Gen
open Idealize.ShloMosaic Idealize.ShloMosaic.TcCoe
open Lru
open Cert.KernelIdeal.Fwd (Reads times)

variable {k : Fin 512 → Col} {n : ℕ}

/-! ## The gates and the decay -/

section Gates
variable {v3 v4 v5 : FVec Ideal S256x512 .f32} {v6 v7 v8 : FVec Ideal S1x512 .f32} (R : Reads k n v3 v4 v5 v6 v7 v8)

include R in
theorem gate_r : Arr (k1_pay4 (F := Ideal) v3 v6) (fun l t => (k l).r (256 * n + t)) := by
  intro t l
  have e := R.ba 0 l
  unfold k1_pay4
  pointwise
  simp only [R.pa t l, e, ← EReal.coe_add, Ideal.logistic_coe, Col.r, sg]

include R in
theorem slope_r : Arr (k1_pay5 (F := Ideal) v3 v6) (fun l t => (k l).r (256 * n + t) * (1 - (k l).r (256 * n + t))) := by
  intro t l
  unfold k1_pay5
  pointwise
  simp only [gate_r R t l, one_coe', ← EReal.coe_sub, ← EReal.coe_mul]

include R in
theorem gate_i : Arr (k1_pay6 (F := Ideal) v4 v7) (fun l t => (k l).i (256 * n + t)) := by
  intro t l
  have e := R.bx 0 l
  unfold k1_pay6
  pointwise
  simp only [R.px t l, e, ← EReal.coe_add, Ideal.logistic_coe, Col.i, sg]

include R in
theorem slope_i : Arr (k1_pay7 (F := Ideal) v4 v7) (fun l t => (k l).i (256 * n + t) * (1 - (k l).i (256 * n + t))) := by
  intro t l
  unfold k1_pay7
  pointwise
  simp only [gate_i R t l, one_coe', ← EReal.coe_sub, ← EReal.coe_mul]

include R in
theorem minus8r : Arr (k1_pay8 (F := Ideal) v3 v6) (fun l t => -8 * (k l).r (256 * n + t)) := by
  intro t l
  unfold k1_pay8
  pointwise
  simp only [gate_r R t l, neg8_coe, ← EReal.coe_mul]

include R in
theorem minus_lam : Arr (k1_pay9 (F := Ideal) v8) (fun l _ => -(k l).lam) := by
  intro t l
  unfold k1_pay9
  pointwise
  simp only [R.lam t l, zero_coe', ← EReal.coe_sub, zero_sub]

include R in
theorem max_lam : Arr (k1_pay10 (F := Ideal) v8) (fun l _ => max (-(k l).lam) 0) := by
  intro t l
  unfold k1_pay10
  pointwise
  simp only [minus_lam R t l, zero_coe', max_coe]

include R in
theorem exp_lam : Arr (k1_pay18 (F := Ideal) (k1_pay9 v8)) (fun l _ => Real.exp (-|-(k l).lam|)) := by
  intro t l
  unfold k1_pay18
  pointwise
  simp only [minus_lam R t l, zero_coe', abs_coe, ← EReal.coe_sub, zero_sub, Ideal.exp_coe]

include R in
theorem one_exp_lam : Arr (k1_pay19 (F := Ideal) (k1_pay9 v8)) (fun l _ => 1 + Real.exp (-|-(k l).lam|)) := by
  intro t l
  unfold k1_pay19
  pointwise
  simp only [exp_lam R t l, one_coe', ← EReal.coe_add]

include R in
theorem softplus : Arr (k1_pay20 (F := Ideal) (k1_pay9 v8) (k1_pay10 v8)) (fun l _ => sp (-(k l).lam)) := by
  intro t l
  unfold k1_pay20
  pointwise
  simp only [one_exp_lam R t l, max_lam R t l, log_coe (one_add_exp_pos _), ← EReal.coe_add, sp]

include R in
theorem log_decay : Arr (k1_pay21 (F := Ideal) (k1_pay8 v3 v6) (k1_pay9 v8) (k1_pay10 v8)) (fun l t => (k l).la (256 * n + t)) := by
  intro t l
  have e := softplus R 0 l
  unfold k1_pay21
  pointwise
  simp only [minus8r R t l, e, ← EReal.coe_mul, Col.la]

include R in
theorem decay : Arr (k1_pay22 (F := Ideal) (k1_pay8 v3 v6) (k1_pay9 v8) (k1_pay10 v8)) (fun l t => (k l).a (256 * n + t)) := by
  intro t l
  unfold k1_pay22
  pointwise
  simp only [log_decay R t l, Ideal.exp_coe, Col.a]

include R in
theorem decay_sq : Arr (k1_pay23 (F := Ideal) (k1_pay8 v3 v6) (k1_pay9 v8) (k1_pay10 v8)) (fun l t => (k l).b (256 * n + t)) := by
  intro t l
  unfold k1_pay23
  pointwise
  simp only [log_decay R t l, two_coe, ← EReal.coe_mul, Ideal.exp_coe, Col.b]

include R in
theorem scale : Arr (k1_pay24 (F := Ideal) (k1_pay8 v3 v6) (k1_pay9 v8) (k1_pay10 v8)) (fun l t => (k l).q (256 * n + t)) := by
  intro t l
  unfold k1_pay24
  pointwise
  simp only [decay_sq R t l, one_coe', ← EReal.coe_sub]
  rw [sqrt_coe (by have := (k l).b_lt_one (256 * n + t.val); linarith)]
  rfl

include R in
theorem half_scale : Arr (k1_pay25 (F := Ideal) (k1_pay8 v3 v6) (k1_pay9 v8) (k1_pay10 v8)) (fun l t => 1 / 2 / (k l).q (256 * n + t)) := by
  intro t l
  unfold k1_pay25
  pointwise
  rw [scale R t l, half_coe, div_coe ((k l).q_pos _).ne']

include R in
theorem gated : Arr (k1_pay26 (F := Ideal) v5 (k1_pay6 v4 v7)) (fun l t => (k l).i (256 * n + t) * (k l).xc (256 * n + t)) := by
  intro t l
  unfold k1_pay26
  pointwise
  simp only [gate_i R t l, R.xc t l, ← EReal.coe_mul]

end Gates

theorem recast {v59 : FVec Ideal S256x512 .f32} {h : Fin 512 → ℕ → ℝ} (hh : Arr v59 h) : Arr (k1_pay27 (F := Ideal) v59) h := by
  unfold k1_pay27
  dsimp only
  rw [shapeCast_self]
  exact hh

/-! ## The gradient reaching the states -/

section Back
variable {v58 v61 : FVec Ideal S256x512 .f32} {v116 : FVec Ideal S1x512 .f32}
  (hg : Arr v58 (fun l t => (k l).g (256 * n + t))) (hm : Arr v61 (fun l t => (k l).dm (256 * n + t)))

include hg hm in
/-- The output's gradient under the gelu, and at the last time what comes from after the tile. -/
theorem entering (hc : Arr v116 (fun l _ => (k l).dn (256 * n + 255))) :
    Arr (k1_pay34 (F := Ideal) v58 v61 v116) (fun l t => (k l).ct (256 * n + t) + if t = 255 then (k l).dn (256 * n + 255) else 0) := by
  intro t l
  unfold k1_pay34
  dsimp only
  rw [shapeCast_self]
  have e : broadcastTo S256x512 v116 broadcasts_S1x512_S256x512 (ix2 t l) = v116 (ix2 0 l) := by pointwise
  have hs : select (cmpi .eq (iota .tc S256x512 32 [0] iota_S256x512_d0_w32) (broadcast S256x512 255#32)) (broadcastTo S256x512 v116 broadcasts_S1x512_S256x512)
      (broadcast S256x512 (Scalar.ofBits .f32 0x00000000#32 : Ideal .f32)) (ix2 t l) = (((if t.val = 255 then (k l).dn (256 * n + 255) else 0 : ℝ)) : EReal) := by
    show Scalar.select (IntOp.cmpi .eq (iota .tc S256x512 32 [0] iota_S256x512_d0_w32 (ix2 t l)) (BitVec.ofNat 32 255)) (broadcastTo S256x512 v116 broadcasts_S1x512_S256x512 (ix2 t l)) _ = _
    rw [time_at, eq_word t.val 255 t.isLt (by omega), e, hc 0 l]
    by_cases h : t.val = 255
    · rw [if_pos h, if_pos h, sel_one]
    · rw [if_neg h, if_neg h, sel_zero]; exact zero_coe
  show _ + _ = _
  refine Eq.trans (congrArg₂ (· + ·) ?_ hs) (EReal.coe_add _ _).symm
  pointwise
  simp only [hg t l, hm t l, half_coe, cA_coe, cB_coe, one_coe', ← EReal.coe_mul, ← EReal.coe_add, Ideal.tanh_coe, Col.ct, ge, th]
  refine congrArg _ ?_
  ring_nf

/-- The decay of the next time, zero past the tile. -/
theorem next_decay {v48 : FVec Ideal S256x512 .f32} {a : Fin 512 → ℕ → ℝ} (ha : Arr v48 a) :
    Arr (k1_pay35 (F := Ideal) v48 times) (fun l t => if t = 255 then 0 else a l (t + 1)) := by
  intro t l
  unfold k1_pay35
  show Scalar.select (IntOp.cmpi .eq (iota .tc S256x512 32 [0] iota_S256x512_d0_w32 (ix2 t l)) (BitVec.ofNat 32 255)) _ (dynamicRotate 0 255#32 none v48 _ (ix2 t l)) = _
  rw [time_at, eq_word t.val 255 t.isLt (by omega), rotated ha 255#32 255 rfl (by omega)]
  show _ = (((if t.val = 255 then 0 else a l (t.val + 1) : ℝ)) : EReal)
  by_cases h : t.val = 255
  · rw [if_pos h, if_pos h, sel_one]; exact zero_coe
  · rw [if_neg h, if_neg h, sel_zero, show (t.val + 256 - 255) % 256 = t.val + 1 by omega]

/-- The first jump is one time long. -/
theorem start (hn : n < 32) {v48 v121 : FVec Ideal S256x512 .f32} (ha : Arr v48 (fun l t => (k l).a (256 * n + t)))
    (hv : Arr v121 (fun l t => (k l).ct (256 * n + t) + if t = 255 then (k l).dn (256 * n + 255) else 0)) :
    BwT 1 (k1_pay35 (F := Ideal) v48 times) v121 (fun l t => (k l).dh (256 * n + t)) := by
  refine ⟨_, _, next_decay ha, hv, fun l r hr => ?_⟩
  show (k l).dh (256 * n + r) = (k l).ct (256 * n + r) + (if r = 255 then (k l).dn (256 * n + 255) else 0)
    + (if r = 255 then 0 else (k l).a (256 * n + (r + 1))) * (if r < 256 - 1 then (k l).dh (256 * n + (r + 1)) else 0)
  rw [(k l).dh_eq _ (by omega)]
  by_cases h : r = 255
  · subst h; simp
  · rw [if_neg h, if_neg h, if_pos (by omega), Col.dn, if_pos (by omega), add_zero]
    rfl

theorem to_eight {H : Fin 512 → ℕ → ℝ} {v48 v121 : FVec Ideal S256x512 .f32} (h : BwT 1 (k1_pay35 (F := Ideal) v48 times) v121 H) :
    BwT 8 (k1_pay42 (F := Ideal) v48 times) (k1_pay41 (F := Ideal) v48 times v121) H := by
  unfold k1_pay42 k1_pay41 k1_pay39 k1_pay37 k1_pay36 k1_pay38 k1_pay40
  dsimp only
  generalize k1_pay35 (F := Ideal) v48 times = x at h ⊢
  have h2 := h.double 255#32 rfl (by omega) (by omega) iota_S256x512_d0_w32 rotates_S256x512_d0
  have h4 := h2.double 254#32 rfl (by omega) (by omega) iota_S256x512_d0_w32 rotates_S256x512_d0
  exact h4.double 252#32 rfl (by omega) (by omega) iota_S256x512_d0_w32 rotates_S256x512_d0

theorem to_last {H : Fin 512 → ℕ → ℝ} {v159 v158 : FVec Ideal S256x512 .f32} (h : BwT 8 v159 v158 H) :
    BwT 128 (k1_pay51 (F := Ideal) times v159 (k1_pay43 times) 248#32) (k1_pay50 (F := Ideal) times v158 v159 (k1_pay43 times) 248#32) H := by
  unfold k1_pay50 k1_pay51 k1_pay48 k1_pay46 k1_pay44 k1_pay43 k1_pay45 k1_pay47 k1_pay49
  dsimp only
  have h16 := h.double 248#32 rfl (by omega) (by omega) iota_S256x512_d0_w32 rotates_S256x512_d0
  have h32 := h16.double 240#32 rfl (by omega) (by omega) iota_S256x512_d0_w32 rotates_S256x512_d0
  have h64 := h32.double 224#32 rfl (by omega) (by omega) iota_S256x512_d0_w32 rotates_S256x512_d0
  exact h64.double 192#32 rfl (by omega) (by omega) iota_S256x512_d0_w32 rotates_S256x512_d0

theorem at_last {H : Fin 512 → ℕ → ℝ} {v203 v202 : FVec Ideal S256x512 .f32} (h : BwT 128 v203 v202 H) : Arr (k1_pay52 (F := Ideal) times v202 v203) H := by
  obtain ⟨f, g, hx, hy, e⟩ := h.double 128#32 rfl (by omega) (by omega) iota_S256x512_d0_w32 rotates_S256x512_d0
  intro t l
  refine Eq.trans (hy t l) (congrArg _ ((e l).done t.isLt))

end Back

/-! ## What the states' gradient gives -/

section Given
variable {D v202 v203 : FVec Ideal S256x512 .f32} (hD : Arr (k1_pay52 (F := Ideal) times v202 v203) (fun l t => (k l).dh (256 * n + t)))

include hD in
/-- The row kept for the tile before: the first time's decay by its gradient. -/
theorem kept {v48 : FVec Ideal S256x512 .f32} (ha : Arr v48 (fun l t => (k l).a (256 * n + t))) :
    Arr (k1_pay53 (F := Ideal) v48 times v202 v203) (fun l _ => (k l).a (256 * n) * (k l).dh (256 * n)) := by
  intro t l
  have ht : t = 0 := Subsingleton.elim _ _
  subst ht
  unfold k1_pay53
  dsimp only
  rw [shapeCast_self]
  show extractStridedSlice S1x512 ![0, 0] v48 slices_S256x512_o0_0_S1x512 (ix2 0 l) * extractStridedSlice S1x512 ![0, 0] (k1_pay52 (F := Ideal) times v202 v203) slices_S256x512_o0_0_S1x512 (ix2 0 l) = _
  have e : ∀ x : FVec Ideal S256x512 .f32, extractStridedSlice S1x512 ![0, 0] x slices_S256x512_o0_0_S1x512 (ix2 0 l) = x (ix2 0 l) := fun x =>
    extractStridedSlice_apply _ _ _ _ _ fun a => by fin_cases a <;> simp
  rw [e, e, ha 0 l, hD 0 l, ← EReal.coe_mul]
  rfl

include hD in
theorem input_grad {v54 : FVec Ideal S256x512 .f32} (hq : Arr v54 (fun l t => (k l).q (256 * n + t))) :
    Arr (k1_pay54 (F := Ideal) v54 times v202 v203) (fun l t => (k l).q (256 * n + t) * (k l).dh (256 * n + t)) := by
  intro t l
  unfold k1_pay54
  pointwise
  simp only [hq t l, hD t l, ← EReal.coe_mul]

include hD in
theorem xc_grad {v17 v54 : FVec Ideal S256x512 .f32} (hi : Arr v17 (fun l t => (k l).i (256 * n + t))) (hq : Arr v54 (fun l t => (k l).q (256 * n + t))) :
    Arr (k1_pay55 (F := Ideal) v17 v54 times v202 v203) (fun l t => (k l).dxc (256 * n + t)) := by
  intro t l
  unfold k1_pay55
  pointwise
  simp only [hi t l, input_grad hD hq t l, ← EReal.coe_mul, Col.dxc]

include hD in
theorem gate_grad {v5 v54 : FVec Ideal S256x512 .f32} (hx : Arr v5 (fun l t => (k l).xc (256 * n + t))) (hq : Arr v54 (fun l t => (k l).q (256 * n + t))) :
    Arr (k1_pay56 (F := Ideal) v5 v54 times v202 v203) (fun l t => (k l).q (256 * n + t) * (k l).dh (256 * n + t) * (k l).xc (256 * n + t)) := by
  intro t l
  unfold k1_pay56
  pointwise
  simp only [hx t l, input_grad hD hq t l, ← EReal.coe_mul]

/-- The states one time earlier: the tile's own, and before its first time the last of the eight rows before it. -/
def earlier (a0 : BitVec 32) (v60 : FVec Ideal S256x512 .f32) (v218 : FVec Ideal S8x512 .f32) : FVec Ideal S256x512 .f32 :=
  select (cmpi .slt times (broadcast S256x512 1#32))
    (concatenate S256x512 0 (List.replicate 32 ⟨S8x512, dynamicRotate 0 1#32 none (Scalar.select (Scalar.cmpi .eq a0 31#32) (broadcast S8x512 (Scalar.ofBits .f32 0x00000000#32 : Ideal .f32)) (shapeCast S8x512 v218 shapeCasts_S8x512_S8x512)) rotates_S8x512_d0⟩)
      concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0)
    (dynamicRotate 0 1#32 none v60 rotates_S256x512_d0)

theorem earlier_states {a0 : BitVec 32} {v60 : FVec Ideal S256x512 .f32} {v218 : FVec Ideal S8x512 .f32}
    (hh : Arr v60 (fun l t => (k l).h (256 * n + t)))
    (hb : ∀ l : Fin 512, Scalar.select (Scalar.cmpi .eq a0 31#32) (0 : EReal) (v218 (ix2 7 l)) = (((k l).hp (256 * n) : ℝ) : EReal)) :
    Arr (earlier a0 v60 v218) (fun l t => (k l).hp (256 * n + t)) := by
  intro t l
  unfold earlier
  rw [shapeCast_self]
  show Scalar.select (IntOp.cmpi .slt (iota .tc S256x512 32 [0] iota_S256x512_d0_w32 (ix2 t l)) (BitVec.ofNat 32 1)) _ (dynamicRotate 0 1#32 none v60 _ (ix2 t l)) = _
  rw [time_at, slt_word t.val 1 t.isLt (by omega), rotated hh 1#32 1 rfl (by omega)]
  by_cases h : t.val < 1
  · rw [if_pos h, sel_one]
    have ht : t = 0 := Fin.ext (by show t.val = 0; omega)
    subst ht
    refine (concatenate_replicate_apply (s₁ := S8x512) (t := S256x512) 0 32 _ _ rfl (ix2 0 l) (ix2 0 l) rfl fun b hb => ?_).trans ?_
    · fin_cases b
      · exact absurd rfl hb
      · rfl
    refine (dynamicRotate_apply 0 1#32 _ rotates_S8x512_d0 (ix2 0 l) (ix2 7 l) fun b => ?_).trans ?_
    · fin_cases b <;> rfl
    refine Eq.trans ?_ (hb l)
    by_cases hc : Scalar.cmpi .eq a0 31#32 = 1#1
    · rw [hc]; exact zero_coe
    · have hz : ∀ b : BitVec 1, ¬ b = 1#1 → b = 0#1 := by decide
      have h0 : Scalar.cmpi .eq a0 31#32 = 0#1 := hz _ hc
      rw [h0]; rfl
  · rw [if_neg h, sel_zero]
    obtain ⟨s, hs⟩ : ∃ s, t.val = s + 1 := ⟨t.val - 1, by omega⟩
    have := t.isLt
    rw [show (t.val + 256 - 1) % 256 = s by omega, hs]
    rfl

include hD in
/-- The gradient of the logarithm of the decay. -/
theorem log_grad {a0 : BitVec 32} {v48 v51 v56 v57 v60 : FVec Ideal S256x512 .f32} {v218 : FVec Ideal S8x512 .f32}
    (ha : Arr v48 (fun l t => (k l).a (256 * n + t))) (hs : Arr v51 (fun l t => (k l).b (256 * n + t)))
    (hq : Arr v56 (fun l t => 1 / 2 / (k l).q (256 * n + t))) (hx : Arr v57 (fun l t => (k l).i (256 * n + t) * (k l).xc (256 * n + t)))
    (he : Arr (earlier a0 v60 v218) (fun l t => (k l).hp (256 * n + t))) :
    Arr (k1_pay57 (F := Ideal) a0 v48 v51 v56 v57 v60 times v202 v203 v218) (fun l t => (k l).dla (256 * n + t)) := by
  have e : k1_pay57 (F := Ideal) a0 v48 v51 v56 v57 v60 times v202 v203 v218
      = addf (mulf (broadcast S256x512 (Scalar.ofBits .f32 0x40000000#32 : Ideal .f32)) (mulf (subf (broadcast S256x512 (Scalar.ofBits .f32 0x00000000#32 : Ideal .f32)) (mulf (mulf (k1_pay52 (F := Ideal) times v202 v203) v57) v56)) v51))
        (mulf (mulf (k1_pay52 (F := Ideal) times v202 v203) (earlier a0 v60 v218)) v48) := rfl
  rw [e]
  generalize earlier a0 v60 v218 = x at he
  intro t l
  pointwise
  simp only [hD t l, ha t l, hs t l, hq t l, hx t l, he t l, two_coe, zero_coe', ← EReal.coe_mul, ← EReal.coe_add, ← EReal.coe_sub, zero_sub, Col.dla]

end Given

/-! ## The sums over a tile's times -/

/-- A tile's column sums, as a row. -/
theorem tile_sum {x : FVec Ideal S256x512 .f32} {f : Fin 512 → ℕ → ℝ} (hx : Arr x f) :
    Arr (shapeCast S1x512 (multiReduction (F := Ideal) (φ := .f32) .add [0] S512 x 0x00000000#32 reduces_S256x512_S512 (.inl rfl) rfl) shapeCasts_S512_S1x512) (fun l _ => ∑ t ∈ Finset.range 256, f l t) := by
  intro t l
  refine (ValueIdx.shapeCast_a_1a_apply _ _ _ _).trans ?_
  refine (Ideal.multiReduction_add_single _ _ _ _ _ _).trans ?_
  rw [← sum_coe]
  refine Finset.sum_congr rfl fun s _ => ?_
  refine Eq.trans (congrArg x ?_) (hx s l)
  funext a
  refine Fin.ext ?_
  fin_cases a <;> rfl

section Sums
variable {a0 : BitVec 32} {v22 v48 v51 v56 v57 v60 v202 v203 : FVec Ideal S256x512 .f32} {v218 : FVec Ideal S8x512 .f32}
  (hL : Arr (k1_pay57 (F := Ideal) a0 v48 v51 v56 v57 v60 times v202 v203 v218) (fun l t => (k l).dla (256 * n + t)))

include hL in
theorem sum_log (hr : Arr v22 (fun l t => -8 * (k l).r (256 * n + t))) :
    Arr (k1_pay58 (F := Ideal) a0 v22 v48 v51 v56 v57 v60 times v202 v203 v218) (fun l _ => ∑ t ∈ Finset.range 256, (k l).dlt (256 * n + t)) := by
  refine tile_sum ?_
  intro t l
  show v22 (ix2 t l) * k1_pay57 (F := Ideal) a0 v48 v51 v56 v57 v60 times v202 v203 v218 (ix2 t l) = _
  rw [hr t l, hL t l, ← EReal.coe_mul]
  rfl

include hL in
theorem log_scaled {v45 : FVec Ideal S1x512 .f32} (hs : Arr v45 (fun l _ => sp (-(k l).lam))) :
    Arr (k1_pay59 (F := Ideal) a0 v45 v48 v51 v56 v57 v60 times v202 v203 v218) (fun l t => (k l).dla (256 * n + t) * sp (-(k l).lam)) := by
  intro t l
  have e := hs 0 l
  unfold k1_pay59
  pointwise
  simp only [hL t l, e, ← EReal.coe_mul]

include hL in
theorem sum_shared {v43 : FVec Ideal S1x512 .f32} (hr : Arr v22 (fun l t => -8 * (k l).r (256 * n + t))) (he : Arr v43 (fun l _ => 1 + Real.exp (-|-(k l).lam|))) :
    Arr (k1_pay60 (F := Ideal) a0 v22 v43 v48 v51 v56 v57 v60 times v202 v203 v218)
      (fun l _ => (∑ t ∈ Finset.range 256, (k l).dlt (256 * n + t)) / (1 + Real.exp (-|-(k l).lam|))) := by
  intro t l
  unfold k1_pay60
  pointwise
  rw [sum_log hL hr t l, he t l, div_coe (one_add_exp_pos _).ne']

end Sums

theorem above_zero (x : ℝ) : FloatOps.cmpf (F := Ideal) (φ := .f32) .ogt (x : EReal) (0 : EReal) = if 0 < x then 1#1 else 0#1 := by
  rw [Ideal.cmpf_def]
  by_cases h : 0 < x <;> simp [Ideal.cmp, h]
theorem at_least_zero (x : ℝ) : FloatOps.cmpf (F := Ideal) (φ := .f32) .oge (x : EReal) (0 : EReal) = if 0 ≤ x then 1#1 else 0#1 := by
  rw [Ideal.cmpf_def]
  by_cases h : 0 ≤ x <;> simp [Ideal.cmp, h]
theorem not_zero {x : ℝ} (hx : x ≠ 0) : FloatOps.cmpf (F := Ideal) (φ := .f32) .oeq (x : EReal) (0 : EReal) = 0#1 := by
  rw [Ideal.cmpf_def]
  simp [Ideal.cmp, hx]

/-- The step of the maximum, away from the tie. -/
theorem step {v8 : FVec Ideal S1x512 .f32} {x : Fin 512 → ℝ} (h9 : Arr (k1_pay9 (F := Ideal) v8) (fun l _ => x l)) (hx : ∀ l, x l ≠ 0) :
    Arr (k1_pay16 (F := Ideal) (k1_pay11 (F := Ideal) v8) (k1_pay12 (F := Ideal) v8) k1_pay13 k1_pay14 k1_pay15) (fun l _ => if 0 < x l then 1 else 0) := by
  intro t l
  unfold k1_pay16 k1_pay11 k1_pay12 k1_pay13 k1_pay14 k1_pay15
  pointwise
  rw [h9 t l, above_zero, not_zero (hx l), sel_zero]
  by_cases h : 0 < x l
  · rw [if_pos h, if_pos h, sel_one]; rfl
  · rw [if_neg h, if_neg h, sel_zero]; rfl

/-- The gradient of the decay parameter that a tile adds. -/
theorem lam_grad {v24 v35 v41 v244 v247 : FVec Ideal S1x512 .f32} {x S : Fin 512 → ℝ} (hx : ∀ l, x l ≠ 0) (h24 : Arr v24 (fun l _ => x l))
    (h35 : Arr v35 (fun l _ => if 0 < x l then 1 else 0)) (h41 : Arr v41 (fun l _ => Real.exp (-|x l|)))
    (hS : Arr v244 (fun l _ => S l)) (hT : Arr v247 (fun l _ => S l / (1 + Real.exp (-|x l|)))) :
    Arr (k1_pay61 (F := Ideal) v35 (k1_pay17 (F := Ideal) v24) v41 v244 v247) (fun l _ => -(S l * sl (x l))) := by
  intro t l
  unfold k1_pay61 k1_pay17
  pointwise
  have hp := (one_add_exp_pos (-|x l|)).ne'
  rw [h24 t l, hS t l, hT t l, h35 t l, h41 t l, at_least_zero, sl_eq (hx l)]
  by_cases h : 0 ≤ x l
  · simp only [if_pos h, sel_one, zero_coe', ← EReal.coe_mul, ← EReal.coe_add, ← EReal.coe_sub]
    refine congrArg _ ?_
    field_simp
    ring
  · simp only [if_neg h, sel_zero, zero_coe', ← EReal.coe_mul, ← EReal.coe_add, ← EReal.coe_sub]
    refine congrArg _ ?_
    field_simp
    ring

theorem dpx_tile {v20 v233 : FVec Ideal S256x512 .f32} (hi : Arr v20 (fun l t => (k l).i (256 * n + t) * (1 - (k l).i (256 * n + t))))
    (hg : Arr v233 (fun l t => (k l).q (256 * n + t) * (k l).dh (256 * n + t) * (k l).xc (256 * n + t))) :
    Arr (k1_pay62 (F := Ideal) v20 v233) (fun l t => (k l).dpx (256 * n + t)) := by
  intro t l
  unfold k1_pay62
  pointwise
  simp only [hi t l, hg t l, ← EReal.coe_mul, Col.dpx]

theorem dpa_tile {v14 v246 : FVec Ideal S256x512 .f32} (hr : Arr v14 (fun l t => (k l).r (256 * n + t) * (1 - (k l).r (256 * n + t))))
    (hs : Arr v246 (fun l t => (k l).dla (256 * n + t) * sp (-(k l).lam))) :
    Arr (k1_pay63 (F := Ideal) v14 v246) (fun l t => (k l).dpa (256 * n + t)) := by
  intro t l
  unfold k1_pay63
  pointwise
  simp only [hr t l, hs t l, neg8_coe, ← EReal.coe_mul, Col.dpa]

theorem add_ba {v14 v246 : FVec Ideal S256x512 .f32} {v272 : FVec Ideal S1x512 .f32} {p : Fin 512 → ℝ} {f : Fin 512 → ℕ → ℝ} (hf : Arr (k1_pay63 (F := Ideal) v14 v246) f)
    (hp : Arr v272 (fun l _ => p l)) : Arr (k1_pay64 (F := Ideal) v14 v246 v272) (fun l _ => p l + ∑ t ∈ Finset.range 256, f l t) := by
  intro t l
  unfold k1_pay64
  dsimp only
  rw [shapeCast_self]
  exact (congrArg₂ (· + ·) (hp t l) (tile_sum hf t l)).trans (EReal.coe_add _ _).symm

theorem add_bx {v20 v233 : FVec Ideal S256x512 .f32} {v276 : FVec Ideal S1x512 .f32} {p : Fin 512 → ℝ} {f : Fin 512 → ℕ → ℝ} (hf : Arr (k1_pay62 (F := Ideal) v20 v233) f)
    (hp : Arr v276 (fun l _ => p l)) : Arr (k1_pay65 (F := Ideal) v20 v233 v276) (fun l _ => p l + ∑ t ∈ Finset.range 256, f l t) := by
  intro t l
  unfold k1_pay65
  dsimp only
  rw [shapeCast_self]
  exact (congrArg₂ (· + ·) (hp t l) (tile_sum hf t l)).trans (EReal.coe_add _ _).symm

theorem add_lam {v260 v280 : FVec Ideal S1x512 .f32} {p f : Fin 512 → ℝ} (hf : Arr v260 (fun l _ => f l)) (hp : Arr v280 (fun l _ => p l)) :
    Arr (k1_pay1 (F := Ideal) v260 v280) (fun l _ => p l + f l) := by
  intro t l
  unfold k1_pay1
  dsimp only
  rw [shapeCast_self]
  exact (congrArg₂ (· + ·) (hp t l) (hf t l)).trans (EReal.coe_add _ _).symm

/-! ## The gradient of the output gate's input -/

section Gelu
variable {v58 v60 v61 : FVec Ideal S256x512 .f32} {g h m : Fin 512 → ℕ → ℝ} (hg : Arr v58 g)

include hg in
theorem inner_tanh : Arr (k1_pay31 (F := Ideal) v58) (fun l t => th (g l t)) := by
  intro t l
  unfold k1_pay31 k1_pay30 k1_pay29
  pointwise
  simp only [hg t l, cA_coe, cB_coe, ← EReal.coe_mul, ← EReal.coe_add, Ideal.tanh_coe, th]
  refine congrArg _ ?_
  ring_nf

include hg in
theorem dg_tile (hh : Arr v60 h) (hm : Arr v61 m) :
    Arr (k1_pay33 (F := Ideal) v58 v60 v61 (k1_pay28 v58) (k1_pay29 v58) (k1_pay30 v58) (k1_pay31 v58) (k1_pay32 v58))
      (fun l t => m l t * h l t * dge (g l t)) := by
  intro t l
  unfold k1_pay33 k1_pay32 k1_pay30 k1_pay29 k1_pay28
  pointwise
  simp only [hg t l, hh t l, hm t l, inner_tanh hg t l, half_coe, cA_coe, cB_coe, one_coe', ← EReal.coe_mul, ← EReal.coe_add, ← EReal.coe_sub]
  refine congrArg _ ?_
  unfold dge
  ring

end Gelu

end Cert.KernelIdeal.Bwd
end
-- ==== Proof.BwdVal.lean ====
/- What one tile of the backward call computes from what it loads, at the real values: every stored value, and the
   sums it adds to the parameters' gradients. -/
module

public import proofs.«01_k».proof.Proof.BwdTile
public import proofs.«01_k».proof.Proof.LruSum

@[expose] public section

set_option maxRecDepth 16384

noncomputable section

namespace Cert.KernelIdeal.Bwd

open Cert.KernelIdeal.Gen
open Idealize.ShloMosaic Idealize.ShloMosaic.TcCoe
open Lru
open Cert.KernelIdeal.Fwd (Reads times)

/-- The sum of `f` over the times from tile `n` on. -/
def part (f : ℕ → ℝ) (n : ℕ) : ℝ := ∑ t ∈ Finset.Ico (256 * n) 8192, f t

theorem part_step (f : ℕ → ℝ) {n : ℕ} (hn : n < 32) : part f (n + 1) + ∑ t ∈ Finset.range 256, f (256 * n + t) = part f n := by
  unfold part
  have h := Finset.sum_Ico_consecutive f (show 256 * n ≤ 256 * (n + 1) by omega) (show 256 * (n + 1) ≤ 8192 by omega)
  rw [← h, add_comm, Finset.sum_Ico_eq_sum_range f (256 * n) (256 * (n + 1)), show 256 * (n + 1) - 256 * n = 256 by omega]
theorem part_end (f : ℕ → ℝ) : part f 32 = 0 := by simp [part]
theorem part_zero (f : ℕ → ℝ) : part f 0 = ∑ t ∈ Finset.range 8192, f t := by rw [Finset.range_eq_Ico]; rfl

/-- The parameters' gradients summed over the times from tile `n` on, one to a row. -/
def parts (k : Col) (n r : ℕ) : ℝ :=
  if r = 0 then part k.dpa n else if r = 1 then part k.dpx n else if r = 2 then -(part k.dlt n * sl (-k.lam)) else 0

theorem parts_end (k : Col) (r : ℕ) : parts k 32 r = 0 := by
  unfold parts; rw [part_end, part_end, part_end]; split_ifs <;> simp
theorem parts_zero (k : Col) (r : ℕ) : parts k 0 r = k.dpar r := by
  unfold parts Col.dpar; rw [part_zero, part_zero, part_zero]; rfl

/-- What a point loads of tile `n` of the channels `k`: `w` is the number of the point. -/
structure Loads (k : Fin 512 → Col) (n : ℕ) (w : BitVec 32) (v3 v4 v5 : FVec Ideal S256x512 .f32) (v6 v7 v8 : FVec Ideal S1x512 .f32)
    (v58 v59 v61 : FVec Ideal S256x512 .f32) (v116 : FVec Ideal S1x512 .f32) (v218 : FVec Ideal S8x512 .f32) : Prop where
  reads : Reads k n v3 v4 v5 v6 v7 v8
  lt : n < 32
  nz : ∀ l, (k l).lam ≠ 0
  g : Arr v58 (fun l t => (k l).g (256 * n + t))
  h : Arr v59 (fun l t => (k l).h (256 * n + t))
  dm : Arr v61 (fun l t => (k l).dm (256 * n + t))
  carry : Arr v116 (fun l _ => (k l).dn (256 * n + 255))
  before : ∀ l : Fin 512, Scalar.select (Scalar.cmpi .eq w 31#32) (0 : EReal) (v218 (ix2 7 l)) = (((k l).hp (256 * n) : ℝ) : EReal)

section Names
variable (w : BitVec 32) (v3 v4 v5 : FVec Ideal S256x512 .f32) (v6 v7 v8 : FVec Ideal S1x512 .f32)
  (v58 v59 v61 : FVec Ideal S256x512 .f32) (v116 : FVec Ideal S1x512 .f32) (v218 : FVec Ideal S8x512 .f32)

/-- The decay, the input's scale and the gradient of the states before the last jump, from what is loaded. -/
abbrev aV := k1_pay22 (F := Ideal) (k1_pay8 v3 v6) (k1_pay9 v8) (k1_pay10 v8)
abbrev qV := k1_pay24 (F := Ideal) (k1_pay8 v3 v6) (k1_pay9 v8) (k1_pay10 v8)
abbrev jumpsV := k1_pay50 (F := Ideal) times (k1_pay41 (aV v3 v6 v8) times (k1_pay34 v58 v61 v116)) (k1_pay42 (aV v3 v6 v8) times) (k1_pay43 times) 248#32
abbrev spansV := k1_pay51 (F := Ideal) times (k1_pay42 (aV v3 v6 v8) times) (k1_pay43 times) 248#32
abbrev dglV := k1_pay56 (F := Ideal) v5 (qV v3 v6 v8) times (jumpsV v3 v6 v8 v58 v61 v116) (spansV v3 v6 v8)
abbrev dlaV := k1_pay57 (F := Ideal) w (aV v3 v6 v8) (k1_pay23 (k1_pay8 v3 v6) (k1_pay9 v8) (k1_pay10 v8)) (k1_pay25 (k1_pay8 v3 v6) (k1_pay9 v8) (k1_pay10 v8))
  (k1_pay26 v5 (k1_pay6 v4 v7)) (k1_pay27 v59) times (jumpsV v3 v6 v8 v58 v61 v116) (spansV v3 v6 v8) v218
abbrev dlsV := k1_pay59 (F := Ideal) w (k1_pay20 (k1_pay9 v8) (k1_pay10 v8)) (aV v3 v6 v8) (k1_pay23 (k1_pay8 v3 v6) (k1_pay9 v8) (k1_pay10 v8)) (k1_pay25 (k1_pay8 v3 v6) (k1_pay9 v8) (k1_pay10 v8))
  (k1_pay26 v5 (k1_pay6 v4 v7)) (k1_pay27 v59) times (jumpsV v3 v6 v8 v58 v61 v116) (spansV v3 v6 v8) v218
abbrev sumV := k1_pay58 (F := Ideal) w (k1_pay8 v3 v6) (aV v3 v6 v8) (k1_pay23 (k1_pay8 v3 v6) (k1_pay9 v8) (k1_pay10 v8)) (k1_pay25 (k1_pay8 v3 v6) (k1_pay9 v8) (k1_pay10 v8))
  (k1_pay26 v5 (k1_pay6 v4 v7)) (k1_pay27 v59) times (jumpsV v3 v6 v8 v58 v61 v116) (spansV v3 v6 v8) v218
abbrev shareV := k1_pay60 (F := Ideal) w (k1_pay8 v3 v6) (k1_pay19 (k1_pay9 v8)) (aV v3 v6 v8) (k1_pay23 (k1_pay8 v3 v6) (k1_pay9 v8) (k1_pay10 v8)) (k1_pay25 (k1_pay8 v3 v6) (k1_pay9 v8) (k1_pay10 v8))
  (k1_pay26 v5 (k1_pay6 v4 v7)) (k1_pay27 v59) times (jumpsV v3 v6 v8 v58 v61 v116) (spansV v3 v6 v8) v218
abbrev dlamV := k1_pay61 (F := Ideal) (k1_pay16 (k1_pay11 (F := Ideal) v8) (k1_pay12 (F := Ideal) v8) k1_pay13 k1_pay14 k1_pay15) (k1_pay17 (F := Ideal) (k1_pay9 v8)) (k1_pay18 (k1_pay9 v8))
  (sumV w v3 v4 v5 v6 v7 v8 v58 v59 v61 v116 v218) (shareV w v3 v4 v5 v6 v7 v8 v58 v59 v61 v116 v218)
end Names

variable {k : Fin 512 → Col} {n : ℕ} {w : BitVec 32} {v3 v4 v5 : FVec Ideal S256x512 .f32} {v6 v7 v8 : FVec Ideal S1x512 .f32}
  {v58 v59 v61 : FVec Ideal S256x512 .f32} {v116 : FVec Ideal S1x512 .f32} {v218 : FVec Ideal S8x512 .f32}
  (L : Loads k n w v3 v4 v5 v6 v7 v8 v58 v59 v61 v116 v218)

include L

/-- The gradient of the states. -/
theorem states_grad : Arr (k1_pay52 (F := Ideal) times (jumpsV v3 v6 v8 v58 v61 v116) (spansV v3 v6 v8)) (fun l t => (k l).dh (256 * n + t)) :=
  at_last (to_last (to_eight (start L.lt (decay L.reads) (entering L.g L.dm L.carry))))

theorem tile_kept : Arr (k1_pay53 (F := Ideal) (aV v3 v6 v8) times (jumpsV v3 v6 v8 v58 v61 v116) (spansV v3 v6 v8)) (fun l _ => (k l).a (256 * n) * (k l).dh (256 * n)) :=
  kept (states_grad L) (decay L.reads)

theorem tile_dxc : Arr (k1_pay55 (F := Ideal) (k1_pay6 v4 v7) (qV v3 v6 v8) times (jumpsV v3 v6 v8 v58 v61 v116) (spansV v3 v6 v8)) (fun l t => (k l).dxc (256 * n + t)) :=
  xc_grad (states_grad L) (gate_i L.reads) (scale L.reads)

theorem tile_dg : Arr (k1_pay33 (F := Ideal) v58 (k1_pay27 v59) v61 (k1_pay28 v58) (k1_pay29 v58) (k1_pay30 v58) (k1_pay31 v58) (k1_pay32 v58)) (fun l t => (k l).dg (256 * n + t)) :=
  dg_tile L.g (recast L.h) L.dm

theorem tile_dpx : Arr (k1_pay62 (F := Ideal) (k1_pay7 v4 v7) (dglV v3 v5 v6 v8 v58 v61 v116)) (fun l t => (k l).dpx (256 * n + t)) :=
  dpx_tile (slope_i L.reads) (gate_grad (states_grad L) L.reads.xc (scale L.reads))

theorem tile_dla : Arr (dlaV w v3 v4 v5 v6 v7 v8 v58 v59 v61 v116 v218) (fun l t => (k l).dla (256 * n + t)) :=
  log_grad (states_grad L) (decay L.reads) (decay_sq L.reads) (half_scale L.reads) (gated L.reads) (earlier_states (recast L.h) L.before)

theorem tile_dpa : Arr (k1_pay63 (F := Ideal) (k1_pay5 v3 v6) (dlsV w v3 v4 v5 v6 v7 v8 v58 v59 v61 v116 v218)) (fun l t => (k l).dpa (256 * n + t)) :=
  dpa_tile (slope_r L.reads) (log_scaled (tile_dla L) (softplus L.reads))

theorem tile_dlam : Arr (dlamV w v3 v4 v5 v6 v7 v8 v58 v59 v61 v116 v218) (fun l _ => -((∑ t ∈ Finset.range 256, (k l).dlt (256 * n + t)) * sl (-(k l).lam))) :=
  lam_grad (fun l => neg_ne_zero.mpr (L.nz l)) (minus_lam L.reads) (step (minus_lam L.reads) fun l => neg_ne_zero.mpr (L.nz l)) (exp_lam L.reads)
    (sum_log (tile_dla L) (minus8r L.reads)) (sum_shared (tile_dla L) (minus8r L.reads) (one_exp_lam L.reads))

section Sums
variable {p : FVec Ideal S1x512 .f32}

theorem tile_ba (hp : Arr p (fun l _ => parts (k l) (n + 1) 0)) :
    Arr (k1_pay64 (F := Ideal) (k1_pay5 v3 v6) (dlsV w v3 v4 v5 v6 v7 v8 v58 v59 v61 v116 v218) p) (fun l _ => parts (k l) n 0) := by
  intro t l
  exact (add_ba (tile_dpa L) hp t l).trans (congrArg _ (part_step (k l).dpa L.lt))

theorem tile_bx (hp : Arr p (fun l _ => parts (k l) (n + 1) 1)) :
    Arr (k1_pay65 (F := Ideal) (k1_pay7 v4 v7) (dglV v3 v5 v6 v8 v58 v61 v116) p) (fun l _ => parts (k l) n 1) := by
  intro t l
  exact (add_bx (tile_dpx L) hp t l).trans (congrArg _ (part_step (k l).dpx L.lt))

theorem tile_lam (hp : Arr p (fun l _ => parts (k l) (n + 1) 2)) :
    Arr (k1_pay1 (F := Ideal) (dlamV w v3 v4 v5 v6 v7 v8 v58 v59 v61 v116 v218) p) (fun l _ => parts (k l) n 2) := by
  intro t l
  refine (add_lam (tile_dlam L) hp t l).trans (congrArg _ ?_)
  show -(part (k l).dlt (n + 1) * sl (-(k l).lam)) + -((∑ t ∈ Finset.range 256, (k l).dlt (256 * n + t)) * sl (-(k l).lam)) = -(part (k l).dlt n * sl (-(k l).lam))
  rw [← part_step (k l).dlt L.lt]; ring

end Sums

end Cert.KernelIdeal.Bwd
end
-- ==== Proof.BwdPts.lean ====
/- What each grid point of the backward call leaves in its outputs and its scratch, at the real values. -/
module

public import proofs.«01_k».proof.Proof.BwdVal
public import proofs.«01_k».proof.Proof.FwdVal
public import proofs.«01_k».proof.Proof.KBwd
public import Idealize.ShloMosaic.Lib.VecWindow
public import Idealize.ShloMosaic.Lib.WholeRead
public import Idealize.ShloMosaic.Lib.WritesUnit

@[expose] public section

set_option maxRecDepth 16384

noncomputable section

namespace Cert.KernelIdeal.Bwd

open Cert.KernelIdeal.Gen
open Idealize.ShloMosaic Idealize.ShloMosaic.TcCoe
open Lru
open Cert.KernelIdeal.Fwd (Blocks ix_eq)

/-- The blocks point `i` reads hold tile `n` of the channels `k`: the forward call's four, the saved states, the eight
    rows of states before the tile, and the incoming gradient. -/
structure Blocks1 (k : Fin 512 → Col) (n : ℕ) (i : grid1.Coords) (x0 : Vec Ideal S256x1024 .f32) (x1 x2 : Vec Ideal S256x512 .f32) (x3 : Vec Ideal S8x512 .f32)
    (x4 : Vec Ideal S256x512 .f32) (x5 : Vec Ideal S8x512 .f32) (x6 : Vec Ideal S256x512 .f32) : Prop where
  base : Blocks k n x0 x1 x2 x3
  lt : n < 32
  nz : ∀ l, (k l).lam ≠ 0
  h : Arr x4 (fun l t => (k l).h (256 * n + t))
  before : ∀ l : Fin 512, Scalar.select (Scalar.cmpi .eq (BitVec.ofNat 32 (i 0).val) 31#32) (0 : EReal) (x5 (ix2 7 l)) = (((k l).hp (256 * n) : ℝ) : EReal)
  dm : Arr x6 (fun l t => (k l).dm (256 * n + t))

/-- A load of the whole of a tile, and of one row of eight. -/
theorem whole_load (arg : Memref sig .tc .vmem S256x512 .f32) (harg : arg.IsWhole) {x : Vec Ideal S256x512 .f32} {f : Fin 512 → ℕ → ℝ} (hx : Arr x f) :
    Arr (View.readAt (Elt Ideal) arg.view (Rect.unit (s := S256x512) ![0, 0] S256x512.size inb_S256x512_S256x512_0_0).toLoadRect (harg.unread x)) f := by
  intro t l
  refine (harg.readAt_unread x _ _).trans (Eq.trans (congrArg x (ix_eq ?_ ?_)) (hx t l))
  · show 0 + 1 * t.val = t.val; omega
  · show 0 + 1 * l.val = l.val; omega

theorem row_load (arg : Memref sig .tc .vmem S8x512 .f32) (harg : arg.IsWhole) {x : Vec Ideal S8x512 .f32} {f : Fin 512 → ℝ} (r : Fin 8)
    (inb : ∀ a : Fin 2, (![r.val, 0] : Fin 2 → ℕ) a + S1x512.size a ≤ S8x512.size a) (hx : ∀ l : Fin 512, x (ix2 r l) = ((f l : ℝ) : EReal)) :
    Arr (View.readAt (Elt Ideal) arg.view (Rect.unit (s := S8x512) ![r.val, 0] S1x512.size inb).toLoadRect (harg.unread x)) (fun l _ => f l) := by
  intro t l
  refine (harg.readAt_unread x _ _).trans (Eq.trans (congrArg x (ix_eq ?_ ?_)) (hx l))
  · show r.val + 1 * t.val = r.val; omega
  · show 0 + 1 * l.val = l.val; omega

/-- Three rows stored one after the other over eight: each row holds what was stored to it, the others what they held. -/
theorem rows (v : View sig .tc .vmem S8x512 .f32) (f : v.ty.Contents (Elt Ideal)) (P0 P1 P2 : FVec Ideal S1x512 .f32) (L : List (View.Piece (Elt Ideal) S8x512 .f32)) {p : Fin 512 → ℕ → ℝ}
    (h0 : Arr P0 (fun l _ => p l 0)) (h1 : Arr P1 (fun l _ => p l 1)) (h2 : Arr P2 (fun l _ => p l 2))
    (hL : ∀ (r : Fin 8) (l : Fin 512), 3 ≤ r.val → v.read (Elt Ideal) (v.writes (Elt Ideal) f L) (ix2 r l) = ((p l r.val : ℝ) : EReal)) :
    Arr (n := 8) (v.read (Elt Ideal) (v.writes (Elt Ideal) f
      (⟨Rect.unit (s := S8x512) ![2, 0] ![1, 512] inb_S8x512_S1x512_2_0, P2⟩ :: ⟨Rect.unit (s := S8x512) ![1, 0] ![1, 512] inb_S8x512_S1x512_1_0, P1⟩
        :: ⟨Rect.unit (s := S8x512) ![0, 0] ![1, 512] inb_S8x512_S1x512_0_0, P0⟩ :: L))) p := by
  intro r l
  by_cases e2 : r.val = 2
  · refine (View.read_writes_cons_rows_of_mem _ _ inb_S8x512_S1x512_2_0 _ _ (ix2 r l) (ix2 0 l) rfl ?_ rfl).trans ?_
    · exact e2
    · rw [e2]; exact h2 0 l
  refine (View.read_writes_cons_rows_of_not_mem _ _ inb_S8x512_S1x512_2_0 _ _ (ix2 r l) rfl (W := 1) rfl ?_).trans ?_
  · show r.val < 2 ∨ 2 + 1 ≤ r.val; omega
  by_cases e1 : r.val = 1
  · refine (View.read_writes_cons_rows_of_mem _ _ inb_S8x512_S1x512_1_0 _ _ (ix2 r l) (ix2 0 l) rfl ?_ rfl).trans ?_
    · exact e1
    · rw [e1]; exact h1 0 l
  refine (View.read_writes_cons_rows_of_not_mem _ _ inb_S8x512_S1x512_1_0 _ _ (ix2 r l) rfl (W := 1) rfl ?_).trans ?_
  · show r.val < 1 ∨ 1 + 1 ≤ r.val; omega
  by_cases e0 : r.val = 0
  · refine (View.read_writes_cons_rows_of_mem _ _ inb_S8x512_S1x512_0_0 _ _ (ix2 r l) (ix2 0 l) rfl ?_ rfl).trans ?_
    · exact e0
    · rw [e0]; exact h0 0 l
  refine (View.read_writes_cons_rows_of_not_mem _ _ inb_S8x512_S1x512_0_0 _ _ (ix2 r l) rfl (W := 1) rfl ?_).trans ?_
  · show r.val < 0 ∨ 0 + 1 ≤ r.val; omega
  exact hL r l (by omega)

/-- The two halves of the first output, stored one after the other. -/
theorem halves (v : View sig .tc .vmem S256x1024 .f32) (f : v.ty.Contents (Elt Ideal)) (P Q : FVec Ideal S256x512 .f32) (L : List (View.Piece (Elt Ideal) S256x1024 .f32)) {p q : Fin 512 → ℕ → ℝ}
    (hP : Arr P p) (hQ : Arr Q q) (t : Fin 256) (l : Fin 512) :
    v.read (Elt Ideal) (v.writes (Elt Ideal) f (⟨Rect.unit (s := S256x1024) ![0, 512] ![256, 512] inb_S256x1024_S256x512_0_512, Q⟩ :: ⟨Rect.unit (s := S256x1024) ![0, 0] ![256, 512] inb_S256x1024_S256x512_0_0, P⟩ :: L)) (ix2 t ⟨l.val, by omega⟩) = ((p l t.val : ℝ) : EReal)
    ∧ v.read (Elt Ideal) (v.writes (Elt Ideal) f (⟨Rect.unit (s := S256x1024) ![0, 512] ![256, 512] inb_S256x1024_S256x512_0_512, Q⟩ :: ⟨Rect.unit (s := S256x1024) ![0, 0] ![256, 512] inb_S256x1024_S256x512_0_0, P⟩ :: L)) (ix2 t ⟨512 + l.val, by omega⟩) = ((q l t.val : ℝ) : EReal) := by
  constructor
  · refine (View.read_writes_cons_unit_of_not_mem _ _ inb_S256x1024_S256x512_0_512 _ _ _ rfl 1 (Or.inl l.isLt)).trans ?_
    refine (View.read_writes_cons_unit_of_mem _ _ inb_S256x1024_S256x512_0_0 _ _ _ (ix2 t l) rfl ?_).trans (hP t l)
    intro a; fin_cases a <;> simp
  · refine (View.read_writes_cons_unit_of_mem _ _ inb_S256x1024_S256x512_0_512 _ _ _ (ix2 t l) rfl ?_).trans (hQ t l)
    intro a; fin_cases a <;> simp

section Point
variable {k : Fin 512 → Col} {n : ℕ} (c : Dev nD) (i : grid1.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .f32) (w5 : a5.IsWhole) (a6 : Memref sig .tc .vmem S8x512 .f32) (w6 : a6.IsWhole) (a7 : Memref sig .tc .vmem S256x512 .f32) (w7 : a7.IsWhole) (a8 : Memref sig .tc .vmem S256x1024 .f32) (w8 : a8.IsWhole) (a9 : Memref sig .tc .vmem S256x512 .f32) (w9 : a9.IsWhole) (a10 : Memref sig .tc .vmem S256x512 .bf16) (w10 : a10.IsWhole) (a11 : Memref sig .tc .vmem S8x512 .f32) (w11 : a11.IsWhole) (a12 : Memref sig .tc .vmem S8x512 .f32) (w12 : a12.IsWhole)
  {x0 : Vec Ideal S256x1024 .f32} {x1 x2 : Vec Ideal S256x512 .f32} {x3 : Vec Ideal S8x512 .f32} {x4 : Vec Ideal S256x512 .f32} {x5 : Vec Ideal S8x512 .f32} {x6 : Vec Ideal S256x512 .f32}
  (B : Blocks1 k n i x0 x1 x2 x3 x4 x5 x6)

include B in
theorem loads {v116 : FVec Ideal S1x512 .f32} (hc : Arr v116 (fun l _ => (k l).dn (256 * n + 255))) : Loads k n (BitVec.ofNat 32 (i 0).val)
    (View.readAt (Elt Ideal) a1.view (Rect.unit (s := S256x1024) ![0, 0] S256x512.size inb_S256x1024_S256x512_0_0).toLoadRect (w1.unread x0))
    (View.readAt (Elt Ideal) a1.view (Rect.unit (s := S256x1024) ![0, 512] S256x512.size inb_S256x1024_S256x512_0_512).toLoadRect (w1.unread x0))
    (View.readAt (Elt Ideal) a2.view (Rect.unit (s := S256x512) ![0, 0] S256x512.size inb_S256x512_S256x512_0_0).toLoadRect (w2.unread x1))
    (View.readAt (Elt Ideal) a4.view (Rect.unit (s := S8x512) ![0, 0] S1x512.size inb_S8x512_S1x512_0_0).toLoadRect (w4.unread x3))
    (View.readAt (Elt Ideal) a4.view (Rect.unit (s := S8x512) ![1, 0] S1x512.size inb_S8x512_S1x512_1_0).toLoadRect (w4.unread x3))
    (View.readAt (Elt Ideal) a4.view (Rect.unit (s := S8x512) ![2, 0] S1x512.size inb_S8x512_S1x512_2_0).toLoadRect (w4.unread x3))
    (View.readAt (Elt Ideal) a3.view (Rect.unit (s := S256x512) ![0, 0] S256x512.size inb_S256x512_S256x512_0_0).toLoadRect (w3.unread x2))
    (View.readAt (Elt Ideal) a5.view (Rect.unit (s := S256x512) ![0, 0] S256x512.size inb_S256x512_S256x512_0_0).toLoadRect (w5.unread x4))
    (View.readAt (Elt Ideal) a7.view (Rect.unit (s := S256x512) ![0, 0] S256x512.size inb_S256x512_S256x512_0_0).toLoadRect (w7.unread x6))
    v116
    (View.readAt (Elt Ideal) a6.view (Rect.unit (s := S8x512) ![0, 0] S8x512.size inb_S8x512_S8x512_0_0).toLoadRect (w6.unread x5)) where
  reads := Fwd.reads a1 w1 a2 w2 a4 w4 B.base
  lt := B.lt
  nz := B.nz
  g := whole_load a3 w3 B.base.g
  h := whole_load a5 w5 B.h
  dm := whole_load a7 w7 B.dm
  carry := hc
  before l := by
    refine Eq.trans (congrArg (Scalar.select (Scalar.cmpi .eq (BitVec.ofNat 32 (i 0).val) 31#32) (0 : EReal)) ?_) (B.before l)
    refine (w6.readAt_unread x5 _ _).trans (congrArg x5 (ix_eq ?_ ?_))
    · rfl
    · show 0 + 1 * l.val = l.val; omega

/-! ### The first point: the scratch and the parameters' gradients are zeroed before they are read -/

theorem zeroed : Arr (kernelRun1_A.sl.v116 (F := Ideal) c a12) (fun _ _ => 0) := by
  intro t l
  unfold kernelRun1_A.sl.v116 kernelRun1_A.sl.HS0_1
  refine (congrFun (View.read_writes_full _ _ inb_S8x512_S8x512_0_0 _ _) _).trans ?_
  unfold k1_pay2
  dsimp only
  rw [shapeCast_self]
  exact zero_coe

theorem first_carry (hn : n = 31) : Arr (kernelRun1_A.sl.v116 (F := Ideal) c a12) (fun l _ => (k l).dn (256 * n + 255)) := by
  intro t l
  refine (zeroed c a12 t l).trans (congrArg _ ?_)
  show (0 : ℝ) = (k l).dn (256 * n + 255)
  rw [hn]
  unfold Col.dn
  rw [if_neg (by omega)]

/-- What the rows of sums hold before the first tile. -/
theorem zero_parts (hn : n = 31) (r : ℕ) (l : Fin 512) (j : S8x512.Idx) : (k1_pay3 (F := Ideal)) j = ((parts (k l) (n + 1) r : ℝ) : EReal) := by
  rw [hn, parts_end]
  exact zero_coe

variable (hc0 : cond1_0 i) (hn : n = 31)

include B hn in
theorem dpaA (t : Fin 256) (l : Fin 512) : out1_A_7 c i a1 w1 a2 w2 a3 w3 a4 w4 a5 w5 a6 w6 a7 w7 a8 w8 a9 w9 a10 w10 a11 w11 a12 w12 hc0 x0 x1 x2 x3 x4 x5 x6 (ix2 t ⟨l.val, by omega⟩) = (((k l).dpa (256 * n + t.val) : ℝ) : EReal)
    ∧ out1_A_7 c i a1 w1 a2 w2 a3 w3 a4 w4 a5 w5 a6 w6 a7 w7 a8 w8 a9 w9 a10 w10 a11 w11 a12 w12 hc0 x0 x1 x2 x3 x4 x5 x6 (ix2 t ⟨512 + l.val, by omega⟩) = (((k l).dpx (256 * n + t.val) : ℝ) : EReal) := by
  unfold out1_A_7 kernelRun1_A
  dsimp only
  exact halves _ _ _ _ [] (tile_dpa (loads i a1 w1 a2 w2 a3 w3 a4 w4 a5 w5 a6 w6 a7 w7 B (first_carry c a12 hn))) (tile_dpx (loads i a1 w1 a2 w2 a3 w3 a4 w4 a5 w5 a6 w6 a7 w7 B (first_carry c a12 hn))) t l

include B hn in
theorem dxcA : Arr (out1_A_8 c i a1 w1 a2 w2 a3 w3 a4 w4 a5 w5 a6 w6 a7 w7 a8 w8 a9 w9 a10 w10 a11 w11 a12 w12 hc0 x0 x1 x2 x3 x4 x5 x6) (fun l t => (k l).dxc (256 * n + t)) := by
  unfold out1_A_8 kernelRun1_A
  dsimp only
  rw [View.read_writes_full]
  exact tile_dxc (loads i a1 w1 a2 w2 a3 w3 a4 w4 a5 w5 a6 w6 a7 w7 B (first_carry c a12 hn))

include B hn in
theorem dgA : Arr (out1_A_9 c i a1 w1 a2 w2 a3 w3 a4 w4 a5 w5 a6 w6 a7 w7 a8 w8 a9 w9 a10 w10 a11 w11 a12 w12 hc0 x0 x1 x2 x3 x4 x5 x6) (fun l t => (k l).dg (256 * n + t)) := by
  unfold out1_A_9 kernelRun1_A
  dsimp only
  rw [View.read_writes_full]
  exact tile_dg (loads i a1 w1 a2 w2 a3 w3 a4 w4 a5 w5 a6 w6 a7 w7 B (first_carry c a12 hn))

include B hn in
theorem keptA (l : Fin 512) : sout1_A_0 c i a1 w1 a2 w2 a3 w3 a4 w4 a5 w5 a6 w6 a7 w7 a8 w8 a9 w9 a10 w10 a11 w11 a12 w12 hc0 x0 x1 x2 x3 x4 x5 x6 (ix2 0 l) = (((k l).a (256 * n) * (k l).dh (256 * n) : ℝ) : EReal) := by
  unfold sout1_A_0 kernelRun1_A
  dsimp only
  refine (View.read_writes_cons_unit_of_mem _ _ inb_S8x512_S1x512_0_0 _ _ (ix2 0 l) (ix2 0 l) rfl ?_).trans ?_
  · intro a; fin_cases a <;> simp
  exact tile_kept (loads i a1 w1 a2 w2 a3 w3 a4 w4 a5 w5 a6 w6 a7 w7 B (first_carry c a12 hn)) 0 l

include B hn in
theorem parA : Arr (n := 8) (out1_A_10 c i a1 w1 a2 w2 a3 w3 a4 w4 a5 w5 a6 w6 a7 w7 a8 w8 a9 w9 a10 w10 a11 w11 a12 w12 hc0 x0 x1 x2 x3 x4 x5 x6) (fun l r => parts (k l) n r) := by
  unfold out1_A_10 kernelRun1_A
  dsimp only
  unfold kernelRun1_A.sl.H10_3 kernelRun1_A.sl.H10_2 kernelRun1_A.sl.H10_1
  refine rows _ _ _ _ _ _ (tile_ba (loads i a1 w1 a2 w2 a3 w3 a4 w4 a5 w5 a6 w6 a7 w7 B (first_carry c a12 hn)) ?_) (tile_bx (loads i a1 w1 a2 w2 a3 w3 a4 w4 a5 w5 a6 w6 a7 w7 B (first_carry c a12 hn)) ?_) (tile_lam (loads i a1 w1 a2 w2 a3 w3 a4 w4 a5 w5 a6 w6 a7 w7 B (first_carry c a12 hn)) ?_) fun r l hr => ?_
  · intro t l
    unfold kernelRun1_A.sl.v272 kernelRun1_A.sl.H10_1
    refine (congrFun (View.read_writes_full _ _ inb_S8x512_S8x512_0_0 _ _) _).trans ?_
    exact zero_parts hn 0 l _
  · intro t l
    unfold kernelRun1_A.sl.v276 kernelRun1_A.sl.H10_2 kernelRun1_A.sl.H10_1
    refine (View.read_writes_cons_unit_of_not_mem _ _ inb_S8x512_S1x512_0_0 _ _ _ rfl 0 ?_).trans ?_
    · show 1 + 1 * t.val < 0 ∨ 0 + 1 ≤ 1 + 1 * t.val; omega
    refine (congrFun (View.read_writes_full _ _ inb_S8x512_S8x512_0_0 _ _) _).trans ?_
    exact zero_parts hn 1 l _
  · intro t l
    unfold kernelRun1_A.sl.v280 kernelRun1_A.sl.H10_3 kernelRun1_A.sl.H10_2 kernelRun1_A.sl.H10_1
    refine (View.read_writes_cons_unit_of_not_mem _ _ inb_S8x512_S1x512_1_0 _ _ _ rfl 0 ?_).trans ?_
    · show 2 + 1 * t.val < 1 ∨ 1 + 1 ≤ 2 + 1 * t.val; omega
    refine (View.read_writes_cons_unit_of_not_mem _ _ inb_S8x512_S1x512_0_0 _ _ _ rfl 0 ?_).trans ?_
    · show 2 + 1 * t.val < 0 ∨ 0 + 1 ≤ 2 + 1 * t.val; omega
    refine (congrFun (View.read_writes_full _ _ inb_S8x512_S8x512_0_0 _ _) _).trans ?_
    exact zero_parts hn 2 l _
  · refine (congrFun (View.read_writes_full _ _ inb_S8x512_S8x512_0_0 _ _) (ix2 r l)).trans ?_
    refine zero_coe.trans (congrArg _ ?_)
    unfold parts
    rw [if_neg (by omega), if_neg (by omega), if_neg (by omega)]

end Point

/-! ### A later point: the scratch holds what flows in from the tile after, and the rows the sums over the later tiles -/

section Later
variable {k : Fin 512 → Col} {n : ℕ} (c : Dev nD) (i : grid1.Coords) (a1 : Memref sig .tc .vmem S256x1024 .f32) (w1 : a1.IsWhole) (a2 : Memref sig .tc .vmem S256x512 .f32) (w2 : a2.IsWhole) (a3 : Memref sig .tc .vmem S256x512 .f32) (w3 : a3.IsWhole) (a4 : Memref sig .tc .vmem S8x512 .f32) (w4 : a4.IsWhole) (a5 : Memref sig .tc .vmem S256x512 .f32) (w5 : a5.IsWhole) (a6 : Memref sig .tc .vmem S8x512 .f32) (w6 : a6.IsWhole) (a7 : Memref sig .tc .vmem S256x512 .f32) (w7 : a7.IsWhole) (a8 : Memref sig .tc .vmem S256x1024 .f32) (w8 : a8.IsWhole) (a9 : Memref sig .tc .vmem S256x512 .f32) (w9 : a9.IsWhole) (a10 : Memref sig .tc .vmem S256x512 .bf16) (w10 : a10.IsWhole) (a11 : Memref sig .tc .vmem S8x512 .f32) (w11 : a11.IsWhole) (a12 : Memref sig .tc .vmem S8x512 .f32) (w12 : a12.IsWhole)
  {x0 : Vec Ideal S256x1024 .f32} {x1 x2 : Vec Ideal S256x512 .f32} {x3 : Vec Ideal S8x512 .f32} {x4 : Vec Ideal S256x512 .f32} {x5 : Vec Ideal S8x512 .f32} {x6 : Vec Ideal S256x512 .f32}
  (B : Blocks1 k n i x0 x1 x2 x3 x4 x5 x6) (hc0 : ¬ cond1_0 i) {x10 xs : Vec Ideal S8x512 .f32}
  (hp : Arr (n := 8) x10 (fun l r => parts (k l) (n + 1) r)) (hx : ∀ l : Fin 512, xs (ix2 0 l) = (((k l).dn (256 * n + 255) : ℝ) : EReal))

include B hp hx in
theorem dpaB (t : Fin 256) (l : Fin 512) : out1_B_7 c i a1 w1 a2 w2 a3 w3 a4 w4 a5 w5 a6 w6 a7 w7 a8 w8 a9 w9 a10 w10 a11 w11 a12 w12 hc0 x0 x1 x2 x3 x4 x5 x6 x10 xs (ix2 t ⟨l.val, by omega⟩) = (((k l).dpa (256 * n + t.val) : ℝ) : EReal)
    ∧ out1_B_7 c i a1 w1 a2 w2 a3 w3 a4 w4 a5 w5 a6 w6 a7 w7 a8 w8 a9 w9 a10 w10 a11 w11 a12 w12 hc0 x0 x1 x2 x3 x4 x5 x6 x10 xs (ix2 t ⟨512 + l.val, by omega⟩) = (((k l).dpx (256 * n + t.val) : ℝ) : EReal) := by
  unfold out1_B_7 kernelRun1_B
  dsimp only
  exact halves _ _ _ _ [] (tile_dpa (loads i a1 w1 a2 w2 a3 w3 a4 w4 a5 w5 a6 w6 a7 w7 B (row_load a12 w12 0 inb_S8x512_S1x512_0_0 hx))) (tile_dpx (loads i a1 w1 a2 w2 a3 w3 a4 w4 a5 w5 a6 w6 a7 w7 B (row_load a12 w12 0 inb_S8x512_S1x512_0_0 hx))) t l

include B hp hx in
theorem dxcB : Arr (out1_B_8 c i a1 w1 a2 w2 a3 w3 a4 w4 a5 w5 a6 w6 a7 w7 a8 w8 a9 w9 a10 w10 a11 w11 a12 w12 hc0 x0 x1 x2 x3 x4 x5 x6 x10 xs) (fun l t => (k l).dxc (256 * n + t)) := by
  unfold out1_B_8 kernelRun1_B
  dsimp only
  rw [View.read_writes_full]
  exact tile_dxc (loads i a1 w1 a2 w2 a3 w3 a4 w4 a5 w5 a6 w6 a7 w7 B (row_load a12 w12 0 inb_S8x512_S1x512_0_0 hx))

include B hp hx in
theorem dgB : Arr (out1_B_9 c i a1 w1 a2 w2 a3 w3 a4 w4 a5 w5 a6 w6 a7 w7 a8 w8 a9 w9 a10 w10 a11 w11 a12 w12 hc0 x0 x1 x2 x3 x4 x5 x6 x10 xs) (fun l t => (k l).dg (256 * n + t)) := by
  unfold out1_B_9 kernelRun1_B
  dsimp only
  rw [View.read_writes_full]
  exact tile_dg (loads i a1 w1 a2 w2 a3 w3 a4 w4 a5 w5 a6 w6 a7 w7 B (row_load a12 w12 0 inb_S8x512_S1x512_0_0 hx))

include B hp hx in
theorem keptB (l : Fin 512) : sout1_B_0 c i a1 w1 a2 w2 a3 w3 a4 w4 a5 w5 a6 w6 a7 w7 a8 w8 a9 w9 a10 w10 a11 w11 a12 w12 hc0 x0 x1 x2 x3 x4 x5 x6 x10 xs (ix2 0 l) = (((k l).a (256 * n) * (k l).dh (256 * n) : ℝ) : EReal) := by
  unfold sout1_B_0 kernelRun1_B
  dsimp only
  refine (View.read_writes_cons_unit_of_mem _ _ inb_S8x512_S1x512_0_0 _ _ (ix2 0 l) (ix2 0 l) rfl ?_).trans ?_
  · intro a; fin_cases a <;> simp
  exact tile_kept (loads i a1 w1 a2 w2 a3 w3 a4 w4 a5 w5 a6 w6 a7 w7 B (row_load a12 w12 0 inb_S8x512_S1x512_0_0 hx)) 0 l

include B hp hx in
theorem parB : Arr (n := 8) (out1_B_10 c i a1 w1 a2 w2 a3 w3 a4 w4 a5 w5 a6 w6 a7 w7 a8 w8 a9 w9 a10 w10 a11 w11 a12 w12 hc0 x0 x1 x2 x3 x4 x5 x6 x10 xs) (fun l r => parts (k l) n r) := by
  unfold out1_B_10 kernelRun1_B
  dsimp only
  refine rows _ _ _ _ _ [] (tile_ba (loads i a1 w1 a2 w2 a3 w3 a4 w4 a5 w5 a6 w6 a7 w7 B (row_load a12 w12 0 inb_S8x512_S1x512_0_0 hx)) (row_load a11 w11 0 inb_S8x512_S1x512_0_0 fun l => hp 0 l))
    (tile_bx (loads i a1 w1 a2 w2 a3 w3 a4 w4 a5 w5 a6 w6 a7 w7 B (row_load a12 w12 0 inb_S8x512_S1x512_0_0 hx)) (row_load a11 w11 1 inb_S8x512_S1x512_1_0 fun l => hp 1 l))
    (tile_lam (loads i a1 w1 a2 w2 a3 w3 a4 w4 a5 w5 a6 w6 a7 w7 B (row_load a12 w12 0 inb_S8x512_S1x512_0_0 hx)) (row_load a11 w11 2 inb_S8x512_S1x512_2_0 fun l => hp 2 l)) fun r l hr => ?_
  refine (congrFun (w11.read_unread x10) (ix2 r l)).trans ((hp r l).trans (congrArg _ ?_))
  show parts (k l) (n + 1) r.val = parts (k l) n r.val
  unfold parts
  rw [if_neg (by omega), if_neg (by omega), if_neg (by omega), if_neg (by omega), if_neg (by omega), if_neg (by omega)]

end Later

theorem N1_eq : cfg1.N = 32 := by decide +kernel

/-! ### Every point: point `t` does tile `31 - t` -/

section Points
variable {k : Fin 512 → Col} (V : (c : Dev nD) → (b : Ref sig .tc) → Buf (Elt Ideal) (c.tc.loc b)) (c : Dev nD)
  (B : ∀ t : Fin cfg1.N, Blocks1 k (31 - t.val) (grid1.coords t) (iblk V c 0 t) (iblk V c 1 t) (X1_2 V c t) (iblk V c 3 t) (iblk V c 4 t) (iblk V c 5 t) (iblk V c 6 t))

/-- What the outputs and the scratch hold after tile `n`. -/
structure Left (k : Fin 512 → Col) (n : ℕ) (o : Vec Ideal S256x1024 .f32 × Vec Ideal S256x512 .f32 × Vec Ideal S256x512 .bf16 × Vec Ideal S8x512 .f32 × Vec Ideal S8x512 .f32) : Prop where
  dpa : ∀ (t : Fin 256) (l : Fin 512), o.1 (ix2 t ⟨l.val, by omega⟩) = (((k l).dpa (256 * n + t.val) : ℝ) : EReal)
    ∧ o.1 (ix2 t ⟨512 + l.val, by omega⟩) = (((k l).dpx (256 * n + t.val) : ℝ) : EReal)
  dxc : Arr o.2.1 (fun l t => (k l).dxc (256 * n + t))
  dg : Arr o.2.2.1 (fun l t => (k l).dg (256 * n + t))
  par : Arr (n := 8) o.2.2.2.1 (fun l r => parts (k l) n r)
  kept : ∀ l : Fin 512, o.2.2.2.2 (ix2 0 l) = (((k l).a (256 * n) * (k l).dh (256 * n) : ℝ) : EReal)

theorem Left.carry {n : ℕ} {o : Vec Ideal S256x1024 .f32 × Vec Ideal S256x512 .f32 × Vec Ideal S256x512 .bf16 × Vec Ideal S8x512 .f32 × Vec Ideal S8x512 .f32} (h : Left k (n + 1) o) (hn : n < 31) (l : Fin 512) :
    o.2.2.2.2 (ix2 0 l) = (((k l).dn (256 * n + 255) : ℝ) : EReal) := by
  refine (h.kept l).trans (congrArg _ ?_)
  show (k l).a (256 * (n + 1)) * (k l).dh (256 * (n + 1)) = (k l).dn (256 * n + 255)
  unfold Col.dn
  rw [if_pos (by omega)]
  rfl

include B in
theorem leftA (t : Fin cfg1.N) (ht : t.val = 0) (h0 : t.val % 32 = 0) : Left k (31 - t.val) (outsAt1 V c t.val t.isLt) := by
  have b := B t
  have e : 31 - t.val = 31 := by omega
  rw [outsAt1_A V c t h0, point1_A]
  refine ⟨?_, ?_, ?_, ?_, ?_⟩ <;> dsimp only
  · exact dpaA c _ _ _ _ _ _ _ _ _ _ _ _ _ _ _ _ _ _ _ _ _ _ _ _ _ b ((hcond1_0 t).mpr h0) e
  · exact dxcA c _ _ _ _ _ _ _ _ _ _ _ _ _ _ _ _ _ _ _ _ _ _ _ _ _ b ((hcond1_0 t).mpr h0) e
  · exact dgA c _ _ _ _ _ _ _ _ _ _ _ _ _ _ _ _ _ _ _ _ _ _ _ _ _ b ((hcond1_0 t).mpr h0) e
  · exact parA c _ _ _ _ _ _ _ _ _ _ _ _ _ _ _ _ _ _ _ _ _ _ _ _ _ b ((hcond1_0 t).mpr h0) e
  · exact keptA c _ _ _ _ _ _ _ _ _ _ _ _ _ _ _ _ _ _ _ _ _ _ _ _ _ b ((hcond1_0 t).mpr h0) e

include B in
theorem leftB (t : Fin cfg1.N) (h0 : ¬ t.val % 32 = 0) {m : ℕ} (hm : 31 - t.val = m)
    (hp : Left k (m + 1) (outsAt1 V c (t.val - 1) (Nat.lt_of_le_of_lt (Nat.sub_le _ _) t.isLt))) : Left k m (outsAt1 V c t.val t.isLt) := by
  have b := B t
  rw [hm] at b
  have hx := hp.carry (by omega)
  have hq := hp.par
  rw [outsAt1_B V c t h0, point1_B]
  refine ⟨?_, ?_, ?_, ?_, ?_⟩ <;> dsimp only
  · exact dpaB c _ _ _ _ _ _ _ _ _ _ _ _ _ _ _ _ _ _ _ _ _ _ _ _ _ b (fun h => h0 ((hcond1_0 t).mp h)) hq hx
  · exact dxcB c _ _ _ _ _ _ _ _ _ _ _ _ _ _ _ _ _ _ _ _ _ _ _ _ _ b (fun h => h0 ((hcond1_0 t).mp h)) hq hx
  · exact dgB c _ _ _ _ _ _ _ _ _ _ _ _ _ _ _ _ _ _ _ _ _ _ _ _ _ b (fun h => h0 ((hcond1_0 t).mp h)) hq hx
  · exact parB c _ _ _ _ _ _ _ _ _ _ _ _ _ _ _ _ _ _ _ _ _ _ _ _ _ b (fun h => h0 ((hcond1_0 t).mp h)) hq hx
  · exact keptB c _ _ _ _ _ _ _ _ _ _ _ _ _ _ _ _ _ _ _ _ _ _ _ _ _ b (fun h => h0 ((hcond1_0 t).mp h)) hq hx

include B in
theorem left (n : ℕ) : ∀ t : Fin cfg1.N, t.val = n → Left k (31 - t.val) (outsAt1 V c t.val t.isLt) := by
  induction n with
  | zero => intro t ht; exact leftA V c B t ht (by rw [ht])
  | succ n ih =>
    intro t ht
    have hN := N1_eq
    have := t.isLt
    have hp := ih ⟨t.val - 1, by omega⟩ (by show t.val - 1 = n; omega)
    refine leftB V c B t (by omega) rfl ?_
    have e : 31 - (t.val - 1) = 31 - t.val + 1 := by omega
    have hp' : Left k (31 - (t.val - 1)) (outsAt1 V c (t.val - 1) (Nat.lt_of_le_of_lt (Nat.sub_le _ _) t.isLt)) := hp
    rw [e] at hp'
    exact hp'

end Points

end Cert.KernelIdeal.Bwd
end
-- ==== Proof.BwdArr.lean ====
/- The arrays the backward call leaves, at the real values. -/
module

public import proofs.«01_k».proof.Proof.BwdPts
public import Idealize.ShloMosaic.Lib.Pipeline.Value

@[expose] public section

set_option maxRecDepth 16384

noncomputable section

namespace Cert.KernelIdeal.Bwd

open Cert.KernelIdeal.Gen
open Idealize.ShloMosaic Idealize.ShloMosaic.TcCoe
open Lru
open Cert.KernelIdeal.Fwd (Blocks ix_eq)

/-- Time `r` of the tile of point `t` is a time of the whole. -/
theorem time_lt (t : Fin cfg1.N) (r : Fin 256) : 256 * (31 - t.val) + r.val < 8192 := by omega

theorem point_at : ∀ t : Fin cfg1.N, ((grid1.coords t) 0).val = t.val := by decide +kernel
theorem index1_0 : ∀ t : Fin cfg1.N, win1_0.index t 0 = 31 - t.val ∧ win1_0.index t 1 = 0 := by decide +kernel
theorem index1_1 : ∀ t : Fin cfg1.N, win1_1.index t 0 = 31 - t.val ∧ win1_1.index t 1 = 0 := by decide +kernel
theorem index1_2 : ∀ t : Fin cfg1.N, win1_2.index t 0 = 31 - t.val ∧ win1_2.index t 1 = 6 := by decide +kernel
theorem index1_3 : ∀ t : Fin cfg1.N, win1_3.index t 0 = 0 ∧ win1_3.index t 1 = 0 := by decide +kernel
theorem index1_4 : ∀ t : Fin cfg1.N, win1_4.index t 0 = 31 - t.val ∧ win1_4.index t 1 = 0 := by decide +kernel
theorem index1_5 : ∀ t : Fin cfg1.N, win1_5.index t 0 = 32 * (31 - t.val) - 1 ∧ win1_5.index t 1 = 0 := by decide +kernel
theorem index1_6 : ∀ t : Fin cfg1.N, win1_6.index t 0 = 31 - t.val ∧ win1_6.index t 1 = 2 := by decide +kernel
theorem index1_7 : ∀ t : Fin cfg1.N, win1_7.index t 0 = 31 - t.val ∧ win1_7.index t 1 = 0 := by decide +kernel
theorem index1_8 : ∀ t : Fin cfg1.N, win1_8.index t 0 = 31 - t.val ∧ win1_8.index t 1 = 0 := by decide +kernel
theorem index1_9 : ∀ t : Fin cfg1.N, win1_9.index t 0 = 31 - t.val ∧ win1_9.index t 1 = 0 := by decide +kernel
theorem index1_10 : ∀ t : Fin cfg1.N, win1_10.index t 0 = 0 ∧ win1_10.index t 1 = 0 := by decide +kernel

section
variable (V : (c : Dev nD) → (b : Ref sig .tc) → Buf (Elt Ideal) (c.tc.loc b)) (c : Dev nD) (t : Fin cfg1.N)

theorem block0 (r : Fin 256) (l : Fin 1024) : iblk V c 0 t (ix2 r l) = V c main_arg0 (ix2 ⟨256 * (31 - t.val) + r.val, time_lt t r⟩ l) := by
  show V c main_arg0 ((win1_0.rect t).emb (ix2 r l)) = _
  refine congrArg (V c main_arg0) (ix_eq ?_ ?_)
  · refine (Pipeline.Window.rect_emb_val win1_0 t _ 0).trans ?_
    rw [(index1_0 t).1]
    show (31 - t.val) * 256 + r.val = 256 * (31 - t.val) + r.val; omega
  · refine (Pipeline.Window.rect_emb_val win1_0 t _ 1).trans ?_
    rw [(index1_0 t).2]
    show 0 * 1024 + l.val = l.val; omega

theorem block1 (r : Fin 256) (l : Fin 512) : iblk V c 1 t (ix2 r l) = V c main_arg1 (ix2 ⟨256 * (31 - t.val) + r.val, time_lt t r⟩ l) := by
  show V c main_arg1 ((win1_1.rect t).emb (ix2 r l)) = _
  refine congrArg (V c main_arg1) (ix_eq ?_ ?_)
  · refine (Pipeline.Window.rect_emb_val win1_1 t _ 0).trans ?_
    rw [(index1_1 t).1]
    show (31 - t.val) * 256 + r.val = 256 * (31 - t.val) + r.val; omega
  · refine (Pipeline.Window.rect_emb_val win1_1 t _ 1).trans ?_
    rw [(index1_1 t).2]
    show 0 * 512 + l.val = l.val; omega

theorem block2 (r : Fin 256) (l : Fin 512) : X1_2 V c t (ix2 r l) = V c main_arg2 (ix2 ⟨256 * (31 - t.val) + r.val, time_lt t r⟩ ⟨3072 + l.val, by omega⟩) := by
  unfold X1_2 Pipeline.Window.fill
  rw [dif_pos (moved1_2 t _)]
  show V c main_arg2 ((win1_2.rect t).emb _) = _
  refine congrArg (V c main_arg2) (ix_eq ?_ ?_)
  · refine (Pipeline.Window.rect_emb_val win1_2 t _ 0).trans ?_
    rw [(index1_2 t).1]
    show (31 - t.val) * 256 + r.val = 256 * (31 - t.val) + r.val; omega
  · refine (Pipeline.Window.rect_emb_val win1_2 t _ 1).trans ?_
    rw [(index1_2 t).2]
    show 6 * 512 + l.val = 3072 + l.val; omega

theorem block3 (r : Fin 8) (l : Fin 512) : iblk V c 3 t (ix2 r l) = V c main_arg3 (ix2 r l) := by
  show V c main_arg3 ((win1_3.rect t).emb (ix2 r l)) = _
  refine congrArg (V c main_arg3) (ix_eq ?_ ?_)
  · refine (Pipeline.Window.rect_emb_val win1_3 t _ 0).trans ?_
    rw [(index1_3 t).1]
    show 0 * 8 + r.val = r.val; omega
  · refine (Pipeline.Window.rect_emb_val win1_3 t _ 1).trans ?_
    rw [(index1_3 t).2]
    show 0 * 512 + l.val = l.val; omega

theorem block4 (r : Fin 256) (l : Fin 512) : iblk V c 4 t (ix2 r l) = V c main_v0_1 (ix2 ⟨256 * (31 - t.val) + r.val, time_lt t r⟩ l) := by
  show V c main_v0_1 ((win1_4.rect t).emb (ix2 r l)) = _
  refine congrArg (V c main_v0_1) (ix_eq ?_ ?_)
  · refine (Pipeline.Window.rect_emb_val win1_4 t _ 0).trans ?_
    rw [(index1_4 t).1]
    show (31 - t.val) * 256 + r.val = 256 * (31 - t.val) + r.val; omega
  · refine (Pipeline.Window.rect_emb_val win1_4 t _ 1).trans ?_
    rw [(index1_4 t).2]
    show 0 * 512 + l.val = l.val; omega

theorem block6 (r : Fin 256) (l : Fin 512) : iblk V c 6 t (ix2 r l) = V c main_arg4 (ix2 ⟨256 * (31 - t.val) + r.val, time_lt t r⟩ ⟨1024 + l.val, by omega⟩) := by
  show V c main_arg4 ((win1_6.rect t).emb (ix2 r l)) = _
  refine congrArg (V c main_arg4) (ix_eq ?_ ?_)
  · refine (Pipeline.Window.rect_emb_val win1_6 t _ 0).trans ?_
    rw [(index1_6 t).1]
    show (31 - t.val) * 256 + r.val = 256 * (31 - t.val) + r.val; omega
  · refine (Pipeline.Window.rect_emb_val win1_6 t _ 1).trans ?_
    rw [(index1_6 t).2]
    show 2 * 512 + l.val = 1024 + l.val; omega

/-- The last of the eight rows before a tile that is not the first. -/
theorem block5 (ht : t.val < 31) (l : Fin 512) : iblk V c 5 t (ix2 7 l) = V c main_v0_1 (ix2 ⟨256 * (31 - t.val) - 1, by omega⟩ l) := by
  show V c main_v0_1 ((win1_5.rect t).emb (ix2 7 l)) = _
  refine congrArg (V c main_v0_1) (ix_eq ?_ ?_)
  · refine (Pipeline.Window.rect_emb_val win1_5 t _ 0).trans ?_
    rw [(index1_5 t).1]
    show (32 * (31 - t.val) - 1) * 8 + 7 = 256 * (31 - t.val) - 1; omega
  · refine (Pipeline.Window.rect_emb_val win1_5 t _ 1).trans ?_
    rw [(index1_5 t).2]
    show 0 * 512 + l.val = l.val; omega

variable {k : Fin 512 → Col} (I : Inp (V c main_arg0) (V c main_arg1) (V c main_arg2) (V c main_arg3) (V c main_arg4) k)
  (H : Arr (V c main_v0_1) (fun l t => (k l).h t))

include I H in
theorem blocks : Blocks1 k (31 - t.val) (grid1.coords t) (iblk V c 0 t) (iblk V c 1 t) (X1_2 V c t) (iblk V c 3 t) (iblk V c 4 t) (iblk V c 5 t) (iblk V c 6 t) where
  base :=
    { pa := fun r l => (block0 V c t r _).trans (I.pa _ l)
      px := fun r l => (block0 V c t r _).trans (I.px _ l)
      xc := fun r l => (block1 V c t r l).trans (I.xc _ l)
      g := fun r l => (block2 V c t r l).trans (I.g _ l)
      ba := fun l => (block3 V c t 0 l).trans (I.ba l)
      bx := fun l => (block3 V c t 1 l).trans (I.bx l)
      lam := fun l => (block3 V c t 2 l).trans (I.lam l) }
  lt := by omega
  nz := I.nz
  h r l := (block4 V c t r l).trans (H _ l)
  dm r l := (block6 V c t r l).trans (I.dm _ l)
  before l := by
    rw [point_at]
    have hN := N1_eq
    have hlt := t.isLt
    by_cases h : t.val = 31
    · rw [h]
      exact zero_coe'
    · have e : Scalar.cmpi .eq (BitVec.ofNat 32 t.val) 31#32 = 0#1 := by
        have g : ∀ s : Fin 32, s.val ≠ 31 → Scalar.cmpi .eq (BitVec.ofNat 32 s.val) 31#32 = 0#1 := by decide +kernel
        exact g ⟨t.val, by omega⟩ h
      rw [e]
      refine (block5 V c t (by omega) l).trans ((H _ l).trans (congrArg _ ?_))
      show (k l).h (256 * (31 - t.val) - 1) = (k l).hp (256 * (31 - t.val))
      obtain ⟨s, hs⟩ : ∃ s, 256 * (31 - t.val) = s + 1 := ⟨256 * (31 - t.val) - 1, by omega⟩
      rw [hs]
      rfl

end

theorem inj7 : ∀ t t' : Fin cfg1.N, win1_7.index t = win1_7.index t' → t = t' := by
  intro t t' h
  have e := (index1_7 t).1.symm.trans ((congrFun h 0).trans (index1_7 t').1)
  have hN := N1_eq
  exact Fin.ext (by have := t.isLt; have := t'.isLt; omega)
theorem flush7 : ∀ t : Fin cfg1.N, (cfg1.win 7).flush t = true := by decide +kernel
theorem inj8 : ∀ t t' : Fin cfg1.N, win1_8.index t = win1_8.index t' → t = t' := by
  intro t t' h
  have e := (index1_8 t).1.symm.trans ((congrFun h 0).trans (index1_8 t').1)
  have hN := N1_eq
  exact Fin.ext (by have := t.isLt; have := t'.isLt; omega)
theorem flush8 : ∀ t : Fin cfg1.N, (cfg1.win 8).flush t = true := by decide +kernel
theorem inj9 : ∀ t t' : Fin cfg1.N, win1_9.index t = win1_9.index t' → t = t' := by
  intro t t' h
  have e := (index1_9 t).1.symm.trans ((congrFun h 0).trans (index1_9 t').1)
  have hN := N1_eq
  exact Fin.ext (by have := t.isLt; have := t'.isLt; omega)
theorem flush9 : ∀ t : Fin cfg1.N, (cfg1.win 9).flush t = true := by decide +kernel
theorem flush10 : ∀ t : Fin cfg1.N, (cfg1.win 10).flush t = true → t.val = 31 := by decide +kernel
theorem flush_last : ∀ t : Fin cfg1.N, t.val = 31 → (cfg1.win 10).flush t = true := by decide +kernel

section
variable (V : (c : Dev nD) → (b : Ref sig .tc) → Buf (Elt Ideal) (c.tc.loc b)) (c : Dev nD) {k : Fin 512 → Col}

theorem array7 (t : Fin cfg1.N) (r : Fin 256) (l : Fin 1024) :
    (dat V c).arrAt 7 cfg1.N (ix2 ⟨256 * (31 - t.val) + r.val, time_lt t r⟩ l) = (outsAt1 V c t.val t.isLt).1 (ix2 r l) := by
  have h := congrFun ((dat V c).read_blk_arrAt_eq_flushed 7 (fun t t' _ _ hne => (cfg1.win 7).disjoint_blk fun h => hne (inj7 t t' h)) cfg1.N t t.isLt (flush7 t)) (ix2 r l)
  refine Eq.trans (congrArg ((dat V c).arrAt 7 cfg1.N) (ix_eq ?_ ?_)) (h.trans ?_)
  · refine Eq.symm ((Pipeline.Window.rect_emb_val win1_7 t (ix2 r l) 0).trans ?_)
    rw [(index1_7 t).1]
    show (31 - t.val) * 256 + r.val = 256 * (31 - t.val) + r.val; omega
  · refine Eq.symm ((Pipeline.Window.rect_emb_val win1_7 t (ix2 r l) 1).trans ?_)
    rw [(index1_7 t).2]
    show 0 * 1024 + l.val = l.val; omega
  · show (cfg1.win 7).cut (grid1.coords t) ((dat V c).after 7 t) (ix2 r l) = _
    rw [after1_7]
    rfl

theorem array8 (t : Fin cfg1.N) (r : Fin 256) (l : Fin 512) :
    (dat V c).arrAt 8 cfg1.N (ix2 ⟨256 * (31 - t.val) + r.val, time_lt t r⟩ l) = (outsAt1 V c t.val t.isLt).2.1 (ix2 r l) := by
  have h := congrFun ((dat V c).read_blk_arrAt_eq_flushed 8 (fun t t' _ _ hne => (cfg1.win 8).disjoint_blk fun h => hne (inj8 t t' h)) cfg1.N t t.isLt (flush8 t)) (ix2 r l)
  refine Eq.trans (congrArg ((dat V c).arrAt 8 cfg1.N) (ix_eq ?_ ?_)) (h.trans ?_)
  · refine Eq.symm ((Pipeline.Window.rect_emb_val win1_8 t (ix2 r l) 0).trans ?_)
    rw [(index1_8 t).1]
    show (31 - t.val) * 256 + r.val = 256 * (31 - t.val) + r.val; omega
  · refine Eq.symm ((Pipeline.Window.rect_emb_val win1_8 t (ix2 r l) 1).trans ?_)
    rw [(index1_8 t).2]
    show 0 * 512 + l.val = l.val; omega
  · show (cfg1.win 8).cut (grid1.coords t) ((dat V c).after 8 t) (ix2 r l) = _
    rw [after1_8]
    rfl

theorem array9 (t : Fin cfg1.N) (r : Fin 256) (l : Fin 512) :
    (dat V c).arrAt 9 cfg1.N (ix2 ⟨256 * (31 - t.val) + r.val, time_lt t r⟩ l) = (outsAt1 V c t.val t.isLt).2.2.1 (ix2 r l) := by
  have h := congrFun ((dat V c).read_blk_arrAt_eq_flushed 9 (fun t t' _ _ hne => (cfg1.win 9).disjoint_blk fun h => hne (inj9 t t' h)) cfg1.N t t.isLt (flush9 t)) (ix2 r l)
  refine Eq.trans (congrArg ((dat V c).arrAt 9 cfg1.N) (ix_eq ?_ ?_)) (h.trans ?_)
  · refine Eq.symm ((Pipeline.Window.rect_emb_val win1_9 t (ix2 r l) 0).trans ?_)
    rw [(index1_9 t).1]
    show (31 - t.val) * 256 + r.val = 256 * (31 - t.val) + r.val; omega
  · refine Eq.symm ((Pipeline.Window.rect_emb_val win1_9 t (ix2 r l) 1).trans ?_)
    rw [(index1_9 t).2]
    show 0 * 512 + l.val = l.val; omega
  · show (cfg1.win 9).cut (grid1.coords t) ((dat V c).after 9 t) (ix2 r l) = _
    rw [after1_9]
    rfl

theorem array10 (t : Fin cfg1.N) (ht : t.val = 31) (r : Fin 8) (l : Fin 512) :
    (dat V c).arrAt 10 cfg1.N (ix2 r l) = (outsAt1 V c t.val t.isLt).2.2.2.1 (ix2 r l) := by
  have h := congrFun ((dat V c).read_blk_arrAt_eq_flushed 10 (fun t t' hf hf' hne => absurd (Fin.ext ((flush10 t hf).trans (flush10 t' hf').symm)) hne) cfg1.N t t.isLt (flush_last t ht)) (ix2 r l)
  refine Eq.trans (congrArg ((dat V c).arrAt 10 cfg1.N) (ix_eq ?_ ?_)) (h.trans ?_)
  · refine Eq.symm ((Pipeline.Window.rect_emb_val win1_10 t (ix2 r l) 0).trans ?_)
    rw [(index1_10 t).1]
    show 0 * 8 + r.val = r.val; omega
  · refine Eq.symm ((Pipeline.Window.rect_emb_val win1_10 t (ix2 r l) 1).trans ?_)
    rw [(index1_10 t).2]
    show 0 * 512 + l.val = l.val; omega
  · show (cfg1.win 10).cut (grid1.coords t) ((dat V c).after 10 t) (ix2 r l) = _
    rw [after1_10]
    rfl

/-- A time is a time of a tile. -/
theorem of_tiles {P : ℕ → Prop} (h : ∀ (t : Fin cfg1.N) (r : Fin 256), P (256 * (31 - t.val) + r.val)) (T : ℕ) (hT : T < 8192) : P T := by
  have e := h ⟨31 - T / 256, by rw [N1_eq]; omega⟩ ⟨T % 256, by omega⟩
  have eV : 256 * (31 - (31 - T / 256)) + T % 256 = T := by omega
  simp only [eV] at e
  exact e

variable (I : Inp (V c main_arg0) (V c main_arg1) (V c main_arg2) (V c main_arg3) (V c main_arg4) k) (H : Arr (V c main_v0_1) (fun l t => (k l).h t))

include I H in
theorem left_at (t : Fin cfg1.N) : Left k (31 - t.val) (outsAt1 V c t.val t.isLt) := left V c (fun t => blocks V c t I H) t.val t rfl

include I H in
theorem final_pre : Arr2 ((dat V c).arrAt 7 cfg1.N) (fun l t => (k l).dpa t) (fun l t => (k l).dpx t) := by
  intro T l
  refine of_tiles (P := fun s => ∀ hs : s < 8192, (dat V c).arrAt 7 cfg1.N (ix2 ⟨s, hs⟩ ⟨l.val, by omega⟩) = (((k l).dpa s : ℝ) : EReal)
    ∧ (dat V c).arrAt 7 cfg1.N (ix2 ⟨s, hs⟩ ⟨512 + l.val, by omega⟩) = (((k l).dpx s : ℝ) : EReal)) (fun t r hs => ?_) T.val T.isLt T.isLt
  exact ⟨(array7 V c t r _).trans ((left_at V c I H t).dpa r l).1, (array7 V c t r _).trans ((left_at V c I H t).dpa r l).2⟩

include I H in
theorem final_xc : Arr ((dat V c).arrAt 8 cfg1.N) (fun l t => (k l).dxc t) := by
  intro T l
  refine of_tiles (P := fun s => ∀ hs : s < 8192, (dat V c).arrAt 8 cfg1.N (ix2 ⟨s, hs⟩ l) = (((k l).dxc s : ℝ) : EReal)) (fun t r hs => ?_) T.val T.isLt T.isLt
  exact (array8 V c t r l).trans ((left_at V c I H t).dxc r l)

include I H in
theorem final_g : Arr ((dat V c).arrAt 9 cfg1.N) (fun l t => (k l).dg t) := by
  intro T l
  refine of_tiles (P := fun s => ∀ hs : s < 8192, (dat V c).arrAt 9 cfg1.N (ix2 ⟨s, hs⟩ l) = (((k l).dg s : ℝ) : EReal)) (fun t r hs => ?_) T.val T.isLt T.isLt
  exact (array9 V c t r l).trans ((left_at V c I H t).dg r l)

include I H in
theorem final_par : Arr (n := 8) ((dat V c).arrAt 10 cfg1.N) (fun l r => (k l).dpar r) := by
  intro r l
  refine (array10 V c ⟨31, by rw [N1_eq]; omega⟩ rfl r l).trans (((left_at V c I H ⟨31, by rw [N1_eq]; omega⟩).par r l).trans (congrArg _ ?_))
  exact parts_zero (k l) r.val

end

end Cert.KernelIdeal.Bwd
end
-- ==== Proof.KVal.lean ====
/- What the two calls leave in the five results, at the real values. -/
module

public import proofs.«01_k».proof.Proof.KRun
public import proofs.«01_k».proof.Proof.FwdArr
public import proofs.«01_k».proof.Proof.BwdArr

@[expose] public section

set_option maxRecDepth 16384

noncomputable section

namespace Cert.KernelIdeal.Two

open Cert.KernelIdeal.Gen
open Idealize.ShloMosaic Idealize.ShloMosaic.TcCoe
open Lru

variable (m : (ℓ : Loc nD τ sig) → Buf (Elt Ideal) ℓ) (c : Dev nD) {k : Fin 512 → Col}
  (I : Inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) k)

include I in
/-- The forward call's states, where the backward call reads them. -/
theorem saved : Arr (U1 m c main_v0_1) (fun l t => (k l).h t) := by
  have e : U1 m c main_v0_1 = (Fwd.dat (U0 m) c).arrAt 5 cfg0.N := W1_arr m c 5
  rw [e]
  exact Fwd.final_h (U0 m) c I

include I in
/-- The backward call's inputs are those of the whole: the forward call writes to none of them. -/
theorem between : Inp (U1 m c main_arg0) (U1 m c main_arg1) (U1 m c main_arg2) (U1 m c main_arg3) (U1 m c main_arg4) k := by
  have e0 : U1 m c main_arg0 = m ((c.tc : Thread nD τ).loc main_arg0) := W1_of m c main_arg0 (by decide)
  have e1 : U1 m c main_arg1 = m ((c.tc : Thread nD τ).loc main_arg1) := W1_of m c main_arg1 (by decide)
  have e2 : U1 m c main_arg2 = m ((c.tc : Thread nD τ).loc main_arg2) := W1_of m c main_arg2 (by decide)
  have e3 : U1 m c main_arg3 = m ((c.tc : Thread nD τ).loc main_arg3) := W1_of m c main_arg3 (by decide)
  have e4 : U1 m c main_arg4 = m ((c.tc : Thread nD τ).loc main_arg4) := W1_of m c main_arg4 (by decide)
  rw [e0, e1, e2, e3, e4]
  exact I

include I in
theorem results : Arr (W2 m c (Proc.devRef .tc main_v0_0)) (fun l t => (k l).out t)
    ∧ Arr2 (W2 m c (Proc.devRef .tc main_v1_0)) (fun l t => (k l).dpa t) (fun l t => (k l).dpx t)
    ∧ Arr (W2 m c (Proc.devRef .tc main_v1_1)) (fun l t => (k l).dxc t)
    ∧ Arr (W2 m c (Proc.devRef .tc main_v1_2)) (fun l t => (k l).dg t)
    ∧ Arr (n := 8) (W2 m c (Proc.devRef .tc main_v1_3)) (fun l r => (k l).dpar r) := by
  have e0 : W2 m c (Proc.devRef .tc main_v0_0) = (Fwd.dat (U0 m) c).arrAt 4 cfg0.N := (W2_of m c main_v0_0 (by decide)).trans (W1_arr m c 4)
  have e1 : W2 m c (Proc.devRef .tc main_v1_0) = (Bwd.dat (U1 m) c).arrAt 7 cfg1.N := W2_arr m c 7
  have e2 : W2 m c (Proc.devRef .tc main_v1_1) = (Bwd.dat (U1 m) c).arrAt 8 cfg1.N := W2_arr m c 8
  have e3 : W2 m c (Proc.devRef .tc main_v1_2) = (Bwd.dat (U1 m) c).arrAt 9 cfg1.N := W2_arr m c 9
  have e4 : W2 m c (Proc.devRef .tc main_v1_3) = (Bwd.dat (U1 m) c).arrAt 10 cfg1.N := W2_arr m c 10
  rw [e0, e1, e2, e3, e4]
  have J := between m c I
  have H := saved m c I
  exact ⟨Fwd.final_out (U0 m) c I, Bwd.final_pre (U1 m) c J H, Bwd.final_xc (U1 m) c J H, Bwd.final_g (U1 m) c J H, Bwd.final_par (U1 m) c J H⟩

end Cert.KernelIdeal.Two
end
-- ==== Proof.RefRun.lean ====
/- The reference program's run: its host operations, two counted loops of 8192 trips each (the forward recurrence and the
   backward one), and the operations between and after them. `run2`: every weakly fair execution ends with every
   buffer at the fold of these operations; from it the reference's frame. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

@[expose] public section

noncomputable section

namespace Cert.ReferenceIdeal.Two

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕋Ops" => List (HloOp τ sig (Elt F))
local notation "𝕋Arr" => BufTy.Contents (Elt F) (BufTy.mk S8192x512 EltTy.f32)
local notation "𝕋One" => BufTy.Contents (Elt F) (BufTy.mk S_ EltTy.f32)
local notation "𝕋Row" => BufTy.Contents (Elt F) (BufTy.mk S512 EltTy.f32)
local notation "𝕋Row1" => BufTy.Contents (Elt F) (BufTy.mk S1x512 EltTy.f32)
local notation "𝕋Num" => BufTy.Contents (Elt F) (BufTy.mk S_ EltTy.i32)
abbrev TRow1 := TRef sig ⟨S1x512, .f32⟩
abbrev TRow := TRef sig ⟨S512, .f32⟩
abbrev TBits := TRef sig ⟨S512, .i1⟩
abbrev TArr := TRef sig ⟨S8192x512, .f32⟩
abbrev TOne := TRef sig ⟨S_, .f32⟩
abbrev TNum := TRef sig ⟨S_, .i32⟩

/-! ## The operation lists -/

/-- Every operation of the stretch stays in the buffers of its thread. -/
abbrev In (ops : 𝕋Ops) : Prop := ops.Forall fun op => op.bufs ⊆ tcRefs τ sig

alias in1 := unary_bufs_sub
alias in2 := binary_bufs_sub
alias in0 := nullary_bufs_sub
alias inR := reshape_bufs_sub

abbrev main_part0_ops0 : 𝕋Ops :=
  ( unary main_arg0 main_v0 ((extractStridedSlice S8192x512 ![0, 0] · slices_S8192x1024_S8192x512_0_0) : (⟨S8192x1024, .f32⟩ : BufTy).Contents (Elt F) → 𝕋Arr)
  :: unary main_arg0 main_v1 ((extractStridedSlice S8192x512 ![0, 512] · slices_S8192x1024_S8192x512_0_512) : (⟨S8192x1024, .f32⟩ : BufTy).Contents (Elt F) → 𝕋Arr)
  :: unary main_arg2 main_v2 ((extractStridedSlice S8192x512 ![0, 3072] · slices_S8192x4224_S8192x512_0_3072) : (⟨S8192x4224, .f32⟩ : BufTy).Contents (Elt F) → 𝕋Arr)
  :: unary main_arg3 main_v3 ((extractStridedSlice S1x512 ![0, 0] · slices_S8x512_S1x512_0_0) : (⟨S8x512, .f32⟩ : BufTy).Contents (Elt F) → 𝕋Row1)
  :: reshape main_v3 main_v4 (rfl : (.f32 : EltTy) = .f32) shapeCasts_S1x512_S512
  :: unary main_arg3 main_v5 ((extractStridedSlice S1x512 ![1, 0] · slices_S8x512_S1x512_1_0) : (⟨S8x512, .f32⟩ : BufTy).Contents (Elt F) → 𝕋Row1)
  :: reshape main_v5 main_v6 (rfl : (.f32 : EltTy) = .f32) shapeCasts_S1x512_S512
  :: unary main_arg3 main_v7 ((extractStridedSlice S1x512 ![2, 0] · slices_S8x512_S1x512_2_0) : (⟨S8x512, .f32⟩ : BufTy).Contents (Elt F) → 𝕋Row1)
  :: reshape main_v7 main_v8 (rfl : (.f32 : EltTy) = .f32) shapeCasts_S1x512_S512
  :: binary main_v2 main_v2 main_v9 (mulf : 𝕋Arr → 𝕋Arr → 𝕋Arr)
  :: binary main_v9 main_v2 main_v10 (mulf : 𝕋Arr → 𝕋Arr → 𝕋Arr)
  :: binary main_v2 main_v2 main_v11 (mulf : 𝕋Arr → 𝕋Arr → 𝕋Arr)
  :: nullary main_cst (constant S_ .f32 0x40400000#32)
  :: unary main_cst main_v12 (broadcastInDim S8192x512 ![] bcast_S_S8192x512 : 𝕋One → 𝕋Arr)
  :: binary main_v12 main_v11 main_v13 (mulf : 𝕋Arr → 𝕋Arr → 𝕋Arr)
  :: nullary main_cst_0 (constant S_ .f32 0x3D372713#32)
  :: unary main_cst_0 main_v14 (broadcastInDim S8192x512 ![] bcast_S_S8192x512 : 𝕋One → 𝕋Arr)
  :: binary main_v14 main_v10 main_v15 (mulf : 𝕋Arr → 𝕋Arr → 𝕋Arr)
  :: binary main_v2 main_v15 main_v16 (addf : 𝕋Arr → 𝕋Arr → 𝕋Arr)
  :: nullary main_cst_1 (constant S_ .f32 0x3F4C422A#32)
  :: unary main_cst_1 main_v17 (broadcastInDim S8192x512 ![] bcast_S_S8192x512 : 𝕋One → 𝕋Arr)
  :: binary main_v17 main_v16 main_v18 (mulf : 𝕋Arr → 𝕋Arr → 𝕋Arr)
  :: unary main_v18 main_v19 (Host.tanh : 𝕋Arr → 𝕋Arr)
  :: nullary main_cst_2 (constant S_ .f32 0x3F800000#32)
  :: unary main_cst_2 main_v20 (broadcastInDim S8192x512 ![] bcast_S_S8192x512 : 𝕋One → 𝕋Arr)
  :: binary main_v20 main_v19 main_v21 (addf : 𝕋Arr → 𝕋Arr → 𝕋Arr)
  :: nullary main_cst_3 (constant S_ .f32 0x3F800000#32)
  :: unary main_cst_3 main_v22 (broadcastInDim S8192x512 ![] bcast_S_S8192x512 : 𝕋One → 𝕋Arr)
  :: binary main_v22 main_v19 main_v23 (subf : 𝕋Arr → 𝕋Arr → 𝕋Arr)
  :: binary main_v21 main_v23 main_v24 (mulf : 𝕋Arr → 𝕋Arr → 𝕋Arr)
  :: nullary main_cst_4 (constant S_ .f32 0x3F800000#32)
  :: unary main_cst_4 main_v25 (broadcastInDim S8192x512 ![] bcast_S_S8192x512 : 𝕋One → 𝕋Arr)
  :: binary main_v25 main_v19 main_v26 (addf : 𝕋Arr → 𝕋Arr → 𝕋Arr)
  :: nullary main_cst_5 (constant S_ .f32 0x3F000000#32)
  :: unary main_cst_5 main_v27 (broadcastInDim S8192x512 ![] bcast_S_S8192x512 : 𝕋One → 𝕋Arr)
  :: binary main_v27 main_v26 main_v28 (mulf : 𝕋Arr → 𝕋Arr → 𝕋Arr)
  :: binary main_v2 main_v28 main_v29 (mulf : 𝕋Arr → 𝕋Arr → 𝕋Arr)
  :: unary main_v4 main_v30 (broadcastInDim S1x512 ![1] bcast_S512_S1x512_1 : 𝕋Row → 𝕋Row1)
  :: unary main_v30 main_v31 (broadcastInDim S8192x512 ![0, 1] bcast_S1x512_S8192x512_0_1 : 𝕋Row1 → 𝕋Arr)
  :: binary main_v0 main_v31 main_v32 (addf : 𝕋Arr → 𝕋Arr → 𝕋Arr)
  :: unary main_v32 main_v33 (Host.negf : 𝕋Arr → 𝕋Arr)
  :: unary main_v33 main_v34 (Host.exp : 𝕋Arr → 𝕋Arr)
  :: nullary main_cst_6 (constant S_ .f32 0x3F800000#32)
  :: unary main_cst_6 main_v35 (broadcastInDim S8192x512 ![] bcast_S_S8192x512 : 𝕋One → 𝕋Arr)
  :: binary main_v35 main_v34 main_v36 (addf : 𝕋Arr → 𝕋Arr → 𝕋Arr)
  :: nullary main_cst_7 (constant S_ .f32 0x3F800000#32)
  :: unary main_cst_7 main_v37 (broadcastInDim S8192x512 ![] bcast_S_S8192x512 : 𝕋One → 𝕋Arr)
  :: binary main_v37 main_v36 main_v38 (Host.divf : 𝕋Arr → 𝕋Arr → 𝕋Arr)
  :: nullary main_cst_8 (constant S_ .f32 0x3F800000#32)
  :: unary main_cst_8 main_v39 (broadcastInDim S8192x512 ![] bcast_S_S8192x512 : 𝕋One → 𝕋Arr)
  :: binary main_v39 main_v38 main_v40 (subf : 𝕋Arr → 𝕋Arr → 𝕋Arr)
  :: binary main_v38 main_v40 main_v41 (mulf : 𝕋Arr → 𝕋Arr → 𝕋Arr)
  :: unary main_v6 main_v42 (broadcastInDim S1x512 ![1] bcast_S512_S1x512_1 : 𝕋Row → 𝕋Row1)
  :: unary main_v42 main_v43 (broadcastInDim S8192x512 ![0, 1] bcast_S1x512_S8192x512_0_1 : 𝕋Row1 → 𝕋Arr)
  :: binary main_v1 main_v43 main_v44 (addf : 𝕋Arr → 𝕋Arr → 𝕋Arr)
  :: unary main_v44 main_v45 (Host.negf : 𝕋Arr → 𝕋Arr)
  :: unary main_v45 main_v46 (Host.exp : 𝕋Arr → 𝕋Arr)
  :: nullary main_cst_9 (constant S_ .f32 0x3F800000#32)
  :: unary main_cst_9 main_v47 (broadcastInDim S8192x512 ![] bcast_S_S8192x512 : 𝕋One → 𝕋Arr)
  :: binary main_v47 main_v46 main_v48 (addf : 𝕋Arr → 𝕋Arr → 𝕋Arr)
  :: [] )
theorem main_part0_ops0_sub : In (F := F) main_part0_ops0 := ⟨in1 .., in1 .., in1 .., in1 .., inR .., in1 .., inR .., in1 .., inR .., in2 .., in2 .., in2 .., in0 .., in1 .., in2 .., in0 .., in1 .., in2 .., in2 .., in0 .., in1 .., in2 .., in1 .., in0 .., in1 .., in2 .., in0 .., in1 .., in2 .., in2 .., in0 .., in1 .., in2 .., in0 .., in1 .., in2 .., in2 .., in1 .., in1 .., in2 .., in1 .., in1 .., in0 .., in1 .., in2 .., in0 .., in1 .., in2 .., in0 .., in1 .., in2 .., in2 .., in1 .., in1 .., in2 .., in1 .., in1 .., in0 .., in1 .., in2 ..⟩
abbrev main_part0_ops0_W : List (Ref sig .tc) := [main_v0, main_v1, main_v2, main_v3, main_v4, main_v5, main_v6, main_v7, main_v8, main_v9, main_v10, main_v11, main_cst, main_v12, main_v13, main_cst_0, main_v14, main_v15, main_v16, main_cst_1, main_v17, main_v18, main_v19, main_cst_2, main_v20, main_v21, main_cst_3, main_v22, main_v23, main_v24, main_cst_4, main_v25, main_v26, main_cst_5, main_v27, main_v28, main_v29, main_v30, main_v31, main_v32, main_v33, main_v34, main_cst_6, main_v35, main_v36, main_cst_7, main_v37, main_v38, main_cst_8, main_v39, main_v40, main_v41, main_v42, main_v43, main_v44, main_v45, main_v46, main_cst_9, main_v47, main_v48]
theorem main_part0_ops0_writes : (main_part0_ops0 : 𝕋Ops).map HloOp.writes = main_part0_ops0_W.map fun r => {Proc.devRef (τ := τ) .tc r} := rfl

abbrev main_part1_ops0 : 𝕋Ops :=
  [ nullary main_cst_10 (constant S_ .f32 0x3F800000#32),
    unary main_cst_10 main_v49 (broadcastInDim S8192x512 ![] bcast_S_S8192x512 : 𝕋One → 𝕋Arr),
    binary main_v49 main_v48 main_v50 (Host.divf : 𝕋Arr → 𝕋Arr → 𝕋Arr),
    nullary main_cst_11 (constant S_ .f32 0x3F800000#32),
    unary main_cst_11 main_v51 (broadcastInDim S8192x512 ![] bcast_S_S8192x512 : 𝕋One → 𝕋Arr),
    binary main_v51 main_v50 main_v52 (subf : 𝕋Arr → 𝕋Arr → 𝕋Arr),
    binary main_v50 main_v52 main_v53 (mulf : 𝕋Arr → 𝕋Arr → 𝕋Arr),
    nullary main_cst_12 (constant S_ .f32 0xC1000000#32),
    unary main_cst_12 main_v54 (broadcastInDim S8192x512 ![] bcast_S_S8192x512 : 𝕋One → 𝕋Arr),
    binary main_v54 main_v38 main_v55 (mulf : 𝕋Arr → 𝕋Arr → 𝕋Arr),
    unary main_v8 main_v56 (Host.negf : 𝕋Row → 𝕋Row) ]
theorem main_part1_ops0_sub : In (F := F) main_part1_ops0 := ⟨in0 .., in1 .., in2 .., in0 .., in1 .., in2 .., in2 .., in0 .., in1 .., in2 .., in1 ..⟩
abbrev main_part1_ops0_W : List (Ref sig .tc) := [main_cst_10, main_v49, main_v50, main_cst_11, main_v51, main_v52, main_v53, main_cst_12, main_v54, main_v55, main_v56]
theorem main_part1_ops0_writes : (main_part1_ops0 : 𝕋Ops).map HloOp.writes = main_part1_ops0_W.map fun r => {Proc.devRef (τ := τ) .tc r} := rfl

abbrev main_part1_ops1 : 𝕋Ops :=
  ( TRef.nullary (.of main_call0_cst : TOne) (constant S_ .f32 0x00000000#32)
  :: TRef.unary (.of main_call0_cst : TOne) (.of main_call0_v0 : TRow) (broadcastInDim S512 ![] bcast_S_S512)
  :: TRef.binary (.of main_v56 : TRow) (.of main_call0_v0 : TRow) (.of main_call0_v1 : TRow) maximumf
  :: TRef.unary (.of main_call0_cst : TOne) (.of main_call0_v2 : TRow) (broadcastInDim S512 ![] bcast_S_S512)
  :: TRef.binary (.of main_v56 : TRow) (.of main_call0_v2 : TRow) (.of main_call0_v3 : TRow) subf
  :: TRef.binary (.of main_call0_v3 : TRow) (.of main_call0_v3 : TRow) (.of main_call0_v4 : TBits) (cmpf .une)
  :: TRef.unary (.of main_call0_cst : TOne) (.of main_call0_v5 : TRow) (broadcastInDim S512 ![] bcast_S_S512)
  :: TRef.binary (.of main_v56 : TRow) (.of main_call0_v5 : TRow) (.of main_call0_v6 : TRow) addf
  :: TRef.unary (.of main_call0_v3 : TRow) (.of main_call0_v7 : TRow) Host.absf
  :: TRef.unary (.of main_call0_v7 : TRow) (.of main_call0_v8 : TRow) Host.negf
  :: TRef.unary (.of main_call0_v8 : TRow) (.of main_call0_v9 : TRow) Host.exp
  :: TRef.unary (.of main_call0_v9 : TRow) (.of main_call0_v10 : TRow) Host.log1p
  :: TRef.binary (.of main_call0_v1 : TRow) (.of main_call0_v10 : TRow) (.of main_call0_v11 : TRow) addf
  :: TRef.ternary (.of main_call0_v4 : TBits) (.of main_call0_v6 : TRow) (.of main_call0_v11 : TRow) (.of main_v57_0 : TRow) select
  :: TRef.nullary (.of main_call0_cst_0 : TOne) (constant S_ .f32 0x7F800000#32)
  :: TRef.unary (.of main_call0_cst_0 : TOne) (.of main_call0_v13 : TRow) (broadcastInDim S512 ![] bcast_S_S512)
  :: TRef.binary (.of main_v56 : TRow) (.of main_call0_v13 : TRow) (.of main_call0_v14 : TBits) (cmpf .oeq)
  :: TRef.nullary (.of main_call0_cst_1 : TOne) (constant S_ .f32 0x00000000#32)
  :: TRef.unary (.of main_call0_cst_1 : TOne) (.of main_call0_v15 : TRow) (broadcastInDim S512 ![] bcast_S_S512)
  :: TRef.ternary (.of main_call0_v14 : TBits) (.of main_call0_v15 : TRow) (.of main_v56 : TRow) (.of main_call0_v16 : TRow) select
  :: TRef.nullary (.of main_call0_cst_2 : TOne) (constant S_ .f32 0x7F800000#32)
  :: TRef.unary (.of main_call0_cst_2 : TOne) (.of main_call0_v17 : TRow) (broadcastInDim S512 ![] bcast_S_S512)
  :: TRef.binary (.of main_v57_0 : TRow) (.of main_call0_v17 : TRow) (.of main_call0_v18 : TBits) (cmpf .oeq)
  :: TRef.nullary (.of main_call0_cst_3 : TOne) (constant S_ .f32 0x00000000#32)
  :: TRef.unary (.of main_call0_cst_3 : TOne) (.of main_call0_v19 : TRow) (broadcastInDim S512 ![] bcast_S_S512)
  :: TRef.ternary (.of main_call0_v18 : TBits) (.of main_call0_v19 : TRow) (.of main_v57_0 : TRow) (.of main_call0_v20 : TRow) select
  :: TRef.binary (.of main_call0_v16 : TRow) (.of main_call0_v20 : TRow) (.of main_call0_v21 : TRow) subf
  :: TRef.unary (.of main_call0_v21 : TRow) (.of main_v57_1 : TRow) Host.exp
  :: TRef.nullary (.of main_call0_cst_4 : TOne) (constant S_ .f32 0x00000000#32)
  :: TRef.nullary (.of main_call0_cst_5 : TOne) (constant S_ .f32 0x7F800000#32)
  :: TRef.binary (.of main_call0_cst_4 : TOne) (.of main_call0_cst_5 : TOne) (.of main_call0_v23 : TRef sig ⟨S_, .i1⟩) (cmpf .oeq)
  :: TRef.nullary (.of main_call0_cst_6 : TOne) (constant S_ .f32 0x00000000#32)
  :: TRef.nullary (.of main_call0_cst_7 : TOne) (constant S_ .f32 0x00000000#32)
  :: TRef.ternary (.of main_call0_v23 : TRef sig ⟨S_, .i1⟩) (.of main_call0_cst_7 : TOne) (.of main_call0_cst_6 : TOne) (.of main_call0_v24 : TOne) select
  :: TRef.nullary (.of main_call0_cst_8 : TOne) (constant S_ .f32 0x7F800000#32)
  :: TRef.unary (.of main_call0_cst_8 : TOne) (.of main_call0_v25 : TRow) (broadcastInDim S512 ![] bcast_S_S512)
  :: TRef.binary (.of main_v57_0 : TRow) (.of main_call0_v25 : TRow) (.of main_call0_v26 : TBits) (cmpf .oeq)
  :: TRef.nullary (.of main_call0_cst_9 : TOne) (constant S_ .f32 0x00000000#32)
  :: TRef.unary (.of main_call0_cst_9 : TOne) (.of main_call0_v27 : TRow) (broadcastInDim S512 ![] bcast_S_S512)
  :: TRef.ternary (.of main_call0_v26 : TBits) (.of main_call0_v27 : TRow) (.of main_v57_0 : TRow) (.of main_call0_v28 : TRow) select
  :: TRef.unary (.of main_call0_v24 : TOne) (.of main_call0_v29 : TRow) (broadcastInDim S512 ![] bcast_S_S512)
  :: TRef.binary (.of main_call0_v29 : TRow) (.of main_call0_v28 : TRow) (.of main_call0_v30 : TRow) subf
  :: TRef.unary (.of main_call0_v30 : TRow) (.of main_call0_v31 : TRow) Host.exp
  :: TRef.nullary (.of main_call0_cst_10 : TOne) (constant S_ .f32 0x00000000#32)
  :: TRef.unary (.of main_call0_cst_10 : TOne) (.of main_call0_v32 : TRow) (broadcastInDim S512 ![] bcast_S_S512)
  :: TRef.binary (.of main_call0_v32 : TRow) (.of main_call0_v31 : TRow) (.of main_v57_2 : TRow) mulf
  :: [] )
theorem main_part1_ops1_sub : In (F := F) main_part1_ops1 := ⟨in0 .., in1 .., in2 .., in1 .., in2 .., in2 .., in1 .., in2 .., in1 .., in1 .., in1 .., in1 .., in2 .., ternary_bufs_sub .., in0 .., in1 .., in2 .., in0 .., in1 .., ternary_bufs_sub .., in0 .., in1 .., in2 .., in0 .., in1 .., ternary_bufs_sub .., in2 .., in1 .., in0 .., in0 .., in2 .., in0 .., in0 .., ternary_bufs_sub .., in0 .., in1 .., in2 .., in0 .., in1 .., ternary_bufs_sub .., in1 .., in2 .., in1 .., in0 .., in1 .., in2 ..⟩
abbrev main_part1_ops1_W : List (Ref sig .tc) := [main_call0_cst, main_call0_v0, main_call0_v1, main_call0_v2, main_call0_v3, main_call0_v4, main_call0_v5, main_call0_v6, main_call0_v7, main_call0_v8, main_call0_v9, main_call0_v10, main_call0_v11, main_v57_0, main_call0_cst_0, main_call0_v13, main_call0_v14, main_call0_cst_1, main_call0_v15, main_call0_v16, main_call0_cst_2, main_call0_v17, main_call0_v18, main_call0_cst_3, main_call0_v19, main_call0_v20, main_call0_v21, main_v57_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v57_2]
theorem main_part1_ops1_writes : (main_part1_ops1 : 𝕋Ops).map HloOp.writes = main_part1_ops1_W.map fun r => {Proc.devRef (τ := τ) .tc r} := rfl

abbrev main_part1_ops2 : 𝕋Ops :=
  [ unary main_v57_0 main_v58 (broadcastInDim S1x512 ![1] bcast_S512_S1x512_1 : 𝕋Row → 𝕋Row1),
    unary main_v58 main_v59 (broadcastInDim S8192x512 ![0, 1] bcast_S1x512_S8192x512_0_1 : 𝕋Row1 → 𝕋Arr),
    binary main_v55 main_v59 main_v60 (mulf : 𝕋Arr → 𝕋Arr → 𝕋Arr),
    unary main_v60 main_v61 (Host.exp : 𝕋Arr → 𝕋Arr),
    nullary main_cst_13 (constant S_ .f32 0x40000000#32),
    unary main_cst_13 main_v62 (broadcastInDim S8192x512 ![] bcast_S_S8192x512 : 𝕋One → 𝕋Arr),
    binary main_v62 main_v60 main_v63 (mulf : 𝕋Arr → 𝕋Arr → 𝕋Arr),
    unary main_v63 main_v64 (Host.expm1 : 𝕋Arr → 𝕋Arr),
    unary main_v63 main_v65 (Host.exp : 𝕋Arr → 𝕋Arr),
    unary main_v64 main_v66 (Host.negf : 𝕋Arr → 𝕋Arr),
    unary main_v66 main_v67 (Host.sqrt : 𝕋Arr → 𝕋Arr),
    nullary main_cst_14 (constant S_ .f32 0x3F000000#32),
    unary main_cst_14 main_v68 (broadcastInDim S8192x512 ![] bcast_S_S8192x512 : 𝕋One → 𝕋Arr),
    binary main_v68 main_v67 main_v69 (Host.divf : 𝕋Arr → 𝕋Arr → 𝕋Arr),
    binary main_v50 main_arg1 main_v70 (mulf : 𝕋Arr → 𝕋Arr → 𝕋Arr),
    binary main_v67 main_v70 main_v71 (mulf : 𝕋Arr → 𝕋Arr → 𝕋Arr),
    nullary main_cst_15 (constant S_ .f32 0x00000000#32),
    unary main_cst_15 main_v72 (broadcastInDim S512 ![] bcast_S_S512 : 𝕋One → 𝕋Row),
    nullary main_cst_16 (constant S_ .f32 0x00000000#32),
    unary main_cst_16 main_v73 (broadcastInDim S8192x512 ![] bcast_S_S8192x512 : 𝕋One → 𝕋Arr),
    nullary main_cst_17 (constant S_ .f32 0x00000000#32),
    unary main_cst_17 main_v74 (broadcastInDim S8192x512 ![] bcast_S_S8192x512 : 𝕋One → 𝕋Arr),
    nullary main_c (constantI S_ 32 0#32),
    unary main_v61 main_v75_0 id,
    unary main_v71 main_v75_1 id,
    unary main_c main_v75_2 id,
    unary main_v72 main_v75_3 id,
    unary main_v73 main_v75_4 id,
    unary main_v74 main_v75_5 id ]
theorem main_part1_ops2_sub : In (F := F) main_part1_ops2 := ⟨in1 .., in1 .., in2 .., in1 .., in0 .., in1 .., in2 .., in1 .., in1 .., in1 .., in1 .., in0 .., in1 .., in2 .., in2 .., in2 .., in0 .., in1 .., in0 .., in1 .., in0 .., in1 .., in0 .., in1 .., in1 .., in1 .., in1 .., in1 .., in1 ..⟩
abbrev main_part1_ops2_W : List (Ref sig .tc) := [main_v58, main_v59, main_v60, main_v61, main_cst_13, main_v62, main_v63, main_v64, main_v65, main_v66, main_v67, main_cst_14, main_v68, main_v69, main_v70, main_v71, main_cst_15, main_v72, main_cst_16, main_v73, main_cst_17, main_v74, main_c, main_v75_0, main_v75_1, main_v75_2, main_v75_3, main_v75_4, main_v75_5]
theorem main_part1_ops2_writes : (main_part1_ops2 : 𝕋Ops).map HloOp.writes = main_part1_ops2_W.map fun r => {Proc.devRef (τ := τ) .tc r} := rfl

abbrev main_part1_ops3 : 𝕋Ops :=
  [ binary main_v75_4 main_v29 main_v76 (mulf : 𝕋Arr → 𝕋Arr → 𝕋Arr),
    unary main_arg4 main_v77 ((extractStridedSlice S8192x512 ![0, 1024] · slices_S8192x1536_S8192x512_0_1024) : (⟨S8192x1536, .f32⟩ : BufTy).Contents (Elt F) → 𝕋Arr),
    nullary main_cst_18 (constant S_ .f32 0x00000000#32),
    unary main_cst_18 main_v78 (broadcastInDim S512 ![] bcast_S_S512 : 𝕋One → 𝕋Row),
    binary main_v75_4 main_v77 main_v79 (mulf : 𝕋Arr → 𝕋Arr → 𝕋Arr),
    binary main_v77 main_v29 main_v80 (mulf : 𝕋Arr → 𝕋Arr → 𝕋Arr),
    nullary main_cst_19 (constant S_ .f32 0x00000000#32),
    unary main_cst_19 main_v81 (broadcastInDim S512 ![] bcast_S_S512 : 𝕋One → 𝕋Row),
    nullary main_cst_20 (constant S_ .f32 0x00000000#32),
    unary main_cst_20 main_v82 (broadcastInDim S8192x512 ![] bcast_S_S8192x512 : 𝕋One → 𝕋Arr),
    nullary main_cst_21 (constant S_ .f32 0x00000000#32),
    unary main_cst_21 main_v83 (broadcastInDim S8192x512 ![] bcast_S_S8192x512 : 𝕋One → 𝕋Arr),
    nullary main_c_22 (constantI S_ 32 0#32),
    unary main_v80 main_v84_0 id,
    unary main_v75_5 main_v84_1 id,
    unary main_v61 main_v84_2 id,
    unary main_c_22 main_v84_3 id,
    unary main_v81 main_v84_4 id ]
theorem main_part1_ops3_sub : In (F := F) main_part1_ops3 := ⟨in2 .., in1 .., in0 .., in1 .., in2 .., in2 .., in0 .., in1 .., in0 .., in1 .., in0 .., in1 .., in0 .., in1 .., in1 .., in1 .., in1 .., in1 ..⟩
abbrev main_part1_ops3_W : List (Ref sig .tc) := [main_v76, main_v77, main_cst_18, main_v78, main_v79, main_v80, main_cst_19, main_v81, main_cst_20, main_v82, main_cst_21, main_v83, main_c_22, main_v84_0, main_v84_1, main_v84_2, main_v84_3, main_v84_4]

abbrev main_part2_ops0 : 𝕋Ops :=
  [ unary main_v82 main_v84_5 id,
    unary main_v83 main_v84_6 id ]
theorem main_part2_ops0_sub : In (F := F) main_part2_ops0 := ⟨in1 .., in1 ..⟩
abbrev main_part2_ops0_W : List (Ref sig .tc) := [main_v84_5, main_v84_6]

abbrev main_part2_ops1 : 𝕋Ops :=
  [ binary main_v67 main_v84_6 main_v85 (mulf : 𝕋Arr → 𝕋Arr → 𝕋Arr),
    binary main_v84_6 main_v70 main_v86 (mulf : 𝕋Arr → 𝕋Arr → 𝕋Arr),
    binary main_v50 main_v85 main_v87 (mulf : 𝕋Arr → 𝕋Arr → 𝕋Arr),
    binary main_v85 main_arg1 main_v88 (mulf : 𝕋Arr → 𝕋Arr → 𝕋Arr),
    binary main_v86 main_v69 main_v89 (mulf : 𝕋Arr → 𝕋Arr → 𝕋Arr),
    unary main_v89 main_v90 (Host.negf : 𝕋Arr → 𝕋Arr),
    binary main_v90 main_v65 main_v91 (mulf : 𝕋Arr → 𝕋Arr → 𝕋Arr),
    nullary main_cst_23 (constant S_ .f32 0x40000000#32),
    unary main_cst_23 main_v92 (broadcastInDim S8192x512 ![] bcast_S_S8192x512 : 𝕋One → 𝕋Arr),
    binary main_v92 main_v91 main_v93 (mulf : 𝕋Arr → 𝕋Arr → 𝕋Arr),
    binary main_v84_5 main_v61 main_v94 (mulf : 𝕋Arr → 𝕋Arr → 𝕋Arr),
    binary main_v93 main_v94 main_v95 (addf : 𝕋Arr → 𝕋Arr → 𝕋Arr),
    binary main_v55 main_v95 main_v96 (mulf : 𝕋Arr → 𝕋Arr → 𝕋Arr),
    nullary main_cst_24 (constant S_ .f32 0x00000000#32),
    binary main_v96 main_cst_24 main_v97 ((fun x v => Host.reduceAdd x v reducesTo_S8192x512_S512_d0 h_S_) : 𝕋Arr → 𝕋One → 𝕋Row),
    reshape main_v97 main_v98 (rfl : (.f32 : EltTy) = .f32) shapeCasts_S512_S1x512,
    unary main_v58 main_v99 (broadcastInDim S8192x512 ![0, 1] bcast_S1x512_S8192x512_0_1 : 𝕋Row1 → 𝕋Arr),
    binary main_v95 main_v99 main_v100 (mulf : 𝕋Arr → 𝕋Arr → 𝕋Arr),
    nullary main_cst_25 (constant S_ .f32 0x00000000#32),
    binary main_v98 main_cst_25 main_v101 ((fun x v => Host.reduceAdd x v reducesTo_S1x512_S512_d0 h_S_) : 𝕋Row1 → 𝕋One → 𝕋Row) ]
theorem main_part2_ops1_sub : In (F := F) main_part2_ops1 := ⟨in2 .., in2 .., in2 .., in2 .., in2 .., in1 .., in2 .., in0 .., in1 .., in2 .., in2 .., in2 .., in2 .., in0 .., in2 .., inR .., in1 .., in2 .., in0 .., in2 ..⟩
abbrev main_part2_ops1_W : List (Ref sig .tc) := [main_v85, main_v86, main_v87, main_v88, main_v89, main_v90, main_v91, main_cst_23, main_v92, main_v93, main_v94, main_v95, main_v96, main_cst_24, main_v97, main_v98, main_v99, main_v100, main_cst_25, main_v101]
theorem main_part2_ops1_writes : (main_part2_ops1 : 𝕋Ops).map HloOp.writes = main_part2_ops1_W.map fun r => {Proc.devRef (τ := τ) .tc r} := rfl

abbrev main_part2_ops2 : 𝕋Ops :=
  [ TRef.binary (.of main_v101 : TRow) (.of main_v57_1 : TRow) (.of main_v102 : TRow) mulf ]
theorem main_part2_ops2_sub : (main_part2_ops2 : 𝕋Ops).Forall fun op => op.bufs ⊆ tcRefs τ sig :=
  in2 ..
abbrev main_part2_ops2_W : List (Ref sig .tc) := [main_v102]
theorem main_part2_ops2_writes : (main_part2_ops2 : 𝕋Ops).map HloOp.writes = main_part2_ops2_W.map fun r => {Proc.devRef (τ := τ) .tc r} := rfl

abbrev main_part2_ops3 : 𝕋Ops :=
  ( unary main_v102 main_v103 (Host.negf : 𝕋Row → 𝕋Row)
  :: nullary main_cst_26 (constant S_ .f32 0xC1000000#32)
  :: unary main_cst_26 main_v104 (broadcastInDim S8192x512 ![] bcast_S_S8192x512 : 𝕋One → 𝕋Arr)
  :: binary main_v104 main_v100 main_v105 (mulf : 𝕋Arr → 𝕋Arr → 𝕋Arr)
  :: binary main_v88 main_v53 main_v106 (mulf : 𝕋Arr → 𝕋Arr → 𝕋Arr)
  :: nullary main_cst_27 (constant S_ .f32 0x00000000#32)
  :: binary main_v106 main_cst_27 main_v107 ((fun x v => Host.reduceAdd x v reducesTo_S8192x512_S512_d0 h_S_) : 𝕋Arr → 𝕋One → 𝕋Row)
  :: reshape main_v107 main_v108 (rfl : (.f32 : EltTy) = .f32) shapeCasts_S512_S1x512
  :: nullary main_cst_28 (constant S_ .f32 0x00000000#32)
  :: binary main_v108 main_cst_28 main_v109 ((fun x v => Host.reduceAdd x v reducesTo_S1x512_S512_d0 h_S_) : 𝕋Row1 → 𝕋One → 𝕋Row)
  :: binary main_v105 main_v41 main_v110 (mulf : 𝕋Arr → 𝕋Arr → 𝕋Arr)
  :: nullary main_cst_29 (constant S_ .f32 0x00000000#32)
  :: binary main_v110 main_cst_29 main_v111 ((fun x v => Host.reduceAdd x v reducesTo_S8192x512_S512_d0 h_S_) : 𝕋Arr → 𝕋One → 𝕋Row)
  :: reshape main_v111 main_v112 (rfl : (.f32 : EltTy) = .f32) shapeCasts_S512_S1x512
  :: nullary main_cst_30 (constant S_ .f32 0x00000000#32)
  :: binary main_v112 main_cst_30 main_v113 ((fun x v => Host.reduceAdd x v reducesTo_S1x512_S512_d0 h_S_) : 𝕋Row1 → 𝕋One → 𝕋Row)
  :: binary main_v2 main_v79 main_v114 (mulf : 𝕋Arr → 𝕋Arr → 𝕋Arr)
  :: binary main_v79 main_v28 main_v115 (mulf : 𝕋Arr → 𝕋Arr → 𝕋Arr)
  :: nullary main_cst_31 (constant S_ .f32 0x3F000000#32)
  :: unary main_cst_31 main_v116 (broadcastInDim S8192x512 ![] bcast_S_S8192x512 : 𝕋One → 𝕋Arr)
  :: binary main_v116 main_v114 main_v117 (mulf : 𝕋Arr → 𝕋Arr → 𝕋Arr)
  :: binary main_v117 main_v24 main_v118 (mulf : 𝕋Arr → 𝕋Arr → 𝕋Arr)
  :: nullary main_cst_32 (constant S_ .f32 0x3F4C422A#32)
  :: unary main_cst_32 main_v119 (broadcastInDim S8192x512 ![] bcast_S_S8192x512 : 𝕋One → 𝕋Arr)
  :: binary main_v119 main_v118 main_v120 (mulf : 𝕋Arr → 𝕋Arr → 𝕋Arr)
  :: binary main_v115 main_v120 main_v121 (addf : 𝕋Arr → 𝕋Arr → 𝕋Arr)
  :: nullary main_cst_33 (constant S_ .f32 0x3D372713#32)
  :: unary main_cst_33 main_v122 (broadcastInDim S8192x512 ![] bcast_S_S8192x512 : 𝕋One → 𝕋Arr)
  :: binary main_v122 main_v120 main_v123 (mulf : 𝕋Arr → 𝕋Arr → 𝕋Arr)
  :: binary main_v123 main_v13 main_v124 (mulf : 𝕋Arr → 𝕋Arr → 𝕋Arr)
  :: binary main_v121 main_v124 main_v125 (addf : 𝕋Arr → 𝕋Arr → 𝕋Arr)
  :: unary main_v113 main_v126 (broadcastInDim S1x512 ![1] bcast_S512_S1x512_1 : 𝕋Row → 𝕋Row1)
  :: unary main_v109 main_v127 (broadcastInDim S1x512 ![1] bcast_S512_S1x512_1 : 𝕋Row → 𝕋Row1)
  :: unary main_v103 main_v128 (broadcastInDim S1x512 ![1] bcast_S512_S1x512_1 : 𝕋Row → 𝕋Row1)
  :: nullary main_cst_34 (constant S_ .f32 0x00000000#32)
  :: unary main_cst_34 main_v129 (broadcastInDim S5x512 ![] bcast_S_S5x512 : 𝕋One → (⟨S5x512, .f32⟩ : BufTy).Contents (Elt F))
  :: [] )
theorem main_part2_ops3_sub : In (F := F) main_part2_ops3 := ⟨in1 .., in0 .., in1 .., in2 .., in2 .., in0 .., in2 .., inR .., in0 .., in2 .., in2 .., in0 .., in2 .., inR .., in0 .., in2 .., in2 .., in2 .., in0 .., in1 .., in2 .., in2 .., in0 .., in1 .., in2 .., in2 .., in0 .., in1 .., in2 .., in2 .., in2 .., in1 .., in1 .., in1 .., in0 .., in1 ..⟩
abbrev main_part2_ops3_W : List (Ref sig .tc) := [main_v103, main_cst_26, main_v104, main_v105, main_v106, main_cst_27, main_v107, main_v108, main_cst_28, main_v109, main_v110, main_cst_29, main_v111, main_v112, main_cst_30, main_v113, main_v114, main_v115, main_cst_31, main_v116, main_v117, main_v118, main_cst_32, main_v119, main_v120, main_v121, main_cst_33, main_v122, main_v123, main_v124, main_v125, main_v126, main_v127, main_v128, main_cst_34, main_v129]
theorem main_part2_ops3_writes : (main_part2_ops3 : 𝕋Ops).map HloOp.writes = main_part2_ops3_W.map fun r => {Proc.devRef (τ := τ) .tc r} := rfl

abbrev main_part3_ops0 : 𝕋Ops :=
  [ nary ![main_v126, main_v127, main_v128, main_v129] main_v130 (fun u => (concatenate S8x512 0 [⟨S1x512, (u 0 : 𝕋Row1)⟩, ⟨S1x512, (u 1 : 𝕋Row1)⟩, ⟨S1x512, (u 2 : 𝕋Row1)⟩, ⟨S5x512, (u 3 : (⟨S5x512, .f32⟩ : BufTy).Contents (Elt F))⟩] concatenates_S1x512_S1x512_S1x512_S5x512_S8x512_d0 : (⟨S8x512, .f32⟩ : BufTy).Contents (Elt F))),
    unary main_v76 main_v131 ((truncf .bf16 · bitsLt_bf16_f32) : 𝕋Arr → (⟨S8192x512, .bf16⟩ : BufTy).Contents (Elt F)),
    binary main_v110 main_v106 main_v132 ((fun a b => concatenate S8192x1024 1 [⟨S8192x512, a⟩, ⟨S8192x512, b⟩] concatenates_S8192x512_S8192x512_S8192x1024_d1) : 𝕋Arr → 𝕋Arr → (⟨S8192x1024, .f32⟩ : BufTy).Contents (Elt F)),
    unary main_v125 main_v133 ((truncf .bf16 · bitsLt_bf16_f32) : 𝕋Arr → (⟨S8192x512, .bf16⟩ : BufTy).Contents (Elt F)) ]
theorem main_part3_ops0_sub : In (F := F) main_part3_ops0 := ⟨nary_bufs_sub .., in1 .., in2 .., in1 ..⟩
abbrev main_part3_ops0_W : List (Ref sig .tc) := [main_v130, main_v131, main_v132, main_v133]
theorem main_part3_ops0_writes : (main_part3_ops0 : 𝕋Ops).map HloOp.writes = main_part3_ops0_W.map fun r => {Proc.devRef (τ := τ) .tc r} := rfl

abbrev while0Ops0 : 𝕋Ops :=
  [ TRef.nullary (.of main_while0b_call1_c : TNum) (constantI S_ 32 0#32),
    TRef.unaryIndexed (.of main_v75_0 : TArr) ![(.of main_v75_2 : TNum), (.of main_while0b_call1_c : TNum)] (.of main_while0b_call1_v0 : TRow1) (fun x i => Host.dynamicSlice S1x512 x (fun k => (i k (Shape.Idx.first h_S_)).toInt) sliceFits_S8192x512_S1x512),
    TRef.reshape (.of main_while0b_call1_v0 : TRow1) (.of main_while0b_v134 : TRow) (rfl : (.f32 : EltTy) = .f32) shapeCasts_S1x512_S512 ]
theorem while0Ops0_sub : In (F := F) while0Ops0 := ⟨in0 .., unaryIndexed_bufs_sub .., inR ..⟩
abbrev while0Ops0_W : List (Ref sig .tc) := [main_while0b_call1_c, main_while0b_call1_v0, main_while0b_v134]

abbrev while0Ops0_1 : 𝕋Ops :=
  [ TRef.nullary (.of main_while0b_call2_c : TNum) (constantI S_ 32 0#32),
    TRef.unaryIndexed (.of main_v75_1 : TArr) ![(.of main_v75_2 : TNum), (.of main_while0b_call2_c : TNum)] (.of main_while0b_call2_v0 : TRow1) (fun x i => Host.dynamicSlice S1x512 x (fun k => (i k (Shape.Idx.first h_S_)).toInt) sliceFits_S8192x512_S1x512),
    TRef.reshape (.of main_while0b_call2_v0 : TRow1) (.of main_while0b_v135 : TRow) (rfl : (.f32 : EltTy) = .f32) shapeCasts_S1x512_S512 ]
theorem while0Ops0_1_sub : In (F := F) while0Ops0_1 := ⟨in0 .., unaryIndexed_bufs_sub .., inR ..⟩
abbrev while0Ops0_1_W : List (Ref sig .tc) := [main_while0b_call2_c, main_while0b_call2_v0, main_while0b_v135]

abbrev while0Ops0_2 : 𝕋Ops :=
  [ binary main_while0b_v134 main_v75_3 main_while0b_v136 (mulf : 𝕋Row → 𝕋Row → 𝕋Row),
    binary main_while0b_v136 main_while0b_v135 main_while0b_v137 (addf : 𝕋Row → 𝕋Row → 𝕋Row) ]
theorem while0Ops0_2_sub : In (F := F) while0Ops0_2 := ⟨in2 .., in2 ..⟩
abbrev while0Ops0_2_W : List (Ref sig .tc) := [main_while0b_v136, main_while0b_v137]

abbrev while0Ops0_3 : 𝕋Ops :=
  [ TRef.unary (.of main_while0b_v137 : TRow) (.of main_while0b_call3_v0 : TRow1) (broadcastInDim S1x512 ![1] bcast_S512_S1x512_1),
    TRef.nullary (.of main_while0b_call3_c : TNum) (constantI S_ 32 0#32),
    TRef.binaryIndexed (.of main_v75_4 : TArr) (.of main_while0b_call3_v0 : TRow1) ![(.of main_v75_2 : TNum), (.of main_while0b_call3_c : TNum)] (.of main_while0b_v138 : TArr) (fun x u i => Host.dynamicUpdateSlice x u (fun k => (i k (Shape.Idx.first h_S_)).toInt) updateFits_S8192x512_S1x512) ]
theorem while0Ops0_3_sub : In (F := F) while0Ops0_3 := ⟨in1 .., in0 .., binaryIndexed_bufs_sub ..⟩
abbrev while0Ops0_3_W : List (Ref sig .tc) := [main_while0b_call3_v0, main_while0b_call3_c, main_while0b_v138]

abbrev while0Ops0_4 : 𝕋Ops :=
  [ TRef.unary (.of main_v75_3 : TRow) (.of main_while0b_call4_v0 : TRow1) (broadcastInDim S1x512 ![1] bcast_S512_S1x512_1),
    TRef.nullary (.of main_while0b_call4_c : TNum) (constantI S_ 32 0#32),
    TRef.binaryIndexed (.of main_v75_5 : TArr) (.of main_while0b_call4_v0 : TRow1) ![(.of main_v75_2 : TNum), (.of main_while0b_call4_c : TNum)] (.of main_while0b_v139 : TArr) (fun x u i => Host.dynamicUpdateSlice x u (fun k => (i k (Shape.Idx.first h_S_)).toInt) updateFits_S8192x512_S1x512) ]
theorem while0Ops0_4_sub : In (F := F) while0Ops0_4 := ⟨in1 .., in0 .., binaryIndexed_bufs_sub ..⟩
abbrev while0Ops0_4_W : List (Ref sig .tc) := [main_while0b_call4_v0, main_while0b_call4_c, main_while0b_v139]

abbrev while0Ops0_5 : 𝕋Ops :=
  [ nullary main_while0b_c_40 (constantI S_ 32 1#32),
    binary main_v75_2 main_while0b_c_40 main_while0b_v140 (addi : 𝕋Num → 𝕋Num → 𝕋Num),
    unary main_while0b_v140 main_v75_2 id,
    unary main_while0b_v137 main_v75_3 id,
    unary main_while0b_v138 main_v75_4 id,
    unary main_while0b_v139 main_v75_5 id ]
theorem while0Ops0_5_sub : In (F := F) while0Ops0_5 := ⟨in0 .., in2 .., in1 .., in1 .., in1 .., in1 ..⟩
abbrev while0Ops0_5_W : List (Ref sig .tc) := [main_while0b_c_40, main_while0b_v140, main_v75_2, main_v75_3, main_v75_4, main_v75_5]

abbrev while1Ops0 : 𝕋Ops :=
  [ nullary main_while1b_c_41 (constantI S_ 32 8192#32),
    binary main_while1b_c_41 main_v84_3 main_while1b_v134 (subi : 𝕋Num → 𝕋Num → 𝕋Num),
    nullary main_while1b_c_42 (constantI S_ 32 1#32),
    binary main_while1b_v134 main_while1b_c_42 main_while1b_v135 (subi : 𝕋Num → 𝕋Num → 𝕋Num) ]
theorem while1Ops0_sub : In (F := F) while1Ops0 := ⟨in0 .., in2 .., in0 .., in2 ..⟩
abbrev while1Ops0_W : List (Ref sig .tc) := [main_while1b_c_41, main_while1b_v134, main_while1b_c_42, main_while1b_v135]

abbrev while1Ops0_1 : 𝕋Ops :=
  [ TRef.nullary (.of main_while1b_call5_c : TNum) (constantI S_ 32 0#32),
    TRef.unaryIndexed (.of main_v84_0 : TArr) ![(.of main_while1b_v135 : TNum), (.of main_while1b_call5_c : TNum)] (.of main_while1b_call5_v0 : TRow1) (fun x i => Host.dynamicSlice S1x512 x (fun k => (i k (Shape.Idx.first h_S_)).toInt) sliceFits_S8192x512_S1x512),
    TRef.reshape (.of main_while1b_call5_v0 : TRow1) (.of main_while1b_v136 : TRow) (rfl : (.f32 : EltTy) = .f32) shapeCasts_S1x512_S512 ]
theorem while1Ops0_1_sub : In (F := F) while1Ops0_1 := ⟨in0 .., unaryIndexed_bufs_sub .., inR ..⟩
abbrev while1Ops0_1_W : List (Ref sig .tc) := [main_while1b_call5_c, main_while1b_call5_v0, main_while1b_v136]

abbrev while1Ops0_2 : 𝕋Ops :=
  [ TRef.nullary (.of main_while1b_call6_c : TNum) (constantI S_ 32 0#32),
    TRef.unaryIndexed (.of main_v84_1 : TArr) ![(.of main_while1b_v135 : TNum), (.of main_while1b_call6_c : TNum)] (.of main_while1b_call6_v0 : TRow1) (fun x i => Host.dynamicSlice S1x512 x (fun k => (i k (Shape.Idx.first h_S_)).toInt) sliceFits_S8192x512_S1x512),
    TRef.reshape (.of main_while1b_call6_v0 : TRow1) (.of main_while1b_v137 : TRow) (rfl : (.f32 : EltTy) = .f32) shapeCasts_S1x512_S512 ]
theorem while1Ops0_2_sub : In (F := F) while1Ops0_2 := ⟨in0 .., unaryIndexed_bufs_sub .., inR ..⟩
abbrev while1Ops0_2_W : List (Ref sig .tc) := [main_while1b_call6_c, main_while1b_call6_v0, main_while1b_v137]

abbrev while1Ops0_3 : 𝕋Ops :=
  [ TRef.nullary (.of main_while1b_call7_c : TNum) (constantI S_ 32 0#32),
    TRef.unaryIndexed (.of main_v84_2 : TArr) ![(.of main_while1b_v135 : TNum), (.of main_while1b_call7_c : TNum)] (.of main_while1b_call7_v0 : TRow1) (fun x i => Host.dynamicSlice S1x512 x (fun k => (i k (Shape.Idx.first h_S_)).toInt) sliceFits_S8192x512_S1x512),
    TRef.reshape (.of main_while1b_call7_v0 : TRow1) (.of main_while1b_v138 : TRow) (rfl : (.f32 : EltTy) = .f32) shapeCasts_S1x512_S512 ]
theorem while1Ops0_3_sub : In (F := F) while1Ops0_3 := ⟨in0 .., unaryIndexed_bufs_sub .., inR ..⟩
abbrev while1Ops0_3_W : List (Ref sig .tc) := [main_while1b_call7_c, main_while1b_call7_v0, main_while1b_v138]

abbrev while1Ops0_4 : 𝕋Ops :=
  [ binary main_v84_4 main_while1b_v136 main_while1b_v139 (addf : 𝕋Row → 𝕋Row → 𝕋Row),
    binary main_while1b_v138 main_while1b_v139 main_while1b_v140 (mulf : 𝕋Row → 𝕋Row → 𝕋Row),
    binary main_while1b_v139 main_while1b_v137 main_while1b_v141 (mulf : 𝕋Row → 𝕋Row → 𝕋Row) ]
theorem while1Ops0_4_sub : In (F := F) while1Ops0_4 := ⟨in2 .., in2 .., in2 ..⟩
abbrev while1Ops0_4_W : List (Ref sig .tc) := [main_while1b_v139, main_while1b_v140, main_while1b_v141]

abbrev while1Ops0_5 : 𝕋Ops :=
  [ TRef.unary (.of main_while1b_v141 : TRow) (.of main_while1b_call8_v0 : TRow1) (broadcastInDim S1x512 ![1] bcast_S512_S1x512_1),
    TRef.nullary (.of main_while1b_call8_c : TNum) (constantI S_ 32 0#32),
    TRef.binaryIndexed (.of main_v84_5 : TArr) (.of main_while1b_call8_v0 : TRow1) ![(.of main_while1b_v135 : TNum), (.of main_while1b_call8_c : TNum)] (.of main_while1b_v142 : TArr) (fun x u i => Host.dynamicUpdateSlice x u (fun k => (i k (Shape.Idx.first h_S_)).toInt) updateFits_S8192x512_S1x512) ]
theorem while1Ops0_5_sub : In (F := F) while1Ops0_5 := ⟨in1 .., in0 .., binaryIndexed_bufs_sub ..⟩
abbrev while1Ops0_5_W : List (Ref sig .tc) := [main_while1b_call8_v0, main_while1b_call8_c, main_while1b_v142]

abbrev while1Ops0_6 : 𝕋Ops :=
  [ TRef.unary (.of main_while1b_v139 : TRow) (.of main_while1b_call9_v0 : TRow1) (broadcastInDim S1x512 ![1] bcast_S512_S1x512_1),
    TRef.nullary (.of main_while1b_call9_c : TNum) (constantI S_ 32 0#32),
    TRef.binaryIndexed (.of main_v84_6 : TArr) (.of main_while1b_call9_v0 : TRow1) ![(.of main_while1b_v135 : TNum), (.of main_while1b_call9_c : TNum)] (.of main_while1b_v143 : TArr) (fun x u i => Host.dynamicUpdateSlice x u (fun k => (i k (Shape.Idx.first h_S_)).toInt) updateFits_S8192x512_S1x512) ]
theorem while1Ops0_6_sub : In (F := F) while1Ops0_6 := ⟨in1 .., in0 .., binaryIndexed_bufs_sub ..⟩
abbrev while1Ops0_6_W : List (Ref sig .tc) := [main_while1b_call9_v0, main_while1b_call9_c, main_while1b_v143]

abbrev while1Ops0_7 : 𝕋Ops :=
  [ nullary main_while1b_c_43 (constantI S_ 32 1#32),
    binary main_v84_3 main_while1b_c_43 main_while1b_v144 (addi : 𝕋Num → 𝕋Num → 𝕋Num),
    unary main_while1b_v144 main_v84_3 id,
    unary main_while1b_v140 main_v84_4 id,
    unary main_while1b_v142 main_v84_5 id,
    unary main_while1b_v143 main_v84_6 id ]
theorem while1Ops0_7_sub : In (F := F) while1Ops0_7 := ⟨in0 .., in2 .., in1 .., in1 .., in1 .., in1 ..⟩
abbrev while1Ops0_7_W : List (Ref sig .tc) := [main_while1b_c_43, main_while1b_v144, main_v84_3, main_v84_4, main_v84_5, main_v84_6]

theorem main_part0_chain (c : Dev nD) : main_part0 (F := F) c = (Pipeline.chainK
  [  ]
  (seq main_part0_ops0) : Prog (TpuEff nD τ sig (Elt F) (HostLoop.Sig (Pipeline.Sig Λ₀ (Fin 0) fun p => (pcfgs (F := F) p).Adm) 2) .tc) PUnit) := by
  chain_rfl
theorem main_part1_chain (c : Dev nD) : main_part1 (F := F) c = (Pipeline.chainK
  [ seq main_part1_ops0,
    seq main_part1_ops1,
    seq main_part1_ops2,
    HostLoop.enter 0 ]
  (seq main_part1_ops3) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl
theorem main_part2_chain (c : Dev nD) : main_part2 (F := F) c = (Pipeline.chainK
  [ seq main_part2_ops0,
    HostLoop.enter 1,
    seq main_part2_ops1,
    seq main_part2_ops2 ]
  (seq main_part2_ops3) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl
theorem main_part3_chain (c : Dev nD) : main_part3 (F := F) c = (Pipeline.chain
  [ seq main_part3_ops0 ] : Prog (TpuEff nD τ sig (Elt F) (HostLoop.Sig (Pipeline.Sig Λ₀ (Fin 0) fun p => (pcfgs (F := F) p).Adm) 2) .tc) PUnit) := by
  rewrite [chain_seq_cons]
  chain_rfl
theorem main_chain_windows (c : Dev nD) : main (F := F) c = (Pipeline.chain
  [ seq main_part0_ops0,
    seq main_part1_ops0,
    seq main_part1_ops1,
    seq main_part1_ops2,
    HostLoop.enter 0,
    seq main_part1_ops3,
    seq main_part2_ops0,
    HostLoop.enter 1,
    seq main_part2_ops1,
    seq main_part2_ops2,
    seq main_part2_ops3,
    seq main_part3_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl
theorem while0_body_chain : main_while0_body (F := F) = (Pipeline.chain
  [ seq while0Ops0,
    seq while0Ops0_1,
    seq while0Ops0_2,
    seq while0Ops0_3,
    seq while0Ops0_4,
    seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, chain_seq_cons]
  chain_rfl
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, chain_seq_cons, Pipeline.chain_cons, Pipeline.chain_cons, chain_seq_cons]
  chain_rfl
/-! ## The stretches before, between and after the two loops, and the loops' bodies -/

/-- A stretch in front of plain ones. -/
theorem plain_cons {ops : 𝕋Ops} {L : List 𝕋Ops} (h : In ops) (hf : ops.map HloOp.fresh = ops.map fun _ => ∅) (hL : Plain L) : Plain (ops :: L) :=
  .cons h (hf := List.forall_iff_forall_mem.mp (forall_fresh_of_map hf)) hL

abbrev preI : List (𝕋Ops) := [main_part0_ops0, main_part1_ops0, main_part1_ops1, main_part1_ops2]
abbrev preI_W : List (Ref sig .tc) := main_part0_ops0_W ++ main_part1_ops0_W ++ main_part1_ops1_W ++ main_part1_ops2_W
theorem hpreI : Plain (preI (F := F)) := plain_cons main_part0_ops0_sub rfl (plain_cons main_part1_ops0_sub rfl (plain_cons main_part1_ops1_sub rfl (plain_cons main_part1_ops2_sub rfl .nil)))
theorem preI_writes : (preI (F := F)).flatten.map HloOp.writes = preI_W.map fun r => {Proc.devRef (τ := τ) .tc r} := rfl
abbrev midI : List (𝕋Ops) := [main_part1_ops3, main_part2_ops0]
abbrev midI_W : List (Ref sig .tc) := main_part1_ops3_W ++ main_part2_ops0_W
theorem hmidI : Plain (midI (F := F)) := plain_cons main_part1_ops3_sub rfl (plain_cons main_part2_ops0_sub rfl .nil)
theorem midI_writes : (midI (F := F)).flatten.map HloOp.writes = midI_W.map fun r => {Proc.devRef (τ := τ) .tc r} := rfl
abbrev postI : List (𝕋Ops) := [main_part2_ops1, main_part2_ops2, main_part2_ops3, main_part3_ops0]
abbrev postI_W : List (Ref sig .tc) := main_part2_ops1_W ++ main_part2_ops2_W ++ main_part2_ops3_W ++ main_part3_ops0_W
theorem hpostI : Plain (postI (F := F)) := plain_cons main_part2_ops1_sub rfl (plain_cons main_part2_ops2_sub rfl (plain_cons main_part2_ops3_sub rfl (plain_cons main_part3_ops0_sub rfl .nil)))
theorem postI_writes : (postI (F := F)).flatten.map HloOp.writes = postI_W.map fun r => {Proc.devRef (τ := τ) .tc r} := rfl
abbrev bodyA : List (𝕋Ops) := [while0Ops0, while0Ops0_1, while0Ops0_2, while0Ops0_3, while0Ops0_4, while0Ops0_5]
abbrev bodyA_W : List (Ref sig .tc) := while0Ops0_W ++ while0Ops0_1_W ++ while0Ops0_2_W ++ while0Ops0_3_W ++ while0Ops0_4_W ++ while0Ops0_5_W
theorem hbodyA : Plain (bodyA (F := F)) := plain_cons while0Ops0_sub rfl (plain_cons while0Ops0_1_sub rfl (plain_cons while0Ops0_2_sub rfl (plain_cons while0Ops0_3_sub rfl (plain_cons while0Ops0_4_sub rfl (plain_cons while0Ops0_5_sub rfl .nil)))))
theorem bodyA_writes : (bodyA (F := F)).flatten.map HloOp.writes = bodyA_W.map fun r => {Proc.devRef (τ := τ) .tc r} := rfl
abbrev bodyB : List (𝕋Ops) := [while1Ops0, while1Ops0_1, while1Ops0_2, while1Ops0_3, while1Ops0_4, while1Ops0_5, while1Ops0_6, while1Ops0_7]
abbrev bodyB_W : List (Ref sig .tc) := while1Ops0_W ++ while1Ops0_1_W ++ while1Ops0_2_W ++ while1Ops0_3_W ++ while1Ops0_4_W ++ while1Ops0_5_W ++ while1Ops0_6_W ++ while1Ops0_7_W
theorem hbodyB : Plain (bodyB (F := F)) := plain_cons while1Ops0_sub rfl (plain_cons while1Ops0_1_sub rfl (plain_cons while1Ops0_2_sub rfl (plain_cons while1Ops0_3_sub rfl (plain_cons while1Ops0_4_sub rfl (plain_cons while1Ops0_5_sub rfl (plain_cons while1Ops0_6_sub rfl (plain_cons while1Ops0_7_sub rfl .nil)))))))
theorem bodyB_writes : (bodyB (F := F)).flatten.map HloOp.writes = bodyB_W.map fun r => {Proc.devRef (τ := τ) .tc r} := rfl

/-- The condition of loop 0: the bound, and the trip counter compared with it. -/
abbrev condA : 𝕋Ops :=
  [ nullary main_while0c_c_40 (constantI S_ 32 8192#32),
    binary main_v75_2 main_while0c_c_40 main_while0c_v134 (cmpi .slt) ]
abbrev condA_W : List (Ref sig .tc) := [main_while0c_c_40, main_while0c_v134]
theorem condA_writes : (condA (F := F)).map HloOp.writes = condA_W.map fun r => {Proc.devRef (τ := τ) .tc r} := rfl

/-- The condition of loop 1: the bound, and the trip counter compared with it. -/
abbrev condB : 𝕋Ops :=
  [ nullary main_while1c_c_41 (constantI S_ 32 8192#32),
    binary main_v84_3 main_while1c_c_41 main_while1c_v134 (cmpi .slt) ]
abbrev condB_W : List (Ref sig .tc) := [main_while1c_c_41, main_while1c_v134]
theorem condB_writes : (condB (F := F)).map HloOp.writes = condB_W.map fun r => {Proc.devRef (τ := τ) .tc r} := rfl

/-! ## The carried buffers' contents, trip by trip -/

/-- A buffer written neither by the condition nor by the body keeps its entry contents. -/
theorem atTrip_keep {condOps : 𝕋Ops} {bodyI : List (𝕋Ops)} (Wc Wb : List (Ref sig .tc)) {r : Ref sig .tc}
    (hc : condOps.map HloOp.writes = Wc.map fun r => {Proc.devRef (τ := τ) .tc r})
    (hb : bodyI.flatten.map HloOp.writes = Wb.map fun r => {Proc.devRef (τ := τ) .tc r}) (hr : r ∉ Wc ∧ r ∉ Wb)
    (W₀ : Dev nD → Valuation τ sig (Elt F)) (c : Dev nD) : ∀ k, atTrip condOps bodyI W₀ k c (Proc.devRef .tc r) = W₀ c (Proc.devRef .tc r)
  | 0 => rfl
  | k + 1 => by
    rw [atTrip_succ, afterL_eq_after_flatten, after_unwritten Wb hb hr.2, after_unwritten Wc hc hr.1, atTrip_keep Wc Wb hc hb hr W₀ c k]

variable (m : (ℓ : Loc nD τ sig) → Buf (Elt F) ℓ) (ρ : Dev nD → PrngReg)

/-- Every buffer at the first loop's entry. -/
abbrev C0 (c : Dev nD) : Valuation τ sig (Elt F) := entryContents preI m c
/-- Every buffer after the first loop. -/
abbrev C1 (c : Dev nD) : Valuation τ sig (Elt F) := after condA (atTrip condA bodyA (C0 m) 8192 c)
/-- Every buffer at the second loop's entry. -/
abbrev C2 (c : Dev nD) : Valuation τ sig (Elt F) := afterL midI (C1 m c)
/-- Every buffer after the second loop. -/
abbrev C3 (c : Dev nD) : Valuation τ sig (Elt F) := after condB (atTrip condB bodyB (C2 m) 8192 c)
/-- Every buffer at the end. -/
abbrev C4 (c : Dev nD) : Valuation τ sig (Elt F) := afterL postI (C3 m c)

set_option maxRecDepth 100000 in
/-- One trip leaves the counter one step on. -/
theorem ctrA_step (X : Valuation τ sig (Elt F)) :
    afterL bodyA X (Proc.devRef .tc main_v75_2) = addi (X (Proc.devRef .tc main_v75_2)) (constantI S_ 32 1#32) := by
  simp only [afterL_cons, afterL_nil]
  after_reads_simp
  rfl

theorem ctrA_cond (X : Valuation τ sig (Elt F)) : after condA X (Proc.devRef .tc main_v75_2) = X (Proc.devRef .tc main_v75_2) :=
  after_unwritten condA_W condA_writes (by decide +kernel) X

set_option maxRecDepth 100000 in
/-- The counter is zero at the loop's entry. -/
theorem ctrA_entry (c : Dev nD) : C0 m c (Proc.devRef .tc main_v75_2) = fun _ => (0#32 : BitVec 32) := by
  simp only [C0, entryContents, afterL_cons, afterL_nil]
  after_reads_simp
  rfl

/-- Before the `k`-th condition the counter is `k`. -/
theorem atTripA_ctr (c : Dev nD) : ∀ k, atTrip condA bodyA (C0 m) k c (Proc.devRef .tc main_v75_2) = fun _ => Scf.iv 0#32 1#32 k
  | 0 => by rw [atTrip_zero, ctrA_entry, Scf.iv_zero]
  | k + 1 => by
    rw [atTrip_succ, ctrA_step, ctrA_cond, atTripA_ctr c k, Scf.iv_succ]
    rfl

set_option maxRecDepth 100000 in
/-- One trip leaves the counter one step on. -/
theorem ctrB_step (X : Valuation τ sig (Elt F)) :
    afterL bodyB X (Proc.devRef .tc main_v84_3) = addi (X (Proc.devRef .tc main_v84_3)) (constantI S_ 32 1#32) := by
  simp only [afterL_cons, afterL_nil]
  after_reads_simp
  rfl

theorem ctrB_cond (X : Valuation τ sig (Elt F)) : after condB X (Proc.devRef .tc main_v84_3) = X (Proc.devRef .tc main_v84_3) :=
  after_unwritten condB_W condB_writes (by decide +kernel) X

set_option maxRecDepth 100000 in
/-- The counter is zero at the loop's entry. -/
theorem ctrB_entry (c : Dev nD) : C2 m c (Proc.devRef .tc main_v84_3) = fun _ => (0#32 : BitVec 32) := by
  unfold C2; generalize C1 m c = Y; simp only [afterL_cons, afterL_nil]
  after_reads_simp
  rfl

/-- Before the `k`-th condition the counter is `k`. -/
theorem atTripB_ctr (c : Dev nD) : ∀ k, atTrip condB bodyB (C2 m) k c (Proc.devRef .tc main_v84_3) = fun _ => Scf.iv 0#32 1#32 k
  | 0 => by rw [atTrip_zero, ctrB_entry, Scf.iv_zero]
  | k + 1 => by
    rw [atTrip_succ, ctrB_step, ctrB_cond, atTripB_ctr c k, Scf.iv_succ]
    rfl

/-! ## The run -/

-- nothing of the ghost algebra is used: the program has no kernel region
local notation "𝕄" => MT nD τ sig Unit (Elt F) ℕ (Option PUnit) ℕ

/-- Carried unchanged beside the buffers: the core's `owes`. -/
abbrev Rw (c : Dev nD) : sProp 𝕄 := iprop(∃ W, owes (c : Thread nD τ) (0 : CellTallies nD τ sig Unit) W)

-- `iapply` of a rule stated for any thread at the TensorCore thread unifies only when unification may unfold
-- plain definitions in a metavariable's type
set_option backward.isDefEq.respectTransparency.types false in
/-- The condition of loop 0 answers whether trip `k` is still to run. -/
theorem condA_spec : LoopCond (Ix := Unit) (Name := ℕ) (U := Option PUnit) (Lvl := ℕ) (pcfgs (F := F)) defs₀ Variants.none loops Rw (main_while0_cond (F := F)) condA bodyA (C0 m) 8192 := by
  intro k hk c bd
  have hctr := atTripA_ctr m c k
  generalize atTrip condA bodyA (C0 m) k c = V at hctr ⊢
  unfold main_while0_cond
  rw [wp_bind]
  iintro ⟨Hb, Hh, HR⟩
  iapply (wp_hlo_within (Variants.lift Variants.none) (c : Thread nD τ) bd Set.univ (sub_ucRefs _ (in0 ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (in2 ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v75_2 HostLoop.idx0)
        (HloOp.result _ V main_while0c_c_40 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]
  · rw [after_cons, after_cons, after_nil]; iexact Hh
  iexact HR

-- `iapply` of a rule stated for any thread at the TensorCore thread unifies only when unification may unfold
-- plain definitions in a metavariable's type
set_option backward.isDefEq.respectTransparency.types false in
/-- The condition of loop 1 answers whether trip `k` is still to run. -/
theorem condB_spec : LoopCond (Ix := Unit) (Name := ℕ) (U := Option PUnit) (Lvl := ℕ) (pcfgs (F := F)) defs₀ Variants.none loops Rw (main_while1_cond (F := F)) condB bodyB (C2 m) 8192 := by
  intro k hk c bd
  have hctr := atTripB_ctr m c k
  generalize atTrip condB bodyB (C2 m) k c = V at hctr ⊢
  unfold main_while1_cond
  rw [wp_bind]
  iintro ⟨Hb, Hh, HR⟩
  iapply (wp_hlo_within (Variants.lift Variants.none) (c : Thread nD τ) bd Set.univ (sub_ucRefs _ (in0 ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (in2 ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v84_3 HostLoop.idx0)
        (HloOp.result _ V main_while1c_c_41 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]
  · rw [after_cons, after_cons, after_nil]; iexact Hh
  iexact HR

abbrev adm₀ : (p : Fin 0) → (pcfgs (F := F) p).Adm := fun p => p.elim0
abbrev tk₀ : Fin 0 → Pipeline.Ticket (Ix := Unit) (Name := ℕ) (U := Option PUnit) (Lvl := ℕ) (nD := nD) (τ := τ) (pcfgs (F := F)) adm₀ := fun j => j.elim0
abbrev L₀ : GSem nD τ sig → Finset Unit := fun _ => ∅
abbrev lv₀ : GSem nD τ sig → Unit → ℕ := fun _ _ => 0
theorem cellOf_inj : Function.Injective (Pipeline.cellOf (nD := nD) (τ := τ) (Pipeline.pin (pcfgs (F := F)) adm₀)) := fun k => k.1.elim0

/-- @main's segments: a list of stretches, the first loop, stretches, the second loop, stretches. -/
def segs : List (CSeg (pcfgs (F := F)) adm₀ defs₀ Variants.none L₀ lv₀ loops tk₀) :=
  segsOf _ _ _ _ _ _ _ _ Rw preI hpreI (launchContents m)
    ++ loopSeg _ _ _ _ _ _ _ _ 0 main_while0_cond main_while0_body rfl condA bodyA hbodyA (by rw [while0_body_chain]; rfl) 8192 (C0 m) Rw (condA_spec m)
      :: (segsOf _ _ _ _ _ _ _ _ Rw midI hmidI (C1 m)
        ++ loopSeg _ _ _ _ _ _ _ _ 1 main_while1_cond main_while1_body rfl condB bodyB hbodyB (by rw [while1_body_chain]; rfl) 8192 (C2 m) Rw (condB_spec m)
          :: segsOf _ _ _ _ _ _ _ _ Rw postI hpostI (C3 m))

theorem segs_prog : (segs m).map CSeg.prog
    = (preI.map fun ops => (seq ops : Prog (TpuEff nD τ sig (Elt F) (HostLoop.Sig (Pipeline.Sig Λ₀ (Fin 0) fun p => (pcfgs (F := F) p).Adm) 2) .tc) PUnit)) ++ HostLoop.enter 0
      :: ((midI.map fun ops => seq ops) ++ HostLoop.enter 1 :: postI.map fun ops => seq ops) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (C4 m c)) ∗ ∃ W, owes (c : Thread nD τ) (0 : CellTallies nD τ sig Unit) W)) := by
  unfold segs
  exact CSeg.Chains.append (segsOf_chains _ _ _ _ _ _ _ _ Rw preI hpreI _)
    ⟨fun _ => .rfl, CSeg.Chains.append (segsOf_chains _ _ _ _ _ _ _ _ Rw midI hmidI _) ⟨fun _ => .rfl, segsOf_chains _ _ _ _ _ _ _ _ Rw postI hpostI _⟩⟩

set_option maxRecDepth 100000 in
/-- On every device, from any memory with zero counters: every weakly fair execution of the reference program terminates with
    every buffer of the program at the fold `C4`. -/
theorem run2 : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = C4 m c (Proc.devRef .tc b)) :=
  Pipeline.θ_run_regions_loop_kit (Ix := Unit) (Name := ℕ) (U := Option PUnit) (Lvl := ℕ) (J := Fin 0) (P := Fin 0) (Val := Elt F)
    (pcfgs (F := F)) adm₀ cellOf_inj defs₀ Variants.none L₀ lv₀ loops tk₀ m ρ main (segs m)
    (fun c Q => by
      rw [main_chain_windows c]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (C4 m c)))
    (hch := segs_chains m)
    (hinit := by
      refine Pipeline.initEach L₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = C4 m c b)
    (hfin := fun c s' => by
      unfold held
      iintro ⟨Hh, HSI⟩
      ihave Hr := (pointsTo_read_all (ucRefs τ sig) (fun b => ((c : Dev nD), b)) (fun b => C4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- What no operation writes is at the end as it was at launch. -/
theorem C4_keep (r : Ref sig .tc) (h : r ∉ preI_W ∧ r ∉ condA_W ∧ r ∉ bodyA_W ∧ r ∉ midI_W ∧ r ∉ condB_W ∧ r ∉ bodyB_W ∧ r ∉ postI_W) (c : Dev nD) :
    C4 m c (Proc.devRef .tc r) = m ((c.tc : Thread nD τ).loc r) := by
  obtain ⟨h1, h2, h3, h4, h5, h6, h7⟩ := h
  unfold C4; rw [afterL_eq_after_flatten, after_unwritten postI_W postI_writes h7]
  unfold C3; rw [after_unwritten condB_W condB_writes h5, atTrip_keep condB_W bodyB_W condB_writes bodyB_writes ⟨h5, h6⟩]
  unfold C2; rw [afterL_eq_after_flatten, after_unwritten midI_W midI_writes h4]
  unfold C1; rw [after_unwritten condA_W condA_writes h2, atTrip_keep condA_W bodyA_W condA_writes bodyA_writes ⟨h2, h3⟩]
  unfold C0 entryContents; rw [afterL_eq_after_flatten, after_unwritten preI_W preI_writes h1]

end Cert.ReferenceIdeal.Two

end
-- ==== Proof.RefVal.lean ====
/- What the reference program's arrays hold before its first loop: each gate, decay and input as the real recurrence's. -/
module

public import proofs.«01_k».proof.Proof.RefRun
public import proofs.«01_k».proof.Proof.Lru
public import Idealize.ShloMosaic.Lib.StableHlo.RunRead
public import Idealize.ShloMosaic.Lib.ValueLayout

@[expose] public section

set_option maxRecDepth 16384

noncomputable section

namespace Cert.ReferenceIdeal.Two

open Cert.ReferenceIdeal Cert.ReferenceIdeal.Gen
open Idealize.ShloMosaic Idealize.ShloMosaic.StableHlo Idealize.ShloMosaic.TcCoe

open Lru

variable (m : (ℓ : Loc nD τ sig) → Buf (Elt Ideal) ℓ) (c : Dev nD) {k : Fin 512 → Col}

theorem ty_v4 : main_v4.ty.shape = S512 := rfl
theorem ty_v6 : main_v6.ty.shape = S512 := rfl
theorem ty_v8 : main_v8.ty.shape = S512 := rfl
theorem row_cast (x : S1x512.Idx → EReal) (h : S1x512.ShapeCasts S512) (l : Fin 512) : shapeCast S512 x h (ix1 l) = x (ix2 0 l) :=
  ValueIdx.shapeCast_1a_a_apply x h l
theorem row_slice (n : ℕ) (hn : n < 8) (x : S8x512.Idx → EReal) (h : S8x512.Slices ![n, 0] S1x512) (l : Fin 512) :
    extractStridedSlice S1x512 ![n, 0] x h (ix2 0 l) = x (ix2 ⟨n, hn⟩ l) := by
  pointwise

/-- The argument arrays at launch hold the channels `k`. -/
abbrev Holds (k : Fin 512 → Col) : Prop :=
  Inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) k

variable (H : Holds m c k)
include H

/-- The contents after the pointwise gates, before softplus is taken. -/
abbrev Y0 : Valuation τ sig (Elt Ideal) := afterL [main_part0_ops0, main_part1_ops0] (launchContents m c)

theorem Y0_g : Arr (Y0 m c (Proc.devRef .tc main_v2)) (fun l t => (k l).g t) := by
  intro t l
  simp only [afterL_cons, afterL_nil]
  after_reads_simp
  pointwise
  exact H.g t l

theorem Y0_sq : Arr (Y0 m c (Proc.devRef .tc main_v13)) (fun l t => 3 * ((k l).g t * (k l).g t)) := by
  intro t l
  have e : launchContents m c (Proc.devRef .tc main_arg2) (ix2 t ⟨3072 + l.val, by omega⟩) = _ := H.g t l
  simp only [afterL_cons, afterL_nil]
  after_reads_simp
  pointwise
  simp only [e, three_coe, ← EReal.coe_mul]

theorem Y0_gelu : Arr (Y0 m c (Proc.devRef .tc main_v29)) (fun l t => ge ((k l).g t)) := by
  intro t l
  have e : launchContents m c (Proc.devRef .tc main_arg2) (ix2 t ⟨3072 + l.val, by omega⟩) = _ := H.g t l
  simp only [afterL_cons, afterL_nil]
  after_reads_simp
  pointwise
  simp only [e, one_coe', half_coe, cA_coe, cB_coe, ← EReal.coe_mul, ← EReal.coe_add, Ideal.tanh_coe, ge, th]

theorem Y0_half : Arr (Y0 m c (Proc.devRef .tc main_v28)) (fun l t => 1 / 2 * (1 + th ((k l).g t))) := by
  intro t l
  have e : launchContents m c (Proc.devRef .tc main_arg2) (ix2 t ⟨3072 + l.val, by omega⟩) = _ := H.g t l
  simp only [afterL_cons, afterL_nil]
  after_reads_simp
  pointwise
  simp only [e, one_coe', half_coe, cA_coe, cB_coe, ← EReal.coe_mul, ← EReal.coe_add, Ideal.tanh_coe, th]

theorem Y0_sech : Arr (Y0 m c (Proc.devRef .tc main_v24)) (fun l t => (1 + th ((k l).g t)) * (1 - th ((k l).g t))) := by
  intro t l
  have e : launchContents m c (Proc.devRef .tc main_arg2) (ix2 t ⟨3072 + l.val, by omega⟩) = _ := H.g t l
  simp only [afterL_cons, afterL_nil]
  after_reads_simp
  pointwise
  simp only [e, one_coe', half_coe, cA_coe, cB_coe, ← EReal.coe_mul, ← EReal.coe_add, ← EReal.coe_sub, Ideal.tanh_coe, th]

/-- A parameter row, and the logistic of an input and its row. -/
theorem Y0_row : Row (Y0 m c (Proc.devRef .tc main_v56)) (fun l => -(k l).lam) := by
  intro l
  have e : launchContents m c (Proc.devRef .tc main_arg3) (ix2 2 l) = _ := H.lam l
  simp only [afterL_cons, afterL_nil]
  after_reads_simp
  dsimp only [ty_v8]
  pointwise
  rw [row_cast, row_slice 2 (by decide)]
  exact (congrArg _ e).trans (EReal.coe_neg _).symm

theorem Y0_r : Arr (Y0 m c (Proc.devRef .tc main_v38)) (fun l t => (k l).r t) := by
  intro t l
  have e : launchContents m c (Proc.devRef .tc main_arg0) (ix2 t ⟨l.val, by omega⟩) = _ := H.pa t l
  have e' : launchContents m c (Proc.devRef .tc main_arg3) (ix2 ⟨0, by decide⟩ l) = _ := H.ba l
  simp only [afterL_cons, afterL_nil]
  after_reads_simp
  dsimp only [ty_v4]
  pointwise
  rw [row_cast, row_slice 0 (by decide)]
  simp only [e, e', one_coe', ← EReal.coe_add, ← EReal.coe_neg, Ideal.exp_coe, div_coe (one_add_exp_pos _).ne', Col.r, sg, one_div]

theorem Y0_i : Arr (Y0 m c (Proc.devRef .tc main_v50)) (fun l t => (k l).i t) := by
  intro t l
  have e : launchContents m c (Proc.devRef .tc main_arg0) (ix2 t ⟨512 + l.val, by omega⟩) = _ := H.px t l
  have e' : launchContents m c (Proc.devRef .tc main_arg3) (ix2 ⟨1, by decide⟩ l) = _ := H.bx l
  simp only [afterL_cons, afterL_nil]
  after_reads_simp
  dsimp only [ty_v6]
  pointwise
  rw [row_cast, row_slice 1 (by decide)]
  simp only [e, e', one_coe', ← EReal.coe_add, ← EReal.coe_neg, Ideal.exp_coe, div_coe (one_add_exp_pos _).ne', Col.i, sg, one_div]

omit H in
/-- The slopes of the two logistics and the scaled gate, each from the gate itself. -/
theorem Y0_gates :
    Y0 m c (Proc.devRef .tc main_v41) = (mulf (Y0 m c (Proc.devRef .tc main_v38) : FVec Ideal S8192x512 .f32) (subf (broadcast S8192x512 1) (Y0 m c (Proc.devRef .tc main_v38))) : FVec Ideal S8192x512 .f32)
    ∧ Y0 m c (Proc.devRef .tc main_v53) = (mulf (Y0 m c (Proc.devRef .tc main_v50) : FVec Ideal S8192x512 .f32) (subf (broadcast S8192x512 1) (Y0 m c (Proc.devRef .tc main_v50))) : FVec Ideal S8192x512 .f32)
    ∧ Y0 m c (Proc.devRef .tc main_v55) = (mulf (broadcast S8192x512 ((-8 : ℝ) : EReal)) (Y0 m c (Proc.devRef .tc main_v38)) : FVec Ideal S8192x512 .f32) := by
  simp only [afterL_cons, afterL_nil]
  after_reads_simp
  refine ⟨?_, ?_, ?_⟩ <;> · funext j; pointwise <;> simp only [neg8_coe]

/-! ## Softplus and its slope -/

omit H in
theorem call_sp (Y : Valuation τ sig (Elt Ideal)) {x : Fin 512 → ℝ} (hx : Row (Y (Proc.devRef .tc main_v56)) x) :
    Row (after main_part1_ops1 Y (Proc.devRef .tc main_v57_0)) (fun l => sp (x l)) := by
  intro l
  have e := hx l
  after_reads_simp
  simp only [TRef.toBuf, TRef.ofBuf, cast_cast, cast_eq]
  pointwise
  rw [e, une_self]
  simp only [sel_zero, zero_coe', max_coe, abs_coe, ← EReal.coe_neg, Ideal.exp_coe, Ideal.log1p, one_coe', ← EReal.coe_add,
    log_coe (one_add_exp_pos _), sp]

omit H in
theorem call_sl (Y : Valuation τ sig (Elt Ideal)) {x : Fin 512 → ℝ} (hx : Row (Y (Proc.devRef .tc main_v56)) x) :
    Row (after main_part1_ops1 Y (Proc.devRef .tc main_v57_1)) (fun l => sl (x l)) := by
  intro l
  have e := hx l
  after_reads_simp
  simp only [TRef.toBuf, TRef.ofBuf, cast_cast, cast_eq]
  pointwise
  rw [e, une_self]
  simp only [sel_zero, zero_coe', max_coe, abs_coe, ← EReal.coe_neg, Ideal.exp_coe, Ideal.log1p, one_coe', ← EReal.coe_add,
    log_coe (one_add_exp_pos _), ofInf, oeq_top, ← EReal.coe_sub, sl, sp]

/-! ## The decay and the input -/

/-- The contents after softplus. -/
abbrev Z0 : Valuation τ sig (Elt Ideal) := after main_part1_ops1 (Y0 m c)

omit H in
theorem C0_eq : C0 m c = after main_part1_ops2 (Z0 m c) := by
  simp only [C0, entryContents, Z0, Y0, afterL_cons, afterL_nil]

omit H in
theorem C0_Y (r : Ref sig .tc) (h : r ∉ main_part1_ops2_W ∧ r ∉ main_part1_ops1_W) : C0 m c (Proc.devRef .tc r) = Y0 m c (Proc.devRef .tc r) := by
  rw [C0_eq, after_unwritten _ main_part1_ops2_writes h.1]
  exact after_unwritten _ main_part1_ops1_writes h.2 _

omit H in
theorem C0_Z (r : Ref sig .tc) (h : r ∉ main_part1_ops2_W) : C0 m c (Proc.devRef .tc r) = Z0 m c (Proc.devRef .tc r) := by
  rw [C0_eq, after_unwritten _ main_part1_ops2_writes h]

omit H in
theorem Z0_Y (r : Ref sig .tc) (h : r ∉ main_part1_ops1_W) : Z0 m c (Proc.devRef .tc r) = Y0 m c (Proc.devRef .tc r) :=
  after_unwritten _ main_part1_ops1_writes h _

omit H in
theorem Z0_arg (r : Ref sig .tc) (h : r ∉ main_part1_ops1_W ∧ r ∉ main_part1_ops0_W ∧ r ∉ main_part0_ops0_W) :
    Z0 m c (Proc.devRef .tc r) = m ((c.tc : Thread nD τ).loc r) := by
  rw [Z0_Y m c r h.1]
  simp only [Y0, afterL_cons, afterL_nil]
  rw [after_unwritten _ main_part1_ops0_writes h.2.1, after_unwritten _ main_part0_ops0_writes h.2.2]

theorem Z0_sp : Row (Z0 m c (Proc.devRef .tc main_v57_0)) (fun l => sp (-(k l).lam)) := call_sp _ (Y0_row m c H)
theorem Z0_sl : Row (Z0 m c (Proc.devRef .tc main_v57_1)) (fun l => sl (-(k l).lam)) := call_sl _ (Y0_row m c H)

theorem Z0_r8 : Arr (Z0 m c (Proc.devRef .tc main_v55)) (fun l t => -8 * (k l).r t) := by
  intro t l
  rw [Z0_Y m c _ (by decide +kernel), (Y0_gates m c).2.2]
  pointwise
  rw [Y0_r m c H t l, ← EReal.coe_mul]

theorem C0_la : Arr (C0 m c (Proc.devRef .tc main_v60)) (fun l t => (k l).la t) := by
  intro t l
  have e := Z0_sp m c H l
  have e' := Z0_r8 m c H t l
  rw [C0_eq]
  generalize Z0 m c = Z at e e' ⊢
  after_reads_simp
  pointwise
  rw [e, e', ← EReal.coe_mul]; rfl

/-- The decay, its square, the input scale and its half reciprocal, as the program takes them, and the input. -/
theorem C0_decay : Arr (C0 m c (Proc.devRef .tc main_v61)) (fun l t => (k l).a t)
    ∧ Arr (C0 m c (Proc.devRef .tc main_v65)) (fun l t => (k l).b t)
    ∧ Arr (C0 m c (Proc.devRef .tc main_v67)) (fun l t => (k l).q t)
    ∧ Arr (C0 m c (Proc.devRef .tc main_v69)) (fun l t => 1 / 2 / (k l).q t) := by
  refine ⟨?_, ?_, ?_, ?_⟩ <;>
  · intro t l
    have e := C0_la m c H t l
    have hp : 0 ≤ -(Real.exp (2 * (k l).la t.val) - 1) := by
      have := (k l).b_lt_one t.val; unfold Col.b at this; linarith
    have hq : Real.sqrt (-(Real.exp (2 * (k l).la t.val) - 1)) = (k l).q t.val := by
      unfold Col.q Col.b; congr 1; ring
    rw [C0_eq] at e ⊢
    generalize Z0 m c = Z at e ⊢
    revert e
    after_reads_simp
    pointwise
    intro e
    simp only [e, two_coe, half_coe, one_coe', ← EReal.coe_mul, Ideal.exp_coe, ← EReal.coe_sub, ← EReal.coe_neg, sqrt_coe hp, hq,
      div_coe ((k l).q_pos _).ne', Col.a, Col.b]

theorem C0_x : Arr (C0 m c (Proc.devRef .tc main_v70)) (fun l t => (k l).i t * (k l).xc t) := by
  intro t l
  have e : Z0 m c (Proc.devRef .tc main_v50) (ix2 t l) = _ :=
    (congrFun (Z0_Y m c main_v50 (by decide +kernel)) (ix2 t l)).trans (Y0_i m c H t l)
  have e' : Z0 m c (Proc.devRef .tc main_arg1) (ix2 t l) = _ :=
    (congrFun (Z0_arg m c main_arg1 (by decide +kernel)) (ix2 t l)).trans (H.xc t l)
  rw [C0_eq]
  generalize Z0 m c = Z at e e' ⊢
  after_reads_simp
  pointwise
  rw [e, e', ← EReal.coe_mul]

theorem C0_u : Arr (C0 m c (Proc.devRef .tc main_v71)) (fun l t => (k l).u t) := by
  intro t l
  have e := C0_x m c H t l
  have e' := (C0_decay m c H).2.2.1 t l
  rw [C0_eq] at e e' ⊢
  generalize Z0 m c = Z at e e' ⊢
  revert e e'
  after_reads_simp
  pointwise
  intro e e'
  rw [e, e', ← EReal.coe_mul]; rfl

end Cert.ReferenceIdeal.Two
end
-- ==== Proof.RefLoop.lean ====
/- What the reference program's two loops leave: the state forward in time, and its accumulated cotangent backward. -/
module

public import proofs.«01_k».proof.Proof.RefVal

@[expose] public section

set_option maxRecDepth 100000

noncomputable section

namespace Cert.ReferenceIdeal.Two

open Cert.ReferenceIdeal Cert.ReferenceIdeal.Gen
open Idealize.ShloMosaic Idealize.ShloMosaic.StableHlo Idealize.ShloMosaic.TcCoe
open Lru

theorem row_at {α : Type} (x : S8192x512.Idx → α) (st : Fin 2 → Int) (h : S8192x512.Slices (fun _ => 0) S1x512)
    (hc) (n : ℕ) (hn : n < 8192) (e0 : st 0 = n) (e1 : st 1 = 0) (l : Fin 512) :
    shapeCast S512 (Host.dynamicSlice S1x512 x st h) hc (ix1 l) = x (ix2 ⟨n, hn⟩ l) := by
  refine (ValueIdx.shapeCast_1a_a_apply _ _ l).trans ?_
  rw [Host.dynamicSlice_apply]
  congr 1
  funext a
  refine Fin.ext ?_
  fin_cases a
  · exact (congrArg (· + 0) (Host.clampedStart_of_le (s := S8192x512) (t := S1x512) h.1 st 0 n e0 (by show n + 1 ≤ 8192; omega)) : _)
  · exact (congrArg (· + l.val) (Host.clampedStart_of_le (s := S8192x512) (t := S1x512) h.1 st 1 0 e1 (by show 0 + 512 ≤ 512; omega))).trans (Nat.zero_add _)

theorem put_at {α : Type} (x : S8192x512.Idx → α) (v : S1x512.Idx → α) (st : Fin 2 → Int) (h : S8192x512.Slices (fun _ => 0) S1x512)
    (n : ℕ) (hn : n < 8192) (e0 : st 0 = n) (e1 : st 1 = 0) (t : Fin 8192) (l : Fin 512) :
    Host.dynamicUpdateSlice x v st h (ix2 t l) = if t.val = n then v (ix2 0 l) else x (ix2 t l) := by
  have h0 := Host.clampedStart_of_le (s := S8192x512) (t := S1x512) h.1 st 0 n e0 (by show n + 1 ≤ 8192; omega)
  have h1 := Host.clampedStart_of_le (s := S8192x512) (t := S1x512) h.1 st 1 0 e1 (by show 0 + 512 ≤ 512; omega)
  rw [Host.dynamicUpdateSlice_apply]
  by_cases e : t.val = n
  · rw [if_pos e, dif_pos]
    · congr 1
      funext b
      refine Fin.ext ?_
      fin_cases b
      · exact (congrArg (t.val - ·) h0).trans (by show t.val - n = 0; omega)
      · exact congrArg (l.val - ·) h1
    · intro b
      fin_cases b
      · exact ⟨by simp [h0, ValueIdx.ix2, e], by simp [h0, ValueIdx.ix2, e]⟩
      · exact ⟨by simp [h1, ValueIdx.ix2], by simp [h1, ValueIdx.ix2]⟩
  · rw [if_neg e, dif_neg]
    intro hh
    have := hh 0
    rw [h0] at this
    have h3 : n ≤ t.val ∧ t.val < n + 1 := this
    omega

theorem lift_at {α : Type} (w : S512.Idx → α) (h) (l : Fin 512) : broadcastInDim S1x512 ![1] h w (ix2 0 l) = w (ix1 l) := by
  pointwise

theorem nat_word (n : ℕ) (hn : n < 8192) : (BitVec.ofNat 32 n).toInt = (n : ℤ) := by
  rw [BitVec.toInt_eq_toNat_of_lt (by rw [BitVec.toNat_ofNat]; omega), BitVec.toNat_ofNat]
  congr 1; omega

/-! ## One trip of the first loop -/

theorem stepA_h (X : Valuation τ sig (Elt Ideal)) (n : ℕ) (hn : n < 8192)
    (hc : X (Proc.devRef .tc main_v75_2) = fun _ => BitVec.ofNat 32 n)
    {a u : Fin 512 → ℕ → ℝ} {p : Fin 512 → ℝ} (ha : Arr (X (Proc.devRef .tc main_v75_0)) a) (hu : Arr (X (Proc.devRef .tc main_v75_1)) u)
    (hp : Row (X (Proc.devRef .tc main_v75_3)) p) :
    Row (after bodyA.flatten X (Proc.devRef .tc main_v75_3)) (fun l => a l n * p l + u l n) := by
  intro l
  after_reads_simp
  simp -implicitDefEqProofs only [TRef.toBuf, TRef.ofBuf, cast_cast, cast_eq]
  show shapeCast S512 _ _ (ix1 l) * _ + shapeCast S512 _ _ (ix1 l) = _
  rw [row_at _ _ _ _ n hn ?_ ?_, row_at _ _ _ _ n hn ?_ ?_, ha, hu, hp, EReal.coe_add, EReal.coe_mul]
  · show BitVec.toInt (upto bodyA.flatten X 4 (Proc.devRef .tc main_v75_2) _) = _
    after_reads_simp
    rw [hc]; exact nat_word n hn
  · show BitVec.toInt (upto bodyA.flatten X 4 (Proc.devRef .tc main_while0b_call2_c) _) = _
    after_reads_simp
    rfl
  · show BitVec.toInt (upto bodyA.flatten X 1 (Proc.devRef .tc main_v75_2) _) = _
    after_reads_simp
    rw [hc]; exact nat_word n hn
  · show BitVec.toInt (upto bodyA.flatten X 1 (Proc.devRef .tc main_while0b_call1_c) _) = _
    after_reads_simp
    rfl

theorem stepA_hs (X : Valuation τ sig (Elt Ideal)) (n : ℕ) (hn : n < 8192)
    (hc : X (Proc.devRef .tc main_v75_2) = fun _ => BitVec.ofNat 32 n) (t : Fin 8192) (l : Fin 512) :
    after bodyA.flatten X (Proc.devRef .tc main_v75_4) (ix2 t l)
      = if t.val = n then after bodyA.flatten X (Proc.devRef .tc main_v75_3) (ix1 l) else X (Proc.devRef .tc main_v75_4) (ix2 t l) := by
  after_reads_simp
  simp -implicitDefEqProofs only [TRef.toBuf, TRef.ofBuf, cast_cast, cast_eq]
  show Host.dynamicUpdateSlice _ _ _ _ (ix2 t l) = _
  rw [put_at _ _ _ _ n hn ?_ ?_]
  · rw [lift_at]; rfl
  · show BitVec.toInt (upto bodyA.flatten X 10 (Proc.devRef .tc main_v75_2) _) = _
    after_reads_simp
    rw [hc]; exact nat_word n hn
  · show BitVec.toInt (upto bodyA.flatten X 10 (Proc.devRef .tc main_while0b_call3_c) _) = _
    after_reads_simp
    rfl

theorem stepA_hps (X : Valuation τ sig (Elt Ideal)) (n : ℕ) (hn : n < 8192)
    (hc : X (Proc.devRef .tc main_v75_2) = fun _ => BitVec.ofNat 32 n) (t : Fin 8192) (l : Fin 512) :
    after bodyA.flatten X (Proc.devRef .tc main_v75_5) (ix2 t l)
      = if t.val = n then X (Proc.devRef .tc main_v75_3) (ix1 l) else X (Proc.devRef .tc main_v75_5) (ix2 t l) := by
  after_reads_simp
  simp -implicitDefEqProofs only [TRef.toBuf, TRef.ofBuf, cast_cast, cast_eq]
  show Host.dynamicUpdateSlice _ _ _ _ (ix2 t l) = _
  rw [put_at _ _ _ _ n hn ?_ ?_]
  · rw [lift_at]
  · show BitVec.toInt (upto bodyA.flatten X 13 (Proc.devRef .tc main_v75_2) _) = _
    after_reads_simp
    rw [hc]; exact nat_word n hn
  · show BitVec.toInt (upto bodyA.flatten X 13 (Proc.devRef .tc main_while0b_call4_c) _) = _
    after_reads_simp
    rfl

/-! ## One trip of the second loop -/

theorem time_word (n : ℕ) (hn : n < 8192) : (8192#32 - BitVec.ofNat 32 n - 1#32).toInt = ((8191 - n : ℕ) : ℤ) := by
  rw [← nat_word (8191 - n) (by omega)]
  congr 1
  apply BitVec.eq_of_toNat_eq
  simp only [BitVec.toNat_sub, BitVec.toNat_ofNat]
  omega

/-- The index the second loop reads and writes at: the last time first. -/
theorem stepB_time (X : Valuation τ sig (Elt Ideal)) (n : ℕ) (hn : n < 8192)
    (hc : X (Proc.devRef .tc main_v84_3) = fun _ => BitVec.ofNat 32 n) :
    ∀ i, BitVec.toInt (after while1Ops0 X (Proc.devRef .tc main_while1b_v135) i) = ((8191 - n : ℕ) : ℤ) := by
  intro i
  after_reads_simp
  rw [hc]
  exact time_word n hn

/-- The second loop's trip up to its values, before it stores them. -/
abbrev headB : List (List (HloOp τ sig (Elt Ideal))) := [while1Ops0, while1Ops0_1, while1Ops0_2, while1Ops0_3, while1Ops0_4]
abbrev headB_W : List (Ref sig .tc) := while1Ops0_W ++ while1Ops0_1_W ++ while1Ops0_2_W ++ while1Ops0_3_W ++ while1Ops0_4_W
theorem headB_writes : headB.flatten.map HloOp.writes = headB_W.map fun r => {Proc.devRef (τ := τ) .tc r} := rfl
abbrev ZB (X : Valuation τ sig (Elt Ideal)) : Valuation τ sig (Elt Ideal) := after headB.flatten X

theorem bodyB_head (X : Valuation τ sig (Elt Ideal)) : afterL bodyB X = after while1Ops0_7 (after while1Ops0_6 (after while1Ops0_5 (ZB X))) := by
  rw [ZB, ← afterL_eq_after_flatten]
  simp only [afterL_cons, afterL_nil]

/-- The accumulated cotangent at the trip's time, as the trip computes it. -/
theorem stepB_dh (X : Valuation τ sig (Elt Ideal)) (n : ℕ) (hn : n < 8192)
    (hc : X (Proc.devRef .tc main_v84_3) = fun _ => BitVec.ofNat 32 n)
    {ct : Fin 512 → ℕ → ℝ} {p : Fin 512 → ℝ} (hct : Arr (X (Proc.devRef .tc main_v84_0)) ct) (hd : Row (X (Proc.devRef .tc main_v84_4)) p) :
    Row (ZB X (Proc.devRef .tc main_while1b_v139)) (fun l => p l + ct l (8191 - n)) := by
  intro l
  unfold ZB
  after_reads_simp
  simp -implicitDefEqProofs only [TRef.toBuf, TRef.ofBuf, cast_cast, cast_eq]
  show _ + shapeCast S512 _ _ (ix1 l) = _
  rw [row_at _ _ _ _ (8191 - n) (by omega) ?_ ?_, hct, hd, EReal.coe_add]
  · show BitVec.toInt (upto headB.flatten X 5 (Proc.devRef .tc main_while1b_v135) _) = _
    after_reads_simp
    rw [hc]; exact time_word n hn
  · show BitVec.toInt (upto headB.flatten X 5 (Proc.devRef .tc main_while1b_call5_c) _) = _
    after_reads_simp
    rfl

/-- The rows of the other two carried arrays at the trip's time. -/
theorem stepB_rows (X : Valuation τ sig (Elt Ideal)) (n : ℕ) (hn : n < 8192)
    (hc : X (Proc.devRef .tc main_v84_3) = fun _ => BitVec.ofNat 32 n)
    {hp a : Fin 512 → ℕ → ℝ} (hhp : Arr (X (Proc.devRef .tc main_v84_1)) hp) (ha : Arr (X (Proc.devRef .tc main_v84_2)) a) :
    Row (ZB X (Proc.devRef .tc main_while1b_v137)) (fun l => hp l (8191 - n))
    ∧ Row (ZB X (Proc.devRef .tc main_while1b_v138)) (fun l => a l (8191 - n)) := by
  constructor <;> intro l <;> unfold ZB <;> after_reads_simp <;> simp -implicitDefEqProofs only [TRef.toBuf, TRef.ofBuf, cast_cast, cast_eq]
  · show shapeCast S512 _ _ (ix1 l) = _
    rw [row_at _ _ _ _ (8191 - n) (by omega) ?_ ?_, hhp]
    · show BitVec.toInt (upto headB.flatten X 8 (Proc.devRef .tc main_while1b_v135) _) = _
      after_reads_simp
      rw [hc]; exact time_word n hn
    · show BitVec.toInt (upto headB.flatten X 8 (Proc.devRef .tc main_while1b_call6_c) _) = _
      after_reads_simp
      rfl
  · show shapeCast S512 _ _ (ix1 l) = _
    rw [row_at _ _ _ _ (8191 - n) (by omega) ?_ ?_, ha]
    · show BitVec.toInt (upto headB.flatten X 11 (Proc.devRef .tc main_while1b_v135) _) = _
      after_reads_simp
      rw [hc]; exact time_word n hn
    · show BitVec.toInt (upto headB.flatten X 11 (Proc.devRef .tc main_while1b_call7_c) _) = _
      after_reads_simp
      rfl

/-- The next trip's carry is the decay times the accumulated cotangent. -/
theorem stepB_carry (X : Valuation τ sig (Elt Ideal)) {a p : Fin 512 → ℝ} (ha : Row (ZB X (Proc.devRef .tc main_while1b_v138)) a)
    (hp : Row (ZB X (Proc.devRef .tc main_while1b_v139)) p) :
    Row (afterL bodyB X (Proc.devRef .tc main_v84_4)) (fun l => a l * p l) := by
  intro l
  have e : ZB X (Proc.devRef .tc main_while1b_v140) = (mulf (ZB X (Proc.devRef .tc main_while1b_v138) : FVec Ideal S512 .f32)
      (ZB X (Proc.devRef .tc main_while1b_v139)) : FVec Ideal S512 .f32) := by
    unfold ZB
    after_reads_simp
  rw [bodyB_head]
  generalize ZB X = Z at e ha hp ⊢
  after_reads_simp
  rw [e]
  exact (congrArg₂ (· * ·) (ha l) (hp l)).trans (EReal.coe_mul _ _).symm

theorem stepB_time' (X : Valuation τ sig (Elt Ideal)) (n : ℕ) (hn : n < 8192)
    (hc : X (Proc.devRef .tc main_v84_3) = fun _ => BitVec.ofNat 32 n) (i) :
    BitVec.toInt (ZB X (Proc.devRef .tc main_while1b_v135) i) = ((8191 - n : ℕ) : ℤ) := by
  unfold ZB
  after_reads_simp
  rw [hc]; exact time_word n hn

theorem stepB_dhs (X : Valuation τ sig (Elt Ideal)) (n : ℕ) (hn : n < 8192)
    (hc : X (Proc.devRef .tc main_v84_3) = fun _ => BitVec.ofNat 32 n) (t : Fin 8192) (l : Fin 512) :
    afterL bodyB X (Proc.devRef .tc main_v84_6) (ix2 t l)
      = if t.val = 8191 - n then ZB X (Proc.devRef .tc main_while1b_v139) (ix1 l)
        else X (Proc.devRef .tc main_v84_6) (ix2 t l) := by
  have e0 := stepB_time' X n hn hc
  have e1 : ZB X (Proc.devRef .tc main_v84_6) = X (Proc.devRef .tc main_v84_6) := after_unwritten headB_W headB_writes (by decide +kernel) X
  rw [← e1, bodyB_head]
  generalize ZB X = Z at e0 ⊢
  after_reads_simp
  simp -implicitDefEqProofs only [TRef.toBuf, TRef.ofBuf, cast_cast, cast_eq]
  show Host.dynamicUpdateSlice _ _ _ _ (ix2 t l) = _
  rw [put_at _ _ _ _ (8191 - n) (by omega) ?_ ?_]
  · rw [lift_at]
  · show BitVec.toInt (upto while1Ops0_6 (after while1Ops0_5 Z) 2 (Proc.devRef .tc main_while1b_v135) _) = _
    after_reads_simp
    exact e0 _
  · show BitVec.toInt (upto while1Ops0_6 (after while1Ops0_5 Z) 2 (Proc.devRef .tc main_while1b_call9_c) _) = _
    after_reads_simp
    rfl

theorem stepB_das (X : Valuation τ sig (Elt Ideal)) (n : ℕ) (hn : n < 8192)
    (hc : X (Proc.devRef .tc main_v84_3) = fun _ => BitVec.ofNat 32 n) {p q : Fin 512 → ℝ}
    (hp : Row (ZB X (Proc.devRef .tc main_while1b_v139)) p) (hq : Row (ZB X (Proc.devRef .tc main_while1b_v137)) q) (t : Fin 8192) (l : Fin 512) :
    afterL bodyB X (Proc.devRef .tc main_v84_5) (ix2 t l)
      = if t.val = 8191 - n then ((p l * q l : ℝ) : EReal) else X (Proc.devRef .tc main_v84_5) (ix2 t l) := by
  have e0 := stepB_time' X n hn hc
  have e1 : ZB X (Proc.devRef .tc main_v84_5) = X (Proc.devRef .tc main_v84_5) := after_unwritten headB_W headB_writes (by decide +kernel) X
  have e : ZB X (Proc.devRef .tc main_while1b_v141) = (mulf (ZB X (Proc.devRef .tc main_while1b_v139) : FVec Ideal S512 .f32)
      (ZB X (Proc.devRef .tc main_while1b_v137)) : FVec Ideal S512 .f32) := by
    unfold ZB
    after_reads_simp
  have e2 : ZB X (Proc.devRef .tc main_while1b_v141) (ix1 l) = ((p l * q l : ℝ) : EReal) := by
    rw [e]; exact (congrArg₂ (· * ·) (hp l) (hq l)).trans (EReal.coe_mul _ _).symm
  rw [← e1, ← e2, bodyB_head]
  generalize ZB X = Z at e0 ⊢
  after_reads_simp
  simp -implicitDefEqProofs only [TRef.toBuf, TRef.ofBuf, cast_cast, cast_eq]
  show Host.dynamicUpdateSlice _ _ _ _ (ix2 t l) = _
  rw [put_at _ _ _ _ (8191 - n) (by omega) ?_ ?_]
  · rw [lift_at]
  · show BitVec.toInt (upto while1Ops0_5 Z 2 (Proc.devRef .tc main_while1b_v135) _) = _
    after_reads_simp
    exact e0 _
  · show BitVec.toInt (upto while1Ops0_5 Z 2 (Proc.devRef .tc main_while1b_call8_c) _) = _
    after_reads_simp
    rfl

/-! ## The first loop -/

section
variable (m : (ℓ : Loc nD τ sig) → Buf (Elt Ideal) ℓ) (c : Dev nD) {k : Fin 512 → Col} (H : Holds m c k)

theorem C0_carried : C0 m c (Proc.devRef .tc main_v75_0) = C0 m c (Proc.devRef .tc main_v61)
    ∧ C0 m c (Proc.devRef .tc main_v75_1) = C0 m c (Proc.devRef .tc main_v71)
    ∧ C0 m c (Proc.devRef .tc main_v75_3) = (constant S512 .f32 0x00000000#32 : FVec Ideal S512 .f32) := by
  rw [C0_eq]
  generalize Z0 m c = Z
  refine ⟨?_, ?_, ?_⟩ <;> after_reads_simp <;> rfl

/-- What the first loop holds before its `n`-th trip: the state at `n`, and the states at the times before. -/
structure InvA (k : Fin 512 → Col) (n : ℕ) (X : Valuation τ sig (Elt Ideal)) : Prop where
  ctr : X (Proc.devRef .tc main_v75_2) = fun _ => BitVec.ofNat 32 n
  a : Arr (X (Proc.devRef .tc main_v75_0)) (fun l t => (k l).a t)
  u : Arr (X (Proc.devRef .tc main_v75_1)) (fun l t => (k l).u t)
  h : Row (X (Proc.devRef .tc main_v75_3)) (fun l => (k l).hp n)
  hs : ∀ (t : Fin 8192) l, t.val < n → X (Proc.devRef .tc main_v75_4) (ix2 t l) = (((k l).h t : ℝ) : EReal)
  hps : ∀ (t : Fin 8192) l, t.val < n → X (Proc.devRef .tc main_v75_5) (ix2 t l) = (((k l).hp t : ℝ) : EReal)

theorem InvA.cond {k : Fin 512 → Col} {n : ℕ} {X : Valuation τ sig (Elt Ideal)} (I : InvA k n X) : InvA k n (after condA X) := by
  have e : ∀ r : Ref sig .tc, r ∉ condA_W → after condA X (Proc.devRef .tc r) = X (Proc.devRef .tc r) :=
    fun r hr => after_unwritten condA_W condA_writes hr X
  constructor
  · rw [e _ (by decide +kernel)]; exact I.ctr
  · rw [e _ (by decide +kernel)]; exact I.a
  · rw [e _ (by decide +kernel)]; exact I.u
  · rw [e _ (by decide +kernel)]; exact I.h
  · rw [e _ (by decide +kernel)]; exact I.hs
  · rw [e _ (by decide +kernel)]; exact I.hps

theorem succ_word (n : ℕ) : BitVec.ofNat 32 n + 1#32 = BitVec.ofNat 32 (n + 1) := by
  rw [BitVec.ofNat_add]

theorem InvA.step {k : Fin 512 → Col} {n : ℕ} (hn : n < 8192) {X : Valuation τ sig (Elt Ideal)} (I : InvA k n X) :
    InvA k (n + 1) (afterL bodyA X) := by
  have e : ∀ r : Ref sig .tc, r ∉ bodyA_W → after bodyA.flatten X (Proc.devRef .tc r) = X (Proc.devRef .tc r) :=
    fun r hr => after_unwritten bodyA_W bodyA_writes hr X
  have hh : Row (after bodyA.flatten X (Proc.devRef .tc main_v75_3)) (fun l => (k l).h n) := by
    intro l
    exact (stepA_h X n hn I.ctr I.a I.u I.h l).trans (congrArg _ ((k l).h_eq n).symm)
  have hc : afterL bodyA X (Proc.devRef .tc main_v75_2) = fun _ => BitVec.ofNat 32 (n + 1) := by
    rw [ctrA_step, I.ctr]
    exact funext fun _ => succ_word n
  rw [afterL_eq_after_flatten] at hc ⊢
  refine ⟨hc, ?_, ?_, hh, ?_, ?_⟩
  · rw [e _ (by decide +kernel)]; exact I.a
  · rw [e _ (by decide +kernel)]; exact I.u
  · intro t l ht
    rw [stepA_hs X n hn I.ctr]
    by_cases h : t.val = n
    · rw [if_pos h, hh l, h]
    · rw [if_neg h]; exact I.hs t l (by omega)
  · intro t l ht
    rw [stepA_hps X n hn I.ctr]
    by_cases h : t.val = n
    · rw [if_pos h, I.h l, h]
    · rw [if_neg h]; exact I.hps t l (by omega)

include H in
theorem invA : ∀ n, n ≤ 8192 → InvA k n (atTrip condA bodyA (C0 m) n c)
  | 0, _ => by
    obtain ⟨e0, e1, e3⟩ := C0_carried m c
    refine ⟨ctrA_entry m c, ?_, ?_, ?_, fun t l h => absurd h (Nat.not_lt_zero _), fun t l h => absurd h (Nat.not_lt_zero _)⟩
    · rw [atTrip_zero, e0]; exact (C0_decay m c H).1
    · rw [atTrip_zero, e1]; exact C0_u m c H
    · rw [atTrip_zero, e3]; intro l; exact zero_coe
  | n + 1, hn => by
    rw [atTrip_succ]
    exact (invA n (by omega)).cond.step (by omega)

include H in
theorem C1_inv : InvA k 8192 (C1 m c) := (invA m c H 8192 (le_refl _)).cond

theorem C1_keep (r : Ref sig .tc) (h : r ∉ condA_W ∧ r ∉ bodyA_W) : C1 m c (Proc.devRef .tc r) = C0 m c (Proc.devRef .tc r) := by
  unfold C1; rw [after_unwritten condA_W condA_writes h.1, atTrip_keep condA_W bodyA_W condA_writes bodyA_writes h]

/-! ## Between the loops -/

theorem C2_keep (r : Ref sig .tc) (h : r ∉ midI_W) : C2 m c (Proc.devRef .tc r) = C1 m c (Proc.devRef .tc r) := by
  unfold C2; rw [afterL_eq_after_flatten, after_unwritten midI_W midI_writes h]

include H in
theorem C1_gelu : Arr (C1 m c (Proc.devRef .tc main_v29)) (fun l t => ge ((k l).g t)) := by
  rw [C1_keep m c _ (by decide +kernel), C0_Y m c _ (by decide +kernel)]
  exact Y0_gelu m c H

include H in
theorem C1_h : Arr (C1 m c (Proc.devRef .tc main_v75_4)) (fun l t => (k l).h t) ∧ Arr (C1 m c (Proc.devRef .tc main_v75_5)) (fun l t => (k l).hp t) :=
  ⟨fun t l => (C1_inv m c H).hs t l t.isLt, fun t l => (C1_inv m c H).hps t l t.isLt⟩

theorem C1_arg : C1 m c (Proc.devRef .tc main_arg4) = m ((c.tc : Thread nD τ).loc main_arg4) := by
  rw [C1_keep m c _ (by decide +kernel), C0_Z m c _ (by decide +kernel), Z0_arg m c _ (by decide +kernel)]

theorem mid_vals (Z : Valuation τ sig (Elt Ideal)) (eg : Arr (Z (Proc.devRef .tc main_v29)) (fun l t => ge ((k l).g t)))
    (eh : Arr (Z (Proc.devRef .tc main_v75_4)) (fun l t => (k l).h t))
    (ed : ∀ (t : Fin 8192) (l : Fin 512), Z (Proc.devRef .tc main_arg4) (ix2 t ⟨1024 + l.val, by omega⟩) = (((k l).dm t : ℝ) : EReal)) :
    Arr (afterL midI Z (Proc.devRef .tc main_v76)) (fun l t => (k l).out t)
    ∧ Arr (afterL midI Z (Proc.devRef .tc main_v79)) (fun l t => (k l).h t * (k l).dm t)
    ∧ Arr (afterL midI Z (Proc.devRef .tc main_v77)) (fun l t => (k l).dm t)
    ∧ Arr (afterL midI Z (Proc.devRef .tc main_v84_0)) (fun l t => (k l).ct t) := by
  have e0 : afterL midI Z (Proc.devRef .tc main_v84_0) = afterL midI Z (Proc.devRef .tc main_v80) := by
    simp only [afterL_cons, afterL_nil]
    after_reads_simp
    rfl
  rw [e0]
  simp only [afterL_cons, afterL_nil]
  refine ⟨?_, ?_, ?_, ?_⟩ <;> intro t l <;> after_reads_simp <;> pointwise
  · rw [eh t l, eg t l, ← EReal.coe_mul]; rfl
  · rw [eh t l, ed t l, ← EReal.coe_mul]
  · rw [ed t l]
  · rw [ed t l, eg t l, ← EReal.coe_mul]; rfl

include H in
/-- The product with the gate, and with the state's own cotangent, in the middle of the step. -/
theorem C2_mid : Arr (C2 m c (Proc.devRef .tc main_v76)) (fun l t => (k l).out t)
    ∧ Arr (C2 m c (Proc.devRef .tc main_v79)) (fun l t => (k l).h t * (k l).dm t)
    ∧ Arr (C2 m c (Proc.devRef .tc main_v77)) (fun l t => (k l).dm t)
    ∧ Arr (C2 m c (Proc.devRef .tc main_v84_0)) (fun l t => (k l).ct t) :=
  mid_vals (C1 m c) (C1_gelu m c H) (C1_h m c H).1 fun t l => (congrFun (C1_arg m c) _).trans (H.dm t l)

theorem mid_carried (Z : Valuation τ sig (Elt Ideal)) : afterL midI Z (Proc.devRef .tc main_v84_1) = Z (Proc.devRef .tc main_v75_5)
    ∧ afterL midI Z (Proc.devRef .tc main_v84_2) = Z (Proc.devRef .tc main_v61)
    ∧ Row (afterL midI Z (Proc.devRef .tc main_v84_4)) (fun _ => 0) := by
  simp only [afterL_cons, afterL_nil]
  refine ⟨?_, ?_, fun l => ?_⟩ <;> after_reads_simp
  · rfl
  · rfl
  · exact zero_coe

include H in
theorem C2_carried : Arr (C2 m c (Proc.devRef .tc main_v84_1)) (fun l t => (k l).hp t)
    ∧ Arr (C2 m c (Proc.devRef .tc main_v84_2)) (fun l t => (k l).a t)
    ∧ Row (C2 m c (Proc.devRef .tc main_v84_4)) (fun _ => 0) := by
  obtain ⟨e1, e2, e3⟩ := mid_carried (C1 m c)
  refine ⟨?_, ?_, e3⟩
  · unfold C2; rw [e1]; exact (C1_h m c H).2
  · unfold C2; rw [e2, C1_keep m c _ (by decide +kernel)]; exact (C0_decay m c H).1

/-! ## The second loop -/

/-- What the second loop holds before its `n`-th trip: what flows into the time `8191 - n`, and what was found at the
    times after it. -/
structure InvB (k : Fin 512 → Col) (n : ℕ) (X : Valuation τ sig (Elt Ideal)) : Prop where
  ctr : X (Proc.devRef .tc main_v84_3) = fun _ => BitVec.ofNat 32 n
  ct : Arr (X (Proc.devRef .tc main_v84_0)) (fun l t => (k l).ct t)
  hp : Arr (X (Proc.devRef .tc main_v84_1)) (fun l t => (k l).hp t)
  a : Arr (X (Proc.devRef .tc main_v84_2)) (fun l t => (k l).a t)
  d : n < 8192 → Row (X (Proc.devRef .tc main_v84_4)) (fun l => (k l).dn (8191 - n))
  das : ∀ (t : Fin 8192) l, 8192 ≤ t.val + n → X (Proc.devRef .tc main_v84_5) (ix2 t l) = (((k l).dh t * (k l).hp t : ℝ) : EReal)
  dhs : ∀ (t : Fin 8192) l, 8192 ≤ t.val + n → X (Proc.devRef .tc main_v84_6) (ix2 t l) = (((k l).dh t : ℝ) : EReal)

theorem InvB.cond {k : Fin 512 → Col} {n : ℕ} {X : Valuation τ sig (Elt Ideal)} (I : InvB k n X) : InvB k n (after condB X) := by
  have e : ∀ r : Ref sig .tc, r ∉ condB_W → after condB X (Proc.devRef .tc r) = X (Proc.devRef .tc r) :=
    fun r hr => after_unwritten condB_W condB_writes hr X
  constructor
  · rw [e _ (by decide +kernel)]; exact I.ctr
  · rw [e _ (by decide +kernel)]; exact I.ct
  · rw [e _ (by decide +kernel)]; exact I.hp
  · rw [e _ (by decide +kernel)]; exact I.a
  · rw [e _ (by decide +kernel)]; exact I.d
  · rw [e _ (by decide +kernel)]; exact I.das
  · rw [e _ (by decide +kernel)]; exact I.dhs

theorem InvB.step {k : Fin 512 → Col} {n : ℕ} (hn : n < 8192) {X : Valuation τ sig (Elt Ideal)} (I : InvB k n X) :
    InvB k (n + 1) (afterL bodyB X) := by
  have e : ∀ r : Ref sig .tc, r ∉ bodyB_W → afterL bodyB X (Proc.devRef .tc r) = X (Proc.devRef .tc r) := fun r hr => by
    rw [afterL_eq_after_flatten]; exact after_unwritten bodyB_W bodyB_writes hr X
  have hd : Row (ZB X (Proc.devRef .tc main_while1b_v139)) (fun l => (k l).dh (8191 - n)) := by
    intro l
    refine (stepB_dh X n hn I.ctr I.ct (I.d hn) l).trans (congrArg _ ?_)
    show (k l).dn (8191 - n) + (k l).ct (8191 - n) = (k l).dh (8191 - n)
    rw [(k l).dh_eq _ (by omega), add_comm]
  obtain ⟨hh, ha⟩ := stepB_rows X n hn I.ctr I.hp I.a
  have hc : afterL bodyB X (Proc.devRef .tc main_v84_3) = fun _ => BitVec.ofNat 32 (n + 1) := by
    rw [ctrB_step, I.ctr]
    exact funext fun _ => succ_word n
  refine ⟨hc, ?_, ?_, ?_, fun h => ?_, ?_, ?_⟩
  · rw [e _ (by decide +kernel)]; exact I.ct
  · rw [e _ (by decide +kernel)]; exact I.hp
  · rw [e _ (by decide +kernel)]; exact I.a
  · intro l
    refine (stepB_carry X ha hd l).trans (congrArg _ ?_)
    have e1 : 8191 - (n + 1) + 1 = 8191 - n := by omega
    show _ = (k l).dn (8191 - (n + 1))
    rw [Col.dn, if_pos (by omega), e1]
  · intro t l ht
    rw [stepB_das X n hn I.ctr hd hh]
    by_cases h : t.val = 8191 - n
    · rw [if_pos h, h]
    · rw [if_neg h]; exact I.das t l (by omega)
  · intro t l ht
    rw [stepB_dhs X n hn I.ctr]
    by_cases h : t.val = 8191 - n
    · rw [if_pos h, hd l, h]
    · rw [if_neg h]; exact I.dhs t l (by omega)

include H in
theorem invB : ∀ n, n ≤ 8192 → InvB k n (atTrip condB bodyB (C2 m) n c)
  | 0, _ => by
    obtain ⟨e1, e2, e4⟩ := C2_carried m c H
    refine ⟨ctrB_entry m c, (C2_mid m c H).2.2.2, e1, e2, fun _ l => ?_, fun t l h => absurd h (by omega), fun t l h => absurd h (by omega)⟩
    refine (e4 l).trans (congrArg _ ?_)
    show _ = (k l).dn 8191
    rw [Col.dn, if_neg (by omega)]
  | n + 1, hn => by
    rw [atTrip_succ]
    exact (invB n (by omega)).cond.step (by omega)

include H in
theorem C3_dh : Arr (C3 m c (Proc.devRef .tc main_v84_6)) (fun l t => (k l).dh t)
    ∧ Arr (C3 m c (Proc.devRef .tc main_v84_5)) (fun l t => (k l).dh t * (k l).hp t) :=
  ⟨fun t l => (invB m c H 8192 (le_refl _)).cond.dhs t l (by omega), fun t l => (invB m c H 8192 (le_refl _)).cond.das t l (by omega)⟩

theorem C3_keep (r : Ref sig .tc) (h : r ∉ condB_W ∧ r ∉ bodyB_W) : C3 m c (Proc.devRef .tc r) = C2 m c (Proc.devRef .tc r) := by
  unfold C3; rw [after_unwritten condB_W condB_writes h.1, atTrip_keep condB_W bodyB_W condB_writes bodyB_writes h]

/-- A value found before the loops is there after them. -/
theorem C3_C0 (r : Ref sig .tc) (h : (r ∉ condB_W ∧ r ∉ bodyB_W) ∧ r ∉ midI_W ∧ r ∉ condA_W ∧ r ∉ bodyA_W) :
    C3 m c (Proc.devRef .tc r) = C0 m c (Proc.devRef .tc r) := by
  rw [C3_keep m c r h.1, C2_keep m c r h.2.1, C1_keep m c r h.2.2]

end

end Cert.ReferenceIdeal.Two
end
-- ==== Proof.RefPost.lean ====
/- What the reference program's result arrays hold, in the real recurrence's terms. -/
module

public import proofs.«01_k».proof.Proof.RefLoop
public import proofs.«01_k».proof.Proof.LruSum
public import Idealize.ShloMosaic.Lib.IdealHost

@[expose] public section

set_option maxRecDepth 100000

noncomputable section

namespace Cert.ReferenceIdeal.Two

open Cert.ReferenceIdeal Cert.ReferenceIdeal.Gen
open Idealize.ShloMosaic Idealize.ShloMosaic.StableHlo Idealize.ShloMosaic.TcCoe
open Lru

/-! ## Column sums -/

theorem colsum {n : ℕ} (x : (⟨2, ![n, 512]⟩ : Shape).Idx → EReal) {f : Fin 512 → ℕ → ℝ} (hx : Arr x f) (z : S_.Idx → EReal) (hz : z (Shape.Idx.first h_S_) = 0)
    (h' : (⟨2, ![n, 512]⟩ : Shape).ReducesTo [0] S512) :
    Row (Host.reduceAdd (F := Ideal) (φ := .f32) x z h' h_S_) (fun l => ∑ t ∈ Finset.range n, f l t) := by
  intro l
  have h : (⟨2, ![n, 512]⟩ : Shape).Reduces [0] S512 := ⟨h'.1, Nat.one_pos, h'.2⟩
  show Ideal.hostReduceAdd h' x _ (ix1 l) = _
  rw [Ideal.hostReduceAdd_single h' h, hz, zero_add, ← sum_coe]
  refine Finset.sum_congr rfl fun t _ => ?_
  refine Eq.trans (congrArg x ?_) (hx t l)
  funext a
  refine Fin.ext ?_
  fin_cases a <;> rfl

theorem colsum_row (x : S512.Idx → EReal) {f : Fin 512 → ℝ} (hx : Row x f) (z : S_.Idx → EReal) (hz : z (Shape.Idx.first h_S_) = 0)
    (h' : S1x512.ReducesTo [0] S512) (hc : S512.ShapeCasts S1x512) :
    Row (Host.reduceAdd (F := Ideal) (φ := .f32) (shapeCast S1x512 x hc) z h' h_S_) f := by
  intro l
  refine (colsum (n := 1) (shapeCast S1x512 x hc) (f := fun l _ => f l) ?_ z hz h' l).trans ?_
  · intro t l
    exact (ValueIdx.shapeCast_a_1a_apply x hc t l).trans (hx l)
  · simp

/-! ## After the second loop -/

variable (m : (ℓ : Loc nD τ sig) → Buf (Elt Ideal) ℓ) (c : Dev nD) {k : Fin 512 → Col} (H : Holds m c k)

abbrev D1 : Valuation τ sig (Elt Ideal) := after main_part2_ops1 (C3 m c)
abbrev D2 : Valuation τ sig (Elt Ideal) := after main_part2_ops2 (D1 m c)
abbrev D3 : Valuation τ sig (Elt Ideal) := after main_part2_ops3 (D2 m c)
theorem C4_eq : C4 m c = after main_part3_ops0 (D3 m c) := by
  simp only [C4, D3, D2, D1, afterL_cons, afterL_nil]

theorem D1_keep (r : Ref sig .tc) (h : r ∉ main_part2_ops1_W) : D1 m c (Proc.devRef .tc r) = C3 m c (Proc.devRef .tc r) :=
  after_unwritten _ main_part2_ops1_writes h _
theorem D2_keep (r : Ref sig .tc) (h : r ∉ main_part2_ops2_W) : D2 m c (Proc.devRef .tc r) = D1 m c (Proc.devRef .tc r) :=
  after_unwritten _ main_part2_ops2_writes h _
theorem D3_keep (r : Ref sig .tc) (h : r ∉ main_part2_ops3_W) : D3 m c (Proc.devRef .tc r) = D2 m c (Proc.devRef .tc r) :=
  after_unwritten _ main_part2_ops3_writes h _

theorem C0_gate (x : S8192x512.Idx → EReal) {f : Fin 512 → ℕ → ℝ} (hx : Arr x f) :
    Arr (mulf (F := Ideal) (φ := .f32) x (subf (F := Ideal) (φ := .f32) (broadcast S8192x512 1) x)) (fun l t => f l t * (1 - f l t)) := by
  intro t l
  pointwise
  rw [hx t l, one_coe', ← EReal.coe_sub, ← EReal.coe_mul]

include H in
/-- The values of the forward pass that the backward one reads, after both loops. -/
theorem C3_vals : Arr (C3 m c (Proc.devRef .tc main_v67)) (fun l t => (k l).q t)
    ∧ Arr (C3 m c (Proc.devRef .tc main_v69)) (fun l t => 1 / 2 / (k l).q t)
    ∧ Arr (C3 m c (Proc.devRef .tc main_v65)) (fun l t => (k l).b t)
    ∧ Arr (C3 m c (Proc.devRef .tc main_v61)) (fun l t => (k l).a t)
    ∧ Arr (C3 m c (Proc.devRef .tc main_v70)) (fun l t => (k l).i t * (k l).xc t)
    ∧ Arr (C3 m c (Proc.devRef .tc main_v50)) (fun l t => (k l).i t)
    ∧ Arr (C3 m c (Proc.devRef .tc main_v55)) (fun l t => -8 * (k l).r t)
    ∧ Arr (C3 m c (Proc.devRef .tc main_v53)) (fun l t => (k l).i t * (1 - (k l).i t))
    ∧ Arr (C3 m c (Proc.devRef .tc main_v41)) (fun l t => (k l).r t * (1 - (k l).r t)) := by
  obtain ⟨ha, hb, hq, hq'⟩ := C0_decay m c H
  refine ⟨?_, ?_, ?_, ?_, ?_, ?_, ?_, ?_, ?_⟩ <;> rw [C3_C0 m c _ (by decide +kernel)]
  · exact hq
  · exact hq'
  · exact hb
  · exact ha
  · exact C0_x m c H
  · rw [C0_Y m c _ (by decide +kernel)]; exact Y0_i m c H
  · rw [C0_Z m c _ (by decide +kernel)]; exact Z0_r8 m c H
  · rw [C0_Y m c _ (by decide +kernel), (Y0_gates m c).2.1]; exact C0_gate _ (Y0_i m c H)
  · rw [C0_Y m c _ (by decide +kernel), (Y0_gates m c).1]; exact C0_gate _ (Y0_r m c H)

include H in
theorem C3_gelu : Arr (C3 m c (Proc.devRef .tc main_v2)) (fun l t => (k l).g t)
    ∧ Arr (C3 m c (Proc.devRef .tc main_v13)) (fun l t => 3 * ((k l).g t * (k l).g t))
    ∧ Arr (C3 m c (Proc.devRef .tc main_v28)) (fun l t => 1 / 2 * (1 + th ((k l).g t)))
    ∧ Arr (C3 m c (Proc.devRef .tc main_v24)) (fun l t => (1 + th ((k l).g t)) * (1 - th ((k l).g t)))
    ∧ Arr (C3 m c (Proc.devRef .tc main_v79)) (fun l t => (k l).h t * (k l).dm t)
    ∧ Arr (C3 m c (Proc.devRef .tc main_v76)) (fun l t => (k l).out t) := by
  refine ⟨?_, ?_, ?_, ?_, ?_, ?_⟩
  · rw [C3_C0 m c _ (by decide +kernel), C0_Y m c _ (by decide +kernel)]; exact Y0_g m c H
  · rw [C3_C0 m c _ (by decide +kernel), C0_Y m c _ (by decide +kernel)]; exact Y0_sq m c H
  · rw [C3_C0 m c _ (by decide +kernel), C0_Y m c _ (by decide +kernel)]; exact Y0_half m c H
  · rw [C3_C0 m c _ (by decide +kernel), C0_Y m c _ (by decide +kernel)]; exact Y0_sech m c H
  · rw [C3_keep m c _ (by decide +kernel)]; exact (C2_mid m c H).2.1
  · rw [C3_keep m c _ (by decide +kernel)]; exact (C2_mid m c H).1

include H in
theorem C3_rows : Arr (C3 m c (Proc.devRef .tc main_v58)) (n := 1) (fun l _ => sp (-(k l).lam))
    ∧ Row (C3 m c (Proc.devRef .tc main_v57_1)) (fun l => sl (-(k l).lam))
    ∧ Arr (C3 m c (Proc.devRef .tc main_arg1)) (fun l t => (k l).xc t) := by
  refine ⟨?_, ?_, ?_⟩ <;> rw [C3_C0 m c _ (by decide +kernel)]
  · intro t l
    have e := Z0_sp m c H l
    rw [C0_eq]
    generalize Z0 m c = Z at e ⊢
    after_reads_simp
    pointwise
    exact e
  · rw [C0_Z m c _ (by decide +kernel)]; exact Z0_sl m c H
  · rw [C0_Z m c _ (by decide +kernel), Z0_arg m c _ (by decide +kernel)]; exact H.xc

theorem post1 (Z : Valuation τ sig (Elt Ideal))
    (hq : Arr (Z (Proc.devRef .tc main_v67)) (fun l t => (k l).q t)) (hq' : Arr (Z (Proc.devRef .tc main_v69)) (fun l t => 1 / 2 / (k l).q t))
    (hb : Arr (Z (Proc.devRef .tc main_v65)) (fun l t => (k l).b t)) (ha : Arr (Z (Proc.devRef .tc main_v61)) (fun l t => (k l).a t))
    (hx : Arr (Z (Proc.devRef .tc main_v70)) (fun l t => (k l).i t * (k l).xc t)) (hi : Arr (Z (Proc.devRef .tc main_v50)) (fun l t => (k l).i t))
    (h8 : Arr (Z (Proc.devRef .tc main_v55)) (fun l t => -8 * (k l).r t)) (hsp : Arr (Z (Proc.devRef .tc main_v58)) (n := 1) (fun l _ => sp (-(k l).lam)))
    (hxc : Arr (Z (Proc.devRef .tc main_arg1)) (fun l t => (k l).xc t)) (hd : Arr (Z (Proc.devRef .tc main_v84_6)) (fun l t => (k l).dh t))
    (hdh : Arr (Z (Proc.devRef .tc main_v84_5)) (fun l t => (k l).dh t * (k l).hp t)) :
    Arr (after main_part2_ops1 Z (Proc.devRef .tc main_v87)) (fun l t => (k l).dxc t)
    ∧ Arr (after main_part2_ops1 Z (Proc.devRef .tc main_v88)) (fun l t => (k l).q t * (k l).dh t * (k l).xc t)
    ∧ Arr (after main_part2_ops1 Z (Proc.devRef .tc main_v96)) (fun l t => (k l).dlt t)
    ∧ Arr (after main_part2_ops1 Z (Proc.devRef .tc main_v100)) (fun l t => (k l).dla t * sp (-(k l).lam)) := by
  refine ⟨?_, ?_, ?_, ?_⟩ <;> intro t l <;> have e := hsp 0 l <;> after_reads_simp <;> pointwise
  all_goals simp only [hq t l, hq' t l, hb t l, ha t l, hx t l, hi t l, h8 t l, hxc t l, hd t l, hdh t l, e, two_coe,
    ← EReal.coe_mul, ← EReal.coe_neg, ← EReal.coe_add, Col.dxc, Col.dla, Col.dlt]

include H in
theorem D1_vals : Arr (D1 m c (Proc.devRef .tc main_v87)) (fun l t => (k l).dxc t)
    ∧ Arr (D1 m c (Proc.devRef .tc main_v88)) (fun l t => (k l).q t * (k l).dh t * (k l).xc t)
    ∧ Arr (D1 m c (Proc.devRef .tc main_v96)) (fun l t => (k l).dlt t)
    ∧ Arr (D1 m c (Proc.devRef .tc main_v100)) (fun l t => (k l).dla t * sp (-(k l).lam)) := by
  obtain ⟨hq, hq', hb, ha, hx, hi, h8, -, -⟩ := C3_vals m c H
  obtain ⟨hsp, -, hxc⟩ := C3_rows m c H
  obtain ⟨hd, hdh⟩ := C3_dh m c H
  exact post1 (C3 m c) hq hq' hb ha hx hi h8 hsp hxc hd hdh

/-! The sum over time that the decay's parameter takes, and the sign it takes on. -/

theorem post1_sum (Z : Valuation τ sig (Elt Ideal)) : after main_part2_ops1 Z (Proc.devRef .tc main_v101)
    = Host.reduceAdd (F := Ideal) (φ := .f32) (shapeCast S1x512 (Host.reduceAdd (F := Ideal) (φ := .f32) (after main_part2_ops1 Z (Proc.devRef .tc main_v96)) (constant S_ .f32 0x00000000#32)
        reducesTo_S8192x512_S512_d0 h_S_) shapeCasts_S512_S1x512) (constant S_ .f32 0x00000000#32) reducesTo_S1x512_S512_d0 h_S_ := by
  after_reads_simp
  rfl

theorem post2 (Z : Valuation τ sig (Elt Ideal)) {x y : Fin 512 → ℝ} (hx : Row (Z (Proc.devRef .tc main_v101)) x) (hy : Row (Z (Proc.devRef .tc main_v57_1)) y) :
    Row (after main_part2_ops2 Z (Proc.devRef .tc main_v102)) (fun l => x l * y l) := by
  intro l
  after_reads_simp
  simp -implicitDefEqProofs only [TRef.toBuf, TRef.ofBuf, cast_cast, cast_eq]
  exact (congrArg₂ (· * ·) (hx l) (hy l)).trans (EReal.coe_mul _ _).symm

include H in
theorem D2_lam : Row (D2 m c (Proc.devRef .tc main_v102)) (fun l => (∑ t ∈ Finset.range 8192, (k l).dlt t) * sl (-(k l).lam)) := by
  refine post2 (D1 m c) (x := fun l => ∑ t ∈ Finset.range 8192, (k l).dlt t) ?_ ?_
  · rw [D1, post1_sum]
    exact colsum_row _ (colsum _ (D1_vals m c H).2.2.1 _ zero_coe _) _ zero_coe _ _
  · rw [D1_keep m c _ (by decide +kernel)]; exact (C3_rows m c H).2.1

/-! The gradients of the gates' inputs and of the gate on the output. -/

theorem post3 (Z : Valuation τ sig (Elt Ideal))
    (h100 : Arr (Z (Proc.devRef .tc main_v100)) (fun l t => (k l).dla t * sp (-(k l).lam)))
    (h88 : Arr (Z (Proc.devRef .tc main_v88)) (fun l t => (k l).q t * (k l).dh t * (k l).xc t))
    (h53 : Arr (Z (Proc.devRef .tc main_v53)) (fun l t => (k l).i t * (1 - (k l).i t)))
    (h41 : Arr (Z (Proc.devRef .tc main_v41)) (fun l t => (k l).r t * (1 - (k l).r t)))
    (h2 : Arr (Z (Proc.devRef .tc main_v2)) (fun l t => (k l).g t)) (h13 : Arr (Z (Proc.devRef .tc main_v13)) (fun l t => 3 * ((k l).g t * (k l).g t)))
    (h28 : Arr (Z (Proc.devRef .tc main_v28)) (fun l t => 1 / 2 * (1 + th ((k l).g t))))
    (h24 : Arr (Z (Proc.devRef .tc main_v24)) (fun l t => (1 + th ((k l).g t)) * (1 - th ((k l).g t))))
    (h79 : Arr (Z (Proc.devRef .tc main_v79)) (fun l t => (k l).h t * (k l).dm t)) :
    Arr (after main_part2_ops3 Z (Proc.devRef .tc main_v110)) (fun l t => (k l).dpa t)
    ∧ Arr (after main_part2_ops3 Z (Proc.devRef .tc main_v106)) (fun l t => (k l).dpx t)
    ∧ Arr (after main_part2_ops3 Z (Proc.devRef .tc main_v125)) (fun l t => (k l).dg t) := by
  refine ⟨?_, ?_, ?_⟩ <;> intro t l <;> after_reads_simp <;> pointwise
  · simp only [h100 t l, h41 t l, neg8_coe, ← EReal.coe_mul, Col.dpa]
  · simp only [h88 t l, h53 t l, ← EReal.coe_mul, Col.dpx]
  · simp only [h2 t l, h13 t l, h28 t l, h24 t l, h79 t l, half_coe, cA_coe, cB_coe, ← EReal.coe_mul, ← EReal.coe_add, Col.dg]
    refine congrArg _ ?_
    unfold dge
    ring

theorem row_up (w : S512.Idx → EReal) {x : Fin 512 → ℝ} (hw : Row w x) : Arr (n := 1) (broadcastInDim S1x512 ![1] bcast_S512_S1x512_1 w) (fun l _ => x l) := by
  intro t l
  have e : t = 0 := Subsingleton.elim _ _
  rw [e, lift_at, hw l]

theorem post3_sums (Z : Valuation τ sig (Elt Ideal)) {a b : Fin 512 → ℕ → ℝ} {x : Fin 512 → ℝ}
    (ha : Arr (after main_part2_ops3 Z (Proc.devRef .tc main_v110)) a) (hb : Arr (after main_part2_ops3 Z (Proc.devRef .tc main_v106)) b)
    (hx : Row (Z (Proc.devRef .tc main_v102)) x) :
    Arr (after main_part2_ops3 Z (Proc.devRef .tc main_v126)) (n := 1) (fun l _ => ∑ t ∈ Finset.range 8192, a l t)
    ∧ Arr (after main_part2_ops3 Z (Proc.devRef .tc main_v127)) (n := 1) (fun l _ => ∑ t ∈ Finset.range 8192, b l t)
    ∧ Arr (after main_part2_ops3 Z (Proc.devRef .tc main_v128)) (n := 1) (fun l _ => -x l)
    ∧ Arr (after main_part2_ops3 Z (Proc.devRef .tc main_v129)) (n := 5) (fun _ _ => 0) := by
  have ea : after main_part2_ops3 Z (Proc.devRef .tc main_v126) = broadcastInDim S1x512 ![1] bcast_S512_S1x512_1
      (Host.reduceAdd (F := Ideal) (φ := .f32) (shapeCast S1x512 (Host.reduceAdd (F := Ideal) (φ := .f32) (after main_part2_ops3 Z (Proc.devRef .tc main_v110)) (constant S_ .f32 0x00000000#32)
        reducesTo_S8192x512_S512_d0 h_S_) shapeCasts_S512_S1x512) (constant S_ .f32 0x00000000#32) reducesTo_S1x512_S512_d0 h_S_) := by
    after_reads_simp
    rfl
  have eb : after main_part2_ops3 Z (Proc.devRef .tc main_v127) = broadcastInDim S1x512 ![1] bcast_S512_S1x512_1
      (Host.reduceAdd (F := Ideal) (φ := .f32) (shapeCast S1x512 (Host.reduceAdd (F := Ideal) (φ := .f32) (after main_part2_ops3 Z (Proc.devRef .tc main_v106)) (constant S_ .f32 0x00000000#32)
        reducesTo_S8192x512_S512_d0 h_S_) shapeCasts_S512_S1x512) (constant S_ .f32 0x00000000#32) reducesTo_S1x512_S512_d0 h_S_) := by
    after_reads_simp
    rfl
  have ex : after main_part2_ops3 Z (Proc.devRef .tc main_v128)
      = (broadcastInDim S1x512 ![1] bcast_S512_S1x512_1 (Host.negf (F := Ideal) (φ := .f32) (Z (Proc.devRef .tc main_v102))) : S1x512.Idx → EReal) := by
    after_reads_simp
  refine ⟨?_, ?_, ?_, ?_⟩
  · rw [ea]; exact row_up _ (colsum_row _ (colsum _ ha _ zero_coe _) _ zero_coe _ _)
  · rw [eb]; exact row_up _ (colsum_row _ (colsum _ hb _ zero_coe _) _ zero_coe _ _)
  · rw [ex]; exact row_up _ fun l => (congrArg Neg.neg (hx l)).trans (EReal.coe_neg _).symm
  · intro t l
    after_reads_simp
    pointwise
    exact zero_coe'

/-! ## The results -/

theorem beside (u v : S8192x512.Idx → EReal) {a b : Fin 512 → ℕ → ℝ} (hu : Arr u a) (hv : Arr v b)
    (h : Shape.Concatenates [S8192x512, S8192x512] S8192x1024 (1 : Fin 2)) :
    Arr2 (concatenate S8192x1024 (1 : Fin 2) [⟨S8192x512, u⟩, ⟨S8192x512, v⟩] h) a b := by
  intro t l
  constructor
  · refine (concatenate_pair_apply_left (t := S8192x1024) (1 : Fin 2) u v h _ rfl (ix2 t l) fun b => ?_).trans (hu t l)
    fin_cases b <;> rfl
  · refine (concatenate_pair_apply_right (t := S8192x1024) (1 : Fin 2) u v h _ rfl rfl (ix2 t l) (fun b hb => ?_) ?_).trans (hv t l)
    · fin_cases b
      · rfl
      · exact absurd rfl hb
    · exact Nat.add_comm _ _

theorem piled (u v w : S1x512.Idx → EReal) (o : S5x512.Idx → EReal) {x y z : Fin 512 → ℝ} (hu : Arr (n := 1) u (fun l _ => x l))
    (hv : Arr (n := 1) v (fun l _ => y l)) (hw : Arr (n := 1) w (fun l _ => z l)) (ho : Arr (n := 5) o (fun _ _ => 0))
    (h : Shape.Concatenates [S1x512, S1x512, S1x512, S5x512] S8x512 (0 : Fin 2)) :
    Arr (n := 8) (concatenate S8x512 (0 : Fin 2) [⟨S1x512, u⟩, ⟨S1x512, v⟩, ⟨S1x512, w⟩, ⟨S5x512, o⟩] h)
      (fun l r => if r = 0 then x l else if r = 1 then y l else if r = 2 then z l else 0) := by
  intro t l
  by_cases h0 : t.val = 0
  · refine (concatenate_apply_piece (t := S8x512) (0 : Fin 2) [⟨S1x512, u⟩, ⟨S1x512, v⟩, ⟨S1x512, w⟩, ⟨S5x512, o⟩] h (ix2 t l) 0 (by simp only [List.length_cons, List.length_nil]; omega) S1x512 u rfl rfl 0 rfl (ix2 0 l) (fun b hb => ?_) ?_).trans ?_
    · fin_cases b
      · exact absurd rfl hb
      · rfl
    · exact h0.symm
    · show _ = (((if t.val = 0 then x l else if t.val = 1 then y l else if t.val = 2 then z l else 0 : ℝ)) : EReal)
      rw [if_pos h0]; exact hu 0 l
  by_cases h1 : t.val = 1
  · refine (concatenate_apply_piece (t := S8x512) (0 : Fin 2) [⟨S1x512, u⟩, ⟨S1x512, v⟩, ⟨S1x512, w⟩, ⟨S5x512, o⟩] h (ix2 t l) 1 (by simp only [List.length_cons, List.length_nil]; omega) S1x512 v rfl rfl 1 rfl (ix2 0 l) (fun b hb => ?_) ?_).trans ?_
    · fin_cases b
      · exact absurd rfl hb
      · rfl
    · exact h1.symm
    · show _ = (((if t.val = 0 then x l else if t.val = 1 then y l else if t.val = 2 then z l else 0 : ℝ)) : EReal)
      rw [if_neg h0, if_pos h1]; exact hv 0 l
  by_cases h2 : t.val = 2
  · refine (concatenate_apply_piece (t := S8x512) (0 : Fin 2) [⟨S1x512, u⟩, ⟨S1x512, v⟩, ⟨S1x512, w⟩, ⟨S5x512, o⟩] h (ix2 t l) 2 (by simp only [List.length_cons, List.length_nil]; omega) S1x512 w rfl rfl 2 rfl (ix2 0 l) (fun b hb => ?_) ?_).trans ?_
    · fin_cases b
      · exact absurd rfl hb
      · rfl
    · exact h2.symm
    · show _ = (((if t.val = 0 then x l else if t.val = 1 then y l else if t.val = 2 then z l else 0 : ℝ)) : EReal)
      rw [if_neg h0, if_neg h1, if_pos h2]; exact hw 0 l
  · refine (concatenate_apply_piece (t := S8x512) (0 : Fin 2) [⟨S1x512, u⟩, ⟨S1x512, v⟩, ⟨S1x512, w⟩, ⟨S5x512, o⟩] h (ix2 t l) 3 (by simp only [List.length_cons, List.length_nil]; omega) S5x512 o rfl rfl 3 rfl (ix2 ⟨t.val - 3, by omega⟩ l) (fun b hb => ?_) ?_).trans ?_
    · fin_cases b
      · exact absurd rfl hb
      · rfl
    · show 3 + (t.val - 3) = t.val
      omega
    · show _ = (((if t.val = 0 then x l else if t.val = 1 then y l else if t.val = 2 then z l else 0 : ℝ)) : EReal)
      rw [if_neg h0, if_neg h1, if_neg h2]; exact ho _ l

theorem post4 (Z : Valuation τ sig (Elt Ideal)) {o a b d : Fin 512 → ℕ → ℝ} {x y z : Fin 512 → ℝ}
    (ho : Arr (Z (Proc.devRef .tc main_v76)) o) (ha : Arr (Z (Proc.devRef .tc main_v110)) a) (hb : Arr (Z (Proc.devRef .tc main_v106)) b)
    (hd : Arr (Z (Proc.devRef .tc main_v125)) d) (hx : Arr (n := 1) (Z (Proc.devRef .tc main_v126)) (fun l _ => x l))
    (hy : Arr (n := 1) (Z (Proc.devRef .tc main_v127)) (fun l _ => y l)) (hz : Arr (n := 1) (Z (Proc.devRef .tc main_v128)) (fun l _ => z l))
    (h0 : Arr (n := 5) (Z (Proc.devRef .tc main_v129)) (fun _ _ => 0)) :
    Arr (after main_part3_ops0 Z (Proc.devRef .tc main_v131)) o
    ∧ Arr2 (after main_part3_ops0 Z (Proc.devRef .tc main_v132)) a b
    ∧ Arr (after main_part3_ops0 Z (Proc.devRef .tc main_v133)) d
    ∧ Arr (n := 8) (after main_part3_ops0 Z (Proc.devRef .tc main_v130)) (fun l r => if r = 0 then x l else if r = 1 then y l else if r = 2 then z l else 0) := by
  refine ⟨?_, ?_, ?_, ?_⟩
  · intro t l
    after_reads_simp
    pointwise
    exact ho t l
  · intro t l
    constructor <;> after_reads_simp <;> pointwise
    · exact (beside _ _ ha hb _ t l).1
    · exact (beside _ _ ha hb _ t l).2
  · intro t l
    after_reads_simp
    pointwise
    exact hd t l
  · intro t l
    after_reads_simp
    pointwise
    exact piled _ _ _ _ hx hy hz h0 _ t l

include H in
theorem D3_vals : Arr (D3 m c (Proc.devRef .tc main_v110)) (fun l t => (k l).dpa t)
    ∧ Arr (D3 m c (Proc.devRef .tc main_v106)) (fun l t => (k l).dpx t)
    ∧ Arr (D3 m c (Proc.devRef .tc main_v125)) (fun l t => (k l).dg t) := by
  obtain ⟨-, -, -, -, -, -, -, h53, h41⟩ := C3_vals m c H
  obtain ⟨h2, h13, h28, h24, h79, -⟩ := C3_gelu m c H
  obtain ⟨-, h88, -, h100⟩ := D1_vals m c H
  refine post3 (D2 m c) ?_ ?_ ?_ ?_ ?_ ?_ ?_ ?_ ?_ <;> rw [D2_keep m c _ (by decide +kernel)]
  · exact h100
  · exact h88
  all_goals rw [D1_keep m c _ (by decide +kernel)]
  · exact h53
  · exact h41
  · exact h2
  · exact h13
  · exact h28
  · exact h24
  · exact h79

include H in
/-- What the reference program's five results hold. -/
theorem results : Arr (C4 m c (Proc.devRef .tc main_v131)) (fun l t => (k l).out t)
    ∧ Arr2 (C4 m c (Proc.devRef .tc main_v132)) (fun l t => (k l).dpa t) (fun l t => (k l).dpx t)
    ∧ Arr (C4 m c (Proc.devRef .tc main_v87)) (fun l t => (k l).dxc t)
    ∧ Arr (C4 m c (Proc.devRef .tc main_v133)) (fun l t => (k l).dg t)
    ∧ Arr (n := 8) (C4 m c (Proc.devRef .tc main_v130)) (fun l r => (k l).dpar r) := by
  rw [C4_eq]
  obtain ⟨ha, hb, hd⟩ := D3_vals m c H
  obtain ⟨s1, s2, s3, s4⟩ := post3_sums (D2 m c) ha hb (D2_lam m c H)
  obtain ⟨h1, h2, h3, h4⟩ := post4 (D3 m c) (o := fun l t => (k l).out t) (by
    rw [D3_keep m c _ (by decide +kernel), D2_keep m c _ (by decide +kernel), D1_keep m c _ (by decide +kernel)]
    exact (C3_gelu m c H).2.2.2.2.2) ha hb hd s1 s2 s3 s4
  refine ⟨h1, h2, ?_, h3, h4⟩
  rw [after_unwritten _ main_part3_ops0_writes (by decide +kernel), D3_keep m c _ (by decide +kernel), D2_keep m c _ (by decide +kernel)]
  exact (D1_vals m c H).1

end Cert.ReferenceIdeal.Two
end
-- ==== Proof.Admit.lean ====
/- Inputs the precondition admits hold real numbers wherever the kernel reads them, and no channel's decay parameter is zero. -/
module

public import proofs.«01_k».proof.Proof.LruSum
public import proofs.«01_k».proof.Pre_admissible
public import Idealize.ShloMosaic.Lib.KernelVsHost
public import Idealize.ShloMosaic.Lib.ValueLayout

@[expose] public section

set_option maxRecDepth 16384

noncomputable section

namespace Lru

open Idealize.ShloMosaic Cert.Pre_admissible

/-- A value whose magnitude is below infinity is a real number. -/
theorem real_of_finite {x : EReal} (h : Ideal.cmp .olt (max x (-x)) (Ideal.ofBits .f32 0x7F800000#32) = 1#1) : x = ((x.toReal : ℝ) : EReal) := by
  have top : Ideal.ofBits .f32 0x7F800000#32 = ⊤ := by simp [Ideal.ofBits, Ideal.ieee]
  rw [top] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

theorem real_of_nonzero {x : EReal} (h : Ideal.cmp .une x (Ideal.ofBits .f32 0x00000000#32) = 1#1) : x ≠ 0 := by
  intro e
  rw [e, zero_coe] at h
  simp [Ideal.cmp] at h

variable [Facts] (A0 : FVec Ideal S8192x1024 .f32) (A1 : FVec Ideal S8192x512 .f32) (A2 : FVec Ideal S8192x4224 .f32) (A3 : FVec Ideal S8x512 .f32) (A4 : FVec Ideal S8192x1536 .f32)

/-- The channels the arrays hold. -/
def cols (l : Fin 512) : Col where
  pa t := if h : t < 8192 then (A0 (ix2 ⟨t, h⟩ ⟨l.val, by omega⟩)).toReal else 0
  px t := if h : t < 8192 then (A0 (ix2 ⟨t, h⟩ ⟨512 + l.val, by omega⟩)).toReal else 0
  xc t := if h : t < 8192 then (A1 (ix2 ⟨t, h⟩ l)).toReal else 0
  g t := if h : t < 8192 then (A2 (ix2 ⟨t, h⟩ ⟨3072 + l.val, by omega⟩)).toReal else 0
  ba := (A3 (ix2 0 l)).toReal
  bx := (A3 (ix2 1 l)).toReal
  lam := (A3 (ix2 2 l)).toReal
  dm t := if h : t < 8192 then (A4 (ix2 ⟨t, h⟩ ⟨1024 + l.val, by omega⟩)).toReal else 0

theorem inp_of_admissible (h0 : (fn (F := Ideal) A0 A1 A2 A3 A4).1 = fun _ => 1#1) (h1 : (fn (F := Ideal) A0 A1 A2 A3 A4).2.1 = fun _ => 1#1)
    (h2 : (fn (F := Ideal) A0 A1 A2 A3 A4).2.2.1 = fun _ => 1#1) (h3 : (fn (F := Ideal) A0 A1 A2 A3 A4).2.2.2.1 = fun _ => 1#1)
    (h4 : (fn (F := Ideal) A0 A1 A2 A3 A4).2.2.2.2.1 = fun _ => 1#1) (h5 : (fn (F := Ideal) A0 A1 A2 A3 A4).2.2.2.2.2 = fun _ => 1#1) :
    Inp A0 A1 A2 A3 A4 (cols A0 A1 A2 A3 A4) := by
  have par : ∀ (r : Fin 3) (l : Fin 512), A3 (ix2 ⟨r.val, by omega⟩ l) = (((A3 (ix2 ⟨r.val, by omega⟩ l)).toReal : ℝ) : EReal) := by
    intro r l
    refine real_of_finite (Eq.trans ?_ (congrFun h3 (ix2 r l)))
    show _ = Ideal.cmp .olt (max (extractStridedSlice S3x512 ![0, 0] A3 _ (ix2 r l)) (-(extractStridedSlice S3x512 ![0, 0] A3 _ (ix2 r l)))) _
    rw [show extractStridedSlice S3x512 ![0, 0] A3 Facts.slices_S8x512_S3x512_0_0 (ix2 r l) = A3 (ix2 ⟨r.val, by omega⟩ l) from
      extractStridedSlice_apply _ _ _ _ _ fun a => by fin_cases a <;> simp]
    rfl
  refine ⟨fun t l => ?_, fun t l => ?_, fun t l => ?_, fun t l => ?_, fun l => par 0 l, fun l => par 1 l, fun l => par 2 l, fun t l => ?_, fun l => ?_⟩
  · refine Eq.trans (real_of_finite (congrFun h0 (ix2 t ⟨l.val, by omega⟩))) (congrArg _ ?_)
    show _ = dite _ _ _
    rw [dif_pos t.isLt]
  · refine Eq.trans (real_of_finite (congrFun h0 (ix2 t ⟨512 + l.val, by omega⟩))) (congrArg _ ?_)
    show _ = dite _ _ _
    rw [dif_pos t.isLt]
  · refine Eq.trans (real_of_finite (congrFun h1 (ix2 t l))) (congrArg _ ?_)
    show _ = dite _ _ _
    rw [dif_pos t.isLt]
  · have e : A2 (ix2 t ⟨3072 + l.val, by omega⟩) = (((A2 (ix2 t ⟨3072 + l.val, by omega⟩)).toReal : ℝ) : EReal) := by
      refine real_of_finite (Eq.trans ?_ (congrFun h2 (ix2 t l)))
      show _ = Ideal.cmp .olt (max (extractStridedSlice S8192x512 ![0, 3072] A2 _ (ix2 t l)) (-(extractStridedSlice S8192x512 ![0, 3072] A2 _ (ix2 t l)))) _
      rw [show extractStridedSlice S8192x512 ![0, 3072] A2 Facts.slices_S8192x4224_S8192x512_0_3072 (ix2 t l) = A2 (ix2 t ⟨3072 + l.val, by omega⟩) from
        extractStridedSlice_apply _ _ _ _ _ fun a => by fin_cases a <;> simp]
      rfl
    refine e.trans (congrArg _ ?_)
    show _ = dite _ _ _
    rw [dif_pos t.isLt]
  · have e : A4 (ix2 t ⟨1024 + l.val, by omega⟩) = (((A4 (ix2 t ⟨1024 + l.val, by omega⟩)).toReal : ℝ) : EReal) := by
      refine real_of_finite (Eq.trans ?_ (congrFun h4 (ix2 t l)))
      show _ = Ideal.cmp .olt (max (extractStridedSlice S8192x512 ![0, 1024] A4 _ (ix2 t l)) (-(extractStridedSlice S8192x512 ![0, 1024] A4 _ (ix2 t l)))) _
      rw [show extractStridedSlice S8192x512 ![0, 1024] A4 Facts.slices_S8192x1536_S8192x512_0_1024 (ix2 t l) = A4 (ix2 t ⟨1024 + l.val, by omega⟩) from
        extractStridedSlice_apply _ _ _ _ _ fun a => by fin_cases a <;> simp]
      rfl
    refine e.trans (congrArg _ ?_)
    show _ = dite _ _ _
    rw [dif_pos t.isLt]
  · have e : A3 (ix2 2 l) ≠ 0 := by
      refine real_of_nonzero (Eq.trans ?_ (congrFun h5 (ix1 l)))
      show _ = Ideal.cmp .une (shapeCast S512 (extractStridedSlice S1x512 ![2, 0] A3 _) _ (ix1 l)) _
      rw [show shapeCast S512 (extractStridedSlice S1x512 ![2, 0] A3 Facts.slices_S8x512_S1x512_2_0) Facts.shapeCasts_S1x512_S512 (ix1 l) = A3 (ix2 2 l) from
        (ValueIdx.shapeCast_1a_a_apply _ _ _).trans (extractStridedSlice_apply _ _ _ _ _ fun a => by fin_cases a <;> simp)]
      rfl
    intro hz
    refine e ((par 2 l).trans ?_)
    show ((cols A0 A1 A2 A3 A4 l).lam : EReal) = 0
    rw [hz]
    rfl

end Lru
end
-- ==== Proof.RefFrame.lean ====
/- The reference program's frame: every argument ends as launched, and there is no semaphore to end away from zero. -/
module

public import proofs.«01_k».proof.Proof.RefRun
public import Idealize.ShloMosaic.Lib.Quiescent

@[expose] public section

set_option maxRecDepth 100000

noncomputable section

namespace Cert.ReferenceIdeal.Two

open Cert.ReferenceIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem keep_arg0 (c : Dev nD) : C4 m c (Proc.devRef .tc main_arg0) = m ((c.tc : Thread nD τ).loc main_arg0) := C4_keep m main_arg0 (by decide) c
theorem keep_arg1 (c : Dev nD) : C4 m c (Proc.devRef .tc main_arg1) = m ((c.tc : Thread nD τ).loc main_arg1) := C4_keep m main_arg1 (by decide) c
theorem keep_arg2 (c : Dev nD) : C4 m c (Proc.devRef .tc main_arg2) = m ((c.tc : Thread nD τ).loc main_arg2) := C4_keep m main_arg2 (by decide) c
theorem keep_arg3 (c : Dev nD) : C4 m c (Proc.devRef .tc main_arg3) = m ((c.tc : Thread nD τ).loc main_arg3) := C4_keep m main_arg3 (by decide) c
theorem keep_arg4 (c : Dev nD) : C4 m c (Proc.devRef .tc main_arg4) = m ((c.tc : Thread nD τ).loc main_arg4) := C4_keep m main_arg4 (by decide) c

/-- The frame of the reference program. -/
theorem frame2 : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h c main_arg0 (by decide)).trans (keep_arg0 m c), (h c main_arg1 (by decide)).trans (keep_arg1 m c),
     (h c main_arg2 (by decide)).trans (keep_arg2 m c), (h c main_arg3 (by decide)).trans (keep_arg3 m c),
     (h c main_arg4 (by decide)).trans (keep_arg4 m c)⟩, sem_eq_zero_of_no_sems (by decide) r.2⟩) (run2 m ρ)

end Cert.ReferenceIdeal.Two

end
-- ==== Proof.SameText.lean ====
/- The kernel and its idealized program have the same text, so a run of one over the printed values is a run of the other. -/
module

public import proofs.«01_k».proof.Defs
public import proofs.«01_k».proof.Proof.Gen.Kernel
public import proofs.«01_k».proof.Proof.Gen.KernelIdeal

@[expose] public section

set_option maxRecDepth 16384

noncomputable section

namespace Cert.SameText

open Idealize.ShloMosaic Idealize.SL.Sem

attribute [local instance] Cert.Kernel.Gen.facts Cert.KernelIdeal.Gen.facts

set_option maxHeartbeats 3200000 in
/-- The two tables of kernel bodies are the same, label by label. -/
theorem bodies_eq : Cert.Kernel.defs₀ (F := Bits) = Cert.KernelIdeal.defs₀ (F := Bits) := by
  refine congrArg Defs.onTc (funext fun l => ?_)
  rcases l with ⟨l, hl⟩
  match l, hl with
  | 0, _ => exact funext fun x => (rfl)
  | 1, _ => exact funext fun x => (rfl)
  | (n+2), h => exact absurd h (Nat.not_lt.2 (Nat.le_add_left _ _))

/-- So are the two programs' whole body tables. -/
theorem defs_eq : Cert.Kernel.defs (F := Bits) = Cert.KernelIdeal.defs (F := Bits) :=
  congrArg (Pipeline.defs Cert.KernelIdeal.pcfgs) bodies_eq

end Cert.SameText

end
-- ==== Proof.Frames.lean ====
/- The frames of the matrix-product calls and of the convolution over machine words. A call's kernel and its idealization are one text, so the two tables of bodies agree, and the frame proved of the idealization over any scalars, taken at the machine words, is the kernel's. -/
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame

@[expose] public section

set_option maxRecDepth 16384

noncomputable section

namespace Cert.Frames

open Idealize.ShloMosaic Idealize.ShloMosaic.TcCoe Idealize.SL.Sem

/-- Two tables of one label agree where they agree at it. -/
theorem one_label {β : Fin 1 → Sort _} {f g : (l : Fin 1) → β l} (h : f 0 = g 0) : f = g :=
  funext fun l => by rw [Subsingleton.elim l 0]; exact h

section Call2
attribute [local instance] Kernel2.Gen.facts Kernel2Ideal.Gen.facts

theorem defs2 : Kernel2.defs (F := Bits) = Kernel2Ideal.defs (F := Bits) :=
  congrArg (Pipeline.defs Kernel2Ideal.pcfgs) (congrArg Defs.onTc (one_label (funext fun x => (rfl))))

theorem frame2 : quiescent_Kernel2 (hKernel2 := Kernel2.Gen.facts) := fun m ρ _ =>
  (congrArg (fun d => θ_run d (onTc Kernel2Ideal.main) ⟨m, fun _ => 0, ρ⟩ _) defs2).mpr (Kernel2Ideal.Gen.frame (F := Bits) m ρ)

end Call2

section Call3
attribute [local instance] Kernel3.Gen.facts Kernel3Ideal.Gen.facts

theorem defs3 : Kernel3.defs (F := Bits) = Kernel3Ideal.defs (F := Bits) :=
  congrArg (Pipeline.defs Kernel3Ideal.pcfgs) (congrArg Defs.onTc (one_label (funext fun x => (rfl))))

theorem frame3 : quiescent_Kernel3 (hKernel3 := Kernel3.Gen.facts) := fun m ρ _ =>
  (congrArg (fun d => θ_run d (onTc Kernel3Ideal.main) ⟨m, fun _ => 0, ρ⟩ _) defs3).mpr (Kernel3Ideal.Gen.frame (F := Bits) m ρ)

end Call3

section Call4
attribute [local instance] Kernel4.Gen.facts Kernel4Ideal.Gen.facts

theorem defs4 : Kernel4.defs (F := Bits) = Kernel4Ideal.defs (F := Bits) :=
  congrArg (Pipeline.defs Kernel4Ideal.pcfgs) (congrArg Defs.onTc (one_label (funext fun x => (rfl))))

theorem frame4 : quiescent_Kernel4 (hKernel4 := Kernel4.Gen.facts) := fun m ρ _ =>
  (congrArg (fun d => θ_run d (onTc Kernel4Ideal.main) ⟨m, fun _ => 0, ρ⟩ _) defs4).mpr (Kernel4Ideal.Gen.frame (F := Bits) m ρ)

end Call4

section Call5
attribute [local instance] Kernel5.Gen.facts Kernel5Ideal.Gen.facts

theorem defs5 : Kernel5.defs (F := Bits) = Kernel5Ideal.defs (F := Bits) :=
  congrArg (Pipeline.defs Kernel5Ideal.pcfgs) (congrArg Defs.onTc (one_label (funext fun x => (rfl))))

theorem frame5 : quiescent_Kernel5 (hKernel5 := Kernel5.Gen.facts) := fun m ρ _ =>
  (congrArg (fun d => θ_run d (onTc Kernel5Ideal.main) ⟨m, fun _ => 0, ρ⟩ _) defs5).mpr (Kernel5Ideal.Gen.frame (F := Bits) m ρ)

end Call5

section Call6
attribute [local instance] Kernel6.Gen.facts Kernel6Ideal.Gen.facts

theorem defs6 : Kernel6.defs (F := Bits) = Kernel6Ideal.defs (F := Bits) :=
  congrArg (Pipeline.defs Kernel6Ideal.pcfgs) (congrArg Defs.onTc (one_label (funext fun x => (rfl))))

theorem frame6 : quiescent_Kernel6 (hKernel6 := Kernel6.Gen.facts) := fun m ρ _ =>
  (congrArg (fun d => θ_run d (onTc Kernel6Ideal.main) ⟨m, fun _ => 0, ρ⟩ _) defs6).mpr (Kernel6Ideal.Gen.frame (F := Bits) m ρ)

end Call6

section Call7
attribute [local instance] Kernel7.Gen.facts Kernel7Ideal.Gen.facts

theorem defs7 : Kernel7.defs (F := Bits) = Kernel7Ideal.defs (F := Bits) :=
  congrArg (Pipeline.defs Kernel7Ideal.pcfgs) (congrArg Defs.onTc (one_label (funext fun x => (rfl))))

theorem frame7 : quiescent_Kernel7 (hKernel7 := Kernel7.Gen.facts) := fun m ρ _ =>
  (congrArg (fun d => θ_run d (onTc Kernel7Ideal.main) ⟨m, fun _ => 0, ρ⟩ _) defs7).mpr (Kernel7Ideal.Gen.frame (F := Bits) m ρ)

end Call7

section Call8
attribute [local instance] Kernel8.Gen.facts Kernel8Ideal.Gen.facts

theorem defs8 : Kernel8.defs (F := Bits) = Kernel8Ideal.defs (F := Bits) :=
  congrArg (Pipeline.defs Kernel8Ideal.pcfgs) (congrArg Defs.onTc (one_label (funext fun x => (rfl))))

theorem frame8 : quiescent_Kernel8 (hKernel8 := Kernel8.Gen.facts) := fun m ρ _ =>
  (congrArg (fun d => θ_run d (onTc Kernel8Ideal.main) ⟨m, fun _ => 0, ρ⟩ _) defs8).mpr (Kernel8Ideal.Gen.frame (F := Bits) m ρ)

end Call8

section Call9
attribute [local instance] Kernel9.Gen.facts Kernel9Ideal.Gen.facts

theorem defs9 : Kernel9.defs (F := Bits) = Kernel9Ideal.defs (F := Bits) :=
  congrArg (Pipeline.defs Kernel9Ideal.pcfgs) (congrArg Defs.onTc (one_label (funext fun x => (rfl))))

theorem frame9 : quiescent_Kernel9 (hKernel9 := Kernel9.Gen.facts) := fun m ρ _ =>
  (congrArg (fun d => θ_run d (onTc Kernel9Ideal.main) ⟨m, fun _ => 0, ρ⟩ _) defs9).mpr (Kernel9Ideal.Gen.frame (F := Bits) m ρ)

end Call9

section Call10
attribute [local instance] Kernel10.Gen.facts Kernel10Ideal.Gen.facts

theorem defs10 : Kernel10.defs (F := Bits) = Kernel10Ideal.defs (F := Bits) :=
  congrArg (Pipeline.defs Kernel10Ideal.pcfgs) (congrArg Defs.onTc (one_label (funext fun x => (rfl))))

theorem frame10 : quiescent_Kernel10 (hKernel10 := Kernel10.Gen.facts) := fun m ρ _ =>
  (congrArg (fun d => θ_run d (onTc Kernel10Ideal.main) ⟨m, fun _ => 0, ρ⟩ _) defs10).mpr (Kernel10Ideal.Gen.frame (F := Bits) m ρ)

end Call10

section Call11
attribute [local instance] Kernel11.Gen.facts Kernel11Ideal.Gen.facts

theorem defs11 : Kernel11.defs (F := Bits) = Kernel11Ideal.defs (F := Bits) :=
  congrArg (Pipeline.defs Kernel11Ideal.pcfgs) (congrArg Defs.onTc (one_label (funext fun x => (rfl))))

theorem frame11 : quiescent_Kernel11 (hKernel11 := Kernel11.Gen.facts) := fun m ρ _ =>
  (congrArg (fun d => θ_run d (onTc Kernel11Ideal.main) ⟨m, fun _ => 0, ρ⟩ _) defs11).mpr (Kernel11Ideal.Gen.frame (F := Bits) m ρ)

end Call11

section Call12
attribute [local instance] Kernel12.Gen.facts Kernel12Ideal.Gen.facts

theorem defs12 : Kernel12.defs (F := Bits) = Kernel12Ideal.defs (F := Bits) :=
  congrArg (Pipeline.defs Kernel12Ideal.pcfgs) (congrArg Defs.onTc (one_label (funext fun x => (rfl))))

theorem frame12 : quiescent_Kernel12 (hKernel12 := Kernel12.Gen.facts) := fun m ρ _ =>
  (congrArg (fun d => θ_run d (onTc Kernel12Ideal.main) ⟨m, fun _ => 0, ρ⟩ _) defs12).mpr (Kernel12Ideal.Gen.frame (F := Bits) m ρ)

end Call12

section Call13
attribute [local instance] Kernel13.Gen.facts Kernel13Ideal.Gen.facts

theorem defs13 : Kernel13.defs (F := Bits) = Kernel13Ideal.defs (F := Bits) :=
  congrArg (Pipeline.defs Kernel13Ideal.pcfgs) (congrArg Defs.onTc (one_label (funext fun x => (rfl))))

theorem frame13 : quiescent_Kernel13 (hKernel13 := Kernel13.Gen.facts) := fun m ρ _ =>
  (congrArg (fun d => θ_run d (onTc Kernel13Ideal.main) ⟨m, fun _ => 0, ρ⟩ _) defs13).mpr (Kernel13Ideal.Gen.frame (F := Bits) m ρ)

end Call13

section Call14
attribute [local instance] Kernel14.Gen.facts Kernel14Ideal.Gen.facts

theorem defs14 : Kernel14.defs (F := Bits) = Kernel14Ideal.defs (F := Bits) :=
  congrArg (Pipeline.defs Kernel14Ideal.pcfgs) (congrArg Defs.onTc (one_label (funext fun x => (rfl))))

theorem frame14 : quiescent_Kernel14 (hKernel14 := Kernel14.Gen.facts) := fun m ρ _ =>
  (congrArg (fun d => θ_run d (onTc Kernel14Ideal.main) ⟨m, fun _ => 0, ρ⟩ _) defs14).mpr (Kernel14Ideal.Gen.frame (F := Bits) m ρ)

end Call14

end Cert.Frames

end
-- ==== Proof.Whole.lean ====
/- Loads and stores of a whole two-dimensional block: a load reads the block, and the last store is what the block holds. -/
module

public import Idealize.ShloMosaic.Lib.Pipeline.Value
public import Idealize.ShloMosaic.Lib.VecWindow

@[expose] public section

noncomputable section

namespace Whole

open Idealize.ShloMosaic Idealize.SL.Sem Idealize.ShloMosaic.View

variable {a b : ℕ} {e : EltTy} {Val : EltTy → Type}

theorem hz : (![0, 0] : Fin 2 → Nat) = fun _ => 0 := funext fun a => by fin_cases a <;> rfl

theorem ld (inb : ∀ x, (![0, 0] : Fin 2 → ℕ) x + (![a, b] : Fin 2 → ℕ) x ≤ (⟨2, ![a, b]⟩ : Shape).size x) (X : (⟨2, ![a, b]⟩ : Shape).Idx → Val e) :
    View.ld X (Rect.unit (s := ⟨2, ![a, b]⟩) ![0, 0] ![a, b] inb) = X := View.ld_unit_zero (S := ⟨2, ![a, b]⟩) hz inb X

theorem canon [∀ e, Nonempty (Val e)] (inb : ∀ x, (![0, 0] : Fin 2 → ℕ) x + (![a, b] : Fin 2 → ℕ) x ≤ (⟨2, ![a, b]⟩ : Shape).size x) (w : (⟨2, ![a, b]⟩ : Shape).Idx → Val e)
    (L : List (Piece Val ⟨2, ![a, b]⟩ e)) : View.canon ((⟨Rect.unit (s := ⟨2, ![a, b]⟩) ![0, 0] ![a, b] inb, w⟩ : Piece Val ⟨2, ![a, b]⟩ e) :: L) = w :=
  View.canon_cons_unit_zero (S := ⟨2, ![a, b]⟩) hz inb w L

theorem readCov [∀ e, Nonempty (Val e)] {sig : RefSig} {κ : Kind} {sp : Space} (v : View sig κ sp ⟨2, ![a, b]⟩ e) (inb : ∀ x, (![0, 0] : Fin 2 → ℕ) x + (![a, b] : Fin 2 → ℕ) x ≤ (⟨2, ![a, b]⟩ : Shape).size x)
    (w : (⟨2, ![a, b]⟩ : Shape).Idx → Val e) (L : List (Piece Val ⟨2, ![a, b]⟩ e)) :
    v.readCov ((⟨Rect.unit (s := ⟨2, ![a, b]⟩) ![0, 0] ![a, b] inb, w⟩ : Piece Val ⟨2, ![a, b]⟩ e) :: L) (Rect.unit (s := ⟨2, ![a, b]⟩) ![0, 0] ![a, b] inb).toLoadRect = w :=
  View.readCov_full (s := ⟨2, ![a, b]⟩) v inb inb w L

end Whole

end
-- ==== Proof.MatSum.lean ====
/- Sums of products taken block by block: an accumulator filled over the contracted axis in equal steps, an array read at numbers past its ends, and a product whose left factor is transposed. -/
module

public import Idealize.ShloMosaic.Lib.MatmulPlain
public import Idealize.ShloMosaic.Lib.KernelVsHost
public import Idealize.ShloMosaic.Lib.ValueLayout

@[expose] public section

noncomputable section

namespace MatSum

open Idealize.ShloMosaic Idealize.ShloMosaic.ValueIdx
open scoped BigOperators

/-- An accumulator reset at the multiples of `J` and added to at every other point holds the sum of its run's addends so far. -/
theorem fold {N : ℕ} (J : ℕ) (hJ : 0 < J) (acc : (n : ℕ) → n < N → EReal) (f : ℕ → ℕ → EReal)
    (h0 : ∀ n h, n % J = 0 → acc n h = f (n / J) 0)
    (hs : ∀ n h, ¬(n + 1) % J = 0 → acc (n + 1) h = acc n (Nat.lt_of_succ_lt h) + f ((n + 1) / J) ((n + 1) % J)) :
    ∀ n h, acc n h = ∑ s ∈ Finset.range (n % J + 1), f (n / J) s
  | 0, h => by rw [h0 0 h (Nat.zero_mod J), Nat.zero_mod, Finset.sum_range_one]
  | n + 1, h => by
    by_cases hn : (n + 1) % J = 0
    · rw [h0 _ h hn, hn, Finset.sum_range_one]
    · have e := Nat.div_add_mod (n + 1) J
      have l := Nat.mod_lt (n + 1) hJ
      have hp : n = ((n + 1) % J - 1) + J * ((n + 1) / J) := by omega
      have hd : n / J = (n + 1) / J := by
        conv_lhs => rw [hp]
        rw [Nat.add_mul_div_left _ _ hJ, Nat.div_eq_of_lt (by omega), Nat.zero_add]
      have hm : n % J + 1 = (n + 1) % J := by
        conv_lhs => rw [hp]
        rw [Nat.add_mul_mod_self_left, Nat.mod_eq_of_lt (by omega)]; omega
      rw [hs n h hn, fold J hJ acc f h0 hs n, hd, hm, ← Finset.sum_range_succ]

/-- `n` blocks of `w` terms are `n * w` terms. -/
theorem blocks (f : ℕ → EReal) (w : ℕ) : ∀ n, ∑ s ∈ Finset.range n, ∑ k ∈ Finset.range w, f (s * w + k) = ∑ x ∈ Finset.range (n * w), f x
  | 0 => by simp
  | n + 1 => by rw [Finset.sum_range_succ, blocks f w n, Nat.succ_mul, Finset.sum_range_add]

/-- An array of two axes read at any two numbers, zero past its ends. -/
def at2 {M N : ℕ} {φ : FTy} (a : FVec Ideal ⟨2, ![M, N]⟩ φ) (i j : ℕ) : EReal :=
  if h : i < M ∧ j < N then a (ix2 ⟨i, h.1⟩ ⟨j, h.2⟩) else 0

theorem at2_fin {M N : ℕ} {φ : FTy} (a : FVec Ideal ⟨2, ![M, N]⟩ φ) (i : Fin M) (j : Fin N) : at2 a i j = a (ix2 i j) :=
  dif_pos ⟨i.isLt, j.isLt⟩

/-- An array's element at an index, by the index's two numbers. -/
theorem at2_of {M N : ℕ} {φ : FTy} (a : FVec Ideal ⟨2, ![M, N]⟩ φ) (x : (⟨2, ![M, N]⟩ : Shape).Idx) (i j : ℕ) (h0 : (x 0).val = i) (h1 : (x 1).val = j) :
    a x = at2 a i j := by
  subst h0 h1
  refine Eq.trans (congrArg a ?_) (at2_fin a (x 0) (x 1)).symm
  funext b; match b with
  | ⟨0, _⟩ => rfl
  | ⟨1, _⟩ => rfl

/-! ## `[K,M]ᵀ × [K,N]` -/

/-- The left factor's rows and the right factor's rows are contracted. -/
abbrev leftT (K M N : ℕ) (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem leftT_sum {K M N : ℕ} (wf) {φ₁ φ₂ : FTy} (lhs : FVec Ideal ⟨2, ![K, M]⟩ φ₁) (rhs : FVec Ideal ⟨2, ![K, N]⟩ φ₂) (r : Fin M) (c : Fin N) :
    (∑ k : (leftT K M N wf).contr.Idx, lhs ((leftT K M N wf).lhsIdx (ix2 r c) k) * rhs ((leftT K M N wf).rhsIdx (ix2 r c) k) : EReal)
      = ∑ k ∈ Finset.range K, at2 lhs k r * at2 rhs k c := by
  rw [← Fin.sum_univ_eq_sum_range (fun k => at2 lhs k r * at2 rhs k c) K, ← Equiv.sum_comp (contrEquiv1 (leftT K M N wf) K rfl rfl).symm]
  refine Finset.sum_congr rfl fun k _ => ?_
  have hk := contrEquiv1_symm_val (leftT K M N wf) K rfl rfl k
  exact congrArg₂ (· * ·) (at2_of lhs _ _ _ hk rfl) (at2_of rhs _ _ _ hk rfl)

/-- The same product on the device, added to what it is given. -/
theorem matmul_leftT {K M N : ℕ} (wf) {φ₁ φ₂ : FTy} (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (leftT K M N wf) prec lhs rhs acc (ix2 r c) = acc (ix2 r c) + ∑ k ∈ Finset.range K, at2 lhs k r * at2 rhs k c := by
  rw [Ideal.matmul_apply]
  exact congrArg (acc (ix2 r c) + ·) (leftT_sum wf lhs rhs r c)

/-- The same product on the host. -/
theorem dot_leftT {K M N : ℕ} (wf) {φ₁ φ₂ : FTy} (prec : Option ContractPrecision) (sched : HostSchedule) (lhs : FVec Ideal ⟨2, ![K, M]⟩ φ₁) (rhs : FVec Ideal ⟨2, ![K, N]⟩ φ₂)
    (r : Fin M) (c : Fin N) :
    FloatOps.dotGeneral (leftT K M N wf) prec sched lhs rhs (ix2 r c) = ∑ k ∈ Finset.range K, at2 lhs k r * at2 rhs k c :=
  (Ideal.dotGeneral_apply _ prec sched lhs rhs _).trans (leftT_sum wf lhs rhs r c)

/-! ## `[K,M]ᵀ × [K,N]` in steps of `w` contracted rows, a block of `h` result rows at a time -/

variable {K M N : ℕ} {φ₁ φ₂ : FTy} (A : FVec Ideal ⟨2, ![K, M]⟩ φ₁) (B : FVec Ideal ⟨2, ![K, N]⟩ φ₂)

/-- The whole product. -/
def prodT : FVec Ideal ⟨2, ![M, N]⟩ .f32 := fun i => ∑ x ∈ Finset.range K, at2 A x (i 0) * at2 B x (i 1)

/-- What step `s` adds at row `p` of row block `r` and column `q`. -/
def termT (w h p q r s : ℕ) : EReal := ∑ k ∈ Finset.range w, at2 A (s * w + k) (r * h + p) * at2 B (s * w + k) q

/-- A step's product of the two blocks it reads. -/
theorem stepT {w h r s : ℕ} (x : FVec Ideal ⟨2, ![w, h]⟩ φ₁) (y : FVec Ideal ⟨2, ![w, N]⟩ φ₂) (hx : ∀ k p, x (ix2 k p) = at2 A (s * w + k) (r * h + p))
    (hy : ∀ k q, y (ix2 k q) = at2 B (s * w + k) q) (p : Fin h) (q : Fin N) :
    ∑ k ∈ Finset.range w, at2 x k p * at2 y k q = termT A B w h p q r s :=
  Finset.sum_congr rfl fun k hk => by
    rw [← hx ⟨k, Finset.mem_range.mp hk⟩ p, ← hy ⟨k, Finset.mem_range.mp hk⟩ q]
    exact congrArg₂ (· * ·) (at2_fin x ⟨k, Finset.mem_range.mp hk⟩ p) (at2_fin y ⟨k, Finset.mem_range.mp hk⟩ q)

/-- All the steps together. -/
theorem stepsT (w h n : ℕ) (hK : n * w = K) (i : (⟨2, ![M, N]⟩ : Shape).Idx) :
    ∑ s ∈ Finset.range n, termT A B w h ((i 0).val % h) (i 1) ((i 0).val / h) s = prodT A B i := by
  unfold termT prodT
  rw [Nat.div_add_mod', blocks (fun x => at2 A x (i 0) * at2 B x (i 1)) w n, hK]

/-- The host's product, written the way the gradient of `b ↦ b @ wᵀ` comes out. -/
theorem hostT (wf) (prec : Option ContractPrecision) (sched : HostSchedule) : FloatOps.dotGeneral (leftT K M N wf) prec sched A B = prodT A B := by
  funext i
  rw [eq_ix2 i]
  exact dot_leftT wf prec sched A B (i 0) (i 1)

/-- Transposed twice, it is itself. -/
theorem twiceT (wf) (prec : Option ContractPrecision) (sched : HostSchedule) (h h') :
    transpose ⟨2, ![M, N]⟩ [1, 0] (transpose ⟨2, ![N, M]⟩ [1, 0] (FloatOps.dotGeneral (leftT K M N wf) prec sched A B) h) h' = prodT A B := by
  rw [hostT A B wf prec sched]
  funext i
  rw [eq_ix2 i]
  exact (transpose_ix2_apply _ h' (i 0) (i 1)).trans (transpose_ix2_apply _ h (i 1) (i 0))

/-- The product with the factors exchanged, transposed, is it too: the gradient of `b ↦ a @ b` comes out like that. -/
theorem swapT (wf) (prec : Option ContractPrecision) (sched : HostSchedule) (h) :
    transpose ⟨2, ![M, N]⟩ [1, 0] (FloatOps.dotGeneral (leftT K N M wf) prec sched B A) h = prodT A B := by
  rw [hostT B A wf prec sched]
  funext i
  rw [eq_ix2 i]
  exact (transpose_ix2_apply _ h (i 0) (i 1)).trans (Finset.sum_congr rfl fun k _ => mul_comm _ _)

/-! ## `[M,K] × [N,K]ᵀ` and `[M,K] × [K,N]` -/

section Plain

variable {M K N : ℕ} {φ₁ φ₂ : FTy}

/-- The entry at row `i` of the first factor and row `j` of the second. -/
def entC (A : FVec Ideal ⟨2, ![M, K]⟩ φ₁) (B : FVec Ideal ⟨2, ![N, K]⟩ φ₂) (i j : ℕ) : EReal := ∑ x ∈ Finset.range K, at2 A i x * at2 B j x

/-- The entry at row `i` of the first factor and column `j` of the second. -/
def entP (A : FVec Ideal ⟨2, ![M, K]⟩ φ₁) (B : FVec Ideal ⟨2, ![K, N]⟩ φ₂) (i j : ℕ) : EReal := ∑ x ∈ Finset.range K, at2 A i x * at2 B x j

theorem sum_C (A : FVec Ideal ⟨2, ![M, K]⟩ φ₁) (B : FVec Ideal ⟨2, ![N, K]⟩ φ₂) (p : Fin M) (q : Fin N) : ∑ k : Fin K, A (ix2 p k) * B (ix2 q k) = entC A B p q := by
  unfold entC
  rw [← Fin.sum_univ_eq_sum_range (fun k => at2 A p k * at2 B q k) K]
  exact Finset.sum_congr rfl fun k _ => congrArg₂ (· * ·) (at2_fin A p k).symm (at2_fin B q k).symm

theorem sum_P (A : FVec Ideal ⟨2, ![M, K]⟩ φ₁) (B : FVec Ideal ⟨2, ![K, N]⟩ φ₂) (p : Fin M) (q : Fin N) : ∑ k : Fin K, A (ix2 p k) * B (ix2 k q) = entP A B p q := by
  unfold entP
  rw [← Fin.sum_univ_eq_sum_range (fun k => at2 A p k * at2 B k q) K]
  exact Finset.sum_congr rfl fun k _ => congrArg₂ (· * ·) (at2_fin A p k).symm (at2_fin B k q).symm

theorem matmul_C (prec : Option ContractPrecision) (A : FVec Ideal ⟨2, ![M, K]⟩ φ₁) (B : FVec Ideal ⟨2, ![N, K]⟩ φ₂) (acc : FVec Ideal ⟨2, ![M, N]⟩ .f32) (p : Fin M) (q : Fin N) :
    FloatOps.matmul (DotDims.transposedRhs M K N) prec A B acc (ix2 p q) = acc (ix2 p q) + entC A B p q :=
  (Ideal.matmul_transposedRhs_apply prec A B acc p q).trans (congrArg (acc (ix2 p q) + ·) (sum_C A B p q))

theorem matmul_P (prec : Option ContractPrecision) (A : FVec Ideal ⟨2, ![M, K]⟩ φ₁) (B : FVec Ideal ⟨2, ![K, N]⟩ φ₂) (acc : FVec Ideal ⟨2, ![M, N]⟩ .f32) (p : Fin M) (q : Fin N) :
    FloatOps.matmul (DotDims.plain M K N) prec A B acc (ix2 p q) = acc (ix2 p q) + entP A B p q :=
  (Ideal.matmul_plain_apply prec A B acc p q).trans (congrArg (acc (ix2 p q) + ·) (sum_P A B p q))

/-- On the host the same sums, added to nothing. -/
theorem dot_P (prec : Option ContractPrecision) (sched : HostSchedule) (A : FVec Ideal ⟨2, ![M, K]⟩ φ₁) (B : FVec Ideal ⟨2, ![K, N]⟩ φ₂) (p : Fin M) (q : Fin N) :
    FloatOps.dotGeneral (DotDims.plain M K N) prec sched A B (ix2 p q) = entP A B p q := by
  have h := matmul_P prec A B (fun _ => 0) p q
  rw [Ideal.matmul_apply, zero_add, zero_add] at h
  exact (Ideal.dotGeneral_apply _ prec sched A B _).trans h

theorem dot_C (prec : Option ContractPrecision) (sched : HostSchedule) (A : FVec Ideal ⟨2, ![M, K]⟩ φ₁) (B : FVec Ideal ⟨2, ![N, K]⟩ φ₂) (p : Fin M) (q : Fin N) :
    FloatOps.dotGeneral (DotDims.transposedRhs M K N) prec sched A B (ix2 p q) = entC A B p q := by
  have h := matmul_C prec A B (fun _ => 0) p q
  rw [Ideal.matmul_apply, zero_add, zero_add] at h
  exact (Ideal.dotGeneral_apply _ prec sched A B _).trans h

/-- The host's product with the second factor transposed first. -/
theorem dot_T (prec : Option ContractPrecision) (sched : HostSchedule) (A : FVec Ideal ⟨2, ![M, K]⟩ φ₁) (B : FVec Ideal ⟨2, ![N, K]⟩ φ₂) (h) (p : Fin M) (q : Fin N) :
    FloatOps.dotGeneral (DotDims.plain M K N) prec sched A (transpose ⟨2, ![K, N]⟩ [1, 0] B h) (ix2 p q) = entC A B p q := by
  rw [dot_P, ← sum_P, ← sum_C]
  exact Finset.sum_congr rfl fun k _ => congrArg (A (ix2 p k) * ·) (transpose_ix2_apply B h k q)

/-- A block's entry is the whole product's: rows of the first factor and rows of the second are read whole. -/
theorem block_C {M' N' : ℕ} (A : FVec Ideal ⟨2, ![M, K]⟩ φ₁) (B : FVec Ideal ⟨2, ![N, K]⟩ φ₂) (x : FVec Ideal ⟨2, ![M', K]⟩ φ₁) (y : FVec Ideal ⟨2, ![N', K]⟩ φ₂)
    (p : Fin M') (q : Fin N') (i j : ℕ) (hx : ∀ k : Fin K, x (ix2 p k) = at2 A i k) (hy : ∀ k : Fin K, y (ix2 q k) = at2 B j k) : entC x y p q = entC A B i j := by
  rw [← sum_C]
  unfold entC
  rw [← Fin.sum_univ_eq_sum_range (fun k => at2 A i k * at2 B j k) K]
  exact Finset.sum_congr rfl fun k _ => congrArg₂ (· * ·) (hx k) (hy k)

theorem block_P {M' N' : ℕ} (A : FVec Ideal ⟨2, ![M, K]⟩ φ₁) (B : FVec Ideal ⟨2, ![K, N]⟩ φ₂) (x : FVec Ideal ⟨2, ![M', K]⟩ φ₁) (y : FVec Ideal ⟨2, ![K, N']⟩ φ₂)
    (p : Fin M') (q : Fin N') (i j : ℕ) (hx : ∀ k : Fin K, x (ix2 p k) = at2 A i k) (hy : ∀ k : Fin K, y (ix2 k q) = at2 B k j) : entP x y p q = entP A B i j := by
  rw [← sum_P]
  unfold entP
  rw [← Fin.sum_univ_eq_sum_range (fun k => at2 A i k * at2 B k j) K]
  exact Finset.sum_congr rfl fun k _ => congrArg₂ (· * ·) (hx k) (hy k)

/-- What step `s` of `w` contracted columns adds to the entry. -/
def termP (A : FVec Ideal ⟨2, ![M, K]⟩ φ₁) (B : FVec Ideal ⟨2, ![K, N]⟩ φ₂) (w i j s : ℕ) : EReal := ∑ k ∈ Finset.range w, at2 A i (s * w + k) * at2 B (s * w + k) j

/-- A step's product of the two blocks it reads. -/
theorem stepP {M' N' w s : ℕ} (A : FVec Ideal ⟨2, ![M, K]⟩ φ₁) (B : FVec Ideal ⟨2, ![K, N]⟩ φ₂) (x : FVec Ideal ⟨2, ![M', w]⟩ φ₁) (y : FVec Ideal ⟨2, ![w, N']⟩ φ₂)
    (p : Fin M') (q : Fin N') (i j : ℕ) (hx : ∀ k : Fin w, x (ix2 p k) = at2 A i (s * w + k)) (hy : ∀ k : Fin w, y (ix2 k q) = at2 B (s * w + k) j) :
    entP x y p q = termP A B w i j s := by
  rw [← sum_P]
  unfold termP
  rw [← Fin.sum_univ_eq_sum_range (fun k => at2 A i (s * w + k) * at2 B (s * w + k) j) w]
  exact Finset.sum_congr rfl fun k _ => congrArg₂ (· * ·) (hx k) (hy k)

/-- All the steps together. -/
theorem stepsP (A : FVec Ideal ⟨2, ![M, K]⟩ φ₁) (B : FVec Ideal ⟨2, ![K, N]⟩ φ₂) (w n : ℕ) (hK : n * w = K) (i j : ℕ) : ∑ s ∈ Finset.range n, termP A B w i j s = entP A B i j := by
  unfold termP entP
  rw [blocks (fun x => at2 A i x * at2 B x j) w n, hK]

/-- The host's product over the transposed second factor's columns. -/
theorem dot_CT (prec : Option ContractPrecision) (sched : HostSchedule) (A : FVec Ideal ⟨2, ![M, K]⟩ φ₁) (B : FVec Ideal ⟨2, ![K, N]⟩ φ₂) (h) (p : Fin M) (q : Fin N) :
    FloatOps.dotGeneral (DotDims.transposedRhs M K N) prec sched A (transpose ⟨2, ![N, K]⟩ [1, 0] B h) (ix2 p q) = entP A B p q := by
  rw [dot_C, ← sum_P, ← sum_C]
  exact Finset.sum_congr rfl fun k _ => congrArg (A (ix2 p k) * ·) (transpose_ix2_apply B h q k)

end Plain

end MatSum

end
-- ==== Proof.GradAct.lean ====
/- The gradient of the gated activations' input, over the extended reals: each block of rows of the kernel's result is the product of the cotangent's rows with the weights, times the two halves' slopes at the same rows. -/
module

public import proofs.«01_k».proof.Proof.Whole
public import proofs.«01_k».proof.Proof.MatSum
public import proofs.«01_k».proof.Proof.Admit
public import proofs.«01_k».proof.Proof.Gen.Kernel2Ideal.Value
public import proofs.«01_k».proof.Proof.Gen.Reference2Ideal.Run
public import proofs.«01_k».proof.Proof.Gen.Pre_finite
public import proofs.«01_k».proof.Defs
public import Idealize.ShloMosaic.Lib.Quiescent
public import Idealize.ShloMosaic.Lib.VecWindow
public import Idealize.ShloMosaic.Lib.Pointwise
public import Idealize.ShloMosaic.Lib.IdealHost

@[expose] public section

set_option maxRecDepth 16384

noncomputable section

open Idealize.ShloMosaic.ValueIdx renaming ix2 → ij

namespace GradAct

open Idealize.ShloMosaic
open MatSum (at2 at2_fin entC)
open scoped BigOperators

/-! ## One entry -/

/-- What the gate's column receives: the product's entry `r`, at gate `a` and linear part `b`. -/
def dGate (r a b : EReal) : EReal := r * b * (Ideal.logistic a * (1 + a * (1 - Ideal.logistic a)))

/-- What the linear part's column receives. -/
def dUp (r a : EReal) : EReal := r * (a * Ideal.logistic a)

theorem logistic_coe (x : ℝ) : Ideal.logistic ((x : ℝ) : EReal) = (((1 + Real.exp (-x))⁻¹ : ℝ) : EReal) := by
  have h : (1 + Real.exp (-x)) ≠ 0 := (add_pos one_pos (Real.exp_pos _)).ne'
  show Ideal.div 1 (1 + Ideal.exp (-(x : EReal))) = _
  rw [show Ideal.exp (-(x : EReal)) = ((Real.exp (-x) : ℝ) : EReal) from rfl, ← EReal.coe_one, ← EReal.coe_add]
  unfold Ideal.div
  rw [if_neg (by exact_mod_cast h), ← EReal.coe_inv, ← EReal.coe_mul, one_mul]

theorem logistic_top : Ideal.logistic ⊤ = 1 := by
  show Ideal.div 1 (1 + Ideal.exp (-⊤)) = 1
  rw [show Ideal.exp (-⊤) = 0 from rfl, add_zero]
  simp [Ideal.div]

theorem logistic_bot : Ideal.logistic ⊥ = 0 := by
  show Ideal.div 1 (1 + Ideal.exp (-⊥)) = 0
  rw [show Ideal.exp (-⊥) = ⊤ from rfl]
  rw [EReal.add_top_of_ne_bot (by exact EReal.coe_ne_bot 1)]
  simp [Ideal.div]

/-- With a finite cotangent, the slope as one factor and as the product rule's two terms agree at every gate, an infinite one too. -/
theorem slope (a : EReal) (d : ℝ) :
    (d : EReal) * (Ideal.logistic a * (1 + a * (1 - Ideal.logistic a))) = d * Ideal.logistic a + a * d * (Ideal.logistic a * (1 - Ideal.logistic a)) := by
  induction a using EReal.rec with
  | bot => rw [logistic_bot]; simp
  | top => rw [logistic_top, show (1 : EReal) - 1 = 0 by rw [← EReal.coe_one, ← EReal.coe_sub, sub_self, EReal.coe_zero]]; simp
  | coe x => rw [logistic_coe]; norm_cast; ring

/-- The gradient's entry: the gates' columns first, then the linear parts'. -/
def entry {M : ℕ} (r : FVec Ideal ⟨2, ![M, 2816]⟩ .f32) (g : FVec Ideal ⟨2, ![M, 5632]⟩ .bf16) (i j : ℕ) : EReal :=
  if j < 2816 then dGate (at2 r i j) (at2 g i j) (at2 g i (2816 + j)) else dUp (at2 r i (j - 2816)) (at2 g i (j - 2816))

theorem entry_gate {M : ℕ} (r : FVec Ideal ⟨2, ![M, 2816]⟩ .f32) (g : FVec Ideal ⟨2, ![M, 5632]⟩ .bf16) (p : Fin M) (j : Fin 2816) :
    entry r g p j = dGate (r (ij p j)) (g (ij p ⟨j.val, by omega⟩)) (g (ij p ⟨2816 + j.val, by omega⟩)) := by
  unfold entry
  rw [if_pos j.isLt, at2_fin, show at2 g p j = _ from at2_fin g p ⟨j.val, by omega⟩, show at2 g p (2816 + j) = _ from at2_fin g p ⟨2816 + j.val, by omega⟩]

theorem entry_up {M : ℕ} (r : FVec Ideal ⟨2, ![M, 2816]⟩ .f32) (g : FVec Ideal ⟨2, ![M, 5632]⟩ .bf16) (p : Fin M) (j : Fin 2816) :
    entry r g p (2816 + j) = dUp (r (ij p j)) (g (ij p ⟨j.val, by omega⟩)) := by
  unfold entry
  rw [if_neg (by omega), Nat.add_sub_cancel_left, at2_fin, show at2 g p j = _ from at2_fin g p ⟨j.val, by omega⟩]

/-- A column is a gate's or a linear part's. -/
theorem halves (q : Fin 5632) : (∃ j : Fin 2816, q = ⟨j.val, by omega⟩) ∨ ∃ j : Fin 2816, q = ⟨2816 + j.val, by omega⟩ := by
  by_cases h : q.val < 2816
  · exact Or.inl ⟨⟨q.val, h⟩, rfl⟩
  · exact Or.inr ⟨⟨q.val - 2816, by omega⟩, Fin.ext (by dsimp only; omega)⟩

/-- A sum of products of real numbers is one. -/
theorem real_entC {M K N : ℕ} {φ₁ φ₂ : FTy} (A : FVec Ideal ⟨2, ![M, K]⟩ φ₁) (B : FVec Ideal ⟨2, ![N, K]⟩ φ₂) (hA : ∀ p k, ∃ x : ℝ, A (ij p k) = x) (hB : ∀ q k, ∃ x : ℝ, B (ij q k) = x)
    (p : Fin M) (q : Fin N) : ∃ x : ℝ, entC A B p q = x := by
  choose a ha using hA
  choose b hb using hB
  refine ⟨∑ k, a p k * b q k, ?_⟩
  rw [← MatSum.sum_C]
  simp only [ha, hb, ← EReal.coe_mul]
  exact (map_sum (⟨⟨fun x : ℝ => (x : EReal), EReal.coe_zero⟩, EReal.coe_add⟩ : ℝ →+ EReal) _ _).symm

end GradAct

namespace Cert.Kernel2Ideal.Value

open Cert.Kernel2Ideal Cert.Kernel2Ideal.Gen Idealize.ShloMosaic Idealize.ShloMosaic.TcCoe Idealize.SL.Sem

section Point
variable {F : FTy → Type} [FloatOps F] (c : Dev nD) (i : grid0.Coords) (a3 : Memref sig .tc .vmem S512x1024 .f32) (h3 : a3.IsWhole) (a4 : Memref sig .tc .vmem S2816x1024 .bf16) (h4 : a4.IsWhole)
  (a5 : Memref sig .tc .vmem S512x5632 .bf16) (h5 : a5.IsWhole) (a6 : Memref sig .tc .vmem S512x2816 .bf16) (h6 : a6.IsWhole) (a7 : Memref sig .tc .vmem S512x5632 .bf16) (h7 : a7.IsWhole)
  (a8 : Memref sig .tc .vmem S512x2816 .f32) (h8 : a8.IsWhole) (hc0 : cond0_0 i) (hc1 : cond0_1 i) (x : Vec F S512x1024 .f32) (y : Vec F S2816x1024 .bf16) (z : Vec F S512x5632 .bf16)

/-- A point writes the gradient of its block of rows. -/
theorem out_d : out0_A_4 c i a3 h3 a4 h4 a5 h5 a6 h6 a7 h7 a8 h8 hc0 hc1 x y z = k0_pay4 (k0_pay2 x k0_pay1 y) z := by
  unfold out0_A_4
  rw [View.read_writes_eq_canon _ _ _ (fun _ => cover0_A_4 ..)]
  unfold kernelRun0_A
  dsimp only
  sl_unfold_words
  simp only [View.readAt_eq_ld, Memref.IsWhole.read_unread, Whole.ld, Whole.canon, Whole.readCov]

end Point

theorem pay2_at (x : FVec Ideal S512x1024 .f32) (y : FVec Ideal S2816x1024 .bf16) (p : Fin 512) (q : Fin 2816) : k0_pay2 (F := Ideal) x (k0_pay1 (F := Ideal)) y (ij p q) = MatSum.entC x y p q := by
  unfold k0_pay2 k0_pay1
  simp only [shapeCast_self]
  show Ideal.ofBits .f32 0x00000000#32 + FloatOps.matmul (DotDims.transposedRhs 512 1024 2816) none (truncf .bf16 x bitsLt_bf16_f32) y (constant S512x2816 .f32 0x00000000#32) (ij p q) = _
  rw [MatSum.matmul_C, show constant (F := Ideal) S512x2816 .f32 0x00000000#32 (ij p q) = 0 from Ideal.ofBits_zero_f32, zero_add, Ideal.ofBits_zero_f32, zero_add]
  rfl

/-- Two halves side by side, read in the first and in the second. -/
theorem beside_gate (u v : FVec Ideal S512x2816 .f32) (p : Fin 512) (j : Fin 2816) :
    concatenate S512x5632 1 [⟨S512x2816, u⟩, ⟨S512x2816, v⟩] concatenates_S512x2816_S512x2816_S512x5632_d1 (ij p ⟨j.val, by omega⟩) = u (ij p j) :=
  concatenate_pair_apply_left (t := S512x5632) 1 u v _ _ rfl (ij p j) (fun b => by fin_cases b <;> rfl)

theorem beside_up (u v : FVec Ideal S512x2816 .f32) (p : Fin 512) (j : Fin 2816) :
    concatenate S512x5632 1 [⟨S512x2816, u⟩, ⟨S512x2816, v⟩] concatenates_S512x2816_S512x2816_S512x5632_d1 (ij p ⟨2816 + j.val, by omega⟩) = v (ij p j) :=
  concatenate_pair_apply_right (t := S512x5632) 1 u v _ _ rfl rfl (ij p j) (fun b hb => by fin_cases b <;> first | rfl | exact absurd rfl hb) (Nat.add_comm _ _)

theorem pay4_at (r : FVec Ideal S512x2816 .f32) (g : FVec Ideal S512x5632 .bf16) (p : Fin 512) (q : Fin 5632) : k0_pay4 (F := Ideal) r g (ij p q) = GradAct.entry r g p q := by
  unfold k0_pay4
  rcases GradAct.halves q with ⟨j, rfl⟩ | ⟨j, rfl⟩
  · refine Eq.trans ?_ (GradAct.entry_gate r g p j).symm
    unfold GradAct.dGate
    rw [← Ideal.ofBits_one_f32]
    refine (beside_gate _ _ p j).trans ?_
    pointwise
    rfl
  · refine Eq.trans ?_ (GradAct.entry_up r g p j).symm
    unfold GradAct.dUp
    refine (beside_up _ _ p j).trans ?_
    pointwise
    rfl

variable (m : (ℓ : Loc nD τ sig) → Buf (Elt Ideal) ℓ) (c : Dev nD)

/-- The cotangent, the weights, and the gates with the linear parts. -/
abbrev lhs : FVec Ideal S8192x1024 .f32 := m ((c : Thread nD τ).loc main_arg0)
abbrev rhs : FVec Ideal S2816x1024 .bf16 := m ((c : Thread nD τ).loc main_arg1)
abbrev gu : FVec Ideal S8192x5632 .bf16 := m ((c : Thread nD τ).loc main_arg2)

/-- The product with the weights, and the gradient. -/
def R : FVec Ideal S8192x2816 .f32 := fun i => MatSum.entC (lhs m c) (rhs m c) (i 0).val (i 1).val
def G : FVec Ideal S8192x5632 .bf16 := fun i => GradAct.entry (R m c) (gu m c) (i 0).val (i 1).val

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index4 : ∀ t : Fin cfg0.N, win0_4.index t (0 : Fin 2) = t.val ∧ win0_4.index t (1 : Fin 2) = 0 ∧ win0_4.flush t = true := (by decide +kernel : ∀ t : Fin grid0.N, _)

theorem iblk0_at (t : Fin cfg0.N) (p : Fin 512) (k : Fin 1024) : (iblk m c 0 t : FVec Ideal S512x1024 .f32) (ij p k) = MatSum.at2 (lhs m c) (t.val * 512 + p) k := by
  unfold iblk
  rw [View.read_apply]
  refine MatSum.at2_of (lhs m c) _ _ _ ?_ ?_
  · show win0_0.index t 0 * 512 + 1 * p.val = _; rw [(index0 t).1, one_mul]
  · show win0_0.index t 1 * 1024 + 1 * k.val = _; rw [(index0 t).2, zero_mul, zero_add, one_mul]

theorem iblk1_at (t : Fin cfg0.N) (q : Fin 2816) (k : Fin 1024) : (iblk m c 1 t : FVec Ideal S2816x1024 .bf16) (ij q k) = MatSum.at2 (rhs m c) q k := by
  unfold iblk
  rw [View.read_apply]
  refine MatSum.at2_of (rhs m c) _ _ _ ?_ ?_
  · show win0_1.index t 0 * 2816 + 1 * q.val = _; rw [(index1 t).1, zero_mul, zero_add, one_mul]
  · show win0_1.index t 1 * 1024 + 1 * k.val = _; rw [(index1 t).2, zero_mul, zero_add, one_mul]

theorem iblk2_at (t : Fin cfg0.N) (p : Fin 512) (q : Fin 5632) : (iblk m c 2 t : FVec Ideal S512x5632 .bf16) (ij p q) = MatSum.at2 (gu m c) (t.val * 512 + p) q := by
  unfold iblk
  rw [View.read_apply]
  refine MatSum.at2_of (gu m c) _ _ _ ?_ ?_
  · show win0_2.index t 0 * 512 + 1 * p.val = _; rw [(index2 t).1, one_mul]
  · show win0_2.index t 1 * 5632 + 1 * q.val = _; rw [(index2 t).2, zero_mul, zero_add, one_mul]

/-- An element of a point's product. -/
theorem prod_at (t : Fin cfg0.N) (p : Fin 512) (q : Fin 2816) : k0_pay2 (F := Ideal) (iblk m c 0 t) (k0_pay1 (F := Ideal)) (iblk m c 1 t) (ij p q) = MatSum.entC (lhs m c) (rhs m c) (t.val * 512 + p) q :=
  (pay2_at _ _ _ _).trans (MatSum.block_C (lhs m c) (rhs m c) _ _ _ _ _ _ (iblk0_at m c t _) (iblk1_at m c t _))

/-- An element of a point's gradient is the whole gradient's. -/
theorem grad_at (t : Fin cfg0.N) (p : Fin 512) (q : Fin 5632) :
    k0_pay4 (F := Ideal) (k0_pay2 (F := Ideal) (iblk m c 0 t) (k0_pay1 (F := Ideal)) (iblk m c 1 t)) (iblk m c 2 t) (ij p q) = GradAct.entry (R m c) (gu m c) (t.val * 512 + p) q := by
  have ht : t.val < 16 := t.isLt
  rw [pay4_at]
  have hg : ∀ j : Fin 5632, (iblk m c 2 t : FVec Ideal S512x5632 .bf16) (ij p j) = gu m c (ij ⟨t.val * 512 + p.val, by omega⟩ j) := fun j => (iblk2_at m c t p j).trans (MatSum.at2_fin (gu m c) ⟨t.val * 512 + p.val, by omega⟩ j)
  rcases GradAct.halves q with ⟨j, rfl⟩ | ⟨j, rfl⟩
  · refine (GradAct.entry_gate _ _ p j).trans (Eq.trans ?_ (GradAct.entry_gate (R m c) (gu m c) ⟨t.val * 512 + p.val, by omega⟩ j).symm)
    rw [hg, hg]
    exact congrArg (fun r => GradAct.dGate r _ _) (prod_at m c t p j)
  · refine (GradAct.entry_up _ _ p j).trans (Eq.trans ?_ (GradAct.entry_up (R m c) (gu m c) ⟨t.val * 512 + p.val, by omega⟩ j).symm)
    rw [hg]
    exact congrArg (fun r => GradAct.dUp r _) (prod_at m c t p j)

/-- What a point writes back is its block of the gradient. -/
theorem flushed_d (t : Fin cfg0.N) : (dats m 0 c).flushed 4 t = ((cfg0.win 4).blk t).view.read (Elt Ideal) (G m c) := by
  rw [flushed4_A, out_d]
  funext y
  have h0 : (y 0).val < 512 := (y 0).isLt
  have h1 : (y 1).val < 5632 := (y 1).isLt
  have e : (cfg0.win 4).xinj (grid0.coords t) y = ij (⟨(y 0).val, h0⟩ : Fin 512) (⟨(y 1).val, h1⟩ : Fin 5632) := by
    funext a; match a with
    | ⟨0, _⟩ => rfl
    | ⟨1, _⟩ => rfl
  show k0_pay4 (F := Ideal) (k0_pay2 (F := Ideal) (iblk m c 0 t) (k0_pay1 (F := Ideal)) (iblk m c 1 t)) (iblk m c 2 t) ((cfg0.win 4).xinj (grid0.coords t) y) = GradAct.entry (R m c) (gu m c) (win0_4.index t 0 * 512 + 1 * (y 0).val) (win0_4.index t 1 * 5632 + 1 * (y 1).val)
  rw [e, (index4 t).1, (index4 t).2.1, one_mul, one_mul, zero_mul, zero_add]
  exact grad_at m c t _ _

/-- The points' blocks fill the array. -/
theorem covered (i : S8192x5632.Idx) : ∃ t : Fin cfg0.N, (cfg0.win 4).flush t = true ∧ i ∈ ((cfg0.win 4).blk t).view.set := by
  have h0 : (i 0).val < 8192 := (i 0).isLt
  have h1 : (i 1).val < 5632 := (i 1).isLt
  have ht : (i 0).val / 512 < cfg0.N := by rw [show cfg0.N = 16 from N_0]; omega
  obtain ⟨e0, e1, ef⟩ := index4 ⟨_, ht⟩
  refine ⟨⟨_, ht⟩, ef, ?_⟩
  show i ∈ ((View.whole main_v0_1).slice (win0_4.rect ⟨_, ht⟩)).set
  rw [View.set_slice_whole, Rect.mem_set_unit]
  intro a; match a with
  | ⟨0, _⟩ => show win0_4.index ⟨_, ht⟩ 0 * 512 ≤ (i 0).val ∧ (i 0).val < win0_4.index ⟨_, ht⟩ 0 * 512 + 512; rw [e0]; dsimp only; omega
  | ⟨1, _⟩ => show win0_4.index ⟨_, ht⟩ 1 * 5632 ≤ (i 1).val ∧ (i 1).val < win0_4.index ⟨_, ht⟩ 1 * 5632 + 5632; rw [e1]; dsimp only; omega

theorem final : (dats m 0 c).arrAt 4 cfg0.N = G m c := (dats m 0 c).arrAt_eq_of_cover 4 _ (fun t _ => flushed_d m c t) covered

end Cert.Kernel2Ideal.Value

namespace Cert.Reference2Ideal.Value

open Cert.Reference2Ideal Cert.Reference2Ideal.Gen Idealize.ShloMosaic Idealize.ShloMosaic.TcCoe Idealize.SL.Sem

section Term
variable (r : FVec Ideal S8192x2816 .f32) (g : FVec Ideal S8192x5632 .bf16)

/-- The gates, the linear parts, and the gates' logistic function. -/
def gate : FVec Ideal S8192x2816 .f32 := extractStridedSlice S8192x2816 ![0, 0] (extf .f32 g bitsLt_bf16_f32) slices_S8192x5632_S8192x2816_0_0
def up : FVec Ideal S8192x2816 .f32 := extractStridedSlice S8192x2816 ![0, 2816] (extf .f32 g bitsLt_bf16_f32) slices_S8192x5632_S8192x2816_0_2816
def one : FVec Ideal S8192x2816 .f32 := broadcastInDim S8192x2816 ![] bcast_S_S8192x2816 (constant S_ .f32 0x3F800000#32)
def sig : FVec Ideal S8192x2816 .f32 := Host.divf one (addf one (Host.exp (Host.negf (gate g))))

/-- What the linear parts and the gates receive, and both side by side. -/
def toUp : FVec Ideal S8192x2816 .f32 := mulf (mulf (gate g) (sig g)) r
def toGate : FVec Ideal S8192x2816 .f32 := addf (mulf (mulf r (up g)) (sig g)) (mulf (mulf (gate g) (mulf r (up g))) (mulf (sig g) (subf one (sig g))))
def grad : FVec Ideal S8192x5632 .bf16 :=
  truncf .bf16 (addf (pad S8192x5632 ![0, 2816] ![0, 0] ![0, 0] (toUp r g) (constant S_ .f32 0x00000000#32) pads_S8192x2816_S8192x5632_000_281600 h_S_)
    (pad S8192x5632 ![0, 0] ![0, 2816] ![0, 0] (toGate r g) (constant S_ .f32 0x00000000#32) pads_S8192x2816_S8192x5632_000_028160 h_S_)) bitsLt_bf16_f32

variable (p : Fin 8192) (j : Fin 2816)

theorem gate_at : gate g (ij p j) = g (ij p ⟨j.val, by omega⟩) := by
  unfold gate
  pointwise
  rfl

theorem up_at : up g (ij p j) = g (ij p ⟨2816 + j.val, by omega⟩) := by
  unfold up
  pointwise
  rfl

theorem one_at (i : S8192x2816.Idx) : one i = 1 := Ideal.ofBits_one_f32

theorem sig_at : sig g (ij p j) = Ideal.logistic (g (ij p ⟨j.val, by omega⟩)) := by
  show Ideal.div (one _) (one _ + Ideal.exp (-(gate g (ij p j)))) = _
  rw [one_at, gate_at]
  rfl

theorem toUp_at : toUp r g (ij p j) = GradAct.dUp (r (ij p j)) (g (ij p ⟨j.val, by omega⟩)) := by
  show gate g (ij p j) * sig g (ij p j) * r (ij p j) = _
  rw [gate_at, sig_at, mul_comm]
  rfl

theorem toGate_at (h : ∃ d : ℝ, r (ij p j) * g (ij p ⟨2816 + j.val, by omega⟩) = d) :
    toGate r g (ij p j) = GradAct.dGate (r (ij p j)) (g (ij p ⟨j.val, by omega⟩)) (g (ij p ⟨2816 + j.val, by omega⟩)) := by
  obtain ⟨d, hd⟩ := h
  show r (ij p j) * up g (ij p j) * sig g (ij p j) + gate g (ij p j) * (r (ij p j) * up g (ij p j)) * (sig g (ij p j) * (one _ - sig g (ij p j))) = _
  rw [up_at, sig_at, gate_at, one_at]
  unfold GradAct.dGate
  rw [hd]
  exact (GradAct.slope _ d).symm

/-- The two halves, each padded to the whole width, add up to them side by side. -/
theorem grad_at (h : ∀ j : Fin 2816, ∃ d : ℝ, r (ij p j) * g (ij p ⟨2816 + j.val, by omega⟩) = d) (q : Fin 5632) :
    grad r g (ij p q) = GradAct.entry r g p q := by
  show pad S8192x5632 ![0, 2816] ![0, 0] ![0, 0] (toUp r g) (constant S_ .f32 0x00000000#32) pads_S8192x2816_S8192x5632_000_281600 h_S_ (ij p q)
    + pad S8192x5632 ![0, 0] ![0, 2816] ![0, 0] (toGate r g) (constant S_ .f32 0x00000000#32) pads_S8192x2816_S8192x5632_000_028160 h_S_ (ij p q) = _
  have hzero : ∀ i : S_.Idx, constant (F := Ideal) S_ .f32 0x00000000#32 i = 0 := fun _ => Ideal.ofBits_zero_f32
  rcases GradAct.halves q with ⟨j, rfl⟩ | ⟨j, rfl⟩
  · rw [pad_apply_of_not_inside _ _ _ _ _ _ _ _ 1 (fun hn => by have := hn.1; simp at this; omega),
      pad_apply_of_inside _ _ _ _ _ _ _ _ (ij p j) (fun a => by fin_cases a <;> simp), hzero, zero_add, toGate_at r g p j (h j)]
    exact (GradAct.entry_gate r g p j).symm
  · rw [pad_apply_of_inside _ _ _ (toUp r g) _ _ _ _ (ij p j) (fun a => by fin_cases a <;> simp),
      pad_apply_of_not_inside _ _ _ _ _ _ _ _ 1 (fun hn => by have := hn.2.2; simp at this), hzero, add_zero, toUp_at]
    exact (GradAct.entry_up r g p j).symm

end Term

end Cert.Reference2Ideal.Value

namespace Cert.GradAct

open Idealize.ShloMosaic Idealize.ShloMosaic.TcCoe Idealize.SL.Sem

/-- What the precondition says of the arrays: the cotangent, the weights and the linear parts are real numbers. -/
theorem real_of_pre [Cert.Pre_finite.Facts] (A0 : FVec Ideal Cert.Pre_finite.S8192x1024 .f32) (A1 : FVec Ideal Cert.Pre_finite.S2816x1024 .bf16) (A2 : FVec Ideal Cert.Pre_finite.S8192x5632 .bf16)
    (h0 : (Cert.Pre_finite.fn (F := Ideal) A0 A1 A2).1 = fun _ => 1#1) (h1 : (Cert.Pre_finite.fn (F := Ideal) A0 A1 A2).2.1 = fun _ => 1#1) (h2 : (Cert.Pre_finite.fn (F := Ideal) A0 A1 A2).2.2 = fun _ => 1#1) :
    (∀ p k, ∃ x : ℝ, A0 (ij p k) = x) ∧ (∀ q k, ∃ x : ℝ, A1 (ij q k) = x) ∧ ∀ (p : Fin 8192) (j : Fin 2816), ∃ x : ℝ, A2 (ij p ⟨2816 + j.val, by omega⟩) = x := by
  refine ⟨fun p k => ⟨_, Lru.real_of_finite (congrFun h0 (ij p k))⟩, fun q k => ⟨_, Lru.real_of_finite (congrFun h1 (ij q k))⟩, fun p j => ⟨_, Lru.real_of_finite (Eq.trans ?_ (congrFun h2 (ij p j)))⟩⟩
  show _ = Ideal.cmp .olt (max (extractStridedSlice Cert.Pre_finite.S8192x2816 ![0, 2816] A2 Cert.Pre_finite.Facts.slices_S8192x5632_S8192x2816_0_2816 (ij p j)) (-(extractStridedSlice Cert.Pre_finite.S8192x2816 ![0, 2816] A2 Cert.Pre_finite.Facts.slices_S8192x5632_S8192x2816_0_2816 (ij p j)))) _
  rw [show extractStridedSlice Cert.Pre_finite.S8192x2816 ![0, 2816] A2 Cert.Pre_finite.Facts.slices_S8192x5632_S8192x2816_0_2816 (ij p j) = A2 (ij p ⟨2816 + j.val, by omega⟩) from
    extractStridedSlice_apply _ _ _ _ _ fun a => by fin_cases a <;> simp]
  rfl

/-- The frame of the reference. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

/-- Kernel and reference both leave the gradient. -/
theorem same : Cert.algebraic_Kernel2Ideal_Reference2Ideal_pre_finite (hKernel2Ideal := Cert.Kernel2Ideal.Gen.facts) (hReference2Ideal := Cert.Reference2Ideal.Gen.facts) (hPre_finite := Cert.Pre_finite.Gen.facts) := by
  intro m g m' g' hpre hagree
  refine ⟨fun c => Cert.Kernel2Ideal.Value.G m c, ?_, ?_⟩
  · exact (θ_run Cert.Kernel2Ideal.defs _ _).mono (fun _ h c => ⟨(h c).2.1.trans (Cert.Kernel2Ideal.Value.final m c), (h c).2.2⟩) (Cert.Kernel2Ideal.Value.run_blocks m g)
  · refine (θ_run Cert.Reference2Ideal.defs _ _).mono (fun _ h c => ⟨?_, (h c).2⟩) (Cert.Reference2Ideal.Value.run m' g')
    have k := (h c).1
    rw [(hagree c).1, (hagree c).2.1, (hagree c).2.2] at k
    have e : (Host.dotGeneral Cert.Reference2Ideal.dot_S8192x1024_S2816x1024_S8192x2816_1_1_0_0_n_n none (Cert.Kernel2Ideal.Value.lhs m c) (extf .f32 (Cert.Kernel2Ideal.Value.rhs m c) (by decide)) : FVec Ideal Cert.Reference2Ideal.S8192x2816 .f32) = Cert.Kernel2Ideal.Value.R m c := funext fun i => by
      rw [ValueIdx.eq_ix2 i]
      exact MatSum.dot_C none .single (Cert.Kernel2Ideal.Value.lhs m c) (Cert.Kernel2Ideal.Value.rhs m c) (i 0) (i 1)
    refine k.trans (Eq.trans (congrArg (fun r => Cert.Reference2Ideal.Value.grad r (Cert.Kernel2Ideal.Value.gu m c)) e) (funext fun i => ?_))
    obtain ⟨r0, r1, r2⟩ := @real_of_pre Cert.Pre_finite.Gen.facts _ _ _ (hpre c).1 (hpre c).2.1 (hpre c).2.2
    rw [ValueIdx.eq_ix2 i]
    refine Cert.Reference2Ideal.Value.grad_at _ _ _ (fun j => ?_) _
    obtain ⟨x, hx⟩ := GradAct.real_entC (Cert.Kernel2Ideal.Value.lhs m c) (Cert.Kernel2Ideal.Value.rhs m c) r0 r1 (i 0) j
    obtain ⟨y, hy⟩ := r2 (i 0) j
    exact ⟨x * y, (congrArg₂ (· * ·) hx hy).trans (EReal.coe_mul x y).symm⟩

end Cert.GradAct

end
-- ==== Proof.RowNorm.lean ====
/- One row of the normalisation over the extended reals: the row's mean square with the small constant added to it, the row normalised and scaled, and the gradient that the normalisation passes to the row. -/
module

public import Idealize.ShloMosaic.Lib.Quiescent
public import Idealize.ShloMosaic.Lib.Pointwise

@[expose] public section

noncomputable section

namespace Cert.RowNorm

open Idealize.ShloMosaic

/-- The mean of the row's squares, and the small constant. -/
def var (x : Fin 1024 → EReal) : EReal := Ideal.div (∑ k, x k * x k) (Ideal.ofBits .f32 0x44800000#32) + Ideal.ofBits .f32 0x358637BD#32

/-- The row divided by the square root of that, and scaled by the weights. -/
def norm (x g : Fin 1024 → EReal) (q : Fin 1024) : EReal := x q * Ideal.rsqrt (var x) * g q

/-- What the row's elements get from the mean square: the cotangent of the mean square, for each element once. -/
def pull (r x g : Fin 1024 → EReal) : EReal :=
  Ideal.div ((∑ k, x k * (r k * g k)) * (Ideal.ofBits .f32 0xBF000000#32 * Ideal.div (Ideal.rsqrt (var x)) (var x))) (Ideal.ofBits .f32 0x44800000#32)

/-- The gradient of the row, from the cotangent `r` of the normalised row and the gradient `d` that reaches the row past the normalisation: summand by summand, as a sum of four. -/
def back (d r x g : Fin 1024 → EReal) (q : Fin 1024) : EReal := d q + r q * g q * Ideal.rsqrt (var x) + x q * pull r x g + pull r x g * x q

end Cert.RowNorm

end
-- ==== Proof.GradNormMix.lean ====
/- The gradient through the normalisation before the mixing, over the extended reals: a run's steps add up the product that the normalised rows' cotangent is, and its last step takes that cotangent through the normalisation, row by row. -/
module

public import proofs.«01_k».proof.Proof.Whole
public import proofs.«01_k».proof.Proof.MatSum
public import proofs.«01_k».proof.Proof.RowNorm
public import proofs.«01_k».proof.Proof.Gen.Kernel8Ideal.Value
public import proofs.«01_k».proof.Proof.Gen.Reference8Ideal.Run
public import proofs.«01_k».proof.Defs
public import Idealize.ShloMosaic.Lib.Quiescent
public import Idealize.ShloMosaic.Lib.VecWindow
public import Idealize.ShloMosaic.Lib.Pointwise

@[expose] public section

set_option maxRecDepth 16384

noncomputable section

open Idealize.ShloMosaic.ValueIdx renaming ix2 → ij

namespace Cert.Kernel8Ideal.Value

open Cert.Kernel8Ideal Cert.Kernel8Ideal.Gen Idealize.ShloMosaic Idealize.ShloMosaic.TcCoe Idealize.SL.Sem
open MatSum (at2 at2_of entP termP)

section Cases

variable {F : FTy → Type} [FloatOps F]
variable (c : Dev nD) (i : grid0.Coords) (a3 : Memref sig .tc .vmem S1024x1408 .bf16) (h3 : a3.IsWhole) (a4 : Memref sig .tc .vmem S1408x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S8x1024 .f32) (h9 : a9.IsWhole) (a10 : Memref sig .tc .vmem S1024x1024 .f32) (h10 : a10.IsWhole)
  (x : Vec F S1024x1408 .bf16) (y : Vec F S1408x1024 .bf16) (u d : Vec F S1024x1024 .f32) (g : Vec F S1x1024 .f32) (o : Vec F S8x1024 .f32) (acc : Vec F S1024x1024 .f32)

/-- A run's first step leaves the first product, added to zeros. -/
theorem sout_A (hc0 : cond0_0 i) (hc1 : ¬cond0_1 i) : sout0_A_0 c i a3 h3 a4 h4 a5 h5 a6 h6 a7 h7 a8 h8 a9 h9 a10 h10 hc0 hc1 x y u d g = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 a8 h8 a9 h9 a10 h10 hc0 hc1 x y u d g acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which writes out the accumulator taken through the normalisation, in the first run … -/
theorem outs_C (hc0 : ¬cond0_0 i) (hc1 : cond0_1 i) (hc2 : cond0_2 i) (hc3 : ¬cond0_3 i) : sout0_C_0 c i a3 h3 a4 h4 a5 h5 a6 h6 a7 h7 a8 h8 a9 h9 a10 h10 hc0 hc1 hc2 hc3 x y u d g acc = k0_pay2 x acc y
    ∧ out0_C_5 c i a3 h3 a4 h4 a5 h5 a6 h6 a7 h7 a8 h8 a9 h9 a10 h10 hc0 hc1 hc2 hc3 x y u d g acc = k0_pay6 (k0_pay2 x acc y) u d g := by
  unfold sout0_C_0 out0_C_5
  rw [View.read_writes_eq_canon _ _ _ (fun _ => scover0_C_0 ..), View.read_writes_eq_canon _ _ _ (fun _ => cover0_C_5 ..)]
  unfold kernelRun0_C
  dsimp only
  sl_unfold_words
  simp only [View.readAt_eq_ld, Memref.IsWhole.read_unread, Whole.ld, Whole.canon, Whole.readCov, and_self]

/-- … and in every other. -/
theorem outs_D (hc0 : ¬cond0_0 i) (hc1 : cond0_1 i) (hc2 : ¬cond0_2 i) (hc3 : cond0_3 i) : sout0_D_0 c i a3 h3 a4 h4 a5 h5 a6 h6 a7 h7 a8 h8 a9 h9 a10 h10 hc0 hc1 hc2 hc3 x y u d g o acc = k0_pay2 x acc y
    ∧ out0_D_5 c i a3 h3 a4 h4 a5 h5 a6 h6 a7 h7 a8 h8 a9 h9 a10 h10 hc0 hc1 hc2 hc3 x y u d g o acc = k0_pay6 (k0_pay2 x acc y) u d g := by
  unfold sout0_D_0 out0_D_5
  rw [View.read_writes_eq_canon _ _ _ (fun _ => scover0_D_0 ..), View.read_writes_eq_canon _ _ _ (fun _ => cover0_D_5 ..)]
  unfold kernelRun0_D
  dsimp only
  sl_unfold_words
  simp only [View.readAt_eq_ld, Memref.IsWhole.read_unread, Whole.ld, Whole.canon, Whole.readCov, and_self]

end Cases

/-- What a step adds to the accumulator. -/
theorem pay2_at (x : FVec Ideal S1024x1408 .bf16) (acc : FVec Ideal S1024x1024 .f32) (y : FVec Ideal S1408x1024 .bf16) (p q : Fin 1024) : k0_pay2 (F := Ideal) x acc y (ij p q) = acc (ij p q) + entP x y p q := by
  unfold k0_pay2
  simp only [shapeCast_self]
  show acc (ij p q) + FloatOps.matmul (DotDims.plain 1024 1408 1024) none x y (constant S1024x1024 .f32 0x00000000#32) (ij p q) = _
  rw [MatSum.matmul_P, show constant (F := Ideal) S1024x1024 .f32 0x00000000#32 (ij p q) = 0 from Ideal.ofBits_zero_f32, zero_add]

theorem pay1_at (p q : Fin 1024) : (k0_pay1 (F := Ideal)) (ij p q) = 0 := by
  unfold k0_pay1
  simp only [shapeCast_self]
  exact Ideal.ofBits_zero_f32

/-- The last step's result, element by element. -/
theorem pay6_at (r x d : FVec Ideal S1024x1024 .f32) (g : FVec Ideal S1x1024 .f32) (p q : Fin 1024) :
    k0_pay6 (F := Ideal) r x d g (ij p q) = RowNorm.back (fun k => d (ij p k)) (fun k => r (ij p k)) (fun k => x (ij p k)) (fun k => g (ij 0 k)) q := by
  unfold k0_pay6 RowNorm.back
  dsimp only
  pointwise [Fin.sum_univ_one]
  rw [← add_assoc, ← add_assoc]
  rfl

variable (m : (ℓ : Loc nD τ sig) → Buf (Elt Ideal) ℓ) (c : Dev nD)

/-- The two factors, the rows that were normalised, the normalisation's weights, and the gradient past the normalisation. -/
abbrev lhs : FVec Ideal S8192x4224 .bf16 := m ((c : Thread nD τ).loc main_arg0)
abbrev rhs : FVec Ideal S4224x1024 .bf16 := m ((c : Thread nD τ).loc main_arg1)
abbrev rows : FVec Ideal S8192x1024 .f32 := m ((c : Thread nD τ).loc main_arg2)
abbrev wts : FVec Ideal S1024 .f32 := m ((c : Thread nD τ).loc main_arg3)
abbrev past : FVec Ideal S8192x1024 .f32 := m ((c : Thread nD τ).loc main_arg4)

/-- The gradient of the rows. -/
def Gx : FVec Ideal S8192x1024 .f32 := fun i =>
  RowNorm.back (fun k => at2 (past m c) (i 0).val k) (fun k => entP (lhs m c) (rhs m c) (i 0).val k) (fun k => at2 (rows m c) (i 0).val k) (fun k => wts m c (ValueIdx.ix1 k)) (i 1)

theorem index0 : ∀ t : Fin cfg0.N, win0_0.index t (0 : Fin 2) = t.val / 3 ∧ win0_0.index t (1 : Fin 2) = t.val % 3 := (by decide +kernel : ∀ t : Fin grid0.N, _)
theorem index1 : ∀ t : Fin cfg0.N, win0_1.index t (0 : Fin 2) = t.val % 3 ∧ win0_1.index t (1 : Fin 2) = 0 := (by decide +kernel : ∀ t : Fin grid0.N, _)
theorem index2 : ∀ t : Fin cfg0.N, win0_2.index t (0 : Fin 2) = t.val / 3 ∧ win0_2.index t (1 : Fin 2) = 0 := (by decide +kernel : ∀ t : Fin grid0.N, _)
theorem index3 : ∀ t : Fin cfg0.N, win0_3.index t (0 : Fin 2) = t.val / 3 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)

theorem V0 : V m c main_arg0 = lhs m c := by unfold V; after_results
theorem V1 : V m c main_arg1 = rhs m c := by unfold V; after_results
theorem V2 : V m c main_arg2 = rows m c := by unfold V; after_results
theorem V3 : V m c main_arg4 = past m c := by unfold V; after_results
theorem V4 : V m c main_v0 = shapeCast S1x1024 (wts m c) shapeCasts_S1024_S1x1024 := by unfold V; after_results; rfl

theorem iblk0_at (t : Fin cfg0.N) (p : Fin 1024) (k : Fin 1408) : (iblk m c 0 t : FVec Ideal S1024x1408 .bf16) (ij p k) = at2 (lhs m c) (t.val / 3 * 1024 + p) (t.val % 3 * 1408 + k) := by
  unfold iblk
  rw [View.read_apply]
  refine (congrFun (V0 m c) _).trans (at2_of (lhs m c) _ _ _ ?_ ?_)
  · show win0_0.index t 0 * 1024 + 1 * p.val = _; rw [(index0 t).1, one_mul]
  · show win0_0.index t 1 * 1408 + 1 * k.val = _; rw [(index0 t).2, one_mul]

theorem iblk1_at (t : Fin cfg0.N) (k : Fin 1408) (q : Fin 1024) : (iblk m c 1 t : FVec Ideal S1408x1024 .bf16) (ij k q) = at2 (rhs m c) (t.val % 3 * 1408 + k) q := by
  unfold iblk
  rw [View.read_apply]
  refine (congrFun (V1 m c) _).trans (at2_of (rhs m c) _ _ _ ?_ ?_)
  · show win0_1.index t 0 * 1408 + 1 * k.val = _; rw [(index1 t).1, one_mul]
  · show win0_1.index t 1 * 1024 + 1 * q.val = _; rw [(index1 t).2, zero_mul, zero_add, one_mul]

theorem iblk2_at (t : Fin cfg0.N) (p q : Fin 1024) : (iblk m c 2 t : FVec Ideal S1024x1024 .f32) (ij p q) = at2 (rows m c) (t.val / 3 * 1024 + p) q := by
  unfold iblk
  rw [View.read_apply]
  refine (congrFun (V2 m c) _).trans (at2_of (rows m c) _ _ _ ?_ ?_)
  · show win0_2.index t 0 * 1024 + 1 * p.val = _; rw [(index2 t).1, one_mul]
  · show win0_2.index t 1 * 1024 + 1 * q.val = _; rw [(index2 t).2, zero_mul, zero_add, one_mul]

theorem iblk3_at (t : Fin cfg0.N) (p q : Fin 1024) : (iblk m c 3 t : FVec Ideal S1024x1024 .f32) (ij p q) = at2 (past m c) (t.val / 3 * 1024 + p) q := by
  unfold iblk
  rw [View.read_apply]
  refine (congrFun (V3 m c) _).trans (at2_of (past m c) _ _ _ ?_ ?_)
  · show win0_3.index t 0 * 1024 + 1 * p.val = _; rw [(index3 t).1, one_mul]
  · show win0_3.index t 1 * 1024 + 1 * q.val = _; rw [(index3 t).2, zero_mul, zero_add, one_mul]

theorem iblk4_at (t : Fin cfg0.N) (q : Fin 1024) : (iblk m c 4 t : FVec Ideal S1x1024 .f32) (ij 0 q) = wts m c (ValueIdx.ix1 q) := by
  unfold iblk
  rw [View.read_apply]
  refine (congrFun (V4 m c) _).trans (Eq.trans (congrArg _ ?_) (ValueIdx.shapeCast_a_1a_apply (wts m c) _ 0 q))
  funext a; match a with
  | ⟨0, _⟩ => exact Fin.ext (show win0_4.index t 0 * 1 + 1 * 0 = 0 by rw [(index4 t).1])
  | ⟨1, _⟩ => exact Fin.ext (show win0_4.index t 1 * 1024 + 1 * q.val = q.val by rw [(index4 t).2, zero_mul, zero_add, one_mul])

theorem pay2_term (t : Fin cfg0.N) (acc : FVec Ideal S1024x1024 .f32) (p q : Fin 1024) :
    k0_pay2 (F := Ideal) (iblk m c 0 t) acc (iblk m c 1 t) (ij p q) = acc (ij p q) + termP (lhs m c) (rhs m c) 1408 (t.val / 3 * 1024 + p) q (t.val % 3) :=
  (pay2_at _ _ _ p q).trans (congrArg (acc (ij p q) + ·) (MatSum.stepP (lhs m c) (rhs m c) _ _ _ _ _ _ (iblk0_at m c t _) (fun k => iblk1_at m c t k _)))

/-- The last point of a run: the accumulator, and what it writes out. -/
theorem outs_last (t : Fin cfg0.N) (h1 : t.val % 3 = 2) :
    (outsAt0 m c t.val t.isLt).1 = k0_pay6 (F := Ideal) (outsAt0 m c t.val t.isLt).2.2 (iblk m c 2 t) (iblk m c 3 t) (iblk m c 4 t)
      ∧ (outsAt0 m c t.val t.isLt).2.2 = k0_pay2 (F := Ideal) (iblk m c 0 t) (outsAt0 m c (t.val - 1) (Nat.lt_of_le_of_lt (Nat.sub_le _ _) t.isLt)).2.2 (iblk m c 1 t) := by
  by_cases h2 : t.val < 3
  · rw [outsAt0_C m c t (by omega) h1 h2 (by omega), (outs_C ..).1, (outs_C ..).2]
    exact ⟨rfl, rfl⟩
  · rw [outsAt0_D m c t (by omega) h1 h2 (by omega), (outs_D ..).1, (outs_D ..).2]
    exact ⟨rfl, rfl⟩

/-- The accumulator after each point. -/
theorem acc_at (p q : Fin 1024) : ∀ n (h : n < cfg0.N), (outsAt0 m c n h).2.2 (ij p q) = ∑ s ∈ Finset.range (n % 3 + 1), termP (lhs m c) (rhs m c) 1408 (n / 3 * 1024 + p) q s := by
  refine MatSum.fold 3 (by decide) (fun n h => (outsAt0 m c n h).2.2 (ij p q)) (fun r s => termP (lhs m c) (rhs m c) 1408 (r * 1024 + p) q s) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termP (lhs m c) (rhs m c) 1408 (n / 3 * 1024 + p) q) h0
  · by_cases h1 : (n + 1) % 3 = 2
    · exact (congrFun (outs_last m c ⟨n + 1, h⟩ h1).2 _).trans (pay2_term m c ⟨n + 1, h⟩ _ p q)
    · rw [outsAt0_B m c ⟨n + 1, h⟩ h0 h1, sout_B]; exact pay2_term m c ⟨n + 1, h⟩ _ p q

theorem pt_lt (i : S8192x1024.Idx) : pt5Of i < cfg0.N := by
  have h0 : (i 0).val < 8192 := (i 0).isLt
  have h1 : (i 1).val < 1024 := (i 1).isLt
  rw [show cfg0.N = 24 from N_0]; unfold pt5Of run5Of; omega

/-- What the kernel leaves in its first result. -/
theorem G5_eq : G5 m c = Gx m c := by
  funext i
  have h := pt_lt i
  have h0 : (i 0).val < 8192 := (i 0).isLt
  have h1 : (i 1).val < 1024 := (i 1).isLt
  have ht : pt5Of i % 3 = 2 := by unfold pt5Of; omega
  have hr : pt5Of i / 3 = (i 0).val / 1024 := by unfold pt5Of run5Of; omega
  have hrow : pt5Of i / 3 * 1024 + (i 0).val % 1024 = (i 0).val := by rw [hr]; omega
  have el : loc5Of i = ij ⟨(i 0).val % 1024, Nat.mod_lt _ (by decide)⟩ ⟨(i 1).val, h1⟩ := by
    funext a; match a with
    | ⟨0, _⟩ => rfl
    | ⟨1, _⟩ => exact Fin.ext (Nat.mod_eq_of_lt h1)
  unfold G5
  rw [dif_pos h, ← outsAt0_sweep m c (pt5Of i) h, (outs_last m c ⟨_, h⟩ ht).1, el, pay6_at]
  have e0 : ∀ k : Fin 1024, (iblk m c 3 ⟨_, h⟩ : FVec Ideal S1024x1024 .f32) (ij ⟨(i 0).val % 1024, Nat.mod_lt _ (by decide)⟩ k) = at2 (past m c) (i 0).val k := fun k =>
    (iblk3_at m c ⟨_, h⟩ _ k).trans (congrArg (at2 (past m c) · k) hrow)
  have e1 : ∀ k : Fin 1024, (outsAt0 m c (pt5Of i) h).2.2 (ij ⟨(i 0).val % 1024, Nat.mod_lt _ (by decide)⟩ k) = entP (lhs m c) (rhs m c) (i 0).val k := fun k => by
    rw [acc_at, ht]
    refine (MatSum.stepsP (lhs m c) (rhs m c) 1408 3 rfl _ _).trans ?_
    exact congrArg (entP (lhs m c) (rhs m c) · k) hrow
  have e2 : ∀ k : Fin 1024, (iblk m c 2 ⟨_, h⟩ : FVec Ideal S1024x1024 .f32) (ij ⟨(i 0).val % 1024, Nat.mod_lt _ (by decide)⟩ k) = at2 (rows m c) (i 0).val k := fun k =>
    (iblk2_at m c ⟨_, h⟩ _ k).trans (congrArg (at2 (rows m c) · k) hrow)
  rw [funext e0, funext e1, funext e2, funext (iblk4_at m c ⟨_, h⟩)]
  rfl

end Cert.Kernel8Ideal.Value

namespace Cert.Reference8Ideal.Value

open Cert.Reference8Ideal Cert.Reference8Ideal.Gen Idealize.ShloMosaic Idealize.ShloMosaic.TcCoe Idealize.SL.Sem

/-- The reference's result, element by element. -/
theorem res_at (m : (ℓ : Loc nD τ sig) → Buf (Elt Ideal) ℓ) (c : Dev nD) (a : FVec Ideal S8192x4224 .bf16) (b : FVec Ideal S4224x1024 .bf16) (x : FVec Ideal S8192x1024 .f32) (g : FVec Ideal S1024 .f32) (d : FVec Ideal S8192x1024 .f32)
    (ha : m ((c : Thread nD τ).loc main_arg0) = a) (hb : m ((c : Thread nD τ).loc main_arg1) = b) (hx : m ((c : Thread nD τ).loc main_arg2) = x) (hg : m ((c : Thread nD τ).loc main_arg3) = g) (hd : m ((c : Thread nD τ).loc main_arg4) = d) (p : Fin 8192) (q : Fin 1024) :
    (res_main_v37 m c : FVec Ideal S8192x1024 .f32) (ij p q) = RowNorm.back (fun k => MatSum.at2 d p k) (fun k => MatSum.entP a b p k) (fun k => MatSum.at2 x p k) (fun k => g (ValueIdx.ix1 k)) q := by
  unfold res_main_v37
  rw [ha, hb, hx, hg, hd]
  have hr : ∀ k : Fin 1024, Host.dotGeneral (F := Ideal) dot_S8192x4224_S1024x4224_S8192x1024_1_1_0_0_n_n none (extf .f32 a bitsLt_bf16_f32) (transpose S1024x4224 [1, 0] (extf .f32 b bitsLt_bf16_f32) transposes_S4224x1024_S1024x4224_1_0) (ij p k) = MatSum.entP a b p k := fun k =>
    MatSum.dot_CT none .single a b transposes_S4224x1024_S1024x4224_1_0 p k
  rw [← funext hr, funext fun k => MatSum.at2_fin d p k, funext fun k => MatSum.at2_fin x p k]
  generalize Host.dotGeneral (F := Ideal) dot_S8192x4224_S1024x4224_S8192x1024_1_1_0_0_n_n none (extf .f32 a bitsLt_bf16_f32) (transpose S1024x4224 [1, 0] (extf .f32 b bitsLt_bf16_f32) transposes_S4224x1024_S1024x4224_1_0) = r
  unfold RowNorm.back
  pointwise [Fin.sum_univ_one]
  rfl

end Cert.Reference8Ideal.Value

namespace Cert.GradNormMix

open Idealize.ShloMosaic Idealize.ShloMosaic.TcCoe Idealize.SL.Sem

/-- The frame of the reference. -/
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run m ρ)

/-- Kernel and reference both leave the gradient of the rows. -/
theorem same : Cert.algebraic_Kernel8Ideal_Reference8Ideal (hKernel8Ideal := Cert.Kernel8Ideal.Gen.facts) (hReference8Ideal := Cert.Reference8Ideal.Gen.facts) := by
  intro m g m' g' _ hagree
  refine ⟨fun c => Cert.Kernel8Ideal.Value.Gx m c, ?_, ?_⟩
  · exact (θ_run Cert.Kernel8Ideal.defs _ _).mono (fun _ h c => ⟨(h c).1.trans (Cert.Kernel8Ideal.Value.G5_eq m c), (h c).2.2⟩) (Cert.Kernel8Ideal.Value.run m g)
  · refine (θ_run Cert.Reference8Ideal.defs _ _).mono (fun _ h c => ?_) (Cert.Reference8Ideal.Value.run m' g')
    obtain ⟨e0, e1, e2, e3, e4⟩ := hagree c
    refine ⟨(h c).1.trans (funext fun i => ?_), (h c).2⟩
    rw [ValueIdx.eq_ix2 i]
    exact Cert.Reference8Ideal.Value.res_at m' c _ _ _ _ _ e0 e1 e2 e3 e4 (i 0) (i 1)

end Cert.GradNormMix

end
-- ==== Proof.GradNormUp.lean ====
/- The gradient through the normalisation before the widened projections, over the extended reals: a run's steps add up the product that the normalised rows' cotangent is, and its last step takes that cotangent through the normalisation, row by row. -/
module

public import proofs.«01_k».proof.Proof.Whole
public import proofs.«01_k».proof.Proof.GradNormMix
public import proofs.«01_k».proof.Proof.RowNorm
public import proofs.«01_k».proof.Proof.Gen.Kernel3Ideal.Value
public import proofs.«01_k».proof.Proof.Gen.Reference3Ideal.Run
public import proofs.«01_k».proof.Defs
public import Idealize.ShloMosaic.Lib.Quiescent
public import Idealize.ShloMosaic.Lib.VecWindow
public import Idealize.ShloMosaic.Lib.Pointwise

@[expose] public section

set_option maxRecDepth 16384

noncomputable section

open Idealize.ShloMosaic.ValueIdx renaming ix2 → ij

namespace Cert.Kernel3Ideal.Value

open Cert.Kernel3Ideal Cert.Kernel3Ideal.Gen Idealize.ShloMosaic Idealize.ShloMosaic.TcCoe Idealize.SL.Sem
open MatSum (at2 at2_of entP termP)

section Cases

variable {F : FTy → Type} [FloatOps F]
variable (c : Dev nD) (i : grid0.Coords) (a3 : Memref sig .tc .vmem S1024x1408 .bf16) (h3 : a3.IsWhole) (a4 : Memref sig .tc .vmem S1408x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S8x1024 .f32) (h9 : a9.IsWhole) (a10 : Memref sig .tc .vmem S1024x1024 .f32) (h10 : a10.IsWhole)
  (x : Vec F S1024x1408 .bf16) (y : Vec F S1408x1024 .bf16) (u d : Vec F S1024x1024 .f32) (g : Vec F S1x1024 .f32) (o : Vec F S8x1024 .f32) (acc : Vec F S1024x1024 .f32)

/-- A run's first step leaves the first product, added to zeros. -/
theorem sout_A (hc0 : cond0_0 i) (hc1 : ¬cond0_1 i) : sout0_A_0 c i a3 h3 a4 h4 a5 h5 a6 h6 a7 h7 a8 h8 a9 h9 a10 h10 hc0 hc1 x y u d g = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 a8 h8 a9 h9 a10 h10 hc0 hc1 x y u d g acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which writes out the accumulator taken through the normalisation, in the first run … -/
theorem outs_C (hc0 : ¬cond0_0 i) (hc1 : cond0_1 i) (hc2 : cond0_2 i) (hc3 : ¬cond0_3 i) : sout0_C_0 c i a3 h3 a4 h4 a5 h5 a6 h6 a7 h7 a8 h8 a9 h9 a10 h10 hc0 hc1 hc2 hc3 x y u d g acc = k0_pay2 x acc y
    ∧ out0_C_5 c i a3 h3 a4 h4 a5 h5 a6 h6 a7 h7 a8 h8 a9 h9 a10 h10 hc0 hc1 hc2 hc3 x y u d g acc = k0_pay6 (k0_pay2 x acc y) u d g := by
  unfold sout0_C_0 out0_C_5
  rw [View.read_writes_eq_canon _ _ _ (fun _ => scover0_C_0 ..), View.read_writes_eq_canon _ _ _ (fun _ => cover0_C_5 ..)]
  unfold kernelRun0_C
  dsimp only
  sl_unfold_words
  simp only [View.readAt_eq_ld, Memref.IsWhole.read_unread, Whole.ld, Whole.canon, Whole.readCov, and_self]

/-- … and in every other. -/
theorem outs_D (hc0 : ¬cond0_0 i) (hc1 : cond0_1 i) (hc2 : ¬cond0_2 i) (hc3 : cond0_3 i) : sout0_D_0 c i a3 h3 a4 h4 a5 h5 a6 h6 a7 h7 a8 h8 a9 h9 a10 h10 hc0 hc1 hc2 hc3 x y u d g o acc = k0_pay2 x acc y
    ∧ out0_D_5 c i a3 h3 a4 h4 a5 h5 a6 h6 a7 h7 a8 h8 a9 h9 a10 h10 hc0 hc1 hc2 hc3 x y u d g o acc = k0_pay6 (k0_pay2 x acc y) u d g := by
  unfold sout0_D_0 out0_D_5
  rw [View.read_writes_eq_canon _ _ _ (fun _ => scover0_D_0 ..), View.read_writes_eq_canon _ _ _ (fun _ => cover0_D_5 ..)]
  unfold kernelRun0_D
  dsimp only
  sl_unfold_words
  simp only [View.readAt_eq_ld, Memref.IsWhole.read_unread, Whole.ld, Whole.canon, Whole.readCov, and_self]

end Cases

/-- What a step adds to the accumulator. -/
theorem pay2_at (x : FVec Ideal S1024x1408 .bf16) (acc : FVec Ideal S1024x1024 .f32) (y : FVec Ideal S1408x1024 .bf16) (p q : Fin 1024) : k0_pay2 (F := Ideal) x acc y (ij p q) = acc (ij p q) + entP x y p q := by
  unfold k0_pay2
  simp only [shapeCast_self]
  show acc (ij p q) + FloatOps.matmul (DotDims.plain 1024 1408 1024) none x y (constant S1024x1024 .f32 0x00000000#32) (ij p q) = _
  rw [MatSum.matmul_P, show constant (F := Ideal) S1024x1024 .f32 0x00000000#32 (ij p q) = 0 from Ideal.ofBits_zero_f32, zero_add]

theorem pay1_at (p q : Fin 1024) : (k0_pay1 (F := Ideal)) (ij p q) = 0 := by
  unfold k0_pay1
  simp only [shapeCast_self]
  exact Ideal.ofBits_zero_f32

/-- The last step's result, element by element. -/
theorem pay6_at (r x d : FVec Ideal S1024x1024 .f32) (g : FVec Ideal S1x1024 .f32) (p q : Fin 1024) :
    k0_pay6 (F := Ideal) r x d g (ij p q) = RowNorm.back (fun k => d (ij p k)) (fun k => r (ij p k)) (fun k => x (ij p k)) (fun k => g (ij 0 k)) q :=
  Cert.Kernel8Ideal.Value.pay6_at r x d g p q

variable (m : (ℓ : Loc nD τ sig) → Buf (Elt Ideal) ℓ) (c : Dev nD)

/-- The two factors, the rows that were normalised, the normalisation's weights, and the gradient past the normalisation. -/
abbrev lhs : FVec Ideal S8192x5632 .bf16 := m ((c : Thread nD τ).loc main_arg0)
abbrev rhs : FVec Ideal S5632x1024 .bf16 := m ((c : Thread nD τ).loc main_arg1)
abbrev rows : FVec Ideal S8192x1024 .f32 := m ((c : Thread nD τ).loc main_arg2)
abbrev wts : FVec Ideal S1024 .f32 := m ((c : Thread nD τ).loc main_arg3)
abbrev past : FVec Ideal S8192x1024 .f32 := m ((c : Thread nD τ).loc main_arg4)

/-- The gradient of the rows. -/
def Gx : FVec Ideal S8192x1024 .f32 := fun i =>
  RowNorm.back (fun k => at2 (past m c) (i 0).val k) (fun k => entP (lhs m c) (rhs m c) (i 0).val k) (fun k => at2 (rows m c) (i 0).val k) (fun k => wts m c (ValueIdx.ix1 k)) (i 1)

theorem index0 : ∀ t : Fin cfg0.N, win0_0.index t (0 : Fin 2) = t.val / 4 ∧ win0_0.index t (1 : Fin 2) = t.val % 4 := (by decide +kernel : ∀ t : Fin grid0.N, _)
theorem index1 : ∀ t : Fin cfg0.N, win0_1.index t (0 : Fin 2) = t.val % 4 ∧ win0_1.index t (1 : Fin 2) = 0 := (by decide +kernel : ∀ t : Fin grid0.N, _)
theorem index2 : ∀ t : Fin cfg0.N, win0_2.index t (0 : Fin 2) = t.val / 4 ∧ win0_2.index t (1 : Fin 2) = 0 := (by decide +kernel : ∀ t : Fin grid0.N, _)
theorem index3 : ∀ t : Fin cfg0.N, win0_3.index t (0 : Fin 2) = t.val / 4 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)

theorem V0 : V m c main_arg0 = lhs m c := by unfold V; after_results
theorem V1 : V m c main_arg1 = rhs m c := by unfold V; after_results
theorem V2 : V m c main_arg2 = rows m c := by unfold V; after_results
theorem V3 : V m c main_arg4 = past m c := by unfold V; after_results
theorem V4 : V m c main_v0 = shapeCast S1x1024 (wts m c) shapeCasts_S1024_S1x1024 := by unfold V; after_results; rfl

theorem iblk0_at (t : Fin cfg0.N) (p : Fin 1024) (k : Fin 1408) : (iblk m c 0 t : FVec Ideal S1024x1408 .bf16) (ij p k) = at2 (lhs m c) (t.val / 4 * 1024 + p) (t.val % 4 * 1408 + k) := by
  unfold iblk
  rw [View.read_apply]
  refine (congrFun (V0 m c) _).trans (at2_of (lhs m c) _ _ _ ?_ ?_)
  · show win0_0.index t 0 * 1024 + 1 * p.val = _; rw [(index0 t).1, one_mul]
  · show win0_0.index t 1 * 1408 + 1 * k.val = _; rw [(index0 t).2, one_mul]

theorem iblk1_at (t : Fin cfg0.N) (k : Fin 1408) (q : Fin 1024) : (iblk m c 1 t : FVec Ideal S1408x1024 .bf16) (ij k q) = at2 (rhs m c) (t.val % 4 * 1408 + k) q := by
  unfold iblk
  rw [View.read_apply]
  refine (congrFun (V1 m c) _).trans (at2_of (rhs m c) _ _ _ ?_ ?_)
  · show win0_1.index t 0 * 1408 + 1 * k.val = _; rw [(index1 t).1, one_mul]
  · show win0_1.index t 1 * 1024 + 1 * q.val = _; rw [(index1 t).2, zero_mul, zero_add, one_mul]

theorem iblk2_at (t : Fin cfg0.N) (p q : Fin 1024) : (iblk m c 2 t : FVec Ideal S1024x1024 .f32) (ij p q) = at2 (rows m c) (t.val / 4 * 1024 + p) q := by
  unfold iblk
  rw [View.read_apply]
  refine (congrFun (V2 m c) _).trans (at2_of (rows m c) _ _ _ ?_ ?_)
  · show win0_2.index t 0 * 1024 + 1 * p.val = _; rw [(index2 t).1, one_mul]
  · show win0_2.index t 1 * 1024 + 1 * q.val = _; rw [(index2 t).2, zero_mul, zero_add, one_mul]

theorem iblk3_at (t : Fin cfg0.N) (p q : Fin 1024) : (iblk m c 3 t : FVec Ideal S1024x1024 .f32) (ij p q) = at2 (past m c) (t.val / 4 * 1024 + p) q := by
  unfold iblk
  rw [View.read_apply]
  refine (congrFun (V3 m c) _).trans (at2_of (past m c) _ _ _ ?_ ?_)
  · show win0_3.index t 0 * 1024 + 1 * p.val = _; rw [(index3 t).1, one_mul]
  · show win0_3.index t 1 * 1024 + 1 * q.val = _; rw [(index3 t).2, zero_mul, zero_add, one_mul]

theorem iblk4_at (t : Fin cfg0.N) (q : Fin 1024) : (iblk m c 4 t : FVec Ideal S1x1024 .f32) (ij 0 q) = wts m c (ValueIdx.ix1 q) := by
  unfold iblk
  rw [View.read_apply]
  refine (congrFun (V4 m c) _).trans (Eq.trans (congrArg _ ?_) (ValueIdx.shapeCast_a_1a_apply (wts m c) _ 0 q))
  funext a; match a with
  | ⟨0, _⟩ => exact Fin.ext (show win0_4.index t 0 * 1 + 1 * 0 = 0 by rw [(index4 t).1])
  | ⟨1, _⟩ => exact Fin.ext (show win0_4.index t 1 * 1024 + 1 * q.val = q.val by rw [(index4 t).2, zero_mul, zero_add, one_mul])

theorem pay2_term (t : Fin cfg0.N) (acc : FVec Ideal S1024x1024 .f32) (p q : Fin 1024) :
    k0_pay2 (F := Ideal) (iblk m c 0 t) acc (iblk m c 1 t) (ij p q) = acc (ij p q) + termP (lhs m c) (rhs m c) 1408 (t.val / 4 * 1024 + p) q (t.val % 4) :=
  (pay2_at _ _ _ p q).trans (congrArg (acc (ij p q) + ·) (MatSum.stepP (lhs m c) (rhs m c) _ _ _ _ _ _ (iblk0_at m c t _) (fun k => iblk1_at m c t k _)))

/-- The last point of a run: the accumulator, and what it writes out. -/
theorem outs_last (t : Fin cfg0.N) (h1 : t.val % 4 = 3) :
    (outsAt0 m c t.val t.isLt).1 = k0_pay6 (F := Ideal) (outsAt0 m c t.val t.isLt).2.2 (iblk m c 2 t) (iblk m c 3 t) (iblk m c 4 t)
      ∧ (outsAt0 m c t.val t.isLt).2.2 = k0_pay2 (F := Ideal) (iblk m c 0 t) (outsAt0 m c (t.val - 1) (Nat.lt_of_le_of_lt (Nat.sub_le _ _) t.isLt)).2.2 (iblk m c 1 t) := by
  by_cases h2 : t.val < 4
  · rw [outsAt0_C m c t (by omega) h1 h2 (by omega), (outs_C ..).1, (outs_C ..).2]
    exact ⟨rfl, rfl⟩
  · rw [outsAt0_D m c t (by omega) h1 h2 (by omega), (outs_D ..).1, (outs_D ..).2]
    exact ⟨rfl, rfl⟩

/-- The accumulator after each point. -/
theorem acc_at (p q : Fin 1024) : ∀ n (h : n < cfg0.N), (outsAt0 m c n h).2.2 (ij p q) = ∑ s ∈ Finset.range (n % 4 + 1), termP (lhs m c) (rhs m c) 1408 (n / 4 * 1024 + p) q s := by
  refine MatSum.fold 4 (by decide) (fun n h => (outsAt0 m c n h).2.2 (ij p q)) (fun r s => termP (lhs m c) (rhs m c) 1408 (r * 1024 + p) q s) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termP (lhs m c) (rhs m c) 1408 (n / 4 * 1024 + p) q) h0
  · by_cases h1 : (n + 1) % 4 = 3
    · exact (congrFun (outs_last m c ⟨n + 1, h⟩ h1).2 _).trans (pay2_term m c ⟨n + 1, h⟩ _ p q)
    · rw [outsAt0_B m c ⟨n + 1, h⟩ h0 h1, sout_B]; exact pay2_term m c ⟨n + 1, h⟩ _ p q

theorem pt_lt (i : S8192x1024.Idx) : pt5Of i < cfg0.N := by
  have h0 : (i 0).val < 8192 := (i 0).isLt
  have h1 : (i 1).val < 1024 := (i 1).isLt
  rw [show cfg0.N = 32 from N_0]; unfold pt5Of run5Of; omega

/-- What the kernel leaves in its first result. -/
theorem G5_eq : G5 m c = Gx m c := by
  funext i
  have h := pt_lt i
  have h0 : (i 0).val < 8192 := (i 0).isLt
  have h1 : (i 1).val < 1024 := (i 1).isLt
  have ht : pt5Of i % 4 = 3 := by unfold pt5Of; omega
  have hr : pt5Of i / 4 = (i 0).val / 1024 := by unfold pt5Of run5Of; omega
  have hrow : pt5Of i / 4 * 1024 + (i 0).val % 1024 = (i 0).val := by rw [hr]; omega
  have el : loc5Of i = ij ⟨(i 0).val % 1024, Nat.mod_lt _ (by decide)⟩ ⟨(i 1).val, h1⟩ := by
    funext a; match a with
    | ⟨0, _⟩ => rfl
    | ⟨1, _⟩ => exact Fin.ext (Nat.mod_eq_of_lt h1)
  unfold G5
  rw [dif_pos h, ← outsAt0_sweep m c (pt5Of i) h, (outs_last m c ⟨_, h⟩ ht).1, el, pay6_at]
  have e0 : ∀ k : Fin 1024, (iblk m c 3 ⟨_, h⟩ : FVec Ideal S1024x1024 .f32) (ij ⟨(i 0).val % 1024, Nat.mod_lt _ (by decide)⟩ k) = at2 (past m c) (i 0).val k := fun k =>
    (iblk3_at m c ⟨_, h⟩ _ k).trans (congrArg (at2 (past m c) · k) hrow)
  have e1 : ∀ k : Fin 1024, (outsAt0 m c (pt5Of i) h).2.2 (ij ⟨(i 0).val % 1024, Nat.mod_lt _ (by decide)⟩ k) = entP (lhs m c) (rhs m c) (i 0).val k := fun k => by
    rw [acc_at, ht]
    refine (MatSum.stepsP (lhs m c) (rhs m c) 1408 4 rfl _ _).trans ?_
    exact congrArg (entP (lhs m c) (rhs m c) · k) hrow
  have e2 : ∀ k : Fin 1024, (iblk m c 2 ⟨_, h⟩ : FVec Ideal S1024x1024 .f32) (ij ⟨(i 0).val % 1024, Nat.mod_lt _ (by decide)⟩ k) = at2 (rows m c) (i 0).val k := fun k =>
    (iblk2_at m c ⟨_, h⟩ _ k).trans (congrArg (at2 (rows m c) · k) hrow)
  rw [funext e0, funext e1, funext e2, funext (iblk4_at m c ⟨_, h⟩)]
  rfl

end Cert.Kernel3Ideal.Value

namespace Cert.Reference3Ideal.Value

open Cert.Reference3Ideal Cert.Reference3Ideal.Gen Idealize.ShloMosaic Idealize.ShloMosaic.TcCoe Idealize.SL.Sem

/-- The reference's result, element by element. -/
theorem res_at (m : (ℓ : Loc nD τ sig) → Buf (Elt Ideal) ℓ) (c : Dev nD) (a : FVec Ideal S8192x5632 .bf16) (b : FVec Ideal S5632x1024 .bf16) (x : FVec Ideal S8192x1024 .f32) (g : FVec Ideal S1024 .f32) (d : FVec Ideal S8192x1024 .f32)
    (ha : m ((c : Thread nD τ).loc main_arg0) = a) (hb : m ((c : Thread nD τ).loc main_arg1) = b) (hx : m ((c : Thread nD τ).loc main_arg2) = x) (hg : m ((c : Thread nD τ).loc main_arg3) = g) (hd : m ((c : Thread nD τ).loc main_arg4) = d) (p : Fin 8192) (q : Fin 1024) :
    (res_main_v37 m c : FVec Ideal S8192x1024 .f32) (ij p q) = RowNorm.back (fun k => MatSum.at2 d p k) (fun k => MatSum.entP a b p k) (fun k => MatSum.at2 x p k) (fun k => g (ValueIdx.ix1 k)) q := by
  unfold res_main_v37
  rw [ha, hb, hx, hg, hd]
  have hr : ∀ k : Fin 1024, Host.dotGeneral (F := Ideal) dot_S8192x5632_S1024x5632_S8192x1024_1_1_0_0_n_n none (extf .f32 a bitsLt_bf16_f32) (transpose S1024x5632 [1, 0] (extf .f32 b bitsLt_bf16_f32) transposes_S5632x1024_S1024x5632_1_0) (ij p k) = MatSum.entP a b p k := fun k =>
    MatSum.dot_CT none .single a b transposes_S5632x1024_S1024x5632_1_0 p k
  rw [← funext hr, funext fun k => MatSum.at2_fin d p k, funext fun k => MatSum.at2_fin x p k]
  generalize Host.dotGeneral (F := Ideal) dot_S8192x5632_S1024x5632_S8192x1024_1_1_0_0_n_n none (extf .f32 a bitsLt_bf16_f32) (transpose S1024x5632 [1, 0] (extf .f32 b bitsLt_bf16_f32) transposes_S5632x1024_S1024x5632_1_0) = r
  unfold RowNorm.back
  pointwise [Fin.sum_univ_one]
  rfl

end Cert.Reference3Ideal.Value

namespace Cert.GradNormUp

open Idealize.ShloMosaic Idealize.ShloMosaic.TcCoe Idealize.SL.Sem

/-- The frame of the reference. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run m ρ)

/-- Kernel and reference both leave the gradient of the rows. -/
theorem same : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Value.Gx m c, ?_, ?_⟩
  · exact (θ_run Cert.Kernel3Ideal.defs _ _).mono (fun _ h c => ⟨(h c).1.trans (Cert.Kernel3Ideal.Value.G5_eq m c), (h c).2.2⟩) (Cert.Kernel3Ideal.Value.run m g)
  · refine (θ_run Cert.Reference3Ideal.defs _ _).mono (fun _ h c => ?_) (Cert.Reference3Ideal.Value.run m' g')
    obtain ⟨e0, e1, e2, e3, e4⟩ := hagree c
    refine ⟨(h c).1.trans (funext fun i => ?_), (h c).2⟩
    rw [ValueIdx.eq_ix2 i]
    exact Cert.Reference3Ideal.Value.res_at m' c _ _ _ _ _ e0 e1 e2 e3 e4 (i 0) (i 1)

end Cert.GradNormUp

end
-- ==== Proof.GradUp.lean ====
/- The gradient of the feed-forward layer's up projection, over the extended reals: each block of the kernel's result is the accumulator after its run, and the accumulator is the sum of products over the steps so far. -/
module

public import proofs.«01_k».proof.Proof.Whole
public import proofs.«01_k».proof.Proof.MatSum
public import proofs.«01_k».proof.Proof.Gen.Kernel4Ideal.Value
public import proofs.«01_k».proof.Proof.Gen.Reference4Ideal.Run
public import proofs.«01_k».proof.Defs
public import Idealize.ShloMosaic.Lib.Quiescent

@[expose] public section

set_option maxRecDepth 16384

noncomputable section

namespace Cert.Kernel4Ideal.Value

open Cert.Kernel4Ideal Cert.Kernel4Ideal.Gen Idealize.ShloMosaic Idealize.ShloMosaic.TcCoe Idealize.ShloMosaic.ValueIdx Idealize.SL.Sem
open MatSum (at2 at2_of prodT termT)
open scoped BigOperators

section Cases

variable {F : FTy → Type} [FloatOps F]
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .f32) (h5 : a5.IsWhole) (a6 : Memref sig .tc .vmem S1408x1024 .bf16) (h6 : a6.IsWhole) (a7 : Memref sig .tc .vmem S1408x1024 .f32) (h7 : a7.IsWhole)
  (x : Vec F S1024x1408 .bf16) (y : Vec F S1024x1024 .bf16) (acc : Vec F S1408x1024 .f32)

/-- A run's first step leaves the first product, added to zeros. -/
theorem sout_A (hc0 : cond0_0 i) (hc1 : ¬cond0_1 i) : sout0_A_0 c i a3 h3 a4 h4 a5 h5 a6 h6 a7 h7 hc0 hc1 x y = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 hc0 hc1 x y acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which also writes the accumulator out, and its shortened copy. -/
theorem outs_C (hc0 : ¬cond0_0 i) (hc1 : cond0_1 i) : sout0_C_0 c i a3 h3 a4 h4 a5 h5 a6 h6 a7 h7 hc0 hc1 x y acc = k0_pay2 x acc y ∧ out0_C_2 c i a3 h3 a4 h4 a5 h5 a6 h6 a7 h7 hc0 hc1 x y acc = k0_pay2 x acc y ∧ out0_C_3 c i a3 h3 a4 h4 a5 h5 a6 h6 a7 h7 hc0 hc1 x y acc = k0_pay3 (k0_pay2 x acc y) := by
  unfold sout0_C_0 out0_C_2 out0_C_3
  rw [View.read_writes_eq_canon _ _ _ (fun _ => scover0_C_0 ..), View.read_writes_eq_canon _ _ _ (fun _ => cover0_C_2 ..), View.read_writes_eq_canon _ _ _ (fun _ => cover0_C_3 ..)]
  unfold kernelRun0_C
  dsimp only
  sl_unfold_words
  simp only [View.readAt_eq_ld, Memref.IsWhole.read_unread, Whole.ld, Whole.canon, Whole.readCov, and_self]

end Cases

variable (m : (ℓ : Loc nD τ sig) → Buf (Elt Ideal) ℓ) (c : Dev nD)

/-- What a step adds to the accumulator. -/
theorem pay2_at (x : FVec Ideal S1024x1408 .bf16) (acc : FVec Ideal S1408x1024 .f32) (y : FVec Ideal S1024x1024 .bf16) (p : Fin 1408) (q : Fin 1024) :
    k0_pay2 x acc y (ix2 p q) = acc (ix2 p q) + ∑ k ∈ Finset.range 1024, at2 x k p * at2 y k q := by
  unfold k0_pay2
  simp only [shapeCast_self]
  show acc (ix2 p q) + FloatOps.matmul (MatSum.leftT 1024 1408 1024 dot_S1024x1408_S1024x1024_S1408x1024_0_0_1_1_n_n_wf) none x y (constant S1408x1024 .f32 0x00000000#32) (ix2 p q) = _
  rw [MatSum.matmul_leftT, show constant (F := Ideal) S1408x1024 .f32 0x00000000#32 (ix2 p q) = 0 from Ideal.ofBits_zero_f32, zero_add]

theorem pay1_at (p : Fin 1408) (q : Fin 1024) : (k0_pay1 (F := Ideal)) (ix2 p q) = 0 := by
  unfold k0_pay1
  simp only [shapeCast_self]
  exact Ideal.ofBits_zero_f32

/-- The two factors. -/
abbrev lhs : FVec Ideal S8192x5632 .bf16 := m ((c : Thread nD τ).loc main_arg0)
abbrev rhs : FVec Ideal S8192x1024 .bf16 := m ((c : Thread nD τ).loc main_arg1)

theorem index0 : ∀ t : Fin cfg0.N, win0_0.index t (0 : Fin 2) = t.val % 8 ∧ win0_0.index t (1 : Fin 2) = t.val / 8 := (by decide +kernel : ∀ t : Fin grid0.N, _)
theorem index1 : ∀ t : Fin cfg0.N, win0_1.index t (0 : Fin 2) = t.val % 8 ∧ win0_1.index t (1 : Fin 2) = 0 := (by decide +kernel : ∀ t : Fin grid0.N, _)

/-- A step's block of the left factor. -/
theorem iblk0_at (t : Fin cfg0.N) (k : Fin 1024) (p : Fin 1408) : (iblk m c 0 t : FVec Ideal S1024x1408 .bf16) (ix2 k p) = at2 (lhs m c) (t.val % 8 * 1024 + k) (t.val / 8 * 1408 + p) := by
  unfold iblk
  rw [View.read_apply]
  refine at2_of (lhs m c) _ _ _ ?_ ?_
  · show win0_0.index t 0 * 1024 + 1 * k.val = _; rw [(index0 t).1, one_mul]
  · show win0_0.index t 1 * 1408 + 1 * p.val = _; rw [(index0 t).2, one_mul]

/-- A step's block of the right factor. -/
theorem iblk1_at (t : Fin cfg0.N) (k q : Fin 1024) : (iblk m c 1 t : FVec Ideal S1024x1024 .bf16) (ix2 k q) = at2 (rhs m c) (t.val % 8 * 1024 + k) q := by
  unfold iblk
  rw [View.read_apply]
  refine at2_of (rhs m c) _ _ _ ?_ ?_
  · show win0_1.index t 0 * 1024 + 1 * k.val = _; rw [(index1 t).1, one_mul]
  · show win0_1.index t 1 * 1024 + 1 * q.val = _; rw [(index1 t).2, zero_mul, zero_add, one_mul]

theorem pay2_term (t : Fin cfg0.N) (acc : FVec Ideal S1408x1024 .f32) (p : Fin 1408) (q : Fin 1024) :
    k0_pay2 (iblk m c 0 t) acc (iblk m c 1 t) (ix2 p q) = acc (ix2 p q) + termT (lhs m c) (rhs m c) 1024 1408 p q (t.val / 8) (t.val % 8) :=
  (pay2_at _ _ _ p q).trans (congrArg (acc (ix2 p q) + ·) (MatSum.stepT (lhs m c) (rhs m c) _ _ (iblk0_at m c t) (iblk1_at m c t) p q))

/-- The accumulator after each point. -/
theorem acc_at (p : Fin 1408) (q : Fin 1024) : ∀ n (h : n < cfg0.N), (outsAt0 m c n h).2.2 (ix2 p q) = ∑ s ∈ Finset.range (n % 8 + 1), termT (lhs m c) (rhs m c) 1024 1408 p q (n / 8) s := by
  refine MatSum.fold 8 (by decide) (fun n h => (outsAt0 m c n h).2.2 (ix2 p q)) (termT (lhs m c) (rhs m c) 1024 1408 p q) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termT (lhs m c) (rhs m c) 1024 1408 p q (n / 8)) h0
  · by_cases h1 : (n + 1) % 8 = 7
    · rw [outsAt0_C m c ⟨n + 1, h⟩ h0 h1, (outs_C ..).1]; exact pay2_term m c ⟨n + 1, h⟩ _ p q
    · rw [outsAt0_B m c ⟨n + 1, h⟩ h0 h1, sout_B]; exact pay2_term m c ⟨n + 1, h⟩ _ p q

/-- What a run's last point writes out is the accumulator. -/
theorem outs_last (t : Fin cfg0.N) (h1 : t.val % 8 = 7) :
    (outsAt0 m c t.val t.isLt).1 = (outsAt0 m c t.val t.isLt).2.2 ∧ (outsAt0 m c t.val t.isLt).2.1 = k0_pay3 (outsAt0 m c t.val t.isLt).2.2 := by
  rw [outsAt0_C m c t (by omega) h1, (outs_C ..).1, (outs_C ..).2.1, (outs_C ..).2.2]
  exact ⟨rfl, rfl⟩

/-- The accumulator at the point that writes `i` back, at `i`'s place, is the whole product. -/
theorem acc_whole (i : S5632x1024.Idx) (h : pt2Of i < cfg0.N) : (outsAt0 m c (pt2Of i) h).2.2 (loc2Of i) = prodT (lhs m c) (rhs m c) i := by
  have h0 : (i 0).val < 5632 := (i 0).isLt
  have h1 : (i 1).val < 1024 := (i 1).isLt
  have el : loc2Of i = ix2 ⟨(i 0).val % 1408, Nat.mod_lt _ (by decide)⟩ ⟨(i 1).val, h1⟩ := by
    funext a; match a with
    | ⟨0, _⟩ => rfl
    | ⟨1, _⟩ => exact Fin.ext (Nat.mod_eq_of_lt h1)
  rw [el, acc_at, show pt2Of i % 8 + 1 = 8 by unfold pt2Of; omega, show pt2Of i / 8 = (i 0).val / 1408 by unfold pt2Of run2Of; omega]
  exact MatSum.stepsT (lhs m c) (rhs m c) 1024 1408 8 rfl i

theorem pt_last (i : S5632x1024.Idx) : pt2Of i % 8 = 7 := by unfold pt2Of; omega

theorem pt_lt (i : S5632x1024.Idx) : pt2Of i < cfg0.N := by
  have h0 : (i 0).val < 5632 := (i 0).isLt
  have h1 : (i 1).val < 1024 := (i 1).isLt
  rw [show cfg0.N = 32 from N_0]; unfold pt2Of run2Of; omega

theorem G2_eq : G2 m c = prodT (lhs m c) (rhs m c) := by
  funext i
  have h := pt_lt i
  unfold G2
  rw [dif_pos h, ← outsAt0_sweep m c (pt2Of i) h, (outs_last m c ⟨_, h⟩ (pt_last i)).1]
  exact acc_whole m c i h

theorem G3_eq : G3 m c = prodT (lhs m c) (rhs m c) := by
  funext i
  have h := pt_lt i
  unfold G3
  rw [dif_pos (show pt3Of i < cfg0.N from h), ← outsAt0_sweep m c (pt3Of i) h, (outs_last m c ⟨_, h⟩ (pt_last i)).2]
  exact acc_whole m c i h

end Cert.Kernel4Ideal.Value

namespace Cert.GradUp

open Idealize.ShloMosaic Idealize.ShloMosaic.TcCoe Idealize.SL.Sem

/-- The frame of the reference. -/
theorem frame_reference : Cert.quiescent_Reference4Ideal (hReference4Ideal := Cert.Reference4Ideal.Gen.facts) := fun m ρ _ =>
  (θ_run Cert.Reference4Ideal.defs _ _).mono (fun r h => ⟨fun c => ⟨(h c).2.2.1, (h c).2.2.2⟩, sem_eq_zero_of_no_sems (by decide) r.2⟩) (Cert.Reference4Ideal.Value.run m ρ)

/-- Kernel and reference both leave the product of the two factors. -/
theorem same : Cert.algebraic_Kernel4Ideal_Reference4Ideal (hKernel4Ideal := Cert.Kernel4Ideal.Gen.facts) (hReference4Ideal := Cert.Reference4Ideal.Gen.facts) := by
  intro m g m' g' _ hagree
  refine ⟨fun c => MatSum.prodT (Cert.Kernel4Ideal.Value.lhs m c) (Cert.Kernel4Ideal.Value.rhs m c), fun c => MatSum.prodT (Cert.Kernel4Ideal.Value.lhs m c) (Cert.Kernel4Ideal.Value.rhs m c), ?_, ?_⟩
  · exact (θ_run Cert.Kernel4Ideal.defs _ _).mono (fun _ h c =>
      ⟨(h c).1.trans (Cert.Kernel4Ideal.Value.G2_eq m c), (h c).2.1.trans (Cert.Kernel4Ideal.Value.G3_eq m c), (h c).2.2⟩) (Cert.Kernel4Ideal.Value.run m g)
  · refine (θ_run Cert.Reference4Ideal.defs _ _).mono (fun _ h c => ?_) (Cert.Reference4Ideal.Value.run m' g')
    have k := h c
    rw [(hagree c).1, (hagree c).2] at k
    exact ⟨k.1.trans (MatSum.twiceT _ _ _ none .single _ _), k.2.1.trans (MatSum.twiceT _ _ _ none .single _ _), k.2.2.1.trans (hagree c).1.symm, k.2.2.2.trans (hagree c).2.symm⟩

end Cert.GradUp

end
-- ==== Proof.GradDown.lean ====
/- The gradient of the feed-forward layer's down projection, over the extended reals: each block of the kernel's result is the accumulator after its run, and the accumulator is the sum of products over the steps so far. -/
module

public import proofs.«01_k».proof.Proof.Whole
public import proofs.«01_k».proof.Proof.MatSum
public import proofs.«01_k».proof.Proof.Gen.Kernel5Ideal.Value
public import proofs.«01_k».proof.Proof.Gen.Reference5Ideal.Run
public import proofs.«01_k».proof.Defs
public import Idealize.ShloMosaic.Lib.Quiescent

@[expose] public section

set_option maxRecDepth 16384

noncomputable section

namespace Cert.Kernel5Ideal.Value

open Cert.Kernel5Ideal Cert.Kernel5Ideal.Gen Idealize.ShloMosaic Idealize.ShloMosaic.TcCoe Idealize.ShloMosaic.ValueIdx Idealize.SL.Sem
open MatSum (at2 at2_of prodT termT)
open scoped BigOperators

section Cases

variable {F : FTy → Type} [FloatOps F]
variable (c : Dev nD) (i : grid0.Coords) (a3 : Memref sig .tc .vmem S1024x1408 .bf16) (h3 : a3.IsWhole) (a4 : Memref sig .tc .vmem S1024x1024 .f32) (h4 : a4.IsWhole)
  (a5 : Memref sig .tc .vmem S1408x1024 .f32) (h5 : a5.IsWhole) (a6 : Memref sig .tc .vmem S1408x1024 .bf16) (h6 : a6.IsWhole) (a7 : Memref sig .tc .vmem S1408x1024 .f32) (h7 : a7.IsWhole)
  (x : Vec F S1024x1408 .bf16) (y : Vec F S1024x1024 .f32) (acc : Vec F S1408x1024 .f32)

/-- A run's first step leaves the first product, added to zeros. -/
theorem sout_A (hc0 : cond0_0 i) (hc1 : ¬cond0_1 i) : sout0_A_0 c i a3 h3 a4 h4 a5 h5 a6 h6 a7 h7 hc0 hc1 x y = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 hc0 hc1 x y acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which also writes the accumulator out, and its shortened copy. -/
theorem outs_C (hc0 : ¬cond0_0 i) (hc1 : cond0_1 i) : sout0_C_0 c i a3 h3 a4 h4 a5 h5 a6 h6 a7 h7 hc0 hc1 x y acc = k0_pay2 x acc y ∧ out0_C_2 c i a3 h3 a4 h4 a5 h5 a6 h6 a7 h7 hc0 hc1 x y acc = k0_pay2 x acc y ∧ out0_C_3 c i a3 h3 a4 h4 a5 h5 a6 h6 a7 h7 hc0 hc1 x y acc = k0_pay3 (k0_pay2 x acc y) := by
  unfold sout0_C_0 out0_C_2 out0_C_3
  rw [View.read_writes_eq_canon _ _ _ (fun _ => scover0_C_0 ..), View.read_writes_eq_canon _ _ _ (fun _ => cover0_C_2 ..), View.read_writes_eq_canon _ _ _ (fun _ => cover0_C_3 ..)]
  unfold kernelRun0_C
  dsimp only
  sl_unfold_words
  simp only [View.readAt_eq_ld, Memref.IsWhole.read_unread, Whole.ld, Whole.canon, Whole.readCov, and_self]

end Cases

variable (m : (ℓ : Loc nD τ sig) → Buf (Elt Ideal) ℓ) (c : Dev nD)

/-- What a step adds to the accumulator. -/
theorem pay2_at (x : FVec Ideal S1024x1408 .bf16) (acc : FVec Ideal S1408x1024 .f32) (y : FVec Ideal S1024x1024 .f32) (p : Fin 1408) (q : Fin 1024) :
    k0_pay2 x acc y (ix2 p q) = acc (ix2 p q) + ∑ k ∈ Finset.range 1024, at2 x k p * at2 y k q := by
  unfold k0_pay2
  simp only [shapeCast_self]
  show acc (ix2 p q) + FloatOps.matmul (MatSum.leftT 1024 1408 1024 dot_S1024x1408_S1024x1024_S1408x1024_0_0_1_1_n_n_wf) none x (truncf .bf16 y bitsLt_bf16_f32) (constant S1408x1024 .f32 0x00000000#32) (ix2 p q) = _
  rw [MatSum.matmul_leftT, show constant (F := Ideal) S1408x1024 .f32 0x00000000#32 (ix2 p q) = 0 from Ideal.ofBits_zero_f32, zero_add]
  rfl

theorem pay1_at (p : Fin 1408) (q : Fin 1024) : (k0_pay1 (F := Ideal)) (ix2 p q) = 0 := by
  unfold k0_pay1
  simp only [shapeCast_self]
  exact Ideal.ofBits_zero_f32

/-- The two factors. -/
abbrev lhs : FVec Ideal S8192x2816 .bf16 := m ((c : Thread nD τ).loc main_arg0)
abbrev rhs : FVec Ideal S8192x1024 .f32 := m ((c : Thread nD τ).loc main_arg1)

theorem index0 : ∀ t : Fin cfg0.N, win0_0.index t (0 : Fin 2) = t.val % 8 ∧ win0_0.index t (1 : Fin 2) = t.val / 8 := (by decide +kernel : ∀ t : Fin grid0.N, _)
theorem index1 : ∀ t : Fin cfg0.N, win0_1.index t (0 : Fin 2) = t.val % 8 ∧ win0_1.index t (1 : Fin 2) = 0 := (by decide +kernel : ∀ t : Fin grid0.N, _)

/-- A step's block of the left factor. -/
theorem iblk0_at (t : Fin cfg0.N) (k : Fin 1024) (p : Fin 1408) : (iblk m c 0 t : FVec Ideal S1024x1408 .bf16) (ix2 k p) = at2 (lhs m c) (t.val % 8 * 1024 + k) (t.val / 8 * 1408 + p) := by
  unfold iblk
  rw [View.read_apply]
  refine at2_of (lhs m c) _ _ _ ?_ ?_
  · show win0_0.index t 0 * 1024 + 1 * k.val = _; rw [(index0 t).1, one_mul]
  · show win0_0.index t 1 * 1408 + 1 * p.val = _; rw [(index0 t).2, one_mul]

/-- A step's block of the right factor. -/
theorem iblk1_at (t : Fin cfg0.N) (k q : Fin 1024) : (iblk m c 1 t : FVec Ideal S1024x1024 .f32) (ix2 k q) = at2 (rhs m c) (t.val % 8 * 1024 + k) q := by
  unfold iblk
  rw [View.read_apply]
  refine at2_of (rhs m c) _ _ _ ?_ ?_
  · show win0_1.index t 0 * 1024 + 1 * k.val = _; rw [(index1 t).1, one_mul]
  · show win0_1.index t 1 * 1024 + 1 * q.val = _; rw [(index1 t).2, zero_mul, zero_add, one_mul]

theorem pay2_term (t : Fin cfg0.N) (acc : FVec Ideal S1408x1024 .f32) (p : Fin 1408) (q : Fin 1024) :
    k0_pay2 (iblk m c 0 t) acc (iblk m c 1 t) (ix2 p q) = acc (ix2 p q) + termT (lhs m c) (rhs m c) 1024 1408 p q (t.val / 8) (t.val % 8) :=
  (pay2_at _ _ _ p q).trans (congrArg (acc (ix2 p q) + ·) (MatSum.stepT (lhs m c) (rhs m c) _ _ (iblk0_at m c t) (iblk1_at m c t) p q))

/-- The accumulator after each point. -/
theorem acc_at (p : Fin 1408) (q : Fin 1024) : ∀ n (h : n < cfg0.N), (outsAt0 m c n h).2.2 (ix2 p q) = ∑ s ∈ Finset.range (n % 8 + 1), termT (lhs m c) (rhs m c) 1024 1408 p q (n / 8) s := by
  refine MatSum.fold 8 (by decide) (fun n h => (outsAt0 m c n h).2.2 (ix2 p q)) (termT (lhs m c) (rhs m c) 1024 1408 p q) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termT (lhs m c) (rhs m c) 1024 1408 p q (n / 8)) h0
  · by_cases h1 : (n + 1) % 8 = 7
    · rw [outsAt0_C m c ⟨n + 1, h⟩ h0 h1, (outs_C ..).1]; exact pay2_term m c ⟨n + 1, h⟩ _ p q
    · rw [outsAt0_B m c ⟨n + 1, h⟩ h0 h1, sout_B]; exact pay2_term m c ⟨n + 1, h⟩ _ p q

/-- What a run's last point writes out is the accumulator. -/
theorem outs_last (t : Fin cfg0.N) (h1 : t.val % 8 = 7) :
    (outsAt0 m c t.val t.isLt).1 = (outsAt0 m c t.val t.isLt).2.2 ∧ (outsAt0 m c t.val t.isLt).2.1 = k0_pay3 (outsAt0 m c t.val t.isLt).2.2 := by
  rw [outsAt0_C m c t (by omega) h1, (outs_C ..).1, (outs_C ..).2.1, (outs_C ..).2.2]
  exact ⟨rfl, rfl⟩

/-- The accumulator at the point that writes `i` back, at `i`'s place, is the whole product. -/
theorem acc_whole (i : S2816x1024.Idx) (h : pt2Of i < cfg0.N) : (outsAt0 m c (pt2Of i) h).2.2 (loc2Of i) = prodT (lhs m c) (rhs m c) i := by
  have h0 : (i 0).val < 2816 := (i 0).isLt
  have h1 : (i 1).val < 1024 := (i 1).isLt
  have el : loc2Of i = ix2 ⟨(i 0).val % 1408, Nat.mod_lt _ (by decide)⟩ ⟨(i 1).val, h1⟩ := by
    funext a; match a with
    | ⟨0, _⟩ => rfl
    | ⟨1, _⟩ => exact Fin.ext (Nat.mod_eq_of_lt h1)
  rw [el, acc_at, show pt2Of i % 8 + 1 = 8 by unfold pt2Of; omega, show pt2Of i / 8 = (i 0).val / 1408 by unfold pt2Of run2Of; omega]
  exact MatSum.stepsT (lhs m c) (rhs m c) 1024 1408 8 rfl i

theorem pt_last (i : S2816x1024.Idx) : pt2Of i % 8 = 7 := by unfold pt2Of; omega

theorem pt_lt (i : S2816x1024.Idx) : pt2Of i < cfg0.N := by
  have h0 : (i 0).val < 2816 := (i 0).isLt
  have h1 : (i 1).val < 1024 := (i 1).isLt
  rw [show cfg0.N = 16 from N_0]; unfold pt2Of run2Of; omega

theorem G2_eq : G2 m c = prodT (lhs m c) (rhs m c) := by
  funext i
  have h := pt_lt i
  unfold G2
  rw [dif_pos h, ← outsAt0_sweep m c (pt2Of i) h, (outs_last m c ⟨_, h⟩ (pt_last i)).1]
  exact acc_whole m c i h

theorem G3_eq : G3 m c = prodT (lhs m c) (rhs m c) := by
  funext i
  have h := pt_lt i
  unfold G3
  rw [dif_pos (show pt3Of i < cfg0.N from h), ← outsAt0_sweep m c (pt3Of i) h, (outs_last m c ⟨_, h⟩ (pt_last i)).2]
  exact acc_whole m c i h

end Cert.Kernel5Ideal.Value

namespace Cert.GradDown

open Idealize.ShloMosaic Idealize.ShloMosaic.TcCoe Idealize.SL.Sem

/-- The frame of the reference. -/
theorem frame_reference : Cert.quiescent_Reference5Ideal (hReference5Ideal := Cert.Reference5Ideal.Gen.facts) := fun m ρ _ =>
  (θ_run Cert.Reference5Ideal.defs _ _).mono (fun r h => ⟨fun c => ⟨(h c).2.2.1, (h c).2.2.2⟩, sem_eq_zero_of_no_sems (by decide) r.2⟩) (Cert.Reference5Ideal.Value.run m ρ)

/-- Kernel and reference both leave the product of the two factors. -/
theorem same : Cert.algebraic_Kernel5Ideal_Reference5Ideal (hKernel5Ideal := Cert.Kernel5Ideal.Gen.facts) (hReference5Ideal := Cert.Reference5Ideal.Gen.facts) := by
  intro m g m' g' _ hagree
  refine ⟨fun c => MatSum.prodT (Cert.Kernel5Ideal.Value.lhs m c) (Cert.Kernel5Ideal.Value.rhs m c), fun c => MatSum.prodT (Cert.Kernel5Ideal.Value.lhs m c) (Cert.Kernel5Ideal.Value.rhs m c), ?_, ?_⟩
  · exact (θ_run Cert.Kernel5Ideal.defs _ _).mono (fun _ h c =>
      ⟨(h c).1.trans (Cert.Kernel5Ideal.Value.G2_eq m c), (h c).2.1.trans (Cert.Kernel5Ideal.Value.G3_eq m c), (h c).2.2⟩) (Cert.Kernel5Ideal.Value.run m g)
  · refine (θ_run Cert.Reference5Ideal.defs _ _).mono (fun _ h c => ?_) (Cert.Reference5Ideal.Value.run m' g')
    have k := h c
    rw [(hagree c).1, (hagree c).2] at k
    exact ⟨k.1.trans (MatSum.swapT (Cert.Kernel5Ideal.Value.lhs m c) (Cert.Kernel5Ideal.Value.rhs m c) _ none .single _), k.2.1.trans (MatSum.swapT (Cert.Kernel5Ideal.Value.lhs m c) (Cert.Kernel5Ideal.Value.rhs m c) _ none .single _), k.2.2.1.trans (hagree c).1.symm, k.2.2.2.trans (hagree c).2.symm⟩

end Cert.GradDown

end
-- ==== Proof.GradIn.lean ====
/- The gradient of the input projection, over the extended reals: each block of the kernel's result is the accumulator after its run, and the accumulator is the sum of products over the steps so far. -/
module

public import proofs.«01_k».proof.Proof.Whole
public import proofs.«01_k».proof.Proof.MatSum
public import proofs.«01_k».proof.Proof.Gen.Kernel6Ideal.Value
public import proofs.«01_k».proof.Proof.Gen.Reference6Ideal.Run
public import proofs.«01_k».proof.Defs
public import Idealize.ShloMosaic.Lib.Quiescent

@[expose] public section

set_option maxRecDepth 16384

noncomputable section

namespace Cert.Kernel6Ideal.Value

open Cert.Kernel6Ideal Cert.Kernel6Ideal.Gen Idealize.ShloMosaic Idealize.ShloMosaic.TcCoe Idealize.ShloMosaic.ValueIdx Idealize.SL.Sem
open MatSum (at2 at2_of prodT termT)
open scoped BigOperators

section Cases

variable {F : FTy → Type} [FloatOps F]
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .f32) (h5 : a5.IsWhole) (a6 : Memref sig .tc .vmem S1408x1024 .bf16) (h6 : a6.IsWhole) (a7 : Memref sig .tc .vmem S1408x1024 .f32) (h7 : a7.IsWhole)
  (x : Vec F S1024x1408 .bf16) (y : Vec F S1024x1024 .bf16) (acc : Vec F S1408x1024 .f32)

/-- A run's first step leaves the first product, added to zeros. -/
theorem sout_A (hc0 : cond0_0 i) (hc1 : ¬cond0_1 i) : sout0_A_0 c i a3 h3 a4 h4 a5 h5 a6 h6 a7 h7 hc0 hc1 x y = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 hc0 hc1 x y acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which also writes the accumulator out, and its shortened copy. -/
theorem outs_C (hc0 : ¬cond0_0 i) (hc1 : cond0_1 i) : sout0_C_0 c i a3 h3 a4 h4 a5 h5 a6 h6 a7 h7 hc0 hc1 x y acc = k0_pay2 x acc y ∧ out0_C_2 c i a3 h3 a4 h4 a5 h5 a6 h6 a7 h7 hc0 hc1 x y acc = k0_pay2 x acc y ∧ out0_C_3 c i a3 h3 a4 h4 a5 h5 a6 h6 a7 h7 hc0 hc1 x y acc = k0_pay3 (k0_pay2 x acc y) := by
  unfold sout0_C_0 out0_C_2 out0_C_3
  rw [View.read_writes_eq_canon _ _ _ (fun _ => scover0_C_0 ..), View.read_writes_eq_canon _ _ _ (fun _ => cover0_C_2 ..), View.read_writes_eq_canon _ _ _ (fun _ => cover0_C_3 ..)]
  unfold kernelRun0_C
  dsimp only
  sl_unfold_words
  simp only [View.readAt_eq_ld, Memref.IsWhole.read_unread, Whole.ld, Whole.canon, Whole.readCov, and_self]

end Cases

variable (m : (ℓ : Loc nD τ sig) → Buf (Elt Ideal) ℓ) (c : Dev nD)

/-- What a step adds to the accumulator. -/
theorem pay2_at (x : FVec Ideal S1024x1408 .bf16) (acc : FVec Ideal S1408x1024 .f32) (y : FVec Ideal S1024x1024 .bf16) (p : Fin 1408) (q : Fin 1024) :
    k0_pay2 x acc y (ix2 p q) = acc (ix2 p q) + ∑ k ∈ Finset.range 1024, at2 x k p * at2 y k q := by
  unfold k0_pay2
  simp only [shapeCast_self]
  show acc (ix2 p q) + FloatOps.matmul (MatSum.leftT 1024 1408 1024 dot_S1024x1408_S1024x1024_S1408x1024_0_0_1_1_n_n_wf) none x y (constant S1408x1024 .f32 0x00000000#32) (ix2 p q) = _
  rw [MatSum.matmul_leftT, show constant (F := Ideal) S1408x1024 .f32 0x00000000#32 (ix2 p q) = 0 from Ideal.ofBits_zero_f32, zero_add]

theorem pay1_at (p : Fin 1408) (q : Fin 1024) : (k0_pay1 (F := Ideal)) (ix2 p q) = 0 := by
  unfold k0_pay1
  simp only [shapeCast_self]
  exact Ideal.ofBits_zero_f32

/-- The two factors. -/
abbrev lhs : FVec Ideal S8192x4224 .bf16 := m ((c : Thread nD τ).loc main_arg0)
abbrev rhs : FVec Ideal S8192x1024 .bf16 := m ((c : Thread nD τ).loc main_arg1)

theorem index0 : ∀ t : Fin cfg0.N, win0_0.index t (0 : Fin 2) = t.val % 8 ∧ win0_0.index t (1 : Fin 2) = t.val / 8 := (by decide +kernel : ∀ t : Fin grid0.N, _)
theorem index1 : ∀ t : Fin cfg0.N, win0_1.index t (0 : Fin 2) = t.val % 8 ∧ win0_1.index t (1 : Fin 2) = 0 := (by decide +kernel : ∀ t : Fin grid0.N, _)

/-- A step's block of the left factor. -/
theorem iblk0_at (t : Fin cfg0.N) (k : Fin 1024) (p : Fin 1408) : (iblk m c 0 t : FVec Ideal S1024x1408 .bf16) (ix2 k p) = at2 (lhs m c) (t.val % 8 * 1024 + k) (t.val / 8 * 1408 + p) := by
  unfold iblk
  rw [View.read_apply]
  refine at2_of (lhs m c) _ _ _ ?_ ?_
  · show win0_0.index t 0 * 1024 + 1 * k.val = _; rw [(index0 t).1, one_mul]
  · show win0_0.index t 1 * 1408 + 1 * p.val = _; rw [(index0 t).2, one_mul]

/-- A step's block of the right factor. -/
theorem iblk1_at (t : Fin cfg0.N) (k q : Fin 1024) : (iblk m c 1 t : FVec Ideal S1024x1024 .bf16) (ix2 k q) = at2 (rhs m c) (t.val % 8 * 1024 + k) q := by
  unfold iblk
  rw [View.read_apply]
  refine at2_of (rhs m c) _ _ _ ?_ ?_
  · show win0_1.index t 0 * 1024 + 1 * k.val = _; rw [(index1 t).1, one_mul]
  · show win0_1.index t 1 * 1024 + 1 * q.val = _; rw [(index1 t).2, zero_mul, zero_add, one_mul]

theorem pay2_term (t : Fin cfg0.N) (acc : FVec Ideal S1408x1024 .f32) (p : Fin 1408) (q : Fin 1024) :
    k0_pay2 (iblk m c 0 t) acc (iblk m c 1 t) (ix2 p q) = acc (ix2 p q) + termT (lhs m c) (rhs m c) 1024 1408 p q (t.val / 8) (t.val % 8) :=
  (pay2_at _ _ _ p q).trans (congrArg (acc (ix2 p q) + ·) (MatSum.stepT (lhs m c) (rhs m c) _ _ (iblk0_at m c t) (iblk1_at m c t) p q))

/-- The accumulator after each point. -/
theorem acc_at (p : Fin 1408) (q : Fin 1024) : ∀ n (h : n < cfg0.N), (outsAt0 m c n h).2.2 (ix2 p q) = ∑ s ∈ Finset.range (n % 8 + 1), termT (lhs m c) (rhs m c) 1024 1408 p q (n / 8) s := by
  refine MatSum.fold 8 (by decide) (fun n h => (outsAt0 m c n h).2.2 (ix2 p q)) (termT (lhs m c) (rhs m c) 1024 1408 p q) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termT (lhs m c) (rhs m c) 1024 1408 p q (n / 8)) h0
  · by_cases h1 : (n + 1) % 8 = 7
    · rw [outsAt0_C m c ⟨n + 1, h⟩ h0 h1, (outs_C ..).1]; exact pay2_term m c ⟨n + 1, h⟩ _ p q
    · rw [outsAt0_B m c ⟨n + 1, h⟩ h0 h1, sout_B]; exact pay2_term m c ⟨n + 1, h⟩ _ p q

/-- What a run's last point writes out is the accumulator. -/
theorem outs_last (t : Fin cfg0.N) (h1 : t.val % 8 = 7) :
    (outsAt0 m c t.val t.isLt).1 = (outsAt0 m c t.val t.isLt).2.2 ∧ (outsAt0 m c t.val t.isLt).2.1 = k0_pay3 (outsAt0 m c t.val t.isLt).2.2 := by
  rw [outsAt0_C m c t (by omega) h1, (outs_C ..).1, (outs_C ..).2.1, (outs_C ..).2.2]
  exact ⟨rfl, rfl⟩

/-- The accumulator at the point that writes `i` back, at `i`'s place, is the whole product. -/
theorem acc_whole (i : S4224x1024.Idx) (h : pt2Of i < cfg0.N) : (outsAt0 m c (pt2Of i) h).2.2 (loc2Of i) = prodT (lhs m c) (rhs m c) i := by
  have h0 : (i 0).val < 4224 := (i 0).isLt
  have h1 : (i 1).val < 1024 := (i 1).isLt
  have el : loc2Of i = ix2 ⟨(i 0).val % 1408, Nat.mod_lt _ (by decide)⟩ ⟨(i 1).val, h1⟩ := by
    funext a; match a with
    | ⟨0, _⟩ => rfl
    | ⟨1, _⟩ => exact Fin.ext (Nat.mod_eq_of_lt h1)
  rw [el, acc_at, show pt2Of i % 8 + 1 = 8 by unfold pt2Of; omega, show pt2Of i / 8 = (i 0).val / 1408 by unfold pt2Of run2Of; omega]
  exact MatSum.stepsT (lhs m c) (rhs m c) 1024 1408 8 rfl i

theorem pt_last (i : S4224x1024.Idx) : pt2Of i % 8 = 7 := by unfold pt2Of; omega

theorem pt_lt (i : S4224x1024.Idx) : pt2Of i < cfg0.N := by
  have h0 : (i 0).val < 4224 := (i 0).isLt
  have h1 : (i 1).val < 1024 := (i 1).isLt
  rw [show cfg0.N = 24 from N_0]; unfold pt2Of run2Of; omega

theorem G2_eq : G2 m c = prodT (lhs m c) (rhs m c) := by
  funext i
  have h := pt_lt i
  unfold G2
  rw [dif_pos h, ← outsAt0_sweep m c (pt2Of i) h, (outs_last m c ⟨_, h⟩ (pt_last i)).1]
  exact acc_whole m c i h

theorem G3_eq : G3 m c = prodT (lhs m c) (rhs m c) := by
  funext i
  have h := pt_lt i
  unfold G3
  rw [dif_pos (show pt3Of i < cfg0.N from h), ← outsAt0_sweep m c (pt3Of i) h, (outs_last m c ⟨_, h⟩ (pt_last i)).2]
  exact acc_whole m c i h

end Cert.Kernel6Ideal.Value

namespace Cert.GradIn

open Idealize.ShloMosaic Idealize.ShloMosaic.TcCoe Idealize.SL.Sem

/-- The frame of the reference. -/
theorem frame_reference : Cert.quiescent_Reference6Ideal (hReference6Ideal := Cert.Reference6Ideal.Gen.facts) := fun m ρ _ =>
  (θ_run Cert.Reference6Ideal.defs _ _).mono (fun r h => ⟨fun c => ⟨(h c).2.2.1, (h c).2.2.2⟩, sem_eq_zero_of_no_sems (by decide) r.2⟩) (Cert.Reference6Ideal.Value.run m ρ)

/-- Kernel and reference both leave the product of the two factors. -/
theorem same : Cert.algebraic_Kernel6Ideal_Reference6Ideal (hKernel6Ideal := Cert.Kernel6Ideal.Gen.facts) (hReference6Ideal := Cert.Reference6Ideal.Gen.facts) := by
  intro m g m' g' _ hagree
  refine ⟨fun c => MatSum.prodT (Cert.Kernel6Ideal.Value.lhs m c) (Cert.Kernel6Ideal.Value.rhs m c), fun c => MatSum.prodT (Cert.Kernel6Ideal.Value.lhs m c) (Cert.Kernel6Ideal.Value.rhs m c), ?_, ?_⟩
  · exact (θ_run Cert.Kernel6Ideal.defs _ _).mono (fun _ h c =>
      ⟨(h c).1.trans (Cert.Kernel6Ideal.Value.G2_eq m c), (h c).2.1.trans (Cert.Kernel6Ideal.Value.G3_eq m c), (h c).2.2⟩) (Cert.Kernel6Ideal.Value.run m g)
  · refine (θ_run Cert.Reference6Ideal.defs _ _).mono (fun _ h c => ?_) (Cert.Reference6Ideal.Value.run m' g')
    have k := h c
    rw [(hagree c).1, (hagree c).2] at k
    exact ⟨k.1.trans (MatSum.twiceT _ _ _ none .single _ _), k.2.1.trans (MatSum.twiceT _ _ _ none .single _ _), k.2.2.1.trans (hagree c).1.symm, k.2.2.2.trans (hagree c).2.symm⟩

end Cert.GradIn

end
-- ==== Proof.GradOut.lean ====
/- The gradient of the output projection, over the extended reals: each block of the kernel's result is the accumulator after its run, and the accumulator is the sum of products over the steps so far. -/
module

public import proofs.«01_k».proof.Proof.Whole
public import proofs.«01_k».proof.Proof.MatSum
public import proofs.«01_k».proof.Proof.Gen.Kernel7Ideal.Value
public import proofs.«01_k».proof.Proof.Gen.Reference7Ideal.Run
public import proofs.«01_k».proof.Defs
public import Idealize.ShloMosaic.Lib.Quiescent

@[expose] public section

set_option maxRecDepth 16384

noncomputable section

namespace Cert.Kernel7Ideal.Value

open Cert.Kernel7Ideal Cert.Kernel7Ideal.Gen Idealize.ShloMosaic Idealize.ShloMosaic.TcCoe Idealize.ShloMosaic.ValueIdx Idealize.SL.Sem
open MatSum (at2 at2_of prodT termT)
open scoped BigOperators

section Cases

variable {F : FTy → Type} [FloatOps F]
variable (c : Dev nD) (i : grid0.Coords) (a3 : Memref sig .tc .vmem S1024x1536 .bf16) (h3 : a3.IsWhole) (a4 : Memref sig .tc .vmem S1024x1024 .f32) (h4 : a4.IsWhole)
  (a5 : Memref sig .tc .vmem S1536x1024 .f32) (h5 : a5.IsWhole) (a6 : Memref sig .tc .vmem S1536x1024 .bf16) (h6 : a6.IsWhole) (a7 : Memref sig .tc .vmem S1536x1024 .f32) (h7 : a7.IsWhole)
  (x : Vec F S1024x1536 .bf16) (y : Vec F S1024x1024 .f32) (acc : Vec F S1536x1024 .f32)

/-- A run's first step leaves the first product, added to zeros. -/
theorem sout_A (hc0 : cond0_0 i) (hc1 : ¬cond0_1 i) : sout0_A_0 c i a3 h3 a4 h4 a5 h5 a6 h6 a7 h7 hc0 hc1 x y = k0_pay2 x k0_pay1 y := by
  unfold sout0_A_0
  rw [View.read_writes_eq_canon _ _ _ (fun _ => scover0_A_0 ..)]
  unfold kernelRun0_A
  dsimp only
  sl_unfold_words
  simp only [View.readAt_eq_ld, Memref.IsWhole.read_unread, Whole.ld, Whole.canon, Whole.readCov]

/-- A middle step adds its product to the accumulator. -/
theorem sout_B (hc0 : ¬cond0_0 i) (hc1 : ¬cond0_1 i) : sout0_B_0 c i a3 h3 a4 h4 a5 h5 a6 h6 a7 h7 hc0 hc1 x y acc = k0_pay2 x acc y := by
  unfold sout0_B_0
  rw [View.read_writes_eq_canon _ _ _ (fun _ => scover0_B_0 ..)]
  unfold kernelRun0_B
  dsimp only
  simp only [View.readAt_eq_ld, Memref.IsWhole.read_unread, Whole.ld, Whole.canon, Whole.readCov]

/-- So does the last step, which also writes the accumulator out, and its shortened copy. -/
theorem outs_C (hc0 : ¬cond0_0 i) (hc1 : cond0_1 i) : sout0_C_0 c i a3 h3 a4 h4 a5 h5 a6 h6 a7 h7 hc0 hc1 x y acc = k0_pay2 x acc y ∧ out0_C_2 c i a3 h3 a4 h4 a5 h5 a6 h6 a7 h7 hc0 hc1 x y acc = k0_pay2 x acc y ∧ out0_C_3 c i a3 h3 a4 h4 a5 h5 a6 h6 a7 h7 hc0 hc1 x y acc = k0_pay3 (k0_pay2 x acc y) := by
  unfold sout0_C_0 out0_C_2 out0_C_3
  rw [View.read_writes_eq_canon _ _ _ (fun _ => scover0_C_0 ..), View.read_writes_eq_canon _ _ _ (fun _ => cover0_C_2 ..), View.read_writes_eq_canon _ _ _ (fun _ => cover0_C_3 ..)]
  unfold kernelRun0_C
  dsimp only
  sl_unfold_words
  simp only [View.readAt_eq_ld, Memref.IsWhole.read_unread, Whole.ld, Whole.canon, Whole.readCov, and_self]

end Cases

variable (m : (ℓ : Loc nD τ sig) → Buf (Elt Ideal) ℓ) (c : Dev nD)

/-- What a step adds to the accumulator. -/
theorem pay2_at (x : FVec Ideal S1024x1536 .bf16) (acc : FVec Ideal S1536x1024 .f32) (y : FVec Ideal S1024x1024 .f32) (p : Fin 1536) (q : Fin 1024) :
    k0_pay2 x acc y (ix2 p q) = acc (ix2 p q) + ∑ k ∈ Finset.range 1024, at2 x k p * at2 y k q := by
  unfold k0_pay2
  simp only [shapeCast_self]
  show acc (ix2 p q) + FloatOps.matmul (MatSum.leftT 1024 1536 1024 dot_S1024x1536_S1024x1024_S1536x1024_0_0_1_1_n_n_wf) none x (truncf .bf16 y bitsLt_bf16_f32) (constant S1536x1024 .f32 0x00000000#32) (ix2 p q) = _
  rw [MatSum.matmul_leftT, show constant (F := Ideal) S1536x1024 .f32 0x00000000#32 (ix2 p q) = 0 from Ideal.ofBits_zero_f32, zero_add]
  rfl

theorem pay1_at (p : Fin 1536) (q : Fin 1024) : (k0_pay1 (F := Ideal)) (ix2 p q) = 0 := by
  unfold k0_pay1
  simp only [shapeCast_self]
  exact Ideal.ofBits_zero_f32

/-- The two factors. -/
abbrev lhs : FVec Ideal S8192x1536 .bf16 := m ((c : Thread nD τ).loc main_arg0)
abbrev rhs : FVec Ideal S8192x1024 .f32 := m ((c : Thread nD τ).loc main_arg1)

theorem index0 : ∀ t : Fin cfg0.N, win0_0.index t (0 : Fin 2) = t.val % 8 ∧ win0_0.index t (1 : Fin 2) = t.val / 8 := (by decide +kernel : ∀ t : Fin grid0.N, _)
theorem index1 : ∀ t : Fin cfg0.N, win0_1.index t (0 : Fin 2) = t.val % 8 ∧ win0_1.index t (1 : Fin 2) = 0 := (by decide +kernel : ∀ t : Fin grid0.N, _)

/-- A step's block of the left factor. -/
theorem iblk0_at (t : Fin cfg0.N) (k : Fin 1024) (p : Fin 1536) : (iblk m c 0 t : FVec Ideal S1024x1536 .bf16) (ix2 k p) = at2 (lhs m c) (t.val % 8 * 1024 + k) (t.val / 8 * 1536 + p) := by
  unfold iblk
  rw [View.read_apply]
  refine at2_of (lhs m c) _ _ _ ?_ ?_
  · show win0_0.index t 0 * 1024 + 1 * k.val = _; rw [(index0 t).1, one_mul]
  · show win0_0.index t 1 * 1536 + 1 * p.val = _; rw [(index0 t).2, one_mul]

/-- A step's block of the right factor. -/
theorem iblk1_at (t : Fin cfg0.N) (k q : Fin 1024) : (iblk m c 1 t : FVec Ideal S1024x1024 .f32) (ix2 k q) = at2 (rhs m c) (t.val % 8 * 1024 + k) q := by
  unfold iblk
  rw [View.read_apply]
  refine at2_of (rhs m c) _ _ _ ?_ ?_
  · show win0_1.index t 0 * 1024 + 1 * k.val = _; rw [(index1 t).1, one_mul]
  · show win0_1.index t 1 * 1024 + 1 * q.val = _; rw [(index1 t).2, zero_mul, zero_add, one_mul]

theorem pay2_term (t : Fin cfg0.N) (acc : FVec Ideal S1536x1024 .f32) (p : Fin 1536) (q : Fin 1024) :
    k0_pay2 (iblk m c 0 t) acc (iblk m c 1 t) (ix2 p q) = acc (ix2 p q) + termT (lhs m c) (rhs m c) 1024 1536 p q (t.val / 8) (t.val % 8) :=
  (pay2_at _ _ _ p q).trans (congrArg (acc (ix2 p q) + ·) (MatSum.stepT (lhs m c) (rhs m c) _ _ (iblk0_at m c t) (iblk1_at m c t) p q))

/-- The accumulator after each point. -/
theorem acc_at (p : Fin 1536) (q : Fin 1024) : ∀ n (h : n < cfg0.N), (outsAt0 m c n h).2.2 (ix2 p q) = ∑ s ∈ Finset.range (n % 8 + 1), termT (lhs m c) (rhs m c) 1024 1536 p q (n / 8) s := by
  refine MatSum.fold 8 (by decide) (fun n h => (outsAt0 m c n h).2.2 (ix2 p q)) (termT (lhs m c) (rhs m c) 1024 1536 p q) (fun n h h0 => ?_) (fun n h h0 => ?_)
  · rw [outsAt0_A m c ⟨n, h⟩ h0 (by dsimp only; omega), sout_A]
    refine (pay2_term m c ⟨n, h⟩ _ p q).trans ?_
    rw [pay1_at, zero_add]; exact congrArg (termT (lhs m c) (rhs m c) 1024 1536 p q (n / 8)) h0
  · by_cases h1 : (n + 1) % 8 = 7
    · rw [outsAt0_C m c ⟨n + 1, h⟩ h0 h1, (outs_C ..).1]; exact pay2_term m c ⟨n + 1, h⟩ _ p q
    · rw [outsAt0_B m c ⟨n + 1, h⟩ h0 h1, sout_B]; exact pay2_term m c ⟨n + 1, h⟩ _ p q

/-- What a run's last point writes out is the accumulator. -/
theorem outs_last (t : Fin cfg0.N) (h1 : t.val % 8 = 7) :
    (outsAt0 m c t.val t.isLt).1 = (outsAt0 m c t.val t.isLt).2.2 ∧ (outsAt0 m c t.val t.isLt).2.1 = k0_pay3 (outsAt0 m c t.val t.isLt).2.2 := by
  rw [outsAt0_C m c t (by omega) h1, (outs_C ..).1, (outs_C ..).2.1, (outs_C ..).2.2]
  exact ⟨rfl, rfl⟩

/-- The accumulator at the point that writes `i` back, at `i`'s place, is the whole product. -/
theorem acc_whole (i : S1536x1024.Idx) (h : pt2Of i < cfg0.N) : (outsAt0 m c (pt2Of i) h).2.2 (loc2Of i) = prodT (lhs m c) (rhs m c) i := by
  have h0 : (i 0).val < 1536 := (i 0).isLt
  have h1 : (i 1).val < 1024 := (i 1).isLt
  have el : loc2Of i = ix2 ⟨(i 0).val % 1536, Nat.mod_lt _ (by decide)⟩ ⟨(i 1).val, h1⟩ := by
    funext a; match a with
    | ⟨0, _⟩ => rfl
    | ⟨1, _⟩ => exact Fin.ext (Nat.mod_eq_of_lt h1)
  rw [el, acc_at, show pt2Of i % 8 + 1 = 8 by unfold pt2Of; omega, show pt2Of i / 8 = (i 0).val / 1536 by unfold pt2Of run2Of; omega]
  exact MatSum.stepsT (lhs m c) (rhs m c) 1024 1536 8 rfl i

theorem pt_last (i : S1536x1024.Idx) : pt2Of i % 8 = 7 := by unfold pt2Of; omega

theorem pt_lt (i : S1536x1024.Idx) : pt2Of i < cfg0.N := by
  have h0 : (i 0).val < 1536 := (i 0).isLt
  have h1 : (i 1).val < 1024 := (i 1).isLt
  rw [show cfg0.N = 8 from N_0]; unfold pt2Of run2Of; omega

theorem G2_eq : G2 m c = prodT (lhs m c) (rhs m c) := by
  funext i
  have h := pt_lt i
  unfold G2
  rw [dif_pos h, ← outsAt0_sweep m c (pt2Of i) h, (outs_last m c ⟨_, h⟩ (pt_last i)).1]
  exact acc_whole m c i h

theorem G3_eq : G3 m c = prodT (lhs m c) (rhs m c) := by
  funext i
  have h := pt_lt i
  unfold G3
  rw [dif_pos (show pt3Of i < cfg0.N from h), ← outsAt0_sweep m c (pt3Of i) h, (outs_last m c ⟨_, h⟩ (pt_last i)).2]
  exact acc_whole m c i h

end Cert.Kernel7Ideal.Value

namespace Cert.GradOut

open Idealize.ShloMosaic Idealize.ShloMosaic.TcCoe Idealize.SL.Sem

/-- The frame of the reference. -/
theorem frame_reference : Cert.quiescent_Reference7Ideal (hReference7Ideal := Cert.Reference7Ideal.Gen.facts) := fun m ρ _ =>
  (θ_run Cert.Reference7Ideal.defs _ _).mono (fun r h => ⟨fun c => ⟨(h c).2.2.1, (h c).2.2.2⟩, sem_eq_zero_of_no_sems (by decide) r.2⟩) (Cert.Reference7Ideal.Value.run m ρ)

/-- Kernel and reference both leave the product of the two factors. -/
theorem same : Cert.algebraic_Kernel7Ideal_Reference7Ideal (hKernel7Ideal := Cert.Kernel7Ideal.Gen.facts) (hReference7Ideal := Cert.Reference7Ideal.Gen.facts) := by
  intro m g m' g' _ hagree
  refine ⟨fun c => MatSum.prodT (Cert.Kernel7Ideal.Value.lhs m c) (Cert.Kernel7Ideal.Value.rhs m c), fun c => MatSum.prodT (Cert.Kernel7Ideal.Value.lhs m c) (Cert.Kernel7Ideal.Value.rhs m c), ?_, ?_⟩
  · exact (θ_run Cert.Kernel7Ideal.defs _ _).mono (fun _ h c =>
      ⟨(h c).1.trans (Cert.Kernel7Ideal.Value.G2_eq m c), (h c).2.1.trans (Cert.Kernel7Ideal.Value.G3_eq m c), (h c).2.2⟩) (Cert.Kernel7Ideal.Value.run m g)
  · refine (θ_run Cert.Reference7Ideal.defs _ _).mono (fun _ h c => ?_) (Cert.Reference7Ideal.Value.run m' g')
    have k := h c
    rw [(hagree c).1, (hagree c).2] at k
    exact ⟨k.1.trans (MatSum.swapT (Cert.Kernel7Ideal.Value.lhs m c) (Cert.Kernel7Ideal.Value.rhs m c) _ none .single _), k.2.1.trans (MatSum.swapT (Cert.Kernel7Ideal.Value.lhs m c) (Cert.Kernel7Ideal.Value.rhs m c) _ none .single _), k.2.2.1.trans (hagree c).1.symm, k.2.2.2.trans (hagree c).2.symm⟩

end Cert.GradOut

end
-- ==== Proof.GradMix.lean ====
/- The gradient of the concatenated mixers, over the extended reals: each block of rows of the kernel's result is the product of a block of rows of the cotangent with the rows of the output projection's weights. -/
module

public import proofs.«01_k».proof.Proof.Whole
public import proofs.«01_k».proof.Proof.MatSum
public import proofs.«01_k».proof.Proof.Gen.Kernel9Ideal.Value
public import proofs.«01_k».proof.Proof.Gen.Reference9Ideal.Run
public import proofs.«01_k».proof.Defs
public import Idealize.ShloMosaic.Lib.Quiescent
public import Idealize.ShloMosaic.Lib.VecWindow

@[expose] public section

set_option maxRecDepth 16384

noncomputable section

namespace Cert.Kernel9Ideal.Value

open Cert.Kernel9Ideal Cert.Kernel9Ideal.Gen Idealize.ShloMosaic Idealize.ShloMosaic.TcCoe Idealize.ShloMosaic.ValueIdx Idealize.SL.Sem

/-- A point writes the product of its two blocks, added to zeros. -/
theorem out_A {F : FTy → Type} [FloatOps F] (c : Dev nD) (i : grid0.Coords) (a3 : Memref sig .tc .vmem S1024x1024 .f32) (h3 : a3.IsWhole) (a4 : Memref sig .tc .vmem S1536x1024 .bf16) (h4 : a4.IsWhole)
    (a5 : Memref sig .tc .vmem S1024x512 .f32) (h5 : a5.IsWhole) (a6 : Memref sig .tc .vmem S1024x512 .f32) (h6 : a6.IsWhole) (a7 : Memref sig .tc .vmem S1024x1536 .f32) (h7 : a7.IsWhole)
    (a8 : Memref sig .tc .vmem S1024x512 .f32) (h8 : a8.IsWhole) (a9 : Memref sig .tc .vmem S1024x1536 .f32) (h9 : a9.IsWhole) (hc0 : cond0_0 i) (hc1 : cond0_1 i)
    (x : Vec F S1024x1024 .f32) (y : Vec F S1536x1024 .bf16) (z w : Vec F S1024x512 .f32) : out0_A_4 c i a3 h3 a4 h4 a5 h5 a6 h6 a7 h7 a8 h8 a9 h9 hc0 hc1 x y z w = k0_pay2 x k0_pay1 y := by
  unfold out0_A_4
  rw [View.read_writes_eq_canon _ _ _ (fun _ => cover0_A_4 ..)]
  unfold kernelRun0_A
  dsimp only
  sl_unfold_words
  simp only [View.readAt_eq_ld, Memref.IsWhole.read_unread, Whole.ld, Whole.canon, Whole.readCov]

theorem pay2_at (x : FVec Ideal S1024x1024 .f32) (y : FVec Ideal S1536x1024 .bf16) (p : Fin 1024) (q : Fin 1536) : k0_pay2 (F := Ideal) x (k0_pay1 (F := Ideal)) y (ix2 p q) = MatSum.entC x y p q := by
  unfold k0_pay2 k0_pay1
  simp only [shapeCast_self]
  show Ideal.ofBits .f32 0x00000000#32 + FloatOps.matmul (DotDims.transposedRhs 1024 1024 1536) none (truncf .bf16 x bitsLt_bf16_f32) y (constant S1024x1536 .f32 0x00000000#32) (ix2 p q) = _
  rw [MatSum.matmul_C, show constant (F := Ideal) S1024x1536 .f32 0x00000000#32 (ix2 p q) = 0 from Ideal.ofBits_zero_f32, zero_add, Ideal.ofBits_zero_f32, zero_add]
  rfl

variable (m : (ℓ : Loc nD τ sig) → Buf (Elt Ideal) ℓ) (c : Dev nD)

/-- The two factors. -/
abbrev lhs : FVec Ideal S8192x1024 .f32 := m ((c : Thread nD τ).loc main_arg0)
abbrev rhs : FVec Ideal S1536x1024 .bf16 := m ((c : Thread nD τ).loc main_arg1)

/-- The whole product. -/
def G : FVec Ideal S8192x1536 .f32 := fun i => MatSum.entC (lhs m c) (rhs m c) (i 0).val (i 1).val

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index4 : ∀ t : Fin cfg0.N, win0_4.index t (0 : Fin 2) = t.val ∧ win0_4.index t (1 : Fin 2) = 0 ∧ win0_4.flush t = true := (by decide +kernel : ∀ t : Fin grid0.N, _)

theorem iblk0_at (t : Fin cfg0.N) (p : Fin 1024) (k : Fin 1024) : (iblk m c 0 t : FVec Ideal S1024x1024 .f32) (ix2 p k) = MatSum.at2 (lhs m c) (t.val * 1024 + p) k := by
  unfold iblk
  rw [View.read_apply]
  refine MatSum.at2_of (lhs m c) _ _ _ ?_ ?_
  · show win0_0.index t 0 * 1024 + 1 * p.val = _; rw [(index0 t).1, one_mul]
  · show win0_0.index t 1 * 1024 + 1 * k.val = _; rw [(index0 t).2, zero_mul, zero_add, one_mul]

theorem iblk1_at (t : Fin cfg0.N) (q : Fin 1536) (k : Fin 1024) : (iblk m c 1 t : FVec Ideal S1536x1024 .bf16) (ix2 q k) = MatSum.at2 (rhs m c) q k := by
  unfold iblk
  rw [View.read_apply]
  refine MatSum.at2_of (rhs m c) _ _ _ ?_ ?_
  · show win0_1.index t 0 * 1536 + 1 * q.val = _; rw [(index1 t).1, zero_mul, zero_add, one_mul]
  · show win0_1.index t 1 * 1024 + 1 * k.val = _; rw [(index1 t).2, zero_mul, zero_add, one_mul]

/-- What a point writes back is its block of the whole product. -/
theorem flushed_eq (t : Fin cfg0.N) : (dats m 0 c).flushed 4 t = ((cfg0.win 4).blk t).view.read (Elt Ideal) (G m c) := by
  rw [flushed4_A, out_A]
  funext y
  have h0 : (y 0).val < 1024 := (y 0).isLt
  have h1 : (y 1).val < 1536 := (y 1).isLt
  have e : (cfg0.win 4).xinj (grid0.coords t) y = ix2 (⟨(y 0).val, h0⟩ : Fin 1024) (⟨(y 1).val, h1⟩ : Fin 1536) := by
    funext a; match a with
    | ⟨0, _⟩ => rfl
    | ⟨1, _⟩ => rfl
  show k0_pay2 (F := Ideal) (iblk m c 0 t) (k0_pay1 (F := Ideal)) (iblk m c 1 t) ((cfg0.win 4).xinj (grid0.coords t) y) = MatSum.entC (lhs m c) (rhs m c) (win0_4.index t 0 * 1024 + 1 * (y 0).val) (win0_4.index t 1 * 1536 + 1 * (y 1).val)
  rw [e, (index4 t).1, (index4 t).2.1, one_mul, one_mul, zero_mul, zero_add]
  exact (pay2_at _ _ _ _).trans (MatSum.block_C (lhs m c) (rhs m c) _ _ _ _ _ _ (iblk0_at m c t _) (iblk1_at m c t _))

/-- The points' blocks fill the array. -/
theorem covered (i : S8192x1536.Idx) : ∃ t : Fin cfg0.N, (cfg0.win 4).flush t = true ∧ i ∈ ((cfg0.win 4).blk t).view.set := by
  have h0 : (i 0).val < 8192 := (i 0).isLt
  have h1 : (i 1).val < 1536 := (i 1).isLt
  have ht : (i 0).val / 1024 < cfg0.N := by rw [show cfg0.N = 8 from N_0]; omega
  obtain ⟨e0, e1, ef⟩ := index4 ⟨_, ht⟩
  refine ⟨⟨_, ht⟩, ef, ?_⟩
  show i ∈ ((View.whole main_v0_0).slice (win0_4.rect ⟨_, ht⟩)).set
  rw [View.set_slice_whole, Rect.mem_set_unit]
  intro a; match a with
  | ⟨0, _⟩ => show win0_4.index ⟨_, ht⟩ 0 * 1024 ≤ (i 0).val ∧ (i 0).val < win0_4.index ⟨_, ht⟩ 0 * 1024 + 1024; rw [e0]; dsimp only; omega
  | ⟨1, _⟩ => show win0_4.index ⟨_, ht⟩ 1 * 1536 ≤ (i 1).val ∧ (i 1).val < win0_4.index ⟨_, ht⟩ 1 * 1536 + 1536; rw [e1]; dsimp only; omega

theorem final : (dats m 0 c).arrAt 4 cfg0.N = G m c := (dats m 0 c).arrAt_eq_of_cover 4 _ (fun t _ => flushed_eq m c t) covered

end Cert.Kernel9Ideal.Value

namespace Cert.GradMix

open Idealize.ShloMosaic Idealize.ShloMosaic.TcCoe Idealize.ShloMosaic.ValueIdx Idealize.SL.Sem

/-- The frame of the reference. -/
theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run m ρ)

/-- Kernel and reference both leave the product. -/
theorem same : Cert.algebraic_Kernel9Ideal_Reference9Ideal (hKernel9Ideal := Cert.Kernel9Ideal.Gen.facts) (hReference9Ideal := Cert.Reference9Ideal.Gen.facts) := by
  intro m g m' g' _ hagree
  refine ⟨fun c => Cert.Kernel9Ideal.Value.G m c, ?_, ?_⟩
  · exact (θ_run Cert.Kernel9Ideal.defs _ _).mono (fun _ h c => ⟨(h c).1.trans (Cert.Kernel9Ideal.Value.final m c), (h c).2.2⟩) (Cert.Kernel9Ideal.Value.run_blocks m g)
  · refine (θ_run Cert.Reference9Ideal.defs _ _).mono (fun _ h c => ?_) (Cert.Reference9Ideal.Value.run m' g')
    have k := h c
    rw [(hagree c).1, (hagree c).2.1] at k
    refine ⟨k.1.trans (funext fun i => ?_), k.2.1.trans (hagree c).1.symm, k.2.2.1.trans (hagree c).2.1.symm, k.2.2.2.1, k.2.2.2.2⟩
    rw [eq_ix2 i]
    exact MatSum.dot_C none .single (Cert.Kernel9Ideal.Value.lhs m c) (Cert.Kernel9Ideal.Value.rhs m c) (i 0) (i 1)

end Cert.GradMix

end
-- ==== Proof.ProjIn.lean ====
/- The input projection, over the extended reals: each block of the kernel's result is the product of a block of rows of the activations with a block of rows of the weights. -/
module

public import proofs.«01_k».proof.Proof.Whole
public import proofs.«01_k».proof.Proof.MatSum
public import proofs.«01_k».proof.Proof.Gen.Kernel10Ideal.Value
public import proofs.«01_k».proof.Proof.Gen.Reference10Ideal.Run
public import proofs.«01_k».proof.Defs
public import Idealize.ShloMosaic.Lib.Quiescent
public import Idealize.ShloMosaic.Lib.VecWindow

@[expose] public section

set_option maxRecDepth 16384

noncomputable section

namespace Cert.Kernel10Ideal.Value

open Cert.Kernel10Ideal Cert.Kernel10Ideal.Gen Idealize.ShloMosaic Idealize.ShloMosaic.TcCoe Idealize.ShloMosaic.ValueIdx Idealize.SL.Sem

/-- A point writes the product of its two blocks, added to zeros. -/
theorem out_A {F : FTy → Type} [FloatOps F] (c : Dev nD) (i : grid0.Coords) (a3 : Memref sig .tc .vmem S1024x1024 .bf16) (h3 : a3.IsWhole) (a4 : Memref sig .tc .vmem S1408x1024 .bf16) (h4 : a4.IsWhole)
    (a5 : Memref sig .tc .vmem S1024x1408 .f32) (h5 : a5.IsWhole) (a6 : Memref sig .tc .vmem S1024x1408 .f32) (h6 : a6.IsWhole) (hc0 : cond0_0 i) (hc1 : cond0_1 i)
    (x : Vec F S1024x1024 .bf16) (y : Vec F S1408x1024 .bf16) : out0_A_2 c i a3 h3 a4 h4 a5 h5 a6 h6 hc0 hc1 x y = k0_pay2 x k0_pay1 y := by
  unfold out0_A_2
  rw [View.read_writes_eq_canon _ _ _ (fun _ => cover0_A_2 ..)]
  unfold kernelRun0_A
  dsimp only
  sl_unfold_words
  simp only [View.readAt_eq_ld, Memref.IsWhole.read_unread, Whole.ld, Whole.canon, Whole.readCov]

theorem pay2_at (x : FVec Ideal S1024x1024 .bf16) (y : FVec Ideal S1408x1024 .bf16) (p : Fin 1024) (q : Fin 1408) : k0_pay2 (F := Ideal) x (k0_pay1 (F := Ideal)) y (ix2 p q) = MatSum.entC x y p q := by
  unfold k0_pay2 k0_pay1
  simp only [shapeCast_self]
  show Ideal.ofBits .f32 0x00000000#32 + FloatOps.matmul (DotDims.transposedRhs 1024 1024 1408) none x y (constant S1024x1408 .f32 0x00000000#32) (ix2 p q) = _
  rw [MatSum.matmul_C, show constant (F := Ideal) S1024x1408 .f32 0x00000000#32 (ix2 p q) = 0 from Ideal.ofBits_zero_f32, zero_add, Ideal.ofBits_zero_f32, zero_add]

variable (m : (ℓ : Loc nD τ sig) → Buf (Elt Ideal) ℓ) (c : Dev nD)

/-- The two factors. -/
abbrev lhs : FVec Ideal S8192x1024 .bf16 := m ((c : Thread nD τ).loc main_arg0)
abbrev rhs : FVec Ideal S4224x1024 .bf16 := m ((c : Thread nD τ).loc main_arg1)

/-- The whole product. -/
def G : FVec Ideal S8192x4224 .f32 := fun i => MatSum.entC (lhs m c) (rhs m c) (i 0).val (i 1).val

theorem index0 : ∀ t : Fin cfg0.N, win0_0.index t (0 : Fin 2) = t.val / 3 ∧ win0_0.index t (1 : Fin 2) = 0 := (by decide +kernel : ∀ t : Fin grid0.N, _)
theorem index1 : ∀ t : Fin cfg0.N, win0_1.index t (0 : Fin 2) = t.val % 3 ∧ win0_1.index t (1 : Fin 2) = 0 := (by decide +kernel : ∀ t : Fin grid0.N, _)
theorem index2 : ∀ t : Fin cfg0.N, win0_2.index t (0 : Fin 2) = t.val / 3 ∧ win0_2.index t (1 : Fin 2) = t.val % 3 ∧ win0_2.flush t = true := (by decide +kernel : ∀ t : Fin grid0.N, _)

theorem iblk0_at (t : Fin cfg0.N) (p : Fin 1024) (k : Fin 1024) : (iblk m c 0 t : FVec Ideal S1024x1024 .bf16) (ix2 p k) = MatSum.at2 (lhs m c) (t.val / 3 * 1024 + p) k := by
  unfold iblk
  rw [View.read_apply]
  refine MatSum.at2_of (lhs m c) _ _ _ ?_ ?_
  · show win0_0.index t 0 * 1024 + 1 * p.val = _; rw [(index0 t).1, one_mul]
  · show win0_0.index t 1 * 1024 + 1 * k.val = _; rw [(index0 t).2, zero_mul, zero_add, one_mul]

theorem iblk1_at (t : Fin cfg0.N) (q : Fin 1408) (k : Fin 1024) : (iblk m c 1 t : FVec Ideal S1408x1024 .bf16) (ix2 q k) = MatSum.at2 (rhs m c) (t.val % 3 * 1408 + q) k := by
  unfold iblk
  rw [View.read_apply]
  refine MatSum.at2_of (rhs m c) _ _ _ ?_ ?_
  · show win0_1.index t 0 * 1408 + 1 * q.val = _; rw [(index1 t).1, one_mul]
  · show win0_1.index t 1 * 1024 + 1 * k.val = _; rw [(index1 t).2, zero_mul, zero_add, one_mul]

/-- What a point writes back is its block of the whole product. -/
theorem flushed_eq (t : Fin cfg0.N) : (dats m 0 c).flushed 2 t = ((cfg0.win 2).blk t).view.read (Elt Ideal) (G m c) := by
  rw [flushed2_A, out_A]
  funext y
  have h0 : (y 0).val < 1024 := (y 0).isLt
  have h1 : (y 1).val < 1408 := (y 1).isLt
  have e : (cfg0.win 2).xinj (grid0.coords t) y = ix2 (⟨(y 0).val, h0⟩ : Fin 1024) (⟨(y 1).val, h1⟩ : Fin 1408) := by
    funext a; match a with
    | ⟨0, _⟩ => rfl
    | ⟨1, _⟩ => rfl
  show k0_pay2 (F := Ideal) (iblk m c 0 t) (k0_pay1 (F := Ideal)) (iblk m c 1 t) ((cfg0.win 2).xinj (grid0.coords t) y) = MatSum.entC (lhs m c) (rhs m c) (win0_2.index t 0 * 1024 + 1 * (y 0).val) (win0_2.index t 1 * 1408 + 1 * (y 1).val)
  rw [e, (index2 t).1, (index2 t).2.1, one_mul, one_mul]
  exact (pay2_at _ _ _ _).trans (MatSum.block_C (lhs m c) (rhs m c) _ _ _ _ _ _ (iblk0_at m c t _) (iblk1_at m c t _))

/-- The points' blocks fill the array. -/
theorem covered (i : S8192x4224.Idx) : ∃ t : Fin cfg0.N, (cfg0.win 2).flush t = true ∧ i ∈ ((cfg0.win 2).blk t).view.set := by
  have h0 : (i 0).val < 8192 := (i 0).isLt
  have h1 : (i 1).val < 4224 := (i 1).isLt
  have ht : 3 * ((i 0).val / 1024) + (i 1).val / 1408 < cfg0.N := by rw [show cfg0.N = 24 from N_0]; omega
  obtain ⟨e0, e1, ef⟩ := index2 ⟨_, ht⟩
  refine ⟨⟨_, ht⟩, ef, ?_⟩
  show i ∈ ((View.whole main_v0).slice (win0_2.rect ⟨_, ht⟩)).set
  rw [View.set_slice_whole, Rect.mem_set_unit]
  intro a; match a with
  | ⟨0, _⟩ => show win0_2.index ⟨_, ht⟩ 0 * 1024 ≤ (i 0).val ∧ (i 0).val < win0_2.index ⟨_, ht⟩ 0 * 1024 + 1024; rw [e0]; dsimp only; omega
  | ⟨1, _⟩ => show win0_2.index ⟨_, ht⟩ 1 * 1408 ≤ (i 1).val ∧ (i 1).val < win0_2.index ⟨_, ht⟩ 1 * 1408 + 1408; rw [e1]; dsimp only; omega

theorem final : (dats m 0 c).arrAt 2 cfg0.N = G m c := (dats m 0 c).arrAt_eq_of_cover 2 _ (fun t _ => flushed_eq m c t) covered

end Cert.Kernel10Ideal.Value

namespace Cert.ProjIn

open Idealize.ShloMosaic Idealize.ShloMosaic.TcCoe Idealize.ShloMosaic.ValueIdx Idealize.SL.Sem

/-- The frame of the reference. -/
theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run m ρ)

/-- Kernel and reference both leave the product. -/
theorem same : Cert.algebraic_Kernel10Ideal_Reference10Ideal (hKernel10Ideal := Cert.Kernel10Ideal.Gen.facts) (hReference10Ideal := Cert.Reference10Ideal.Gen.facts) := by
  intro m g m' g' _ hagree
  refine ⟨fun c => Cert.Kernel10Ideal.Value.G m c, ?_, ?_⟩
  · exact (θ_run Cert.Kernel10Ideal.defs _ _).mono (fun _ h c => ⟨(h c).1.trans (Cert.Kernel10Ideal.Value.final m c), (h c).2⟩) (Cert.Kernel10Ideal.Value.run_blocks m g)
  · refine (θ_run Cert.Reference10Ideal.defs _ _).mono (fun _ h c => ?_) (Cert.Reference10Ideal.Value.run m' g')
    have k := h c
    rw [(hagree c).1, (hagree c).2] at k
    refine ⟨k.1.trans (funext fun i => ?_), k.2.1.trans (hagree c).1.symm, k.2.2.trans (hagree c).2.symm⟩
    rw [eq_ix2 i]
    exact MatSum.dot_T none .single (Cert.Kernel10Ideal.Value.lhs m c) (Cert.Kernel10Ideal.Value.rhs m c) _ (i 0) (i 1)

end Cert.ProjIn

end
-- ==== Proof.UpProj.lean ====
/- The feed-forward layer's up projection, over the extended reals: each block of the kernel's result is the product of a block of rows of the activations with a block of rows of the weights. -/
module

public import proofs.«01_k».proof.Proof.Whole
public import proofs.«01_k».proof.Proof.MatSum
public import proofs.«01_k».proof.Proof.Gen.Kernel11Ideal.Value
public import proofs.«01_k».proof.Proof.Gen.Reference11Ideal.Run
public import proofs.«01_k».proof.Defs
public import Idealize.ShloMosaic.Lib.Quiescent
public import Idealize.ShloMosaic.Lib.VecWindow

@[expose] public section

set_option maxRecDepth 16384

noncomputable section

namespace Cert.Kernel11Ideal.Value

open Cert.Kernel11Ideal Cert.Kernel11Ideal.Gen Idealize.ShloMosaic Idealize.ShloMosaic.TcCoe Idealize.ShloMosaic.ValueIdx Idealize.SL.Sem

/-- A point writes the product of its two blocks, added to zeros and shortened. -/
theorem out_A {F : FTy → Type} [FloatOps F] (c : Dev nD) (i : grid0.Coords) (a3 : Memref sig .tc .vmem S1024x1024 .bf16) (h3 : a3.IsWhole) (a4 : Memref sig .tc .vmem S1408x1024 .bf16) (h4 : a4.IsWhole)
    (a5 : Memref sig .tc .vmem S1024x1408 .bf16) (h5 : a5.IsWhole) (a6 : Memref sig .tc .vmem S1024x1408 .f32) (h6 : a6.IsWhole) (hc0 : cond0_0 i) (hc1 : cond0_1 i)
    (x : Vec F S1024x1024 .bf16) (y : Vec F S1408x1024 .bf16) : out0_A_2 c i a3 h3 a4 h4 a5 h5 a6 h6 hc0 hc1 x y = k0_pay3 (k0_pay2 x k0_pay1 y) := by
  unfold out0_A_2
  rw [View.read_writes_eq_canon _ _ _ (fun _ => cover0_A_2 ..)]
  unfold kernelRun0_A
  dsimp only
  sl_unfold_words
  simp only [View.readAt_eq_ld, Memref.IsWhole.read_unread, Whole.ld, Whole.canon, Whole.readCov]

theorem pay2_at (x : FVec Ideal S1024x1024 .bf16) (y : FVec Ideal S1408x1024 .bf16) (p : Fin 1024) (q : Fin 1408) : k0_pay2 (F := Ideal) x (k0_pay1 (F := Ideal)) y (ix2 p q) = MatSum.entC x y p q := by
  unfold k0_pay2 k0_pay1
  simp only [shapeCast_self]
  show Ideal.ofBits .f32 0x00000000#32 + FloatOps.matmul (DotDims.transposedRhs 1024 1024 1408) none x y (constant S1024x1408 .f32 0x00000000#32) (ix2 p q) = _
  rw [MatSum.matmul_C, show constant (F := Ideal) S1024x1408 .f32 0x00000000#32 (ix2 p q) = 0 from Ideal.ofBits_zero_f32, zero_add, Ideal.ofBits_zero_f32, zero_add]

variable (m : (ℓ : Loc nD τ sig) → Buf (Elt Ideal) ℓ) (c : Dev nD)

/-- The two factors. -/
abbrev lhs : FVec Ideal S8192x1024 .bf16 := m ((c : Thread nD τ).loc main_arg0)
abbrev rhs : FVec Ideal S5632x1024 .bf16 := m ((c : Thread nD τ).loc main_arg1)

/-- The whole product. -/
def G : FVec Ideal S8192x5632 .bf16 := fun i => MatSum.entC (lhs m c) (rhs m c) (i 0).val (i 1).val

theorem index0 : ∀ t : Fin cfg0.N, win0_0.index t (0 : Fin 2) = t.val / 4 ∧ win0_0.index t (1 : Fin 2) = 0 := (by decide +kernel : ∀ t : Fin grid0.N, _)
theorem index1 : ∀ t : Fin cfg0.N, win0_1.index t (0 : Fin 2) = t.val % 4 ∧ win0_1.index t (1 : Fin 2) = 0 := (by decide +kernel : ∀ t : Fin grid0.N, _)
theorem index2 : ∀ t : Fin cfg0.N, win0_2.index t (0 : Fin 2) = t.val / 4 ∧ win0_2.index t (1 : Fin 2) = t.val % 4 ∧ win0_2.flush t = true := (by decide +kernel : ∀ t : Fin grid0.N, _)

theorem iblk0_at (t : Fin cfg0.N) (p : Fin 1024) (k : Fin 1024) : (iblk m c 0 t : FVec Ideal S1024x1024 .bf16) (ix2 p k) = MatSum.at2 (lhs m c) (t.val / 4 * 1024 + p) k := by
  unfold iblk
  rw [View.read_apply]
  refine MatSum.at2_of (lhs m c) _ _ _ ?_ ?_
  · show win0_0.index t 0 * 1024 + 1 * p.val = _; rw [(index0 t).1, one_mul]
  · show win0_0.index t 1 * 1024 + 1 * k.val = _; rw [(index0 t).2, zero_mul, zero_add, one_mul]

theorem iblk1_at (t : Fin cfg0.N) (q : Fin 1408) (k : Fin 1024) : (iblk m c 1 t : FVec Ideal S1408x1024 .bf16) (ix2 q k) = MatSum.at2 (rhs m c) (t.val % 4 * 1408 + q) k := by
  unfold iblk
  rw [View.read_apply]
  refine MatSum.at2_of (rhs m c) _ _ _ ?_ ?_
  · show win0_1.index t 0 * 1408 + 1 * q.val = _; rw [(index1 t).1, one_mul]
  · show win0_1.index t 1 * 1024 + 1 * k.val = _; rw [(index1 t).2, zero_mul, zero_add, one_mul]

/-- What a point writes back is its block of the whole product. -/
theorem flushed_eq (t : Fin cfg0.N) : (dats m 0 c).flushed 2 t = ((cfg0.win 2).blk t).view.read (Elt Ideal) (G m c) := by
  rw [flushed2_A, out_A]
  funext y
  have h0 : (y 0).val < 1024 := (y 0).isLt
  have h1 : (y 1).val < 1408 := (y 1).isLt
  have e : (cfg0.win 2).xinj (grid0.coords t) y = ix2 (⟨(y 0).val, h0⟩ : Fin 1024) (⟨(y 1).val, h1⟩ : Fin 1408) := by
    funext a; match a with
    | ⟨0, _⟩ => rfl
    | ⟨1, _⟩ => rfl
  show k0_pay2 (F := Ideal) (iblk m c 0 t) (k0_pay1 (F := Ideal)) (iblk m c 1 t) ((cfg0.win 2).xinj (grid0.coords t) y) = MatSum.entC (lhs m c) (rhs m c) (win0_2.index t 0 * 1024 + 1 * (y 0).val) (win0_2.index t 1 * 1408 + 1 * (y 1).val)
  rw [e, (index2 t).1, (index2 t).2.1, one_mul, one_mul]
  exact (pay2_at _ _ _ _).trans (MatSum.block_C (lhs m c) (rhs m c) _ _ _ _ _ _ (iblk0_at m c t _) (iblk1_at m c t _))

/-- The points' blocks fill the array. -/
theorem covered (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have ht : 4 * ((i 0).val / 1024) + (i 1).val / 1408 < cfg0.N := by rw [show cfg0.N = 32 from N_0]; omega
  obtain ⟨e0, e1, ef⟩ := index2 ⟨_, ht⟩
  refine ⟨⟨_, ht⟩, ef, ?_⟩
  show i ∈ ((View.whole main_v0).slice (win0_2.rect ⟨_, ht⟩)).set
  rw [View.set_slice_whole, Rect.mem_set_unit]
  intro a; match a with
  | ⟨0, _⟩ => show win0_2.index ⟨_, ht⟩ 0 * 1024 ≤ (i 0).val ∧ (i 0).val < win0_2.index ⟨_, ht⟩ 0 * 1024 + 1024; rw [e0]; dsimp only; omega
  | ⟨1, _⟩ => show win0_2.index ⟨_, ht⟩ 1 * 1408 ≤ (i 1).val ∧ (i 1).val < win0_2.index ⟨_, ht⟩ 1 * 1408 + 1408; rw [e1]; dsimp only; omega

theorem final : (dats m 0 c).arrAt 2 cfg0.N = G m c := (dats m 0 c).arrAt_eq_of_cover 2 _ (fun t _ => flushed_eq m c t) covered

end Cert.Kernel11Ideal.Value

namespace Cert.UpProj

open Idealize.ShloMosaic Idealize.ShloMosaic.TcCoe Idealize.ShloMosaic.ValueIdx Idealize.SL.Sem

/-- The frame of the reference. -/
theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩) (Cert.Reference11Ideal.Value.run m ρ)

/-- Kernel and reference both leave the product. -/
theorem same : Cert.algebraic_Kernel11Ideal_Reference11Ideal (hKernel11Ideal := Cert.Kernel11Ideal.Gen.facts) (hReference11Ideal := Cert.Reference11Ideal.Gen.facts) := by
  intro m g m' g' _ hagree
  refine ⟨fun c => Cert.Kernel11Ideal.Value.G m c, ?_, ?_⟩
  · exact (θ_run Cert.Kernel11Ideal.defs _ _).mono (fun _ h c => ⟨(h c).1.trans (Cert.Kernel11Ideal.Value.final m c), (h c).2⟩) (Cert.Kernel11Ideal.Value.run_blocks m g)
  · refine (θ_run Cert.Reference11Ideal.defs _ _).mono (fun _ h c => ?_) (Cert.Reference11Ideal.Value.run m' g')
    have k := h c
    rw [(hagree c).1, (hagree c).2] at k
    refine ⟨k.1.trans (funext fun i => ?_), k.2.1.trans (hagree c).1.symm, k.2.2.trans (hagree c).2.symm⟩
    rw [eq_ix2 i]
    exact MatSum.dot_T none .single (Cert.Kernel11Ideal.Value.lhs m c) (Cert.Kernel11Ideal.Value.rhs m c) _ (i 0) (i 1)

end Cert.UpProj

end
-- ==== Proof.MixOut.lean ====
/- The output projection with the residual and the next normalisation, over the extended reals: each block of rows of the kernel's first result is the product of a block of rows of the mixers with the weights, added to the residual's rows; of its second, those rows normalised. -/
module

public import proofs.«01_k».proof.Proof.Whole
public import proofs.«01_k».proof.Proof.MatSum
public import proofs.«01_k».proof.Proof.RowNorm
public import proofs.«01_k».proof.Proof.Gen.Kernel12Ideal.Value
public import proofs.«01_k».proof.Proof.Gen.Reference12Ideal.Run
public import proofs.«01_k».proof.Defs
public import Idealize.ShloMosaic.Lib.Quiescent
public import Idealize.ShloMosaic.Lib.VecWindow
public import Idealize.ShloMosaic.Lib.Pointwise

@[expose] public section

set_option maxRecDepth 16384

noncomputable section

open Idealize.ShloMosaic.ValueIdx renaming ix2 → ij

namespace Cert.Kernel12Ideal.Value

open Cert.Kernel12Ideal Cert.Kernel12Ideal.Gen Idealize.ShloMosaic Idealize.ShloMosaic.TcCoe Idealize.SL.Sem
open MatSum (at2 at2_of entP)

section Point
variable {F : FTy → Type} [FloatOps F] (c : Dev nD) (i : grid0.Coords) (a3 : Memref sig .tc .vmem S1024x1536 .bf16) (h3 : a3.IsWhole) (a4 : Memref sig .tc .vmem S1536x1024 .bf16) (h4 : a4.IsWhole)
  (a5 : Memref sig .tc .vmem S1024x1024 .f32) (h5 : a5.IsWhole) (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole) (hc0 : cond0_0 i) (hc1 : cond0_1 i)
  (x : Vec F S1024x1536 .bf16) (y : Vec F S1536x1024 .bf16) (z : Vec F S1024x1024 .f32) (w : Vec F S1x1024 .f32)

/-- A point writes the product of its blocks and the residual's block. -/
theorem out_x : out0_A_4 c i a3 h3 a4 h4 a5 h5 a6 h6 a7 h7 a8 h8 a9 h9 hc0 hc1 x y z w = k0_pay3 (k0_pay2 x k0_pay1 y) z := by
  unfold out0_A_4
  rw [View.read_writes_eq_canon _ _ _ (fun _ => cover0_A_4 ..)]
  unfold kernelRun0_A
  dsimp only
  sl_unfold_words
  simp only [View.readAt_eq_ld, Memref.IsWhole.read_unread, Whole.ld, Whole.canon, Whole.readCov]

/-- And those rows normalised. -/
theorem out_h : out0_A_5 c i a3 h3 a4 h4 a5 h5 a6 h6 a7 h7 a8 h8 a9 h9 hc0 hc1 x y z w = k0_pay4 (k0_pay2 x k0_pay1 y) z w := by
  unfold out0_A_5
  rw [View.read_writes_eq_canon _ _ _ (fun _ => cover0_A_5 ..)]
  unfold kernelRun0_A
  dsimp only
  sl_unfold_words
  simp only [View.readAt_eq_ld, Memref.IsWhole.read_unread, Whole.ld, Whole.canon, Whole.readCov]

end Point

theorem pay2_at (x : FVec Ideal S1024x1536 .bf16) (y : FVec Ideal S1536x1024 .bf16) (p q : Fin 1024) : k0_pay2 (F := Ideal) x (k0_pay1 (F := Ideal)) y (ij p q) = entP x y p q := by
  unfold k0_pay2 k0_pay1
  simp only [shapeCast_self]
  show Ideal.ofBits .f32 0x00000000#32 + FloatOps.matmul (DotDims.plain 1024 1536 1024) none x y (constant S1024x1024 .f32 0x00000000#32) (ij p q) = _
  rw [MatSum.matmul_P, show constant (F := Ideal) S1024x1024 .f32 0x00000000#32 (ij p q) = 0 from Ideal.ofBits_zero_f32, zero_add, Ideal.ofBits_zero_f32, zero_add]

theorem pay4_at (x z : FVec Ideal S1024x1024 .f32) (g : FVec Ideal S1x1024 .f32) (p q : Fin 1024) :
    k0_pay4 (F := Ideal) x z g (ij p q) = RowNorm.norm (fun k => x (ij p k) + z (ij p k)) (fun k => g (ij 0 k)) q := by
  unfold k0_pay4 k0_pay3
  dsimp only
  pointwise
  rfl

variable (m : (ℓ : Loc nD τ sig) → Buf (Elt Ideal) ℓ) (c : Dev nD)

/-- The two factors, the residual and the normalisation's weights. -/
abbrev lhs : FVec Ideal S8192x1536 .bf16 := m ((c : Thread nD τ).loc main_arg0)
abbrev rhs : FVec Ideal S1536x1024 .bf16 := m ((c : Thread nD τ).loc main_arg1)
abbrev res : FVec Ideal S8192x1024 .f32 := m ((c : Thread nD τ).loc main_arg2)
abbrev wts : FVec Ideal S1024 .f32 := m ((c : Thread nD τ).loc main_arg3)

/-- The rows after the residual, and the same normalised. -/
def X (i j : ℕ) : EReal := at2 (res m c) i j + entP (lhs m c) (rhs m c) i j
def G : FVec Ideal S8192x1024 .f32 := fun i => X m c (i 0).val (i 1).val
def H : FVec Ideal S8192x1024 .bf16 := fun i => RowNorm.norm (fun k => X m c (i 0).val k) (fun k => wts m c (ValueIdx.ix1 k)) (i 1)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = t.val ∧ win0_4.index t (1 : Fin 2) = 0 ∧ win0_4.flush t = true := (by decide +kernel : ∀ t : Fin grid0.N, _)
theorem index5 : ∀ t : Fin cfg0.N, win0_5.index t (0 : Fin 2) = t.val ∧ win0_5.index t (1 : Fin 2) = 0 ∧ win0_5.flush t = true := (by decide +kernel : ∀ t : Fin grid0.N, _)

theorem V0 : V m c main_arg0 = lhs m c := by unfold V; after_results
theorem V1 : V m c main_arg1 = rhs m c := by unfold V; after_results
theorem V2 : V m c main_arg2 = res m c := by unfold V; after_results
theorem V3 : V m c main_v0 = shapeCast S1x1024 (wts m c) shapeCasts_S1024_S1x1024 := by unfold V; after_results; rfl

theorem iblk0_at (t : Fin cfg0.N) (p : Fin 1024) (k : Fin 1536) : (iblk m c 0 t : FVec Ideal S1024x1536 .bf16) (ij p k) = at2 (lhs m c) (t.val * 1024 + p) k := by
  unfold iblk
  rw [View.read_apply]
  refine (congrFun (V0 m c) _).trans (at2_of (lhs m c) _ _ _ ?_ ?_)
  · show win0_0.index t 0 * 1024 + 1 * p.val = _; rw [(index0 t).1, one_mul]
  · show win0_0.index t 1 * 1536 + 1 * k.val = _; rw [(index0 t).2, zero_mul, zero_add, one_mul]

theorem iblk1_at (t : Fin cfg0.N) (k : Fin 1536) (q : Fin 1024) : (iblk m c 1 t : FVec Ideal S1536x1024 .bf16) (ij k q) = at2 (rhs m c) k q := by
  unfold iblk
  rw [View.read_apply]
  refine (congrFun (V1 m c) _).trans (at2_of (rhs m c) _ _ _ ?_ ?_)
  · show win0_1.index t 0 * 1536 + 1 * k.val = _; rw [(index1 t).1, zero_mul, zero_add, one_mul]
  · show win0_1.index t 1 * 1024 + 1 * q.val = _; rw [(index1 t).2, zero_mul, zero_add, one_mul]

theorem iblk2_at (t : Fin cfg0.N) (p q : Fin 1024) : (iblk m c 2 t : FVec Ideal S1024x1024 .f32) (ij p q) = at2 (res m c) (t.val * 1024 + p) q := by
  unfold iblk
  rw [View.read_apply]
  refine (congrFun (V2 m c) _).trans (at2_of (res m c) _ _ _ ?_ ?_)
  · show win0_2.index t 0 * 1024 + 1 * p.val = _; rw [(index2 t).1, one_mul]
  · show win0_2.index t 1 * 1024 + 1 * q.val = _; rw [(index2 t).2, zero_mul, zero_add, one_mul]

theorem iblk3_at (t : Fin cfg0.N) (q : Fin 1024) : (iblk m c 3 t : FVec Ideal S1x1024 .f32) (ij 0 q) = wts m c (ValueIdx.ix1 q) := by
  unfold iblk
  rw [View.read_apply]
  refine (congrFun (V3 m c) _).trans (Eq.trans (congrArg _ ?_) (ValueIdx.shapeCast_a_1a_apply (wts m c) _ 0 q))
  funext a; match a with
  | ⟨0, _⟩ => exact Fin.ext (show win0_3.index t 0 * 1 + 1 * 0 = 0 by rw [(index3 t).1])
  | ⟨1, _⟩ => exact Fin.ext (show win0_3.index t 1 * 1024 + 1 * q.val = q.val by rw [(index3 t).2, zero_mul, zero_add, one_mul])

/-- An element of a point's rows after the residual. -/
theorem row_at (t : Fin cfg0.N) (p q : Fin 1024) :
    k0_pay2 (F := Ideal) (iblk m c 0 t) (k0_pay1 (F := Ideal)) (iblk m c 1 t) (ij p q) + (iblk m c 2 t : FVec Ideal S1024x1024 .f32) (ij p q) = X m c (t.val * 1024 + p) q := by
  rw [add_comm]
  exact congrArg₂ (· + ·) (iblk2_at m c t p q) ((pay2_at _ _ _ _).trans (MatSum.block_P (lhs m c) (rhs m c) _ _ _ _ _ _ (iblk0_at m c t _) (fun k => iblk1_at m c t k _)))

/-- What a point writes back is its block of the rows after the residual. -/
theorem flushed_x (t : Fin cfg0.N) : (dats m 0 c).flushed 4 t = ((cfg0.win 4).blk t).view.read (Elt Ideal) (G m c) := by
  rw [flushed4_A, out_x]
  funext y
  have h0 : (y 0).val < 1024 := (y 0).isLt
  have h1 : (y 1).val < 1024 := (y 1).isLt
  have e : (cfg0.win 4).xinj (grid0.coords t) y = ij (⟨(y 0).val, h0⟩ : Fin 1024) (⟨(y 1).val, h1⟩ : Fin 1024) := by
    funext a; match a with
    | ⟨0, _⟩ => rfl
    | ⟨1, _⟩ => rfl
  show k0_pay3 (F := Ideal) (k0_pay2 (F := Ideal) (iblk m c 0 t) (k0_pay1 (F := Ideal)) (iblk m c 1 t)) (iblk m c 2 t) ((cfg0.win 4).xinj (grid0.coords t) y) = X m c (win0_4.index t 0 * 1024 + 1 * (y 0).val) (win0_4.index t 1 * 1024 + 1 * (y 1).val)
  rw [e, (index4 t).1, (index4 t).2.1, one_mul, one_mul, zero_mul, zero_add]
  exact row_at m c t _ _

/-- And the same rows normalised. -/
theorem flushed_h (t : Fin cfg0.N) : (dats m 0 c).flushed 5 t = ((cfg0.win 5).blk t).view.read (Elt Ideal) (H m c) := by
  rw [flushed5_A, out_h]
  funext y
  have h0 : (y 0).val < 1024 := (y 0).isLt
  have h1 : (y 1).val < 1024 := (y 1).isLt
  have e : (cfg0.win 5).xinj (grid0.coords t) y = ij (⟨(y 0).val, h0⟩ : Fin 1024) (⟨(y 1).val, h1⟩ : Fin 1024) := by
    funext a; match a with
    | ⟨0, _⟩ => rfl
    | ⟨1, _⟩ => rfl
  have e' : (((cfg0.win 5).blk t).view.emb y 1 : Fin 1024) = ⟨(y 1).val, h1⟩ := Fin.ext (by
    show win0_5.index t 1 * 1024 + 1 * (y 1).val = _; rw [(index5 t).2.1, zero_mul, zero_add, one_mul])
  show k0_pay4 (F := Ideal) (k0_pay2 (F := Ideal) (iblk m c 0 t) (k0_pay1 (F := Ideal)) (iblk m c 1 t)) (iblk m c 2 t) (iblk m c 3 t) ((cfg0.win 5).xinj (grid0.coords t) y) = RowNorm.norm (fun k => X m c (win0_5.index t 0 * 1024 + 1 * (y 0).val) k) (fun k => wts m c (ValueIdx.ix1 k)) (((cfg0.win 5).blk t).view.emb y 1)
  rw [e, e', (index5 t).1, one_mul, pay4_at]
  exact congrArg₂ (fun a b => RowNorm.norm a b _) (funext fun k => row_at m c t _ k) (funext fun k => iblk3_at m c t k)

/-- The points' blocks fill the arrays. -/
theorem covered_x (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have ht : (i 0).val / 1024 < cfg0.N := by rw [show cfg0.N = 8 from N_0]; omega
  obtain ⟨e0, e1, ef⟩ := index4 ⟨_, ht⟩
  refine ⟨⟨_, ht⟩, ef, ?_⟩
  show i ∈ ((View.whole main_v1_0).slice (win0_4.rect ⟨_, ht⟩)).set
  rw [View.set_slice_whole, Rect.mem_set_unit]
  intro a; match a with
  | ⟨0, _⟩ => show win0_4.index ⟨_, ht⟩ 0 * 1024 ≤ (i 0).val ∧ (i 0).val < win0_4.index ⟨_, ht⟩ 0 * 1024 + 1024; rw [e0]; dsimp only; omega
  | ⟨1, _⟩ => show win0_4.index ⟨_, ht⟩ 1 * 1024 ≤ (i 1).val ∧ (i 1).val < win0_4.index ⟨_, ht⟩ 1 * 1024 + 1024; rw [e1]; dsimp only; omega

theorem covered_h (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have ht : (i 0).val / 1024 < cfg0.N := by rw [show cfg0.N = 8 from N_0]; omega
  obtain ⟨e0, e1, ef⟩ := index5 ⟨_, ht⟩
  refine ⟨⟨_, ht⟩, ef, ?_⟩
  show i ∈ ((View.whole main_v1_1).slice (win0_5.rect ⟨_, ht⟩)).set
  rw [View.set_slice_whole, Rect.mem_set_unit]
  intro a; match a with
  | ⟨0, _⟩ => show win0_5.index ⟨_, ht⟩ 0 * 1024 ≤ (i 0).val ∧ (i 0).val < win0_5.index ⟨_, ht⟩ 0 * 1024 + 1024; rw [e0]; dsimp only; omega
  | ⟨1, _⟩ => show win0_5.index ⟨_, ht⟩ 1 * 1024 ≤ (i 1).val ∧ (i 1).val < win0_5.index ⟨_, ht⟩ 1 * 1024 + 1024; rw [e1]; dsimp only; omega

theorem final_x : (dats m 0 c).arrAt 4 cfg0.N = G m c := (dats m 0 c).arrAt_eq_of_cover 4 _ (fun t _ => flushed_x m c t) covered_x
theorem final_h : (dats m 0 c).arrAt 5 cfg0.N = H m c := (dats m 0 c).arrAt_eq_of_cover 5 _ (fun t _ => flushed_h m c t) covered_h

end Cert.Kernel12Ideal.Value

namespace Cert.Reference12Ideal.Value

open Cert.Reference12Ideal Cert.Reference12Ideal.Gen Idealize.ShloMosaic Idealize.ShloMosaic.TcCoe Idealize.SL.Sem

/-- The reference's normalisation of an array, element by element. -/
theorem norm_at (x : FVec Ideal S8192x1024 .f32) (g : FVec Ideal S1024 .f32) (p : Fin 8192) (q : Fin 1024) :
    truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32 (ij p q)
      = RowNorm.norm (fun k => x (ij p k)) (fun k => g (ValueIdx.ix1 k)) q := by
  pointwise
  rfl

end Cert.Reference12Ideal.Value

namespace Cert.MixOut

open Idealize.ShloMosaic Idealize.ShloMosaic.TcCoe Idealize.SL.Sem

/-- The frame of the reference. -/
theorem frame_reference : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩) (Cert.Reference12Ideal.Value.run m ρ)

/-- Kernel and reference both leave the rows after the residual, and these normalised. -/
theorem same : Cert.algebraic_Kernel12Ideal_Reference12Ideal (hKernel12Ideal := Cert.Kernel12Ideal.Gen.facts) (hReference12Ideal := Cert.Reference12Ideal.Gen.facts) := by
  intro m g m' g' _ hagree
  refine ⟨fun c => Cert.Kernel12Ideal.Value.G m c, fun c => Cert.Kernel12Ideal.Value.H m c, ?_, ?_⟩
  · exact (θ_run Cert.Kernel12Ideal.defs _ _).mono (fun _ h c => ⟨(h c).1.trans (Cert.Kernel12Ideal.Value.final_x m c), (h c).2.1.trans (Cert.Kernel12Ideal.Value.final_h m c), (h c).2.2⟩) (Cert.Kernel12Ideal.Value.run_blocks m g)
  · refine (θ_run Cert.Reference12Ideal.defs _ _).mono (fun _ h c => ?_) (Cert.Reference12Ideal.Value.run m' g')
    have k := h c
    rw [(hagree c).1, (hagree c).2.1, (hagree c).2.2.1, (hagree c).2.2.2] at k
    have e : ∀ (p : Fin 8192) (q : Fin 1024), addf (Cert.Kernel12Ideal.Value.res m c) (Host.dotGeneral (DotDims.plain 8192 1536 1024) none (extf .f32 (Cert.Kernel12Ideal.Value.lhs m c) (by decide)) (extf .f32 (Cert.Kernel12Ideal.Value.rhs m c) (by decide))) (ij p q) = Cert.Kernel12Ideal.Value.X m c p q := fun p q =>
      congrArg₂ (· + ·) (MatSum.at2_fin (Cert.Kernel12Ideal.Value.res m c) p q).symm (MatSum.dot_P none .single (Cert.Kernel12Ideal.Value.lhs m c) (Cert.Kernel12Ideal.Value.rhs m c) p q)
    refine ⟨k.1.trans (funext fun i => ?_), k.2.1.trans (funext fun i => ?_), k.2.2.1.trans (hagree c).1.symm, k.2.2.2.1.trans (hagree c).2.1.symm, k.2.2.2.2.1.trans (hagree c).2.2.1.symm, k.2.2.2.2.2.trans (hagree c).2.2.2.symm⟩
    · rw [ValueIdx.eq_ix2 i]
      exact e (i 0) (i 1)
    · rw [ValueIdx.eq_ix2 i]
      exact (Cert.Reference12Ideal.Value.norm_at _ _ _ _).trans (congrArg (fun a => RowNorm.norm a _ _) (funext fun k => e (i 0) k))

end Cert.MixOut

end
-- ==== Proof.DownProj.lean ====
/- The feed-forward layer's gate and down projection, over the extended reals: each block of rows of the kernel's second result is the gated activations of a block of rows; of its first, the product of these with the weights, added to the residual's rows. -/
module

public import proofs.«01_k».proof.Proof.Whole
public import proofs.«01_k».proof.Proof.MatSum
public import proofs.«01_k».proof.Proof.Gen.Kernel13Ideal.Value
public import proofs.«01_k».proof.Proof.Gen.Reference13Ideal.Run
public import proofs.«01_k».proof.Defs
public import Idealize.ShloMosaic.Lib.Quiescent
public import Idealize.ShloMosaic.Lib.VecWindow
public import Idealize.ShloMosaic.Lib.Pointwise

@[expose] public section

set_option maxRecDepth 16384

noncomputable section

open Idealize.ShloMosaic.ValueIdx renaming ix2 → ij

namespace Cert.Kernel13Ideal.Value

open Cert.Kernel13Ideal Cert.Kernel13Ideal.Gen Idealize.ShloMosaic Idealize.ShloMosaic.TcCoe Idealize.SL.Sem
open MatSum (at2 at2_fin at2_of entP)

section Point
variable {F : FTy → Type} [FloatOps F] (c : Dev nD) (i : grid0.Coords) (a3 : Memref sig .tc .vmem S512x5632 .bf16) (h3 : a3.IsWhole) (a4 : Memref sig .tc .vmem S2816x1024 .bf16) (h4 : a4.IsWhole)
  (a5 : Memref sig .tc .vmem S512x1024 .f32) (h5 : a5.IsWhole) (a6 : Memref sig .tc .vmem S512x1024 .f32) (h6 : a6.IsWhole) (a7 : Memref sig .tc .vmem S512x2816 .bf16) (h7 : a7.IsWhole)
  (a8 : Memref sig .tc .vmem S512x1024 .f32) (h8 : a8.IsWhole) (hc0 : cond0_0 i) (hc1 : cond0_1 i) (x : Vec F S512x5632 .bf16) (y : Vec F S2816x1024 .bf16) (z : Vec F S512x1024 .f32)

/-- A point writes the product of its gated rows with the weights, and the residual's block. -/
theorem out_x : out0_A_3 c i a3 h3 a4 h4 a5 h5 a6 h6 a7 h7 a8 h8 hc0 hc1 x y z = k0_pay4 (k0_pay3 x k0_pay1 y) z := by
  unfold out0_A_3
  rw [View.read_writes_eq_canon _ _ _ (fun _ => cover0_A_3 ..)]
  unfold kernelRun0_A
  dsimp only
  sl_unfold_words
  simp only [View.readAt_eq_ld, Memref.IsWhole.read_unread, Whole.ld, Whole.canon, Whole.readCov]

/-- And the gated rows. -/
theorem out_a : out0_A_4 c i a3 h3 a4 h4 a5 h5 a6 h6 a7 h7 a8 h8 hc0 hc1 x y z = k0_pay2 x := by
  unfold out0_A_4
  rw [View.read_writes_eq_canon _ _ _ (fun _ => cover0_A_4 ..)]
  unfold kernelRun0_A
  dsimp only
  sl_unfold_words
  simp only [View.readAt_eq_ld, Memref.IsWhole.read_unread, Whole.ld, Whole.canon, Whole.readCov]

end Point

/-- A gate with its linear part. -/
def gated (a b : EReal) : EReal := a * Ideal.logistic a * b

theorem pay2_at (x : FVec Ideal S512x5632 .bf16) (p : Fin 512) (q : Fin 2816) :
    k0_pay2 (F := Ideal) x (ij p q) = gated (x (ij p ⟨q.val, by omega⟩)) (x (ij p ⟨2816 + q.val, by omega⟩)) := by
  unfold k0_pay2
  pointwise
  rfl

theorem pay3_at (x : FVec Ideal S512x5632 .bf16) (y : FVec Ideal S2816x1024 .bf16) (p : Fin 512) (q : Fin 1024) : k0_pay3 (F := Ideal) x (k0_pay1 (F := Ideal)) y (ij p q) = entP (k0_pay2 (F := Ideal) x) y p q := by
  unfold k0_pay3 k0_pay1
  simp only [shapeCast_self]
  show Ideal.ofBits .f32 0x00000000#32 + FloatOps.matmul (DotDims.plain 512 2816 1024) none (k0_pay2 (F := Ideal) x) y (constant S512x1024 .f32 0x00000000#32) (ij p q) = _
  rw [MatSum.matmul_P, show constant (F := Ideal) S512x1024 .f32 0x00000000#32 (ij p q) = 0 from Ideal.ofBits_zero_f32, zero_add, Ideal.ofBits_zero_f32, zero_add]

variable (m : (ℓ : Loc nD τ sig) → Buf (Elt Ideal) ℓ) (c : Dev nD)

/-- The gates and linear parts, the weights and the residual. -/
abbrev gu : FVec Ideal S8192x5632 .bf16 := m ((c : Thread nD τ).loc main_arg0)
abbrev rhs : FVec Ideal S2816x1024 .bf16 := m ((c : Thread nD τ).loc main_arg1)
abbrev res : FVec Ideal S8192x1024 .f32 := m ((c : Thread nD τ).loc main_arg2)

/-- The gated activations, and the rows after the residual. -/
def A : FVec Ideal S8192x2816 .bf16 := fun i => gated (at2 (gu m c) (i 0).val (i 1).val) (at2 (gu m c) (i 0).val (2816 + (i 1).val))
def G : FVec Ideal S8192x1024 .f32 := fun i => at2 (res m c) (i 0).val (i 1).val + entP (A m c) (rhs m c) (i 0).val (i 1).val

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = t.val ∧ win0_3.index t (1 : Fin 2) = 0 ∧ win0_3.flush t = true := (by decide +kernel : ∀ t : Fin grid0.N, _)
theorem index4 : ∀ t : Fin cfg0.N, win0_4.index t (0 : Fin 2) = t.val ∧ win0_4.index t (1 : Fin 2) = 0 ∧ win0_4.flush t = true := (by decide +kernel : ∀ t : Fin grid0.N, _)

theorem iblk0_at (t : Fin cfg0.N) (p : Fin 512) (k : Fin 5632) : (iblk m c 0 t : FVec Ideal S512x5632 .bf16) (ij p k) = at2 (gu m c) (t.val * 512 + p) k := by
  unfold iblk
  rw [View.read_apply]
  refine at2_of (gu m c) _ _ _ ?_ ?_
  · show win0_0.index t 0 * 512 + 1 * p.val = _; rw [(index0 t).1, one_mul]
  · show win0_0.index t 1 * 5632 + 1 * k.val = _; rw [(index0 t).2, zero_mul, zero_add, one_mul]

theorem iblk1_at (t : Fin cfg0.N) (k : Fin 2816) (q : Fin 1024) : (iblk m c 1 t : FVec Ideal S2816x1024 .bf16) (ij k q) = at2 (rhs m c) k q := by
  unfold iblk
  rw [View.read_apply]
  refine at2_of (rhs m c) _ _ _ ?_ ?_
  · show win0_1.index t 0 * 2816 + 1 * k.val = _; rw [(index1 t).1, zero_mul, zero_add, one_mul]
  · show win0_1.index t 1 * 1024 + 1 * q.val = _; rw [(index1 t).2, zero_mul, zero_add, one_mul]

theorem iblk2_at (t : Fin cfg0.N) (p : Fin 512) (q : Fin 1024) : (iblk m c 2 t : FVec Ideal S512x1024 .f32) (ij p q) = at2 (res m c) (t.val * 512 + p) q := by
  unfold iblk
  rw [View.read_apply]
  refine at2_of (res m c) _ _ _ ?_ ?_
  · show win0_2.index t 0 * 512 + 1 * p.val = _; rw [(index2 t).1, one_mul]
  · show win0_2.index t 1 * 1024 + 1 * q.val = _; rw [(index2 t).2, zero_mul, zero_add, one_mul]

/-- An element of a point's gated rows. -/
theorem act_at (t : Fin cfg0.N) (p : Fin 512) (k : Fin 2816) : k0_pay2 (F := Ideal) (iblk m c 0 t) (ij p k) = at2 (A m c) (t.val * 512 + p) k := by
  have ht : t.val < 16 := t.isLt
  have e : at2 (A m c) (t.val * 512 + p) k = _ := at2_fin (A m c) ⟨t.val * 512 + p.val, by omega⟩ k
  rw [pay2_at, e]
  exact congrArg₂ gated (iblk0_at m c t _ _) (iblk0_at m c t _ _)

/-- What a point writes back is its block of the rows after the residual. -/
theorem flushed_x (t : Fin cfg0.N) : (dats m 0 c).flushed 3 t = ((cfg0.win 3).blk t).view.read (Elt Ideal) (G m c) := by
  rw [flushed3_A, out_x]
  funext y
  have h0 : (y 0).val < 512 := (y 0).isLt
  have h1 : (y 1).val < 1024 := (y 1).isLt
  have e : (cfg0.win 3).xinj (grid0.coords t) y = ij (⟨(y 0).val, h0⟩ : Fin 512) (⟨(y 1).val, h1⟩ : Fin 1024) := by
    funext a; match a with
    | ⟨0, _⟩ => rfl
    | ⟨1, _⟩ => rfl
  show k0_pay3 (F := Ideal) (iblk m c 0 t) (k0_pay1 (F := Ideal)) (iblk m c 1 t) ((cfg0.win 3).xinj (grid0.coords t) y) + (iblk m c 2 t : FVec Ideal S512x1024 .f32) ((cfg0.win 3).xinj (grid0.coords t) y) = at2 (res m c) (win0_3.index t 0 * 512 + 1 * (y 0).val) (win0_3.index t 1 * 1024 + 1 * (y 1).val) + entP (A m c) (rhs m c) (win0_3.index t 0 * 512 + 1 * (y 0).val) (win0_3.index t 1 * 1024 + 1 * (y 1).val)
  rw [e, (index3 t).1, (index3 t).2.1, one_mul, one_mul, zero_mul, zero_add, add_comm]
  exact congrArg₂ (· + ·) (iblk2_at m c t _ _) ((pay3_at _ _ _ _).trans (MatSum.block_P (A m c) (rhs m c) _ _ _ _ _ _ (act_at m c t _) (fun k => iblk1_at m c t k _)))

/-- And of the gated activations. -/
theorem flushed_a (t : Fin cfg0.N) : (dats m 0 c).flushed 4 t = ((cfg0.win 4).blk t).view.read (Elt Ideal) (A m c) := by
  rw [flushed4_A, out_a]
  funext y
  have h0 : (y 0).val < 512 := (y 0).isLt
  have h1 : (y 1).val < 2816 := (y 1).isLt
  have e : (cfg0.win 4).xinj (grid0.coords t) y = ij (⟨(y 0).val, h0⟩ : Fin 512) (⟨(y 1).val, h1⟩ : Fin 2816) := by
    funext a; match a with
    | ⟨0, _⟩ => rfl
    | ⟨1, _⟩ => rfl
  rw [View.read_apply]
  show k0_pay2 (F := Ideal) (iblk m c 0 t) ((cfg0.win 4).xinj (grid0.coords t) y) = A m c (((cfg0.win 4).blk t).view.emb y)
  rw [e, act_at]
  refine (at2_of (A m c) _ _ _ ?_ ?_).symm
  · show win0_4.index t 0 * 512 + 1 * (y 0).val = _; rw [(index4 t).1, one_mul]
  · show win0_4.index t 1 * 2816 + 1 * (y 1).val = _; rw [(index4 t).2.1, zero_mul, zero_add, one_mul]

/-- The points' blocks fill the arrays. -/
theorem covered_x (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have ht : (i 0).val / 512 < cfg0.N := by rw [show cfg0.N = 16 from N_0]; omega
  obtain ⟨e0, e1, ef⟩ := index3 ⟨_, ht⟩
  refine ⟨⟨_, ht⟩, ef, ?_⟩
  show i ∈ ((View.whole main_v0_0).slice (win0_3.rect ⟨_, ht⟩)).set
  rw [View.set_slice_whole, Rect.mem_set_unit]
  intro a; match a with
  | ⟨0, _⟩ => show win0_3.index ⟨_, ht⟩ 0 * 512 ≤ (i 0).val ∧ (i 0).val < win0_3.index ⟨_, ht⟩ 0 * 512 + 512; rw [e0]; dsimp only; omega
  | ⟨1, _⟩ => show win0_3.index ⟨_, ht⟩ 1 * 1024 ≤ (i 1).val ∧ (i 1).val < win0_3.index ⟨_, ht⟩ 1 * 1024 + 1024; rw [e1]; dsimp only; omega

theorem covered_a (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  have ht : (i 0).val / 512 < cfg0.N := by rw [show cfg0.N = 16 from N_0]; omega
  obtain ⟨e0, e1, ef⟩ := index4 ⟨_, ht⟩
  refine ⟨⟨_, ht⟩, ef, ?_⟩
  show i ∈ ((View.whole main_v0_1).slice (win0_4.rect ⟨_, ht⟩)).set
  rw [View.set_slice_whole, Rect.mem_set_unit]
  intro a; match a with
  | ⟨0, _⟩ => show win0_4.index ⟨_, ht⟩ 0 * 512 ≤ (i 0).val ∧ (i 0).val < win0_4.index ⟨_, ht⟩ 0 * 512 + 512; rw [e0]; dsimp only; omega
  | ⟨1, _⟩ => show win0_4.index ⟨_, ht⟩ 1 * 2816 ≤ (i 1).val ∧ (i 1).val < win0_4.index ⟨_, ht⟩ 1 * 2816 + 2816; rw [e1]; dsimp only; omega

theorem final_x : (dats m 0 c).arrAt 3 cfg0.N = G m c := (dats m 0 c).arrAt_eq_of_cover 3 _ (fun t _ => flushed_x m c t) covered_x
theorem final_a : (dats m 0 c).arrAt 4 cfg0.N = A m c := (dats m 0 c).arrAt_eq_of_cover 4 _ (fun t _ => flushed_a m c t) covered_a

end Cert.Kernel13Ideal.Value

namespace Cert.Reference13Ideal.Value

open Cert.Reference13Ideal Cert.Reference13Ideal.Gen Idealize.ShloMosaic Idealize.ShloMosaic.TcCoe Idealize.SL.Sem

/-- The reference's gated activations. -/
def act (x : FVec Ideal S8192x5632 .bf16) : FVec Ideal S8192x2816 .f32 :=
  mulf (mulf (extractStridedSlice S8192x2816 ![0, 0] (extf .f32 x bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0)))))) (extractStridedSlice S8192x2816 ![0, 2816] (extf .f32 x bitsLt_bf16_f32) slices_S8192x5632_S8192x2816_0_2816)

theorem act_at (x : FVec Ideal S8192x5632 .bf16) (p : Fin 8192) (q : Fin 2816) :
    act x (ij p q) = Cert.Kernel13Ideal.Value.gated (MatSum.at2 x p q) (MatSum.at2 x p (2816 + q)) := by
  have e : act x (ij p q) = Cert.Kernel13Ideal.Value.gated (x (ij p ⟨q.val, by omega⟩)) (x (ij p ⟨2816 + q.val, by omega⟩)) := by
    unfold act Cert.Kernel13Ideal.Value.gated
    pointwise
    rfl
  exact e.trans (congrArg₂ _ (MatSum.at2_fin x _ _).symm (MatSum.at2_fin x _ _).symm)

end Cert.Reference13Ideal.Value

namespace Cert.DownProj

open Idealize.ShloMosaic Idealize.ShloMosaic.TcCoe Idealize.SL.Sem

/-- The frame of the reference. -/
theorem frame_reference : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩) (Cert.Reference13Ideal.Value.run m ρ)

/-- Kernel and reference both leave the rows after the residual, and the gated activations. -/
theorem same : Cert.algebraic_Kernel13Ideal_Reference13Ideal (hKernel13Ideal := Cert.Kernel13Ideal.Gen.facts) (hReference13Ideal := Cert.Reference13Ideal.Gen.facts) := by
  intro m g m' g' _ hagree
  refine ⟨fun c => Cert.Kernel13Ideal.Value.G m c, fun c => Cert.Kernel13Ideal.Value.A m c, ?_, ?_⟩
  · exact (θ_run Cert.Kernel13Ideal.defs _ _).mono (fun _ h c => ⟨(h c).1.trans (Cert.Kernel13Ideal.Value.final_x m c), (h c).2.1.trans (Cert.Kernel13Ideal.Value.final_a m c), (h c).2.2⟩) (Cert.Kernel13Ideal.Value.run_blocks m g)
  · refine (θ_run Cert.Reference13Ideal.defs _ _).mono (fun _ h c => ?_) (Cert.Reference13Ideal.Value.run m' g')
    have k := h c
    rw [(hagree c).1, (hagree c).2.1, (hagree c).2.2] at k
    have e : (Cert.Reference13Ideal.Value.act (Cert.Kernel13Ideal.Value.gu m c) : Cert.Kernel13Ideal.S8192x2816.Idx → EReal) = Cert.Kernel13Ideal.Value.A m c := funext fun i => by
      rw [ValueIdx.eq_ix2 i]
      exact Cert.Reference13Ideal.Value.act_at _ _ _
    refine ⟨k.1.trans (funext fun i => ?_), k.2.1.trans e, k.2.2.1.trans (hagree c).1.symm, k.2.2.2.1.trans (hagree c).2.1.symm, k.2.2.2.2.trans (hagree c).2.2.symm⟩
    rw [ValueIdx.eq_ix2 i]
    refine congrArg₂ (· + ·) (MatSum.at2_fin (Cert.Kernel13Ideal.Value.res m c) (i 0) (i 1)).symm (Eq.trans ?_ (MatSum.dot_P none .single (Cert.Kernel13Ideal.Value.A m c) (Cert.Kernel13Ideal.Value.rhs m c) (i 0) (i 1)))
    exact congrArg (fun a : Cert.Kernel13Ideal.S8192x2816.Idx → EReal => FloatOps.dotGeneral (F := Ideal) (φ₁ := .bf16) (φ₂ := .bf16) (DotDims.plain 8192 2816 1024) none .single a (Cert.Kernel13Ideal.Value.rhs m c) (ij (i 0) (i 1))) e

end Cert.DownProj

end
-- ==== Proof.Conv.lean ====
/- A tile of 512 times by 512 channels read some times earlier or later across its edges, and the sums over its times. -/
module

public import proofs.«01_k».proof.Proof.MatSum
public import Idealize.ShloMosaic.Lib.KernelVsHost
public import Idealize.ShloMosaic.Lib.Pipeline.Value
public import Idealize.ShloMosaic.Lib.Pointwise

@[expose] public section

set_option maxRecDepth 16384

noncomputable section

open Idealize.ShloMosaic.ValueIdx renaming ix2 → ij

namespace Conv

open Idealize.ShloMosaic Idealize.ShloMosaic.TcCoe
open scoped BigOperators

abbrev Tile : Shape := ⟨2, ![512, 512]⟩
abbrev Edge : Shape := ⟨2, ![8, 512]⟩

theorem small (t : ℕ) (ht : t < 1024) : (BitVec.ofNat 32 t).toInt = (t : ℤ) := by
  rw [BitVec.toInt_eq_toNat_of_lt (by rw [BitVec.toNat_ofNat]; omega), BitVec.toNat_ofNat]
  congr 1; omega

theorem iotas : Tile.Iotas .tc 32 [0] := by decide
theorem rotates : Tile.Rotates 0 none := by decide
theorem rotatesE : Edge.Rotates 0 none := by decide
theorem copies : Shape.Concatenates (List.replicate 64 Edge) Tile 0 := by decide

/-- Sixty-four copies of eight rows, one below the other. -/
def tiled (e : FVec Ideal Edge .f32) : FVec Ideal Tile .f32 := concatenate Tile 0 (List.replicate 64 ⟨Edge, e⟩) copies

theorem tiled_at (e : FVec Ideal Edge .f32) (p q : Fin 512) : tiled e (ij p q) = e (ij ⟨p.val % 8, Nat.mod_lt _ (by decide)⟩ q) := by
  refine concatenate_replicate_apply (s₁ := Edge) (t := Tile) 0 64 e _ rfl _ _ rfl fun b hb => ?_
  fin_cases b
  · exact absurd rfl hb
  · rfl

/-- A tile read `W` times earlier, its first times from the eight rows before it. -/
def early (W : BitVec 32) (x : FVec Ideal Tile .f32) (e : FVec Ideal Edge .f32) : FVec Ideal Tile .f32 :=
  select (cmpi .slt (iota .tc Tile 32 [0] iotas) (broadcast Tile W)) (tiled (dynamicRotate 0 W none e rotatesE)) (dynamicRotate 0 W none x rotates)

/-- A tile rotated by `W`, its times from `W` on from the eight rows after it, which are rotated by `V`. -/
def late (W V : BitVec 32) (x : FVec Ideal Tile .f32) (e : FVec Ideal Edge .f32) : FVec Ideal Tile .f32 :=
  select (cmpi .sge (iota .tc Tile 32 [0] iotas) (broadcast Tile W)) (tiled (dynamicRotate 0 V none e rotatesE)) (dynamicRotate 0 W none x rotates)

theorem early_at {W : BitVec 32} {w : ℕ} (hW : W = BitVec.ofNat 32 w) (h0 : 0 < w) (hw : w < 8) (x : FVec Ideal Tile .f32) (e : FVec Ideal Edge .f32) (p q : Fin 512) :
    early W x e (ij p q) = if p.val < w then MatSum.at2 e (p + 8 - w) q else MatSum.at2 x (p - w) q := by
  have hp := p.isLt
  have hn : W.toNat = w := by rw [hW, BitVec.toNat_ofNat]; omega
  have ht : iota .tc Tile 32 [0] iotas (ij p q) = BitVec.ofNat 32 p.val := by pointwise
  have hc : IntOp.cmpi .slt (BitVec.ofNat 32 p.val) W = if p.val < w then 1#1 else 0#1 := by
    show BitVec.ofBool (BitVec.slt _ _) = _
    rw [BitVec.slt_eq_decide, small p.val (by omega), hW, small w (by omega)]
    by_cases h : p.val < w <;> simp [h]
  show Scalar.select (IntOp.cmpi .slt (iota .tc Tile 32 [0] iotas (ij p q)) W) (tiled _ (ij p q)) (dynamicRotate 0 W none x rotates (ij p q)) = _
  rw [ht, hc]
  by_cases h : p.val < w
  · rw [if_pos h, if_pos h]
    refine (tiled_at _ p q).trans ?_
    refine (dynamicRotate_apply 0 W e rotatesE _ (ij ⟨p + 8 - w, by omega⟩ q) fun b => ?_).trans (MatSum.at2_fin e ⟨p + 8 - w, by omega⟩ q).symm
    fin_cases b
    · show p.val + 8 - w = (p.val % 8 + 8 - W.toNat % 8) % 8
      rw [hn]; omega
    · rfl
  · rw [if_neg h, if_neg h]
    refine (dynamicRotate_apply 0 W x rotates _ (ij ⟨p - w, by omega⟩ q) fun b => ?_).trans (MatSum.at2_fin x ⟨p - w, by omega⟩ q).symm
    fin_cases b
    · show p.val - w = (p.val + 512 - W.toNat % 512) % 512
      rw [hn]; omega
    · rfl

theorem late_at {W V : BitVec 32} {w : ℕ} (hW : W = BitVec.ofNat 32 (512 - w)) (hV : V = BitVec.ofNat 32 (8 - w)) (h0 : 0 < w) (hw : w < 8) (x : FVec Ideal Tile .f32) (e : FVec Ideal Edge .f32) (p q : Fin 512) :
    late W V x e (ij p q) = if 512 - w ≤ p.val then MatSum.at2 e (p + w - 512) q else MatSum.at2 x (p + w) q := by
  have hp := p.isLt
  have hn : W.toNat = 512 - w := by rw [hW, BitVec.toNat_ofNat]; omega
  have hv : V.toNat = 8 - w := by rw [hV, BitVec.toNat_ofNat]; omega
  have ht : iota .tc Tile 32 [0] iotas (ij p q) = BitVec.ofNat 32 p.val := by pointwise
  have hc : IntOp.cmpi .sge (BitVec.ofNat 32 p.val) W = if 512 - w ≤ p.val then 1#1 else 0#1 := by
    show BitVec.ofBool (BitVec.sle _ _) = _
    rw [BitVec.sle_eq_decide, small p.val (by omega), hW, small (512 - w) (by omega)]
    by_cases h : 512 - w ≤ p.val <;> simp [h] <;> omega
  show Scalar.select (IntOp.cmpi .sge (iota .tc Tile 32 [0] iotas (ij p q)) W) (tiled _ (ij p q)) (dynamicRotate 0 W none x rotates (ij p q)) = _
  rw [ht, hc]
  by_cases h : 512 - w ≤ p.val
  · rw [if_pos h, if_pos h]
    refine (tiled_at _ p q).trans ?_
    refine (dynamicRotate_apply 0 V e rotatesE _ (ij ⟨p + w - 512, by omega⟩ q) fun b => ?_).trans (MatSum.at2_fin e ⟨p + w - 512, by omega⟩ q).symm
    fin_cases b
    · show p.val + w - 512 = (p.val % 8 + 8 - V.toNat % 8) % 8
      rw [hv]; omega
    · rfl
  · rw [if_neg h, if_neg h]
    refine (dynamicRotate_apply 0 W x rotates _ (ij ⟨p + w, by omega⟩ q) fun b => ?_).trans (MatSum.at2_fin x ⟨p + w, by omega⟩ q).symm
    fin_cases b
    · show p.val + w = (p.val + 512 - W.toNat % 512) % 512
      rw [hn]; omega
    · rfl

/-- A tile's column sums, as a row. -/
theorem tile_sum (x : FVec Ideal Tile .f32) (h h1 h2 hs) (q : Fin 512) :
    shapeCast ⟨2, ![1, 512]⟩ (multiReduction (F := Ideal) (φ := .f32) .add [0] ⟨1, ![512]⟩ x 0x00000000#32 h h1 h2) hs (ij 0 q) = ∑ p ∈ Finset.range 512, MatSum.at2 x p q := by
  refine (ValueIdx.shapeCast_a_1a_apply _ _ _ _).trans ?_
  refine (Ideal.multiReduction_add_single _ _ _ _ _ _).trans ?_
  rw [Finset.sum_range]
  refine Finset.sum_congr rfl fun s _ => ?_
  refine Eq.trans (congrArg x ?_) (MatSum.at2_fin x s q).symm
  funext a
  refine Fin.ext ?_
  fin_cases a <;> rfl

/-- The host's column sums. -/
theorem host_sum {n : ℕ} (x : FVec Ideal ⟨2, ![n, 512]⟩ .f32) (z : (⟨0, ![]⟩ : Shape).Idx → EReal) (hu) (hz : z (Shape.Idx.first hu) = 0)
    (h' : (⟨2, ![n, 512]⟩ : Shape).ReducesTo [0] ⟨1, ![512]⟩) (q : Fin 512) :
    Host.reduceAdd (F := Ideal) (φ := .f32) x z h' hu (ValueIdx.ix1 q) = ∑ t ∈ Finset.range n, MatSum.at2 x t q := by
  have h : (⟨2, ![n, 512]⟩ : Shape).Reduces [0] ⟨1, ![512]⟩ := ⟨h'.1, Nat.one_pos, h'.2⟩
  show Ideal.hostReduceAdd h' x _ (ValueIdx.ix1 q) = _
  rw [Ideal.hostReduceAdd_single h' h, hz, zero_add, Finset.sum_range]
  refine Finset.sum_congr rfl fun t _ => ?_
  refine Eq.trans (congrArg x ?_) (MatSum.at2_fin x t q).symm
  funext a
  refine Fin.ext ?_
  fin_cases a <;> rfl

open MatSum (at2 at2_fin at2_of)

theorem at2_past {M N : ℕ} (a : FVec Ideal ⟨2, ![M, N]⟩ .f32) (i j : ℕ) (h : M ≤ i) : at2 a i j = 0 := dif_neg fun k => Nat.not_lt.mpr h k.1

/-- An array's columns from `o` on, read `w` rows earlier; zero before its first row. -/
def before {M N : ℕ} (P : FVec Ideal ⟨2, ![M, N]⟩ .f32) (o w n q : ℕ) : EReal := if n < w then 0 else at2 P (n - w) (o + q)

/-- Tile `t` of an array, read `w` times earlier. -/
theorem early_before {M N : ℕ} (P : FVec Ideal ⟨2, ![M, N]⟩ .f32) (o t : ℕ) {x : FVec Ideal Tile .f32} {e : FVec Ideal Edge .f32}
    (hx : ∀ p q : Fin 512, x (ij p q) = at2 P (t * 512 + p) (o + q)) (he : ∀ (r : Fin 8) (q : Fin 512), e (ij r q) = if t = 0 then 0 else at2 P (t * 512 - 8 + r) (o + q))
    {W : BitVec 32} {w : ℕ} (hW : W = BitVec.ofNat 32 w) (h0 : 0 < w) (hw : w < 8) (p q : Fin 512) : early W x e (ij p q) = before P o w (t * 512 + p) q := by
  have hp := p.isLt
  rw [early_at hW h0 hw]
  unfold before
  by_cases h : p.val < w
  · rw [if_pos h]
    refine ((at2_fin e ⟨p.val + 8 - w, by omega⟩ q).trans (he _ q)).trans ?_
    by_cases ht : t = 0
    · rw [if_pos ht, if_pos (by omega)]
    · rw [if_neg ht, if_neg (by omega)]; exact congrArg (at2 P · _) (by dsimp only; omega)
  · rw [if_neg h, if_neg (by omega)]
    exact ((at2_fin x ⟨p.val - w, by omega⟩ q).trans (hx _ q)).trans (congrArg (at2 P · _) (by dsimp only; omega))

/-- Tile `t` of an array, read `w` times later. -/
theorem late_after {M N : ℕ} (P : FVec Ideal ⟨2, ![M, N]⟩ .f32) (t : ℕ) {x : FVec Ideal Tile .f32} {e : FVec Ideal Edge .f32}
    (hx : ∀ p q : Fin 512, x (ij p q) = at2 P (t * 512 + p) q) (he : ∀ (r : Fin 8) (q : Fin 512), e (ij r q) = at2 P ((t + 1) * 512 + r) q)
    {W V : BitVec 32} {w : ℕ} (hW : W = BitVec.ofNat 32 (512 - w)) (hV : V = BitVec.ofNat 32 (8 - w)) (h0 : 0 < w) (hw : w < 8) (p q : Fin 512) :
    late W V x e (ij p q) = at2 P (t * 512 + p + w) q := by
  have hp := p.isLt
  rw [late_at hW hV h0 hw]
  by_cases h : 512 - w ≤ p.val
  · rw [if_pos h]
    exact ((at2_fin e ⟨p.val + w - 512, by omega⟩ q).trans (he _ q)).trans (congrArg (at2 P · _) (by dsimp only; omega))
  · rw [if_neg h]
    exact ((at2_fin x ⟨p.val + w, by omega⟩ q).trans (hx _ q)).trans (congrArg (at2 P · _) (by dsimp only; omega))

/-- A tile's column sums, term by term. -/
theorem tile_sum_of (x : FVec Ideal Tile .f32) (h h1 h2 hs) (q : Fin 512) (f : ℕ → EReal) (hf : ∀ p : Fin 512, x (ij p q) = f p) :
    shapeCast ⟨2, ![1, 512]⟩ (multiReduction (F := Ideal) (φ := .f32) .add [0] ⟨1, ![512]⟩ x 0x00000000#32 h h1 h2) hs (ij 0 q) = ∑ p ∈ Finset.range 512, f p :=
  (tile_sum x h h1 h2 hs q).trans (Finset.sum_congr rfl fun p hp => (at2_fin x ⟨p, Finset.mem_range.mp hp⟩ q).trans (hf _))

/-- The taps' row `k`, on every row of a tile. -/
theorem tap_at (w : FVec Ideal Edge .f32) (k : Fin 8) (hs : Edge.Slices ![k.val, 0] ⟨2, ![1, 512]⟩) (hb : (⟨2, ![1, 512]⟩ : Shape).Broadcasts Tile) (p q : Fin 512) :
    broadcastTo Tile (extractStridedSlice ⟨2, ![1, 512]⟩ ![k.val, 0] w hs) hb (ij p q) = at2 w k q := by
  refine Eq.trans (congrArg w ?_) (at2_fin w k q).symm
  funext a
  refine Fin.ext ?_
  fin_cases a
  · rfl
  · exact Nat.zero_add q.val

/-- Four rows and four rows of zeros, one below the other. -/
theorem stack (a b c d : FVec Ideal ⟨2, ![1, 512]⟩ .f32) (z : FVec Ideal ⟨2, ![4, 512]⟩ .f32) (h) (q : Fin 512) (f : ℕ → EReal) (hz : ∀ r, z (ij r q) = 0)
    (ha : a (ij 0 q) = f 0) (hb : b (ij 0 q) = f 1) (hc : c (ij 0 q) = f 2) (hd : d (ij 0 q) = f 3) (k : Fin 8) :
    concatenate Edge 0 [⟨⟨2, ![1, 512]⟩, a⟩, ⟨⟨2, ![1, 512]⟩, b⟩, ⟨⟨2, ![1, 512]⟩, c⟩, ⟨⟨2, ![1, 512]⟩, d⟩, ⟨⟨2, ![4, 512]⟩, z⟩] h (ij k q) = if k.val < 4 then f k else 0 := by
  have row : ∀ (j : ℕ) (hj : j < 4) (y : FVec Ideal ⟨2, ![1, 512]⟩ .f32) (hy : [(⟨⟨2, ![1, 512]⟩, a⟩ : (s : Shape) × (s.Idx → EReal)), ⟨⟨2, ![1, 512]⟩, b⟩, ⟨⟨2, ![1, 512]⟩, c⟩, ⟨⟨2, ![1, 512]⟩, d⟩, ⟨⟨2, ![4, 512]⟩, z⟩][j]'(by simp; omega) = ⟨⟨2, ![1, 512]⟩, y⟩)
      (hpre : _ = j) (hk : k.val = j), _ = y (ij 0 q) := fun j hj y hy hpre hk =>
    concatenate_apply_piece (t := Edge) (0 : Fin 2) [⟨⟨2, ![1, 512]⟩, a⟩, ⟨⟨2, ![1, 512]⟩, b⟩, ⟨⟨2, ![1, 512]⟩, c⟩, ⟨⟨2, ![1, 512]⟩, d⟩, ⟨⟨2, ![4, 512]⟩, z⟩] h (ij k q) j (by simp; omega) _ y hy rfl j hpre (ij 0 q)
      (fun b hb => by fin_cases b; · exact absurd rfl hb
                      · rfl) hk.symm
  have hk := k.isLt
  by_cases h4 : k.val < 4
  · rw [if_pos h4]
    rcases (by omega : k.val = 0 ∨ k.val = 1 ∨ k.val = 2 ∨ k.val = 3) with e | e | e | e
    · rw [e]; exact (row 0 (by omega) a rfl rfl e).trans ha
    · rw [e]; exact (row 1 (by omega) b rfl rfl e).trans hb
    · rw [e]; exact (row 2 (by omega) c rfl rfl e).trans hc
    · rw [e]; exact (row 3 (by omega) d rfl rfl e).trans hd
  · rw [if_neg h4]
    refine (concatenate_apply_piece (t := Edge) (0 : Fin 2) [⟨⟨2, ![1, 512]⟩, a⟩, ⟨⟨2, ![1, 512]⟩, b⟩, ⟨⟨2, ![1, 512]⟩, c⟩, ⟨⟨2, ![1, 512]⟩, d⟩, ⟨⟨2, ![4, 512]⟩, z⟩] h (ij k q) 4 (by simp) _ z rfl rfl 4 rfl (ij ⟨k.val - 4, by omega⟩ q) (fun b hb => ?_) ?_).trans (hz _)
    · fin_cases b
      · exact absurd rfl hb
      · rfl
    · show 4 + (k.val - 4) = k.val; omega

/-- Rows and rows of zeros below them. -/
theorem stack2 {n r : ℕ} (a : FVec Ideal ⟨2, ![n, 512]⟩ .f32) (z : FVec Ideal ⟨2, ![r, 512]⟩ .f32) (h : Shape.Concatenates [⟨2, ![n, 512]⟩, ⟨2, ![r, 512]⟩] Edge 0) (hz : ∀ i, z i = 0) (hn : n + r = 8) (k : Fin 8) (q : Fin 512) :
    concatenate Edge 0 [⟨⟨2, ![n, 512]⟩, a⟩, ⟨⟨2, ![r, 512]⟩, z⟩] h (ij k q) = at2 a k q := by
  have hk := k.isLt
  by_cases h4 : k.val < n
  · refine (concatenate_pair_apply_left (t := Edge) (0 : Fin 2) a z h (ij k q) rfl (ij ⟨k.val, h4⟩ q) fun b => ?_).trans (at2_fin a ⟨k.val, h4⟩ q).symm
    fin_cases b <;> rfl
  · refine (concatenate_pair_apply_right (t := Edge) (0 : Fin 2) a z h (ij k q) rfl rfl (ij ⟨k.val - n, by omega⟩ q) (fun b hb => ?_) ?_).trans ((hz _).trans (at2_past a _ _ (Nat.le_of_not_lt h4)).symm)
    · fin_cases b
      · exact absurd rfl hb
      · rfl
    · show k.val - n + n = k.val; omega

/-- Rows of zeros put before and after an array's rows. -/
theorem pad_rows {n m : ℕ} (a b : ℕ) (x : FVec Ideal ⟨2, ![n, 512]⟩ .f32) (z : (⟨0, ![]⟩ : Shape).Idx → EReal) (h : (⟨2, ![n, 512]⟩ : Shape).Pads ![a, 0] ![b, 0] ![0, 0] ⟨2, ![m, 512]⟩) (hu) (hz : z (Shape.Idx.first hu) = 0)
    (hm : n + a ≤ m) (p : ℕ) (q : Fin 512) : at2 (φ := .f32) (pad ⟨2, ![m, 512]⟩ ![a, 0] ![b, 0] ![0, 0] x z h hu) p q = if p < a then 0 else at2 x (p - a) q := by
  by_cases hp : p < m
  · refine (at2_fin (φ := .f32) _ ⟨p, hp⟩ q).trans ?_
    by_cases h0 : p < a
    · rw [if_pos h0, ← hz]
      refine pad_apply_of_not_inside _ _ _ _ _ _ _ _ (0 : Fin 2) fun hc => ?_
      have : a ≤ p := hc.1
      omega
    · rw [if_neg h0]
      by_cases h1 : p - a < n
      · refine (pad_apply_of_inside _ _ _ _ _ _ _ _ (ij ⟨p - a, h1⟩ q) fun b => ?_).trans (at2_fin x ⟨p - a, h1⟩ q).symm
        fin_cases b
        · show p = a + (p - a) * (0 + 1); omega
        · show q.val = 0 + q.val * (0 + 1); omega
      · refine Eq.trans ?_ (hz.trans (at2_past x _ _ (Nat.le_of_not_lt h1)).symm)
        refine pad_apply_of_not_inside _ _ _ _ _ _ _ _ (0 : Fin 2) fun hc => ?_
        have : (p - a) / (0 + 1) < n := hc.2.2
        simp at this
        omega
  · rw [at2_past _ _ _ (Nat.le_of_not_lt hp), if_neg (by omega), at2_past _ _ _ (by omega)]

theorem at2_add {n : ℕ} (x y : FVec Ideal ⟨2, ![n, 512]⟩ .f32) (a b : ℕ) : at2 (addf x y) a b = at2 x a b + at2 y a b := by
  unfold at2
  split
  · rfl
  · exact (add_zero 0).symm

/-- An array times a row. -/
theorem at2_mul_row {n : ℕ} (x y : FVec Ideal ⟨2, ![n, 512]⟩ .f32) (a : ℕ) (q : Fin 512) (v : EReal) (hv : ∀ p, y (ij p q) = v) : at2 (mulf x y) a q = at2 x a q * v := by
  by_cases h : a < n
  · exact ((at2_fin (mulf x y) ⟨a, h⟩ q).trans (congrArg (x (ij ⟨a, h⟩ q) * ·) (hv _))).trans (congrArg (· * v) (at2_fin x ⟨a, h⟩ q).symm)
  · rw [at2_past _ _ _ (Nat.le_of_not_lt h), at2_past _ _ _ (Nat.le_of_not_lt h), zero_mul]

/-- The taps' row `k` on every row of an array, on the host. -/
theorem host_tap {n : ℕ} (w : FVec Ideal ⟨2, ![4, 512]⟩ .f32) (k : Fin 4) (hs h1 h2 h3) (p : Fin n) (q : Fin 512) :
    broadcastInDim ⟨2, ![n, 512]⟩ ![0, 1] h3 (broadcastInDim ⟨2, ![1, 512]⟩ ![1] h2 (shapeCast ⟨1, ![512]⟩ (extractStridedSlice ⟨2, ![1, 512]⟩ ![k.val, 0] w hs) h1)) (ij p q) = at2 w k q := by
  refine Eq.trans ?_ (at2_fin w k q).symm
  refine (ValueIdx.shapeCast_1a_a_apply _ _ q).trans ?_
  refine extractStridedSlice_apply _ _ _ _ _ fun a => ?_
  fin_cases a
  · rfl
  · exact (Nat.zero_add q.val).symm

/-- Three rows of zeros and an array's columns from `o` on, read from row `k` on. -/
theorem host_before {M N n r : ℕ} (P : FVec Ideal ⟨2, ![M, N]⟩ .f32) (o k : ℕ) (z : FVec Ideal ⟨2, ![3, 512]⟩ .f32) (hz : ∀ i, z i = 0) (h1 h2) (h3 : Shape.Concatenates [⟨2, ![3, 512]⟩, ⟨2, ![n, 512]⟩] ⟨2, ![r, 512]⟩ 0) (hr : r = n + 3) (hk : k ≤ 3) (hM : M = n) (p : Fin n) (q : Fin 512) :
    extractStridedSlice ⟨2, ![n, 512]⟩ ![k, 0] (concatenate ⟨2, ![r, 512]⟩ 0 [⟨⟨2, ![3, 512]⟩, z⟩, ⟨⟨2, ![n, 512]⟩, extractStridedSlice ⟨2, ![n, 512]⟩ ![0, o] P h1⟩] h3) h2 (ij p q) = before P o (3 - k) p q := by
  have hp := p.isLt
  refine (extractStridedSlice_apply _ _ _ _ (ij ⟨k + p.val, by omega⟩ q) fun a => by fin_cases a <;> simp).trans ?_
  unfold before
  by_cases h : p.val < 3 - k
  · rw [if_pos h, ← hz (ij ⟨k + p.val, by omega⟩ q)]
    refine concatenate_pair_apply_left (t := ⟨2, ![r, 512]⟩) (0 : Fin 2) z _ h3 _ rfl _ fun b => ?_
    fin_cases b <;> rfl
  · rw [if_neg h]
    refine (concatenate_pair_apply_right (t := ⟨2, ![r, 512]⟩) (0 : Fin 2) z _ h3 _ rfl rfl (ij ⟨k + p.val - 3, by omega⟩ q) (fun b hb => ?_) ?_).trans ?_
    · fin_cases b
      · exact absurd rfl hb
      · rfl
    · show k + p.val - 3 + 3 = k + p.val; omega
    · refine at2_of P _ _ _ ?_ rfl
      show 0 + (k + p.val - 3) = p.val - (3 - k); omega

/-- A vector as a row. -/
theorem row_in (y : FVec Ideal ⟨1, ![512]⟩ .f32) (h : (⟨1, ![512]⟩ : Shape).BroadcastsInDim ⟨2, ![1, 512]⟩ (![1] : Fin 1 → Fin 2)) (p : Fin 1) (q : Fin 512) :
    broadcastInDim (s := ⟨1, ![512]⟩) ⟨2, ![1, 512]⟩ ![1] h y (ij p q) = y (ValueIdx.ix1 q) := by
  refine congrArg y (funext fun a => Fin.ext ?_)
  fin_cases a
  rfl

/-- The host's column sums, added over one row and put into a row again. -/
theorem host_row {n : ℕ} (x : FVec Ideal ⟨2, ![n, 512]⟩ .f32) (z : (⟨0, ![]⟩ : Shape).Idx → EReal) (hu) (hz : z (Shape.Idx.first hu) = 0) (h1 : (⟨2, ![n, 512]⟩ : Shape).ReducesTo [0] ⟨1, ![512]⟩) (h2)
    (h3 : (⟨2, ![1, 512]⟩ : Shape).ReducesTo [0] ⟨1, ![512]⟩) (h4 : (⟨1, ![512]⟩ : Shape).BroadcastsInDim ⟨2, ![1, 512]⟩ (![1] : Fin 1 → Fin 2)) (r : ℕ) (q : Fin 512) :
    at2 (φ := .f32) (broadcastInDim (s := ⟨1, ![512]⟩) ⟨2, ![1, 512]⟩ ![1] h4 (Host.reduceAdd (F := Ideal) (φ := .f32) (shapeCast ⟨2, ![1, 512]⟩ (Host.reduceAdd (F := Ideal) (φ := .f32) (t := ⟨1, ![512]⟩) x z h1 hu) h2) z h3 hu)) r q = if r = 0 then ∑ t ∈ Finset.range n, at2 x t q else 0 := by
  split
  · next h =>
    subst h
    refine (at2_fin (φ := .f32) _ (0 : Fin 1) q).trans ?_
    refine (row_in _ h4 0 q).trans ((host_sum (n := 1) _ z hu hz h3 q).trans ?_)
    rw [Finset.sum_range_one]
    refine (at2_fin (φ := .f32) _ (0 : Fin 1) q).trans ?_
    exact (ValueIdx.shapeCast_a_1a_apply _ _ _ _).trans (host_sum x z hu hz h1 q)
  · exact at2_past _ _ _ (by omega)

theorem at2_mul {n : ℕ} (x y : FVec Ideal ⟨2, ![n, 512]⟩ .f32) (a b : ℕ) : at2 (mulf x y) a b = at2 x a b * at2 y a b := by
  unfold at2
  split
  · rfl
  · exact (mul_zero 0).symm

end Conv

end
-- ==== Proof.ConvStep.lean ====
/- One point of the convolution's gradient: what it leaves in its three blocks, and their elements over the extended reals. -/
module

public import proofs.«01_k».proof.Proof.Whole
public import proofs.«01_k».proof.Proof.Conv
public import proofs.«01_k».proof.Proof.Gen.Kernel14Ideal.Value

@[expose] public section

set_option maxRecDepth 16384

noncomputable section

open Idealize.ShloMosaic.ValueIdx renaming ix2 → ij

namespace Cert.Kernel14Ideal.Value

open Cert.Kernel14Ideal Cert.Kernel14Ideal.Gen Idealize.ShloMosaic Idealize.ShloMosaic.TcCoe Idealize.SL.Sem
open scoped BigOperators

section Cases

variable {F : FTy → Type} [FloatOps F]

/-- A tile's part of the gradient of the layer's input … -/
def dxOf (i : grid0.Coords) (dy : Vec F S512x512 .f32) (e w : Vec F S8x512 .f32) : FVec F S512x512 .bf16 :=
  k0_pay1 (k0_pay13 dy (k0_pay7 i e) (k0_pay8 w) (k0_pay9 i dy e w) (k0_pay11 dy))

/-- … and of the taps', added to the sum so far. -/
def dwOf (i : grid0.Coords) (x dy : Vec F S512x512 .f32) (e acc : Vec F S8x512 .f32) : FVec F S8x512 .f32 :=
  k0_pay4 (k0_pay10 i x dy e) (k0_pay12 x dy (k0_pay6 i e)) (k0_pay14 x dy (k0_pay6 i e)) (k0_pay15 x dy) k0_pay16 acc

variable (c : Dev nD) (i : grid0.Coords) (a1 : Memref sig .tc .vmem S512x512 .f32) (h1 : a1.IsWhole) (a2 : Memref sig .tc .vmem S512x512 .f32) (h2 : a2.IsWhole) (a3 : Memref sig .tc .vmem S8x512 .f32) (h3 : a3.IsWhole)
  (a4 : Memref sig .tc .vmem S8x512 .f32) (h4 : a4.IsWhole) (a5 : Memref sig .tc .vmem S8x512 .f32) (h5 : a5.IsWhole) (a6 : Memref sig .tc .vmem S512x512 .bf16) (h6 : a6.IsWhole) (a7 : Memref sig .tc .vmem S8x512 .f32) (h7 : a7.IsWhole)
  (a8 : Memref sig .tc .vmem S8x512 .f32) (h8 : a8.IsWhole) (x y : Vec F S512x512 .f32) (e e' w acc acc' : Vec F S8x512 .f32)

theorem out_A (hc : cond0_0 i) : out0_A_5 c i a1 h1 a2 h2 a3 h3 a4 h4 a5 h5 a6 h6 a7 h7 a8 h8 hc x y e e' w = dxOf i y e' w
    ∧ out0_A_6 c i a1 h1 a2 h2 a3 h3 a4 h4 a5 h5 a6 h6 a7 h7 a8 h8 hc x y e e' w = dwOf i x y e k0_pay2
    ∧ out0_A_7 c i a1 h1 a2 h2 a3 h3 a4 h4 a5 h5 a6 h6 a7 h7 a8 h8 hc x y e e' w = k0_pay5 y k0_pay3 := by
  unfold out0_A_5 out0_A_6 out0_A_7
  rw [View.read_writes_eq_canon _ _ _ (fun _ => cover0_A_5 ..), View.read_writes_eq_canon _ _ _ (fun _ => cover0_A_6 ..), View.read_writes_eq_canon _ _ _ (fun _ => cover0_A_7 ..)]
  unfold kernelRun0_A
  dsimp only
  sl_unfold_words
  simp only [View.readAt_eq_ld, Memref.IsWhole.read_unread, Whole.ld, Whole.canon, Whole.readCov]
  exact ⟨rfl, rfl, trivial⟩

theorem out_B (hc : ¬cond0_0 i) : out0_B_5 c i a1 h1 a2 h2 a3 h3 a4 h4 a5 h5 a6 h6 a7 h7 a8 h8 hc x y e e' w acc acc' = dxOf i y e' w
    ∧ out0_B_6 c i a1 h1 a2 h2 a3 h3 a4 h4 a5 h5 a6 h6 a7 h7 a8 h8 hc x y e e' w acc acc' = dwOf i x y e acc
    ∧ out0_B_7 c i a1 h1 a2 h2 a3 h3 a4 h4 a5 h5 a6 h6 a7 h7 a8 h8 hc x y e e' w acc acc' = k0_pay5 y acc' := by
  unfold out0_B_5 out0_B_6 out0_B_7
  rw [View.read_writes_eq_canon _ _ _ (fun _ => cover0_B_5 ..), View.read_writes_eq_canon _ _ _ (fun _ => cover0_B_6 ..), View.read_writes_eq_canon _ _ _ (fun _ => cover0_B_7 ..)]
  unfold kernelRun0_B
  dsimp only
  sl_unfold_words
  simp only [View.readAt_eq_ld, Memref.IsWhole.read_unread, Whole.ld, Whole.canon, Whole.readCov]
  exact ⟨rfl, rfl, trivial⟩

end Cases

open MatSum (at2)
open Conv (before)

theorem zeros (s : Shape) (i : s.Idx) : broadcast s (Scalar.ofBits (F := Ideal) .f32 0x00000000#32) i = 0 := Ideal.ofBits_zero_f32

theorem first_iff : ∀ t : Fin cfg0.N, Scalar.cmpi .eq (BitVec.ofNat 32 (grid0.coords t 0).val) 0#32 = if t.val = 0 then 1#1 else 0#1 := (by decide +kernel : ∀ t : Fin grid0.N, _)
theorem last_iff : ∀ t : Fin cfg0.N, Scalar.cmpi .eq (BitVec.ofNat 32 (grid0.coords t 0).val) 15#32 = if t.val = 15 then 1#1 else 0#1 := (by decide +kernel : ∀ t : Fin grid0.N, _)

/-- Before the first tile come zeros … -/
theorem pay6_at (t : Fin cfg0.N) (e : FVec Ideal S8x512 .f32) (i : S8x512.Idx) : k0_pay6 (F := Ideal) (grid0.coords t) e i = if t.val = 0 then 0 else e i := by
  show Scalar.select (Scalar.cmpi .eq (BitVec.ofNat 32 (grid0.coords t 0).val) 0#32) (broadcast S8x512 (Scalar.ofBits (F := Ideal) .f32 0x00000000#32)) e i = _
  rw [first_iff t]
  split
  · exact zeros _ i
  · rfl

/-- … and after the last one. -/
theorem pay7_at (t : Fin cfg0.N) (e : FVec Ideal S8x512 .f32) (i : S8x512.Idx) : k0_pay7 (F := Ideal) (grid0.coords t) e i = if t.val = 15 then 0 else e i := by
  show Scalar.select (Scalar.cmpi .eq (BitVec.ofNat 32 (grid0.coords t 0).val) 15#32) (broadcast S8x512 (Scalar.ofBits (F := Ideal) .f32 0x00000000#32)) e i = _
  rw [last_iff t]
  split
  · exact zeros _ i
  · rfl

/-- The gradient of the layer's input at time `n` and channel `q`, from the cotangent's rows and the taps. -/
def dxAt {M : ℕ} (D : FVec Ideal ⟨2, ![M, 512]⟩ .f32) (w : ℕ → ℕ → EReal) (n q : ℕ) : EReal :=
  at2 D n q * w 3 q + at2 D (n + 3) q * w 0 q + at2 D (n + 2) q * w 1 q + at2 D (n + 1) q * w 2 q

section Payloads

variable (t : Fin cfg0.N) {P : FVec Ideal S8192x4224 .f32} {D : FVec Ideal S8192x512 .f32} {x y : FVec Ideal S512x512 .f32} {e e' : FVec Ideal S8x512 .f32}

theorem dxOf_at (w : FVec Ideal S8x512 .f32) (hy : ∀ p q : Fin 512, y (ij p q) = at2 D (t.val * 512 + p) q) (he : ∀ (r : Fin 8) (q : Fin 512), k0_pay7 (F := Ideal) (grid0.coords t) e' (ij r q) = at2 D ((t.val + 1) * 512 + r) q)
    (p q : Fin 512) : dxOf (F := Ideal) (grid0.coords t) y e' w (ij p q) = dxAt D (at2 w) (t.val * 512 + p) q := by
  have h : dxOf (F := Ideal) (grid0.coords t) y e' w (ij p q) =
      y (ij p q) * broadcastTo S512x512 (extractStridedSlice S1x512 ![3, 0] (k0_pay8 (F := Ideal) w) slices_S8x512_o3_0_S1x512) broadcasts_S1x512_S512x512 (ij p q)
      + Conv.late 509#32 5#32 y (k0_pay7 (F := Ideal) (grid0.coords t) e') (ij p q) * broadcastTo S512x512 (extractStridedSlice S1x512 ![0, 0] (k0_pay8 (F := Ideal) w) slices_S8x512_o0_0_S1x512) broadcasts_S1x512_S512x512 (ij p q)
      + Conv.late 510#32 6#32 y (k0_pay7 (F := Ideal) (grid0.coords t) e') (ij p q) * broadcastTo S512x512 (extractStridedSlice S1x512 ![1, 0] (k0_pay8 (F := Ideal) w) slices_S8x512_o1_0_S1x512) broadcasts_S1x512_S512x512 (ij p q)
      + Conv.late 511#32 7#32 y (k0_pay7 (F := Ideal) (grid0.coords t) e') (ij p q) * broadcastTo S512x512 (extractStridedSlice S1x512 ![2, 0] (k0_pay8 (F := Ideal) w) slices_S8x512_o2_0_S1x512) broadcasts_S1x512_S512x512 (ij p q) := rfl
  have h8 : k0_pay8 (F := Ideal) w = w := shapeCast_self _ _
  rw [h, h8, hy, Conv.late_after D t.val hy he (w := 3) rfl rfl (by decide) (by decide), Conv.late_after D t.val hy he (w := 2) rfl rfl (by decide) (by decide), Conv.late_after D t.val hy he (w := 1) rfl rfl (by decide) (by decide)]
  exact congrArg₂ (· + ·) (congrArg₂ (· + ·) (congrArg₂ (· + ·) (congrArg _ (Conv.tap_at w 3 _ _ p q)) (congrArg _ (Conv.tap_at w 0 _ _ p q))) (congrArg _ (Conv.tap_at w 1 _ _ p q))) (congrArg _ (Conv.tap_at w 2 _ _ p q))

/-- Time `n`'s part of the gradient of tap `k`. -/
def dwAt {M : ℕ} (P : FVec Ideal S8192x4224 .f32) (D : FVec Ideal ⟨2, ![M, 512]⟩ .f32) (k q n : ℕ) : EReal := at2 D n q * before P 3584 (3 - k) n q

theorem dwOf_at (hx : ∀ p q : Fin 512, x (ij p q) = at2 P (t.val * 512 + p) (3584 + q)) (hy : ∀ p q : Fin 512, y (ij p q) = at2 D (t.val * 512 + p) q)
    (he : ∀ (r : Fin 8) (q : Fin 512), k0_pay6 (F := Ideal) (grid0.coords t) e (ij r q) = if t.val = 0 then 0 else at2 P (t.val * 512 - 8 + r) (3584 + q)) (acc : FVec Ideal S8x512 .f32) (k : Fin 8) (q : Fin 512) :
    dwOf (F := Ideal) (grid0.coords t) x y e acc (ij k q) = acc (ij k q) + if k.val < 4 then ∑ p ∈ Finset.range 512, dwAt P D k q (t.val * 512 + p) else 0 := by
  have term : ∀ (W : BitVec 32) (w : ℕ) (hW : W = BitVec.ofNat 32 w) (h0 : 0 < w) (hw : w < 8) (p : Fin 512), mulf y (Conv.early W x (k0_pay6 (F := Ideal) (grid0.coords t) e)) (ij p q) = at2 D (t.val * 512 + p) q * before P 3584 w (t.val * 512 + p) q :=
    fun W w hW h0 hw p => congrArg₂ (· * ·) (hy p q) (Conv.early_before P 3584 t.val hx he hW h0 hw p q)
  refine congrArg₂ (· + ·) (congrFun (shapeCast_self acc _) _) ?_
  refine Conv.stack _ _ _ _ _ _ q (fun k => ∑ p ∈ Finset.range 512, dwAt P D k q (t.val * 512 + p)) (fun r => zeros _ _) ?_ ?_ ?_ ?_ k
  · exact Conv.tile_sum_of _ _ _ _ _ q (fun p => dwAt P D 0 q (t.val * 512 + p)) (term 3#32 3 rfl (by decide) (by decide))
  · exact Conv.tile_sum_of _ _ _ _ _ q (fun p => dwAt P D 1 q (t.val * 512 + p)) (term 2#32 2 rfl (by decide) (by decide))
  · exact Conv.tile_sum_of _ _ _ _ _ q (fun p => dwAt P D 2 q (t.val * 512 + p)) (term 1#32 1 rfl (by decide) (by decide))
  · exact Conv.tile_sum_of _ _ _ _ _ q (fun p => dwAt P D 3 q (t.val * 512 + p)) fun p => congrArg₂ (· * ·) (hy p q) ((hx p q).trans (if_neg (Nat.not_lt_zero _)).symm)

theorem pay5_at (hy : ∀ p q : Fin 512, y (ij p q) = at2 D (t.val * 512 + p) q) (acc : FVec Ideal S8x512 .f32) (k : Fin 8) (q : Fin 512) :
    k0_pay5 (F := Ideal) y acc (ij k q) = acc (ij k q) + if k.val < 1 then ∑ p ∈ Finset.range 512, at2 D (t.val * 512 + p) q else 0 := by
  refine congrArg₂ (· + ·) (congrFun (shapeCast_self acc _) _) ?_
  refine (Conv.stack2 (n := 1) (r := 7) _ _ concatenates_S1x512_S7x512_S8x512_d0 (fun i => zeros _ i) rfl k q).trans ?_
  by_cases h : k.val < 1
  · rw [if_pos h, show k.val = (0 : Fin 1).val by omega, MatSum.at2_fin]
    exact Conv.tile_sum_of _ _ _ _ _ q (fun p => at2 D (t.val * 512 + p) q) fun p => hy p q
  · rw [if_neg h]; exact Conv.at2_past _ _ _ (by omega)

end Payloads

end Cert.Kernel14Ideal.Value

end
-- ==== Proof.ConvGrad.lean ====
/- The gradient of the short convolution over the extended reals: the kernel's tiles make up the gradient of the layer's input, and its two sums the gradients of the taps and of the bias; the reference, which shifts whole arrays by padding them, leaves the same. -/
module

public import proofs.«01_k».proof.Proof.ConvStep
public import proofs.«01_k».proof.Proof.Gen.Reference14Ideal.Run
public import proofs.«01_k».proof.Defs
public import Idealize.ShloMosaic.Lib.Quiescent

@[expose] public section

set_option maxRecDepth 16384

noncomputable section

open Idealize.ShloMosaic.ValueIdx renaming ix2 → ij

namespace Cert.Kernel14Ideal.Value

open Cert.Kernel14Ideal Cert.Kernel14Ideal.Gen Idealize.ShloMosaic Idealize.ShloMosaic.TcCoe Idealize.SL.Sem
open scoped BigOperators
open MatSum (at2 at2_fin at2_of)

variable (m : (ℓ : Loc nD τ sig) → Buf (Elt Ideal) ℓ) (c : Dev nD)

/-- The array the convolution reads, the cotangent, and the taps. -/
abbrev arrP : FVec Ideal S8192x4224 .f32 := m ((c : Thread nD τ).loc main_arg0)
abbrev arrD : FVec Ideal S8192x512 .f32 := m ((c : Thread nD τ).loc main_arg1)
abbrev taps : FVec Ideal S4x512 .f32 := m ((c : Thread nD τ).loc main_arg2)

/-- The three gradients. -/
def dxAll : FVec Ideal S8192x512 .bf16 := fun i => dxAt (arrD m c) (at2 (taps m c)) (i 0).val (i 1).val
def dwAll : FVec Ideal S8x512 .f32 := fun i => if (i 0).val < 4 then ∑ n ∈ Finset.range 8192, dwAt (arrP m c) (arrD m c) (i 0).val (i 1).val n else 0
def dbAll : FVec Ideal S8x512 .f32 := fun i => if (i 0).val < 1 then ∑ n ∈ Finset.range 8192, at2 (arrD m c) n (i 1).val else 0

theorem index0 : ∀ t : Fin cfg0.N, win0_0.index t (0 : Fin 2) = t.val ∧ win0_0.index t (1 : Fin 2) = 7 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val * 64 - 1 ∧ win0_2.index t (1 : Fin 2) = 7 := (by decide +kernel : ∀ t : Fin grid0.N, _)
theorem index3 : ∀ t : Fin cfg0.N, (t.val < 15 → win0_3.index t (0 : Fin 2) = (t.val + 1) * 64) ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)

theorem lt16 (t : Fin cfg0.N) : t.val < 16 := t.isLt.trans_eq N_0

theorem x_at (t : Fin cfg0.N) (p q : Fin 512) : X0_0 m c t (ij p q) = at2 (arrP m c) (t.val * 512 + p) (3584 + q) := by
  unfold X0_0 Pipeline.Window.fill
  rw [dif_pos (moved0_0 t _)]
  show V m c main_arg0 ((win0_0.rect t).emb _) = _
  rw [V_main_arg0]
  refine at2_of (arrP m c) _ _ _ ?_ ?_
  · refine (Pipeline.Window.rect_emb_val win0_0 t _ 0).trans ?_
    rw [(index0 t).1]; rfl
  · refine (Pipeline.Window.rect_emb_val win0_0 t _ 1).trans ?_
    rw [(index0 t).2]; rfl

theorem e_at (t : Fin cfg0.N) (r : Fin 8) (q : Fin 512) : k0_pay6 (F := Ideal) (grid0.coords t) (X0_2 m c t) (ij r q) = if t.val = 0 then 0 else at2 (arrP m c) (t.val * 512 - 8 + r) (3584 + q) := by
  rw [pay6_at]
  split
  · rfl
  · unfold X0_2 Pipeline.Window.fill
    rw [dif_pos (moved0_2 t _)]
    show V m c main_arg0 ((win0_2.rect t).emb _) = _
    rw [V_main_arg0]
    refine at2_of (arrP m c) _ _ _ ?_ ?_
    · refine (Pipeline.Window.rect_emb_val win0_2 t _ 0).trans ?_
      rw [(index2 t).1]
      show (t.val * 64 - 1) * 8 + r.val = _; omega
    · refine (Pipeline.Window.rect_emb_val win0_2 t _ 1).trans ?_
      rw [(index2 t).2]; rfl

theorem y_at (t : Fin cfg0.N) (p q : Fin 512) : (iblk m c 1 t : FVec Ideal S512x512 .f32) (ij p q) = at2 (arrD m c) (t.val * 512 + p) q := by
  unfold iblk
  rw [View.read_apply]
  show V m c main_arg1 _ = _
  rw [V_main_arg1]
  refine at2_of (arrD m c) _ _ _ ?_ ?_
  · show win0_1.index t 0 * 512 + 1 * p.val = _; rw [(index1 t).1, one_mul]
  · show win0_1.index t 1 * 512 + 1 * q.val = _; rw [(index1 t).2, zero_mul, zero_add, one_mul]

theorem e'_at (t : Fin cfg0.N) (r : Fin 8) (q : Fin 512) : k0_pay7 (F := Ideal) (grid0.coords t) (iblk m c 3 t) (ij r q) = at2 (arrD m c) ((t.val + 1) * 512 + r) q := by
  have ht := lt16 t
  rw [pay7_at]
  split
  · exact (Conv.at2_past _ _ _ (by omega)).symm
  · unfold iblk
    rw [View.read_apply]
    show V m c main_arg1 _ = _
    rw [V_main_arg1]
    refine at2_of (arrD m c) _ _ _ ?_ ?_
    · show win0_3.index t 0 * 8 + 1 * r.val = _; rw [(index3 t).1 (by omega)]; omega
    · show win0_3.index t 1 * 512 + 1 * q.val = _; rw [(index3 t).2, zero_mul, zero_add, one_mul]

/-- The taps, with four rows of zeros below them. -/
theorem w_at (t : Fin cfg0.N) (k : Fin 8) (q : Fin 512) : at2 (φ := .f32) (iblk m c 4 t : FVec Ideal S8x512 .f32) k q = at2 (taps m c) k q := by
  rw [at2_fin]
  unfold iblk
  rw [View.read_apply]
  show V m c main_v1 _ = _
  have hV : V m c main_v1 = concatenate S8x512 0 [⟨S4x512, taps m c⟩, ⟨S4x512, broadcastInDim S4x512 ![] bcast_S_S4x512 (constant (F := Ideal) S_ .f32 0x00000000#32)⟩] concatenates_S4x512_S4x512_S8x512_d0 := by
    rfl
  rw [hV]
  refine Eq.trans (congrArg _ ?_) (Conv.stack2 (n := 4) (r := 4) (taps m c) _ concatenates_S4x512_S4x512_S8x512_d0 (fun i => Ideal.ofBits_zero_f32) rfl k q)
  funext a
  refine Fin.ext ?_
  match a with
  | ⟨0, _⟩ => show win0_4.index t 0 * 8 + 1 * k.val = k.val; rw [(index4 t).1, zero_mul, zero_add, one_mul]
  | ⟨1, _⟩ => show win0_4.index t 1 * 512 + 1 * q.val = q.val; rw [(index4 t).2, zero_mul, zero_add, one_mul]

/-- What a point leaves of the gradient of the layer's input. -/
theorem outs5_at (t : Fin cfg0.N) (p q : Fin 512) : (outsAt0 m c t.val t.isLt).1 (ij p q) = dxAt (arrD m c) (at2 (taps m c)) (t.val * 512 + p) q := by
  have h : (outsAt0 m c t.val t.isLt).1 = dxOf (F := Ideal) (grid0.coords t) (iblk m c 1 t) (iblk m c 3 t) (iblk m c 4 t) := by
    by_cases h0 : t.val % 16 = 0
    · rw [outsAt0_A m c t h0]; dsimp only; exact (out_A ..).1
    · rw [outsAt0_B m c t h0]; dsimp only; exact (out_B ..).1
  rw [h, dxOf_at t _ (y_at m c t) (e'_at m c t)]
  exact congrArg₂ (· + ·) (congrArg₂ (· + ·) (congrArg₂ (· + ·) (congrArg _ (w_at m c t 3 q)) (congrArg _ (w_at m c t 0 q))) (congrArg _ (w_at m c t 1 q))) (congrArg _ (w_at m c t 2 q))

/-- The sums after each point. -/
theorem outs6_at (k : Fin 8) (q : Fin 512) (n : ℕ) (h : n < cfg0.N) :
    (outsAt0 m c n h).2.1 (ij k q) = ∑ s ∈ Finset.range (n % 16 + 1), if k.val < 4 then ∑ p ∈ Finset.range 512, dwAt (arrP m c) (arrD m c) k q (s * 512 + p) else 0 := by
  refine MatSum.fold 16 (by decide) (fun n h => (outsAt0 m c n h).2.1 (ij k q)) (fun _ s => if k.val < 4 then ∑ p ∈ Finset.range 512, dwAt (arrP m c) (arrD m c) k q (s * 512 + p) else 0) (fun n h h0 => ?_) (fun n h h0 => ?_) n h
  · have hn := lt16 ⟨n, h⟩
    refine (congrFun ?_ _).trans ((dwOf_at ⟨n, h⟩ (x_at m c _) (y_at m c _) (e_at m c _) (k0_pay2 (F := Ideal)) k q).trans ?_)
    · rw [outsAt0_A m c ⟨n, h⟩ h0]; dsimp only; exact (out_A ..).2.1
    rw [show k0_pay2 (F := Ideal) (ij k q) = 0 from zeros S8x512 (ij k q), zero_add]
    dsimp only at hn
    obtain rfl : n = 0 := by omega
    rfl
  · have hn := lt16 ⟨n + 1, h⟩
    rw [Nat.mod_eq_of_lt hn]
    refine (congrFun ?_ _).trans (dwOf_at ⟨n + 1, h⟩ (x_at m c _) (y_at m c _) (e_at m c _) (outsAt0 m c n (Nat.lt_of_succ_lt h)).2.1 k q)
    rw [outsAt0_B m c ⟨n + 1, h⟩ h0]; dsimp only; exact (out_B ..).2.1

theorem outs7_at (k : Fin 8) (q : Fin 512) (n : ℕ) (h : n < cfg0.N) :
    (outsAt0 m c n h).2.2 (ij k q) = ∑ s ∈ Finset.range (n % 16 + 1), if k.val < 1 then ∑ p ∈ Finset.range 512, at2 (arrD m c) (s * 512 + p) q else 0 := by
  refine MatSum.fold 16 (by decide) (fun n h => (outsAt0 m c n h).2.2 (ij k q)) (fun _ s => if k.val < 1 then ∑ p ∈ Finset.range 512, at2 (arrD m c) (s * 512 + p) q else 0) (fun n h h0 => ?_) (fun n h h0 => ?_) n h
  · have hn := lt16 ⟨n, h⟩
    refine (congrFun ?_ _).trans ((pay5_at ⟨n, h⟩ (y_at m c _) (k0_pay3 (F := Ideal)) k q).trans ?_)
    · rw [outsAt0_A m c ⟨n, h⟩ h0]; dsimp only; exact (out_A ..).2.2
    rw [show k0_pay3 (F := Ideal) (ij k q) = 0 from zeros S8x512 (ij k q), zero_add]
    dsimp only at hn
    obtain rfl : n = 0 := by omega
    rfl
  · have hn := lt16 ⟨n + 1, h⟩
    rw [Nat.mod_eq_of_lt hn]
    refine (congrFun ?_ _).trans (pay5_at ⟨n + 1, h⟩ (y_at m c _) (outsAt0 m c n (Nat.lt_of_succ_lt h)).2.2 k q)
    rw [outsAt0_B m c ⟨n + 1, h⟩ h0]; dsimp only; exact (out_B ..).2.2

/-- Sixteen tiles' sums are the whole sum. -/
theorem tiles (b : Prop) [Decidable b] (f : ℕ → EReal) : (∑ s ∈ Finset.range 16, if b then ∑ p ∈ Finset.range 512, f (s * 512 + p) else 0) = if b then ∑ n ∈ Finset.range 8192, f n else 0 := by
  split
  · exact MatSum.blocks f 512 16
  · exact Finset.sum_const_zero

theorem flushed5_eq (t : Fin cfg0.N) : (dats m 0 c).flushed 5 t = ((cfg0.win 5).blk t).view.read (Elt Ideal) (dxAll m c) := by
  rw [flushed5]
  funext y
  have h0 : (y 0).val < 512 := (y 0).isLt
  have h1 : (y 1).val < 512 := (y 1).isLt
  have e : (cfg0.win 5).xinj (grid0.coords t) y = ij (⟨(y 0).val, h0⟩ : Fin 512) (⟨(y 1).val, h1⟩ : Fin 512) := by
    funext a; match a with
    | ⟨0, _⟩ => rfl
    | ⟨1, _⟩ => rfl
  show (outsAt0 m c t.val t.isLt).1 ((cfg0.win 5).xinj (grid0.coords t) y) = dxAt (arrD m c) (at2 (taps m c)) (win0_5.index t 0 * 512 + 1 * (y 0).val) (win0_5.index t 1 * 512 + 1 * (y 1).val)
  rw [e, (index5 t).1, (index5 t).2, one_mul, one_mul, zero_mul, zero_add]
  exact outs5_at m c t _ _

theorem covered5 (i : S8192x512.Idx) : ∃ t : Fin cfg0.N, (cfg0.win 5).flush t = true ∧ i ∈ ((cfg0.win 5).blk t).view.set := by
  have h0 : (i 0).val < 8192 := (i 0).isLt
  have h1 : (i 1).val < 512 := (i 1).isLt
  have ht : (i 0).val / 512 < cfg0.N := by rw [show cfg0.N = 16 from N_0]; omega
  refine ⟨⟨_, ht⟩, flush0_5 _, ?_⟩
  show i ∈ ((View.whole main_v2_0).slice (win0_5.rect ⟨_, ht⟩)).set
  rw [View.set_slice_whole, Rect.mem_set_unit]
  intro a; match a with
  | ⟨0, _⟩ => show win0_5.index ⟨_, ht⟩ 0 * 512 ≤ (i 0).val ∧ (i 0).val < win0_5.index ⟨_, ht⟩ 0 * 512 + 512; rw [(index5 ⟨_, ht⟩).1]; dsimp only; omega
  | ⟨1, _⟩ => show win0_5.index ⟨_, ht⟩ 1 * 512 ≤ (i 1).val ∧ (i 1).val < win0_5.index ⟨_, ht⟩ 1 * 512 + 512; rw [(index5 ⟨_, ht⟩).2]; dsimp only; omega

theorem final5 : (dats m 0 c).arrAt 5 cfg0.N = dxAll m c := (dats m 0 c).arrAt_eq_of_cover 5 _ (fun t _ => flushed5_eq m c t) covered5

theorem last_lt : 15 < cfg0.N := by rw [show cfg0.N = 16 from N_0]; omega

theorem index6 : ∀ t : Fin cfg0.N, (win0_6.index t (0 : Fin 2) = 0 ∧ win0_6.index t (1 : Fin 2) = 0) ∧ win0_7.index t (0 : Fin 2) = 0 ∧ win0_7.index t (1 : Fin 2) = 0 := (by decide +kernel : ∀ t : Fin grid0.N, _)

theorem final6 : (dats m 0 c).arrAt 6 cfg0.N = dwAll m c := by
  refine (dats m 0 c).arrAt_eq_of_cover 6 _ (fun t hf => ?_) fun i => ⟨⟨15, last_lt⟩, (flush0_6 _).mpr rfl, ?_⟩
  · rw [flushed6]
    funext y
    have h0 : (y 0).val < 8 := (y 0).isLt
    have h1 : (y 1).val < 512 := (y 1).isLt
    have e : (cfg0.win 6).xinj (grid0.coords t) y = ij (⟨(y 0).val, h0⟩ : Fin 8) (⟨(y 1).val, h1⟩ : Fin 512) := by
      funext a; match a with
      | ⟨0, _⟩ => rfl
      | ⟨1, _⟩ => rfl
    have ei : ((cfg0.win 6).blk t).view.read (Elt Ideal) (dwAll m c) y = dwAll m c (ij (⟨(y 0).val, h0⟩ : Fin 8) (⟨(y 1).val, h1⟩ : Fin 512)) := by
      rw [View.read_apply]
      refine congrArg (dwAll m c) (funext fun a => Fin.ext ?_)
      match a with
      | ⟨0, _⟩ => show win0_6.index t 0 * 8 + 1 * (y 0).val = _; rw [(index6 t).1.1, zero_mul, zero_add, one_mul]
      | ⟨1, _⟩ => show win0_6.index t 1 * 512 + 1 * (y 1).val = _; rw [(index6 t).1.2, zero_mul, zero_add, one_mul]
    rw [ei]
    show (outsAt0 m c t.val t.isLt).2.1 ((cfg0.win 6).xinj (grid0.coords t) y) = _
    rw [e, outs6_at, (flush0_6 t).mp hf]
    exact tiles ((y 0).val < 4) fun n => dwAt (arrP m c) (arrD m c) (y 0).val (y 1).val n
  · have h0 : (i 0).val < 8 := (i 0).isLt
    have h1 : (i 1).val < 512 := (i 1).isLt
    show i ∈ ((View.whole main_v2_1).slice (win0_6.rect ⟨15, last_lt⟩)).set
    rw [View.set_slice_whole, Rect.mem_set_unit]
    intro a; match a with
    | ⟨0, _⟩ => show win0_6.index ⟨15, last_lt⟩ 0 * 8 ≤ (i 0).val ∧ (i 0).val < win0_6.index ⟨15, last_lt⟩ 0 * 8 + 8; rw [(index6 _).1.1]; omega
    | ⟨1, _⟩ => show win0_6.index ⟨15, last_lt⟩ 1 * 512 ≤ (i 1).val ∧ (i 1).val < win0_6.index ⟨15, last_lt⟩ 1 * 512 + 512; rw [(index6 _).1.2]; omega

theorem final7 : (dats m 0 c).arrAt 7 cfg0.N = dbAll m c := by
  refine (dats m 0 c).arrAt_eq_of_cover 7 _ (fun t hf => ?_) fun i => ⟨⟨15, last_lt⟩, (flush0_7 _).mpr rfl, ?_⟩
  · rw [flushed7]
    funext y
    have h0 : (y 0).val < 8 := (y 0).isLt
    have h1 : (y 1).val < 512 := (y 1).isLt
    have e : (cfg0.win 7).xinj (grid0.coords t) y = ij (⟨(y 0).val, h0⟩ : Fin 8) (⟨(y 1).val, h1⟩ : Fin 512) := by
      funext a; match a with
      | ⟨0, _⟩ => rfl
      | ⟨1, _⟩ => rfl
    have ei : ((cfg0.win 7).blk t).view.read (Elt Ideal) (dbAll m c) y = dbAll m c (ij (⟨(y 0).val, h0⟩ : Fin 8) (⟨(y 1).val, h1⟩ : Fin 512)) := by
      rw [View.read_apply]
      refine congrArg (dbAll m c) (funext fun a => Fin.ext ?_)
      match a with
      | ⟨0, _⟩ => show win0_7.index t 0 * 8 + 1 * (y 0).val = _; rw [(index6 t).2.1, zero_mul, zero_add, one_mul]
      | ⟨1, _⟩ => show win0_7.index t 1 * 512 + 1 * (y 1).val = _; rw [(index6 t).2.2, zero_mul, zero_add, one_mul]
    rw [ei]
    show (outsAt0 m c t.val t.isLt).2.2 ((cfg0.win 7).xinj (grid0.coords t) y) = _
    rw [e, outs7_at, (flush0_7 t).mp hf]
    exact tiles ((y 0).val < 1) fun n => at2 (arrD m c) n (y 1).val
  · have h0 : (i 0).val < 8 := (i 0).isLt
    have h1 : (i 1).val < 512 := (i 1).isLt
    show i ∈ ((View.whole main_v2_2).slice (win0_7.rect ⟨15, last_lt⟩)).set
    rw [View.set_slice_whole, Rect.mem_set_unit]
    intro a; match a with
    | ⟨0, _⟩ => show win0_7.index ⟨15, last_lt⟩ 0 * 8 ≤ (i 0).val ∧ (i 0).val < win0_7.index ⟨15, last_lt⟩ 0 * 8 + 8; rw [(index6 _).2.1]; omega
    | ⟨1, _⟩ => show win0_7.index ⟨15, last_lt⟩ 1 * 512 ≤ (i 1).val ∧ (i 1).val < win0_7.index ⟨15, last_lt⟩ 1 * 512 + 512; rw [(index6 _).2.2]; omega

end Cert.Kernel14Ideal.Value

namespace Cert.ConvGrad

open Cert.Kernel14Ideal.Value Idealize.ShloMosaic Idealize.ShloMosaic.TcCoe Idealize.SL.Sem
open scoped BigOperators
open MatSum (at2 at2_fin at2_of)
open Cert.Reference14Ideal Cert.Reference14Ideal.Gen

/-- The frame of the reference. -/
theorem frame_reference : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩) (Cert.Reference14Ideal.Value.run m ρ)

theorem zero_f : (constant (F := Ideal) S_ .f32 0x00000000#32) (Shape.Idx.first h_S_) = 0 := Ideal.ofBits_zero_f32

theorem zero_i : (sitofp (F := Ideal) .f32 (constantI S_ 32 0#32)) (Shape.Idx.first h_S_) = 0 := by
  show (((0#32 : BitVec 32).toInt : ℝ) : EReal) = 0
  simp

section Reference

variable (P : FVec Ideal S8192x4224 .f32) (D : FVec Ideal S8192x512 .f32) (T : FVec Ideal S4x512 .f32)

/-- The cotangent times the tap of row `k`. -/
def scaled (k : Fin 4) (hs : S4x512.Slices ![k.val, 0] S1x512) (hD : S8192x512.ShapeCasts S8192x512) : FVec Ideal S8192x512 .f32 :=
  mulf (shapeCast S8192x512 D hD) (broadcastInDim S8192x512 ![0, 1] bcast_S1x512_S8192x512_0_1 (broadcastInDim S1x512 ![1] bcast_S512_S1x512_1 (shapeCast S512 (extractStridedSlice S1x512 ![k.val, 0] T hs) shapeCasts_S1x512_S512)))

theorem scaled_at (k : Fin 4) (hs : S4x512.Slices ![k.val, 0] S1x512) (hD : S8192x512.ShapeCasts S8192x512) (n : ℕ) (q : Fin 512) : at2 (scaled D T k hs hD) n q = at2 D n q * at2 T k q := by
  unfold scaled
  rw [shapeCast_self]
  exact Conv.at2_mul_row D _ n q _ fun p => Conv.host_tap T k _ _ _ _ p q

theorem dx_ref (hD : S8192x512.ShapeCasts S8192x512) : truncf (F := Ideal) .bf16 (extractStridedSlice S8192x512 ![3, 0] (addf (addf (addf (pad S8195x512 ![2, 0] ![1, 0] ![0, 0] (scaled D T 2 slices_S4x512_S1x512_2_0 hD) (constant S_ .f32 0x00000000#32) pads_S8192x512_S8195x512_210_000 h_S_) (pad S8195x512 ![1, 0] ![2, 0] ![0, 0] (scaled D T 1 slices_S4x512_S1x512_1_0 hD) (constant S_ .f32 0x00000000#32) pads_S8192x512_S8195x512_120_000 h_S_)) (pad S8195x512 ![0, 0] ![3, 0] ![0, 0] (scaled D T 0 slices_S4x512_S1x512_0_0 hD) (constant S_ .f32 0x00000000#32) pads_S8192x512_S8195x512_030_000 h_S_)) (pad S8195x512 ![3, 0] ![0, 0] ![0, 0] (scaled D T 3 slices_S4x512_S1x512_3_0 hD) (constant S_ .f32 0x00000000#32) pads_S8192x512_S8195x512_300_000 h_S_)) slices_S8195x512_S8192x512_3_0) bitsLt_bf16_f32
    = fun i => dxAt D (at2 T) (i 0).val (i 1).val := by
  funext i
  obtain ⟨p, q, rfl⟩ : ∃ (p : Fin 8192) (q : Fin 512), i = ij p q := ⟨i 0, i 1, ValueIdx.eq_ix2 i⟩
  have hp := p.isLt
  have tr : ∀ (X : FVec Ideal S8192x512 .f32) i, truncf (F := Ideal) .bf16 X bitsLt_bf16_f32 i = X i := fun _ _ => rfl
  rw [tr]
  show _ = dxAt D (at2 T) p.val q.val
  refine (extractStridedSlice_apply _ _ _ _ (ij ⟨3 + p.val, by omega⟩ q) fun a => by fin_cases a <;> simp).trans ?_
  refine (at2_fin (φ := .f32) _ ⟨3 + p.val, by omega⟩ q).symm.trans ?_
  rw [Conv.at2_add, Conv.at2_add, Conv.at2_add]
  rw [Conv.pad_rows (n := 8192) (m := 8195) 2 1 _ _ _ _ zero_f (by decide), Conv.pad_rows (n := 8192) (m := 8195) 1 2 _ _ _ _ zero_f (by decide), Conv.pad_rows (n := 8192) (m := 8195) 0 3 _ _ _ _ zero_f (by decide), Conv.pad_rows (n := 8192) (m := 8195) 3 0 _ _ _ _ zero_f (by decide)]
  rw [scaled_at, scaled_at, scaled_at, scaled_at, if_neg (by dsimp only; omega), if_neg (by dsimp only; omega), if_neg (by dsimp only; omega), if_neg (by dsimp only; omega)]
  unfold dxAt
  dsimp only
  rw [show 3 + p.val - 2 = p.val + 1 by omega, show 3 + p.val - 1 = p.val + 2 by omega, show 3 + p.val - 0 = p.val + 3 by omega, show 3 + p.val - 3 = p.val by omega]
  show at2 D (p.val + 1) q * at2 T 2 q + at2 D (p.val + 2) q * at2 T 1 q + at2 D (p.val + 3) q * at2 T 0 q + at2 D p.val q * at2 T 3 q = _
  ac_rfl

/-- The column sums of the array the convolution reads, from row `k` on with three rows of zeros before it, times the cotangent. -/
def sums (k : Fin 4) (hs : S8195x512.Slices ![k.val, 0] S8192x512) (hD : S8192x512.ShapeCasts S8192x512) : FVec Ideal S1x512 .f32 :=
  broadcastInDim S1x512 ![1] bcast_S512_S1x512_1 (Host.reduceAdd (shapeCast S1x512 (Host.reduceAdd (mulf (extractStridedSlice S8192x512 ![k.val, 0] (concatenate S8195x512 0 [⟨S3x512, (broadcastInDim S3x512 ![] bcast_S_S3x512 (constant S_ .f32 0x00000000#32))⟩, ⟨S8192x512, (extractStridedSlice S8192x512 ![0, 3584] P slices_S8192x4224_S8192x512_0_3584)⟩] concatenates_S3x512_S8192x512_S8195x512_d0) hs) (shapeCast S8192x512 D hD)) (constant S_ .f32 0x00000000#32) reducesTo_S8192x512_S512_d0 h_S_) shapeCasts_S512_S1x512) (constant S_ .f32 0x00000000#32) reducesTo_S1x512_S512_d0 h_S_)

theorem sums_at (k : Fin 4) (hs : S8195x512.Slices ![k.val, 0] S8192x512) (hD : S8192x512.ShapeCasts S8192x512) (r : ℕ) (q : Fin 512) : at2 (sums P D k hs hD) r q = if r = 0 then ∑ n ∈ Finset.range 8192, dwAt P D k q n else 0 := by
  have hk := k.isLt
  unfold sums
  rw [shapeCast_self]
  refine (Conv.host_row _ _ h_S_ zero_f _ _ _ _ r q).trans ?_
  refine congrArg (fun v : EReal => if r = 0 then v else 0) (Finset.sum_congr rfl fun n hn => ?_)
  rw [Conv.at2_mul]
  refine (mul_comm _ _).trans (congrArg (at2 D n q * ·) ?_)
  refine (at2_fin (φ := .f32) _ ⟨n, Finset.mem_range.mp hn⟩ q).trans ?_
  exact Conv.host_before P 3584 k.val _ (fun i => Ideal.ofBits_zero_f32) _ _ _ rfl (by omega) rfl ⟨n, Finset.mem_range.mp hn⟩ q

theorem dw_ref (hD : S8192x512.ShapeCasts S8192x512) : pad S8x512 ![0, 0] ![4, 0] ![0, 0] (addf (addf (addf (pad S4x512 ![2, 0] ![1, 0] ![0, 0] (sums P D 2 slices_S8195x512_S8192x512_2_0 hD) (constant S_ .f32 0x00000000#32) pads_S1x512_S4x512_210_000 h_S_) (pad S4x512 ![1, 0] ![2, 0] ![0, 0] (sums P D 1 slices_S8195x512_S8192x512_1_0 hD) (constant S_ .f32 0x00000000#32) pads_S1x512_S4x512_120_000 h_S_)) (pad S4x512 ![0, 0] ![3, 0] ![0, 0] (sums P D 0 slices_S8195x512_S8192x512_0_0 hD) (constant S_ .f32 0x00000000#32) pads_S1x512_S4x512_030_000 h_S_)) (pad S4x512 ![3, 0] ![0, 0] ![0, 0] (sums P D 3 slices_S8195x512_S8192x512_3_0 hD) (constant S_ .f32 0x00000000#32) pads_S1x512_S4x512_300_000 h_S_)) (sitofp .f32 (constantI S_ 32 0#32)) pads_S4x512_S8x512_040_000 h_S_
    = fun i => if (i 0).val < 4 then ∑ n ∈ Finset.range 8192, dwAt P D (i 0).val (i 1).val n else 0 := by
  funext i
  obtain ⟨p, q, rfl⟩ : ∃ (p : Fin 8) (q : Fin 512), i = ij p q := ⟨i 0, i 1, ValueIdx.eq_ix2 i⟩
  show _ = if p.val < 4 then ∑ n ∈ Finset.range 8192, dwAt P D p.val q.val n else 0
  refine (at2_fin (φ := .f32) _ p q).symm.trans ?_
  rw [Conv.pad_rows (n := 4) (m := 8) 0 4 _ _ _ _ zero_i (by decide), if_neg (Nat.not_lt_zero _), Conv.at2_add, Conv.at2_add, Conv.at2_add]
  rw [Conv.pad_rows (n := 1) (m := 4) 2 1 _ _ _ _ zero_f (by decide), Conv.pad_rows (n := 1) (m := 4) 1 2 _ _ _ _ zero_f (by decide), Conv.pad_rows (n := 1) (m := 4) 0 3 _ _ _ _ zero_f (by decide), Conv.pad_rows (n := 1) (m := 4) 3 0 _ _ _ _ zero_f (by decide)]
  rw [sums_at, sums_at, sums_at, sums_at]
  obtain ⟨k, hk⟩ := p
  dsimp only
  match k, hk with
  | 0, _ => simp
  | 1, _ => simp
  | 2, _ => simp
  | 3, _ => simp
  | k + 4, _ => rw [if_neg (by omega), if_neg (by omega), if_neg (by omega), if_neg (by omega), if_neg (by omega), if_neg (by omega), if_neg (by omega), if_neg (by omega), if_neg (by omega)]; simp

theorem db_ref (hD) : pad S8x512 ![0, 0] ![7, 0] ![0, 0] (broadcastInDim S1x512 ![1] bcast_S512_S1x512_1 (Host.reduceAdd (shapeCast _ (Host.reduceAdd (shapeCast _ D hD) (constant S_ .f32 0x00000000#32) reducesTo_S8192x512_S512_d0 h_S_) shapeCasts_S512_S1x512) (constant S_ .f32 0x00000000#32) reducesTo_S1x512_S512_d0 h_S_)) (sitofp .f32 (constantI S_ 32 0#32)) pads_S1x512_S8x512_070_000 h_S_
    = fun i => if (i 0).val < 1 then ∑ n ∈ Finset.range 8192, at2 D n (i 1).val else 0 := by
  funext i
  obtain ⟨p, q, rfl⟩ : ∃ (p : Fin 8) (q : Fin 512), i = ij p q := ⟨i 0, i 1, ValueIdx.eq_ix2 i⟩
  rw [shapeCast_self]
  refine (at2_fin (φ := .f32) _ p q).symm.trans ?_
  rw [Conv.pad_rows (n := 1) (m := 8) 0 7 _ _ _ _ zero_i (by decide), if_neg (Nat.not_lt_zero _)]
  refine (Conv.host_row D _ h_S_ zero_f _ _ _ _ _ q).trans ?_
  show _ = if p.val < 1 then ∑ n ∈ Finset.range 8192, at2 D n q.val else 0
  by_cases h : p.val < 1
  · rw [if_pos h, if_pos (by omega)]
  · rw [if_neg h, if_neg (by omega)]

end Reference

/-- Kernel and reference both leave the three gradients. -/
theorem same : Cert.algebraic_Kernel14Ideal_Reference14Ideal (hKernel14Ideal := Cert.Kernel14Ideal.Gen.facts) (hReference14Ideal := Cert.Reference14Ideal.Gen.facts) := by
  intro m g m' g' _ hagree
  refine ⟨fun c => dxAll m c, fun c => dwAll m c, fun c => dbAll m c, ?_, ?_⟩
  · exact (θ_run Cert.Kernel14Ideal.defs _ _).mono (fun _ h c =>
      ⟨(h c).1.trans (final5 m c), (h c).2.1.trans (final6 m c), (h c).2.2.1.trans (final7 m c), (h c).2.2.2⟩) (run_blocks m g)
  · refine (θ_run Cert.Reference14Ideal.defs _ _).mono (fun _ h c => ?_) (Cert.Reference14Ideal.Value.run m' g')
    have k := h c
    rw [(hagree c).1, (hagree c).2.1, (hagree c).2.2] at k
    exact ⟨k.1.trans (dx_ref (arrD m c) (taps m c) _), k.2.1.trans (dw_ref (arrP m c) (arrD m c) _), k.2.2.1.trans (db_ref (arrD m c) _),
      k.2.2.2.1.trans (hagree c).1.symm, k.2.2.2.2.1.trans (hagree c).2.1.symm, k.2.2.2.2.2.trans (hagree c).2.2.symm⟩

end Cert.ConvGrad

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_admissible
public import proofs.«01_k».proof.Proof.Gen.Pre_finite
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal.Run
public import proofs.«01_k».proof.Proof.KVal
public import proofs.«01_k».proof.Proof.RefPost
public import proofs.«01_k».proof.Proof.Admit
public import proofs.«01_k».proof.Proof.RefFrame
public import proofs.«01_k».proof.Proof.SameText
public import proofs.«01_k».proof.Proof.Frames
public import proofs.«01_k».proof.Proof.GradAct
public import proofs.«01_k».proof.Proof.GradNormUp
public import proofs.«01_k».proof.Proof.GradUp
public import proofs.«01_k».proof.Proof.GradDown
public import proofs.«01_k».proof.Proof.GradIn
public import proofs.«01_k».proof.Proof.GradOut
public import proofs.«01_k».proof.Proof.GradNormMix
public import proofs.«01_k».proof.Proof.GradMix
public import proofs.«01_k».proof.Proof.ProjIn
public import proofs.«01_k».proof.Proof.UpProj
public import proofs.«01_k».proof.Proof.MixOut
public import proofs.«01_k».proof.Proof.DownProj
public import proofs.«01_k».proof.Proof.ConvGrad
public import Idealize.ShloMosaic.Adequacy
public import Idealize.ShloMosaic.Init

@[expose] public section

noncomputable section

namespace Cert.Proof

open Idealize.ShloMosaic Idealize.SL.Sem

set_option maxRecDepth 16384 in
/-- The kernel's frame is the idealized program's at the printed values: the two programs have the same text, so the one run
    over any values serves both. -/
theorem frame_kernel : Cert.quiescent_Kernel (hKernel := Cert.Kernel.Gen.facts) := fun m ρ _ =>
  (congrArg (fun d => θ_run d (onTc Cert.KernelIdeal.main) ⟨m, fun _ => 0, ρ⟩ _) Cert.SameText.defs_eq).mpr
    (Cert.KernelIdeal.Two.frame (F := Bits) m ρ)

set_option maxRecDepth 16384 in
/-- The five results over the extended reals: both programs leave, column by column, the same real numbers. -/
theorem same_results : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) := by
  intro m g m' g' hpre hagree
  obtain ⟨k, I⟩ : ∃ k : Dev Cert.KernelIdeal.nD → Fin 512 → Lru.Col, ∀ c : Dev Cert.KernelIdeal.nD,
      Lru.Inp (m (c.tc.loc Cert.KernelIdeal.main_arg0)) (m (c.tc.loc Cert.KernelIdeal.main_arg1)) (m (c.tc.loc Cert.KernelIdeal.main_arg2))
        (m (c.tc.loc Cert.KernelIdeal.main_arg3)) (m (c.tc.loc Cert.KernelIdeal.main_arg4)) (k c) :=
    ⟨_, fun c => Lru.inp_of_admissible _ _ _ _ _ (hpre c).1 (hpre c).2.1 (hpre c).2.2.1 (hpre c).2.2.2.1 (hpre c).2.2.2.2.1 (hpre c).2.2.2.2.2⟩
  have K := fun c => Cert.KernelIdeal.Two.results m c (I c)
  have R := fun c => by
    have J := I c
    rw [← (hagree c).1, ← (hagree c).2.1, ← (hagree c).2.2.1, ← (hagree c).2.2.2.1, ← (hagree c).2.2.2.2] at J
    exact Cert.ReferenceIdeal.Two.results m' c J
  refine ⟨fun c => Cert.KernelIdeal.Two.W2 m c (Proc.devRef .tc Cert.KernelIdeal.main_v0_0), fun c => Cert.KernelIdeal.Two.W2 m c (Proc.devRef .tc Cert.KernelIdeal.main_v1_0),
    fun c => Cert.KernelIdeal.Two.W2 m c (Proc.devRef .tc Cert.KernelIdeal.main_v1_1), fun c => Cert.KernelIdeal.Two.W2 m c (Proc.devRef .tc Cert.KernelIdeal.main_v1_2),
    fun c => Cert.KernelIdeal.Two.W2 m c (Proc.devRef .tc Cert.KernelIdeal.main_v1_3), ?_, ?_⟩
  · exact (θ_run Cert.KernelIdeal.defs _ _).mono (fun _ h c =>
      ⟨h.1 c _ (Cert.KernelIdeal.Two.mem_uc Cert.KernelIdeal.main_v0_0 (by decide)), h.1 c _ (Cert.KernelIdeal.Two.mem_uc Cert.KernelIdeal.main_v1_0 (by decide)),
       h.1 c _ (Cert.KernelIdeal.Two.mem_uc Cert.KernelIdeal.main_v1_1 (by decide)), h.1 c _ (Cert.KernelIdeal.Two.mem_uc Cert.KernelIdeal.main_v1_2 (by decide)),
       h.1 c _ (Cert.KernelIdeal.Two.mem_uc Cert.KernelIdeal.main_v1_3 (by decide)),
       (h.1 c _ (Cert.KernelIdeal.Two.mem_uc Cert.KernelIdeal.main_arg0 (by decide))).trans (Cert.KernelIdeal.Two.W2_arg m c Cert.KernelIdeal.main_arg0 (by decide) (by decide)),
       (h.1 c _ (Cert.KernelIdeal.Two.mem_uc Cert.KernelIdeal.main_arg1 (by decide))).trans (Cert.KernelIdeal.Two.W2_arg m c Cert.KernelIdeal.main_arg1 (by decide) (by decide)),
       (h.1 c _ (Cert.KernelIdeal.Two.mem_uc Cert.KernelIdeal.main_arg2 (by decide))).trans (Cert.KernelIdeal.Two.W2_arg m c Cert.KernelIdeal.main_arg2 (by decide) (by decide)),
       (h.1 c _ (Cert.KernelIdeal.Two.mem_uc Cert.KernelIdeal.main_arg3 (by decide))).trans (Cert.KernelIdeal.Two.W2_arg m c Cert.KernelIdeal.main_arg3 (by decide) (by decide)),
       (h.1 c _ (Cert.KernelIdeal.Two.mem_uc Cert.KernelIdeal.main_arg4 (by decide))).trans (Cert.KernelIdeal.Two.W2_arg m c Cert.KernelIdeal.main_arg4 (by decide) (by decide))⟩) (Cert.KernelIdeal.Two.run_main m g)
  · exact (θ_run Cert.ReferenceIdeal.defs _ _).mono (fun _ h c =>
      ⟨(h c Cert.ReferenceIdeal.main_v131 (by decide)).trans (Lru.Arr.ext (R c).1 (K c).1),
       (h c Cert.ReferenceIdeal.main_v132 (by decide)).trans (Lru.Arr2.ext (R c).2.1 (K c).2.1),
       (h c Cert.ReferenceIdeal.main_v87 (by decide)).trans (Lru.Arr.ext (R c).2.2.1 (K c).2.2.1),
       (h c Cert.ReferenceIdeal.main_v133 (by decide)).trans (Lru.Arr.ext (R c).2.2.2.1 (K c).2.2.2.1),
       (h c Cert.ReferenceIdeal.main_v130 (by decide)).trans (Lru.Arr.ext (R c).2.2.2.2 (K c).2.2.2.2),
       (h c Cert.ReferenceIdeal.main_arg0 (by decide)).trans (Cert.ReferenceIdeal.Two.keep_arg0 m' c), (h c Cert.ReferenceIdeal.main_arg1 (by decide)).trans (Cert.ReferenceIdeal.Two.keep_arg1 m' c),
       (h c Cert.ReferenceIdeal.main_arg2 (by decide)).trans (Cert.ReferenceIdeal.Two.keep_arg2 m' c), (h c Cert.ReferenceIdeal.main_arg3 (by decide)).trans (Cert.ReferenceIdeal.Two.keep_arg3 m' c),
       (h c Cert.ReferenceIdeal.main_arg4 (by decide)).trans (Cert.ReferenceIdeal.Two.keep_arg4 m' c)⟩) (Cert.ReferenceIdeal.Two.run2 m' g')

theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts, Cert.Kernel14Ideal.Gen.facts, Cert.Reference14Ideal.Gen.facts,
  Cert.Pre_admissible.Gen.facts, Cert.Pre_finite.Gen.facts,
  frame_kernel,
  fun m ρ _ => Cert.KernelIdeal.Two.frame (F := Ideal) m ρ,
  fun m ρ _ => Cert.KernelIdeal.Two.frame (F := Ideal) m ρ,
  fun m ρ _ => Cert.ReferenceIdeal.Two.frame2 (F := Ideal) m ρ,
  fun m ρ _ => Cert.ReferenceIdeal.Two.frame2 (F := Ideal) m ρ,
  Cert.Frames.frame2, fun m ρ _ => Cert.Kernel2Ideal.Gen.frame (F := Ideal) m ρ, fun m ρ _ => Cert.Kernel2Ideal.Gen.frame (F := Ideal) m ρ,
  Cert.GradAct.frame_reference, fun m ρ _ => Cert.GradAct.frame_reference m ρ trivial,
  Cert.Frames.frame3, fun m ρ _ => Cert.Kernel3Ideal.Gen.frame (F := Ideal) m ρ, Cert.GradNormUp.frame_reference,
  Cert.Frames.frame4, fun m ρ _ => Cert.Kernel4Ideal.Gen.frame (F := Ideal) m ρ, Cert.GradUp.frame_reference,
  Cert.Frames.frame5, fun m ρ _ => Cert.Kernel5Ideal.Gen.frame (F := Ideal) m ρ, Cert.GradDown.frame_reference,
  Cert.Frames.frame6, fun m ρ _ => Cert.Kernel6Ideal.Gen.frame (F := Ideal) m ρ, Cert.GradIn.frame_reference,
  Cert.Frames.frame7, fun m ρ _ => Cert.Kernel7Ideal.Gen.frame (F := Ideal) m ρ, Cert.GradOut.frame_reference,
  Cert.Frames.frame8, fun m ρ _ => Cert.Kernel8Ideal.Gen.frame (F := Ideal) m ρ, Cert.GradNormMix.frame_reference,
  Cert.Frames.frame9, fun m ρ _ => Cert.Kernel9Ideal.Gen.frame (F := Ideal) m ρ, Cert.GradMix.frame_reference,
  Cert.Frames.frame10, fun m ρ _ => Cert.Kernel10Ideal.Gen.frame (F := Ideal) m ρ, Cert.ProjIn.frame_reference,
  Cert.Frames.frame11, fun m ρ _ => Cert.Kernel11Ideal.Gen.frame (F := Ideal) m ρ, Cert.UpProj.frame_reference,
  Cert.Frames.frame12, fun m ρ _ => Cert.Kernel12Ideal.Gen.frame (F := Ideal) m ρ, Cert.MixOut.frame_reference,
  Cert.Frames.frame13, fun m ρ _ => Cert.Kernel13Ideal.Gen.frame (F := Ideal) m ρ, Cert.DownProj.frame_reference,
  Cert.Frames.frame14, fun m ρ _ => Cert.Kernel14Ideal.Gen.frame (F := Ideal) m ρ, Cert.ConvGrad.frame_reference,
  trivial, same_results,
  trivial, Cert.GradAct.same,
  trivial, Cert.GradNormUp.same,
  trivial, Cert.GradUp.same,
  trivial, Cert.GradDown.same,
  trivial, Cert.GradIn.same,
  trivial, Cert.GradOut.same,
  trivial, Cert.GradNormMix.same,
  trivial, Cert.GradMix.same,
  trivial, Cert.ProjIn.same,
  trivial, Cert.UpProj.same,
  trivial, Cert.MixOut.same,
  trivial, Cert.DownProj.same,
  trivial, Cert.ConvGrad.same⟩

end Cert.Proof

end
